-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v42) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v46) = v3 c
          ∧ r.2.mem ((c.tc : Thread Cert.ReferenceIdeal.nD Cert.ReferenceIdeal.τ).loc Cert.ReferenceIdeal.main_v36) = v4 c
          ∧ r.2.mem ((c.tc : Thread Cert.ReferenceIdeal.nD Cert.ReferenceIdeal.τ).loc Cert.ReferenceIdeal.main_v48) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v1) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v3) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v6)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v6) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v3) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v4)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v4) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v1) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S4096x1024 : Shape := ⟨2, ![4096, 1024]⟩
abbrev S8x64x64x64 : Shape := ⟨4, ![8, 64, 64, 64]⟩
abbrev S8x64 : Shape := ⟨2, ![8, 64]⟩
abbrev S_ : Shape := ⟨0, ![]⟩

class Facts : Prop where
  bcast_S_S4096x1024 : S_.BroadcastsInDim S4096x1024 (![] : Fin 0 → Fin S4096x1024.rank)
  bcast_S_S8x64x64x64 : S_.BroadcastsInDim S8x64x64x64 (![] : Fin 0 → Fin S8x64x64x64.rank)
  bcast_S_S8x64 : S_.BroadcastsInDim S8x64 (![] : Fin 0 → Fin S8x64.rank)

variable [Facts]

def fn_part1 {F : FTy → Type} [FloatOps F] (main_arg6 : FVec F S4096x1024 .f32) (main_v2 : IVec S4096x1024 1) (main_v5 : IVec S4096x1024 1) (main_v8 : IVec S4096x1024 1) (main_v11 : IVec S4096x1024 1) (main_v14 : IVec S8x64x64x64 1) (main_v17 : IVec S8x64 1) : IVec S4096x1024 1 × IVec S4096x1024 1 × IVec S4096x1024 1 × IVec S4096x1024 1 × IVec S8x64x64x64 1 × IVec S8x64 1 × IVec S4096x1024 1 :=
  let main_v18 : FVec F S4096x1024 .f32 := Host.absf main_arg6
  let main_cst_5 : FVec F S_ .f32 := constant S_ .f32 0x7F800000#32
  let main_v19 : FVec F S4096x1024 .f32 := broadcastInDim S4096x1024 ![] bcast_S_S4096x1024 main_cst_5
  let main_v20 : IVec S4096x1024 1 := cmpf .olt main_v18 main_v19
  (main_v2, main_v5, main_v8, main_v11, main_v14, main_v17, main_v20)

def fn {F : FTy → Type} [FloatOps F] (main_arg0 : FVec F S4096x1024 .f32) (main_arg1 : FVec F S4096x1024 .f32) (main_arg2 : FVec F S4096x1024 .f32) (main_arg3 : FVec F S4096x1024 .f32) (main_arg4 : FVec F S8x64x64x64 .f32) (main_arg5 : FVec F S8x64 .f32) (main_arg6 : FVec F S4096x1024 .f32) : IVec S4096x1024 1 × IVec S4096x1024 1 × IVec S4096x1024 1 × IVec S4096x1024 1 × IVec S8x64x64x64 1 × IVec S8x64 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := Host.absf main_arg1
  let main_cst_0 : FVec F S_ .f32 := constant S_ .f32 0x7F800000#32
  let main_v4 : FVec F S4096x1024 .f32 := broadcastInDim S4096x1024 ![] bcast_S_S4096x1024 main_cst_0
  let main_v5 : IVec S4096x1024 1 := cmpf .olt main_v3 main_v4
  let main_v6 : FVec F S4096x1024 .f32 := Host.absf main_arg2
  let main_cst_1 : FVec F S_ .f32 := constant S_ .f32 0x7F800000#32
  let main_v7 : FVec F S4096x1024 .f32 := broadcastInDim S4096x1024 ![] bcast_S_S4096x1024 main_cst_1
  let main_v8 : IVec S4096x1024 1 := cmpf .olt main_v6 main_v7
  let main_v9 : FVec F S4096x1024 .f32 := Host.absf main_arg3
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_v12 : FVec F S8x64x64x64 .f32 := Host.absf main_arg4
  let main_cst_3 : FVec F S_ .f32 := constant S_ .f32 0x7F800000#32
  let main_v13 : FVec F S8x64x64x64 .f32 := broadcastInDim S8x64x64x64 ![] bcast_S_S8x64x64x64 main_cst_3
  let main_v14 : IVec S8x64x64x64 1 := cmpf .olt main_v12 main_v13
  let main_v15 : FVec F S8x64 .f32 := Host.absf main_arg5
  let main_cst_4 : FVec F S_ .f32 := constant S_ .f32 0x7F800000#32
  let main_v16 : FVec F S8x64 .f32 := broadcastInDim S8x64 ![] bcast_S_S8x64 main_cst_4
  let main_v17 : IVec S8x64 1 := cmpf .olt main_v15 main_v16
  fn_part1 (F := F) main_arg6 main_v2 main_v5 main_v8 main_v11 main_v14 main_v17
-- ==== Kernel.lean ====
abbrev S4096x1024 : Shape := ⟨2, ![4096, 1024]⟩
abbrev S8x64x64x64 : Shape := ⟨4, ![8, 64, 64, 64]⟩
abbrev S8x64 : Shape := ⟨2, ![8, 64]⟩
abbrev S8x64x1x1 : Shape := ⟨4, ![8, 64, 1, 1]⟩
abbrev S8x64x1x128 : Shape := ⟨4, ![8, 64, 1, 128]⟩
abbrev S8x64x128x128 : Shape := ⟨4, ![8, 64, 128, 128]⟩
abbrev S256x1024 : Shape := ⟨2, ![256, 1024]⟩
abbrev S8x4x64x64 : Shape := ⟨4, ![8, 4, 64, 64]⟩
abbrev S8x4x1x128 : Shape := ⟨4, ![8, 4, 1, 128]⟩
abbrev S8x4x128x128 : Shape := ⟨4, ![8, 4, 128, 128]⟩
abbrev S8x128x128 : Shape := ⟨3, ![8, 128, 128]⟩
abbrev S1x128x128 : Shape := ⟨3, ![1, 128, 128]⟩
abbrev S128x128 : Shape := ⟨2, ![128, 128]⟩
abbrev S1x1x128x128 : Shape := ⟨4, ![1, 1, 128, 128]⟩
abbrev S64x128 : Shape := ⟨2, ![64, 128]⟩
abbrev S1x1x64x64 : Shape := ⟨4, ![1, 1, 64, 64]⟩
abbrev S64x64 : Shape := ⟨2, ![64, 64]⟩
abbrev S1x1x1x128 : Shape := ⟨4, ![1, 1, 1, 128]⟩
abbrev S1x128 : Shape := ⟨2, ![1, 128]⟩
abbrev S128 : Shape := ⟨1, ![128]⟩
abbrev S128x1 : Shape := ⟨2, ![128, 1]⟩
abbrev S1 : Shape := ⟨1, ![1]⟩
abbrev S1x1 : Shape := ⟨2, ![1, 1]⟩

abbrev nBuf : Space → Nat
  | .hbm => 18
  | .vmem => 48
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S8x64x64x64, .f32⟩
  | .hbm, ⟨5, _⟩ => ⟨S8x64, .f32⟩
  | .hbm, ⟨6, _⟩ => ⟨S4096x1024, .f32⟩
  | .hbm, ⟨7, _⟩ => ⟨S8x64x1x1, .f32⟩
  | .hbm, ⟨8, _⟩ => ⟨S8x64x1x128, .f32⟩
  | .hbm, ⟨9, _⟩ => ⟨S4096x1024, .f32⟩
  | .hbm, ⟨10, _⟩ => ⟨S4096x1024, .f32⟩
  | .hbm, ⟨11, _⟩ => ⟨S8x64x128x128, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S8x64x64x64, .f32⟩
  | .hbm, ⟨17, _⟩ => ⟨S8x64x1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S8x4x64x64, .f32⟩
  | .local _ .vmem, ⟨9, _⟩ => ⟨S8x4x64x64, .f32⟩
  | .local _ .vmem, ⟨10, _⟩ => ⟨S8x4x1x128, .f32⟩
  | .local _ .vmem, ⟨11, _⟩ => ⟨S8x4x1x128, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S8x4x128x128, .f32⟩
  | .local _ .vmem, ⟨17, _⟩ => ⟨S8x4x128x128, .f32⟩
  | .local _ .vmem, ⟨18, _⟩ => ⟨S8x128x128, .f32⟩
  | .local _ .vmem, ⟨19, _⟩ => ⟨S256x1024, .f32⟩
  | .local _ .vmem, ⟨20, _⟩ => ⟨S256x1024, .f32⟩
  | .local _ .vmem, ⟨21, _⟩ => ⟨S256x1024, .f32⟩
  | .local _ .vmem, ⟨22, _⟩ => ⟨S256x1024, .f32⟩
  | .local _ .vmem, ⟨23, _⟩ => ⟨S256x1024, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S8x4x64x64, .f32⟩
  | .local _ .vmem, ⟨30, _⟩ => ⟨S8x4x64x64, .f32⟩
  | .local _ .vmem, ⟨31, _⟩ => ⟨S8x4x1x128, .f32⟩
  | .local _ .vmem, ⟨32, _⟩ => ⟨S8x4x1x128, .f32⟩
  | .local _ .vmem, ⟨33, _⟩ => ⟨S8x4x128x128, .f32⟩
  | .local _ .vmem, ⟨34, _⟩ => ⟨S8x4x128x128, .f32⟩
  | .local _ .vmem, ⟨35, _⟩ => ⟨S256x1024, .f32⟩
  | .local _ .vmem, ⟨36, _⟩ => ⟨S256x1024, .f32⟩
  | .local _ .vmem, ⟨37, _⟩ => ⟨S256x1024, .f32⟩
  | .local _ .vmem, ⟨38, _⟩ => ⟨S256x1024, .f32⟩
  | .local _ .vmem, ⟨39, _⟩ => ⟨S256x1024, .f32⟩
  | .local _ .vmem, ⟨40, _⟩ => ⟨S256x1024, .f32⟩
  | .local _ .vmem, ⟨41, _⟩ => ⟨S256x1024, .f32⟩
  | .local _ .vmem, ⟨42, _⟩ => ⟨S256x1024, .f32⟩
  | .local _ .vmem, ⟨43, _⟩ => ⟨S8x4x64x64, .f32⟩
  | .local _ .vmem, ⟨44, _⟩ => ⟨S8x4x64x64, .f32⟩
  | .local _ .vmem, ⟨45, _⟩ => ⟨S8x4x1x128, .f32⟩
  | .local _ .vmem, ⟨46, _⟩ => ⟨S8x4x1x128, .f32⟩
  | .local _ .vmem, ⟨47, _⟩ => ⟨S8x128x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v3_0 : Ref sig .tc := ⟨.hbm, 12, rfl⟩
abbrev main_v3_1 : Ref sig .tc := ⟨.hbm, 13, rfl⟩
abbrev main_v3_2 : Ref sig .tc := ⟨.hbm, 14, rfl⟩
abbrev main_v3_3 : Ref sig .tc := ⟨.hbm, 15, rfl⟩
abbrev main_v3_4 : Ref sig .tc := ⟨.hbm, 16, rfl⟩
abbrev main_v3_5 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg1_1 : Ref sig .tc := ⟨.vmem, 22, rfl⟩
abbrev cc1_stg2_0 : Ref sig .tc := ⟨.vmem, 23, rfl⟩
abbrev cc1_stg2_1 : Ref sig .tc := ⟨.vmem, 24, rfl⟩
abbrev cc1_stg3_0 : Ref sig .tc := ⟨.vmem, 25, rfl⟩
abbrev cc1_stg3_1 : Ref sig .tc := ⟨.vmem, 26, rfl⟩
abbrev cc1_stg4_0 : Ref sig .tc := ⟨.vmem, 27, rfl⟩
abbrev cc1_stg4_1 : Ref sig .tc := ⟨.vmem, 28, rfl⟩
abbrev cc1_stg5_0 : Ref sig .tc := ⟨.vmem, 29, rfl⟩
abbrev cc1_stg5_1 : Ref sig .tc := ⟨.vmem, 30, rfl⟩
abbrev cc1_stg6_0 : Ref sig .tc := ⟨.vmem, 31, rfl⟩
abbrev cc1_stg6_1 : Ref sig .tc := ⟨.vmem, 32, rfl⟩
abbrev cc1_stg7_0 : Ref sig .tc := ⟨.vmem, 33, rfl⟩
abbrev cc1_stg7_1 : Ref sig .tc := ⟨.vmem, 34, rfl⟩
abbrev cc1_stg8_0 : Ref sig .tc := ⟨.vmem, 35, rfl⟩
abbrev cc1_stg8_1 : Ref sig .tc := ⟨.vmem, 36, rfl⟩
abbrev cc1_stg9_0 : Ref sig .tc := ⟨.vmem, 37, rfl⟩
abbrev cc1_stg9_1 : Ref sig .tc := ⟨.vmem, 38, rfl⟩
abbrev cc1_stg10_0 : Ref sig .tc := ⟨.vmem, 39, rfl⟩
abbrev cc1_stg10_1 : Ref sig .tc := ⟨.vmem, 40, rfl⟩
abbrev cc1_stg11_0 : Ref sig .tc := ⟨.vmem, 41, rfl⟩
abbrev cc1_stg11_1 : Ref sig .tc := ⟨.vmem, 42, rfl⟩
abbrev cc1_stg12_0 : Ref sig .tc := ⟨.vmem, 43, rfl⟩
abbrev cc1_stg12_1 : Ref sig .tc := ⟨.vmem, 44, rfl⟩
abbrev cc1_stg13_0 : Ref sig .tc := ⟨.vmem, 45, rfl⟩
abbrev cc1_stg13_1 : Ref sig .tc := ⟨.vmem, 46, rfl⟩
abbrev cc1_scratch0 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc1_sem0_0 : DmaSem sig := 18
abbrev cc1_sem0_1 : DmaSem sig := 19
abbrev cc1_sem1_0 : DmaSem sig := 20
abbrev cc1_sem1_1 : DmaSem sig := 21
abbrev cc1_sem2_0 : DmaSem sig := 22
abbrev cc1_sem2_1 : DmaSem sig := 23
abbrev cc1_sem3_0 : DmaSem sig := 24
abbrev cc1_sem3_1 : DmaSem sig := 25
abbrev cc1_sem4_0 : DmaSem sig := 26
abbrev cc1_sem4_1 : DmaSem sig := 27
abbrev cc1_sem5_0 : DmaSem sig := 28
abbrev cc1_sem5_1 : DmaSem sig := 29
abbrev cc1_sem6_0 : DmaSem sig := 30
abbrev cc1_sem6_1 : DmaSem sig := 31
abbrev cc1_sem7_0 : DmaSem sig := 32
abbrev cc1_sem7_1 : DmaSem sig := 33
abbrev cc1_sem8_0 : DmaSem sig := 34
abbrev cc1_sem8_1 : DmaSem sig := 35
abbrev cc1_sem9_0 : DmaSem sig := 36
abbrev cc1_sem9_1 : DmaSem sig := 37
abbrev cc1_sem10_0 : DmaSem sig := 38
abbrev cc1_sem10_1 : DmaSem sig := 39
abbrev cc1_sem11_0 : DmaSem sig := 40
abbrev cc1_sem11_1 : DmaSem sig := 41
abbrev cc1_sem12_0 : DmaSem sig := 42
abbrev cc1_sem12_1 : DmaSem sig := 43
abbrev cc1_sem13_0 : DmaSem sig := 44
abbrev cc1_sem13_1 : DmaSem sig := 45

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_17 : BitVec 32 := 0#32
  let c4_i32 : BitVec 32 := 4#32
  let v19 : BitVec 32 := Scalar.addi c0_i32_17 c4_i32
  let c1_i32 : BitVec 32 := 1#32
  ⟨c0_i32_17, v19, c1_i32⟩
def k0_mult1 (k0_t1 : Fin k0_t1_loop.trips) : BitVec 32 :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  v45
def k0_off1 (k0_t1 : Fin k0_t1_loop.trips) : Fin 4 → Nat :=
  let c0_43 : Index := 0#32
  let c0_i32_17 : BitVec 32 := 0#32
  let c1_i32 : BitVec 32 := 1#32
  let arg12 : BitVec 32 := Scf.iv c0_i32_17 c1_i32 k0_t1
  let v47 : Index := Scalar.indexCast arg12
  let c0_44 : Index := 0#32
  let c0_45 : Index := 0#32
  ![0, v47.toNat, 0, 0]
def k0_off2 (k0_t1 : Fin k0_t1_loop.trips) : Fin 4 → Nat :=
  let c1_46 : Index := 1#32
  let c0_i32_17 : BitVec 32 := 0#32
  let c1_i32 : BitVec 32 := 1#32
  let arg12 : BitVec 32 := Scf.iv c0_i32_17 c1_i32 k0_t1
  let v51 : Index := Scalar.indexCast arg12
  let c0_47 : Index := 0#32
  let c0_48 : Index := 0#32
  ![1, v51.toNat, 0, 0]
def k0_off3 (k0_t1 : Fin k0_t1_loop.trips) : Fin 4 → Nat :=
  let c2_49 : Index := 2#32
  let c0_i32_17 : BitVec 32 := 0#32
  let c1_i32 : BitVec 32 := 1#32
  let arg12 : BitVec 32 := Scf.iv c0_i32_17 c1_i32 k0_t1
  let v55 : Index := Scalar.indexCast arg12
  let c0_50 : Index := 0#32
  let c0_51 : Index := 0#32
  ![2, v55.toNat, 0, 0]
def k0_off4 (k0_t1 : Fin k0_t1_loop.trips) : Fin 4 → Nat :=
  let c3_52 : Index := 3#32
  let c0_i32_17 : BitVec 32 := 0#32
  let c1_i32 : BitVec 32 := 1#32
  let arg12 : BitVec 32 := Scf.iv c0_i32_17 c1_i32 k0_t1
  let v59 : Index := Scalar.indexCast arg12
  let c0_53 : Index := 0#32
  let c0_54 : Index := 0#32
  ![3, v59.toNat, 0, 0]
def k0_off5 (k0_t1 : Fin k0_t1_loop.trips) : Fin 4 → Nat :=
  let c4_55 : Index := 4#32
  let c0_i32_17 : BitVec 32 := 0#32
  let c1_i32 : BitVec 32 := 1#32
  let arg12 : BitVec 32 := Scf.iv c0_i32_17 c1_i32 k0_t1
  let v63 : Index := Scalar.indexCast arg12
  let c0_56 : Index := 0#32
  let c0_57 : Index := 0#32
  ![4, v63.toNat, 0, 0]
def k0_off6 (k0_t1 : Fin k0_t1_loop.trips) : Fin 4 → Nat :=
  let c5_58 : Index := 5#32
  let c0_i32_17 : BitVec 32 := 0#32
  let c1_i32 : BitVec 32 := 1#32
  let arg12 : BitVec 32 := Scf.iv c0_i32_17 c1_i32 k0_t1
  let v67 : Index := Scalar.indexCast arg12
  let c0_59 : Index := 0#32
  let c0_60 : Index := 0#32
  ![5, v67.toNat, 0, 0]
def k0_off7 (k0_t1 : Fin k0_t1_loop.trips) : Fin 4 → Nat :=
  let c6_61 : Index := 6#32
  let c0_i32_17 : BitVec 32 := 0#32
  let c1_i32 : BitVec 32 := 1#32
  let arg12 : BitVec 32 := Scf.iv c0_i32_17 c1_i32 k0_t1
  let v71 : Index := Scalar.indexCast arg12
  let c0_62 : Index := 0#32
  let c0_63 : Index := 0#32
  ![6, v71.toNat, 0, 0]
def k0_off8 (k0_t1 : Fin k0_t1_loop.trips) : Fin 4 → Nat :=
  let c7_64 : Index := 7#32
  let c0_i32_17 : BitVec 32 := 0#32
  let c1_i32 : BitVec 32 := 1#32
  let arg12 : BitVec 32 := Scf.iv c0_i32_17 c1_i32 k0_t1
  let v75 : Index := Scalar.indexCast arg12
  let c0_65 : Index := 0#32
  let c0_66 : Index := 0#32
  ![7, v75.toNat, 0, 0]
def k0_off9 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v79 : Index := Scalar.indexCast v46
  let c0_67 : Index := 0#32
  ![v79.toNat, 0]
def k0_off10 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v84 : Index := Scalar.indexCast v46
  let c128 : Index := 128#32
  ![v84.toNat, 128]
def k0_off11 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v89 : Index := Scalar.indexCast v46
  let c256 : Index := 256#32
  ![v89.toNat, 256]
def k0_off12 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v94 : Index := Scalar.indexCast v46
  let c384 : Index := 384#32
  ![v94.toNat, 384]
def k0_off13 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v99 : Index := Scalar.indexCast v46
  let c512 : Index := 512#32
  ![v99.toNat, 512]
def k0_off14 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v104 : Index := Scalar.indexCast v46
  let c640 : Index := 640#32
  ![v104.toNat, 640]
def k0_off15 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v109 : Index := Scalar.indexCast v46
  let c768 : Index := 768#32
  ![v109.toNat, 768]
def k0_off16 (k0_t1 : Fin k0_t1_loop.trips) : Fin 2 → Nat :=
  let c0_i32_17 : BitVec 32 := 0#32
  let c1_i32 : BitVec 32 := 1#32
  let arg12 : BitVec 32 := Scf.iv c0_i32_17 c1_i32 k0_t1
  let c64_i32 : BitVec 32 := 64#32
  let v45 : BitVec 32 := Scalar.muli arg12 c64_i32
  let v46 : BitVec 32 := v45
  let v114 : Index := Scalar.indexCast v46
  let c896 : Index := 896#32
  ![v114.toNat, 896]
def k0_off17 (k0_t1 : Fin k0_t1_loop.trips) : Fin 4 → Nat :=
  let c0_99 : Index := 0#32
  let c0_i32_17 : BitVec 32 := 0#32
  let c1_i32 : BitVec 32 := 1#32
  let arg12 : BitVec 32 := Scf.iv c0_i32_17 c1_i32 k0_t1
  let v183 : Index := Scalar.indexCast arg12
  let c0_100 : Index := 0#32
  let c0_101 : Index := 0#32
  ![0, v183.toNat, 0, 0]
def k0_off18 (k0_t1 : Fin k0_t1_loop.trips) : Fin 4 → Nat :=
  let c1_103 : Index := 1#32
  let c0_i32_17 : BitVec 32 := 0#32
  let c1_i32 : BitVec 32 := 1#32
  let arg12 : BitVec 32 := Scf.iv c0_i32_17 c1_i32 k0_t1
  let v190 : Index := Scalar.indexCast arg12
  let c0_104 : Index := 0#32
  let c0_105 : Index := 0#32
  ![1, v190.toNat, 0, 0]
def k0_off19 (k0_t1 : Fin k0_t1_loop.trips) : Fin 4 → Nat :=
  let c2_107 : Index := 2#32
  let c0_i32_17 : BitVec 32 := 0#32
  let c1_i32 : BitVec 32 := 1#32
  let arg12 : BitVec 32 := Scf.iv c0_i32_17 c1_i32 k0_t1
  let v197 : Index := Scalar.indexCast arg12
  let c0_108 : Index := 0#32
  let c0_109 : Index := 0#32
  ![2, v197.toNat, 0, 0]
def k0_off20 (k0_t1 : Fin k0_t1_loop.trips) : Fin 4 → Nat :=
  let c3_111 : Index := 3#32
  let c0_i32_17 : BitVec 32 := 0#32
  let c1_i32 : BitVec 32 := 1#32
  let arg12 : BitVec 32 := Scf.iv c0_i32_17 c1_i32 k0_t1
  let v204 : Index := Scalar.indexCast arg12
  let c0_112 : Index := 0#32
  let c0_113 : Index := 0#32
  ![3, v204.toNat, 0, 0]
def k0_off21 (k0_t1 : Fin k0_t1_loop.trips) : Fin 4 → Nat :=
  let c4_115 : Index := 4#32
  let c0_i32_17 : BitVec 32 := 0#32
  let c1_i32 : BitVec 32 := 1#32
  let arg12 : BitVec 32 := Scf.iv c0_i32_17 c1_i32 k0_t1
  let v211 : Index := Scalar.indexCast arg12
  let c0_116 : Index := 0#32
  let c0_117 : Index := 0#32
  ![4, v211.toNat, 0, 0]
def k0_off22 (k0_t1 : Fin k0_t1_loop.trips) : Fin 4 → Nat :=
  let c5_119 : Index := 5#32
  let c0_i32_17 : BitVec 32 := 0#32
  let c1_i32 : BitVec 32 := 1#32
  let arg12 : BitVec 32 := Scf.iv c0_i32_17 c1_i32 k0_t1
  let v218 : Index := Scalar.indexCast arg12
  let c0_120 : Index := 0#32
  let c0_121 : Index := 0#32
  ![5, v218.toNat, 0, 0]
def k0_off23 (k0_t1 : Fin k0_t1_loop.trips) : Fin 4 → Nat :=
  let c6_123 : Index := 6#32
  let c0_i32_17 : BitVec 32 := 0#32
  let c1_i32 : BitVec 32 := 1#32
  let arg12 : BitVec 32 := Scf.iv c0_i32_17 c1_i32 k0_t1
  let v225 : Index := Scalar.indexCast arg12
  let c0_124 : Index := 0#32
  let c0_125 : Index := 0#32
  ![6, v225.toNat, 0, 0]
def k0_off24 (k0_t1 : Fin k0_t1_loop.trips) : Fin 4 → Nat :=
  let c7_127 : Index := 7#32
  let c0_i32_17 : BitVec 32 := 0#32
  let c1_i32 : BitVec 32 := 1#32
  let arg12 : BitVec 32 := Scf.iv c0_i32_17 c1_i32 k0_t1
  let v232 : Index := Scalar.indexCast arg12
  let c0_128 : Index := 0#32
  let c0_129 : Index := 0#32
  ![7, v232.toNat, 0, 0]
def k0_off25 (k0_t1 : Fin k0_t1_loop.trips) : Fin 4 → Nat :=
  let c0_131 : Index := 0#32
  let c0_i32_17 : BitVec 32 := 0#32
  let c1_i32 : BitVec 32 := 1#32
  let arg12 : BitVec 32 := Scf.iv c0_i32_17 c1_i32 k0_t1
  let v239 : Index := Scalar.indexCast arg12
  let c0_132 : Index := 0#32
  let c0_133 : Index := 0#32
  ![0, v239.toNat, 0, 0]
def k0_off26 (k0_t1 : Fin k0_t1_loop.trips) : Fin 4 → Nat :=
  let c1_136 : Index := 1#32
  let c0_i32_17 : BitVec 32 := 0#32
  let c1_i32 : BitVec 32 := 1#32
  let arg12 : BitVec 32 := Scf.iv c0_i32_17 c1_i32 k0_t1
  let v250 : Index := Scalar.indexCast arg12
  let c0_137 : Index := 0#32
  let c0_138 : Index := 0#32
  ![1, v250.toNat, 0, 0]
def k0_off27 (k0_t1 : Fin k0_t1_loop.trips) : Fin 4 → Nat :=
  let c2_141 : Index := 2#32
  let c0_i32_17 : BitVec 32 := 0#32
  let c1_i32 : BitVec 32 := 1#32
  let arg12 : BitVec 32 := Scf.iv c0_i32_17 c1_i32 k0_t1
  let v261 : Index := Scalar.indexCast arg12
  let c0_142 : Index := 0#32
  let c0_143 : Index := 0#32
  ![2, v261.toNat, 0, 0]
def k0_off28 (k0_t1 : Fin k0_t1_loop.trips) : Fin 4 → Nat :=
  let c3_146 : Index := 3#32
  let c0_i32_17 : BitVec 32 := 0#32
  let c1_i32 : BitVec 32 := 1#32
  let arg12 : BitVec 32 := Scf.iv c0_i32_17 c1_i32 k0_t1
  let v272 : Index := Scalar.indexCast arg12
  let c0_147 : Index := 0#32
  let c0_148 : Index := 0#32
  ![3, v272.toNat, 0, 0]
def k0_off29 (k0_t1 : Fin k0_t1_loop.trips) : Fin 4 → Nat :=
  let c4_151 : Index := 4#32
  let c0_i32_17 : BitVec 32 := 0#32
  let c1_i32 : BitVec 32 := 1#32
  let arg12 : BitVec 32 := Scf.iv c0_i32_17 c1_i32 k0_t1
  let v283 : Index := Scalar.indexCast arg12
  let c0_152 : Index := 0#32
  let c0_153 : Index := 0#32
  ![4, v283.toNat, 0, 0]
def k0_off30 (k0_t1 : Fin k0_t1_loop.trips) : Fin 4 → Nat :=
  let c5_156 : Index := 5#32
  let c0_i32_17 : BitVec 32 := 0#32
  let c1_i32 : BitVec 32 := 1#32
  let arg12 : BitVec 32 := Scf.iv c0_i32_17 c1_i32 k0_t1
  let v294 : Index := Scalar.indexCast arg12
  let c0_157 : Index := 0#32
  let c0_158 : Index := 0#32
  ![5, v294.toNat, 0, 0]
def k0_off31 (k0_t1 : Fin k0_t1_loop.trips) : Fin 4 → Nat :=
  let c6_161 : Index := 6#32
  let c0_i32_17 : BitVec 32 := 0#32
  let c1_i32 : BitVec 32 := 1#32
  let arg12 : BitVec 32 := Scf.iv c0_i32_17 c1_i32 k0_t1
  let v305 : Index := Scalar.indexCast arg12
  let c0_162 : Index := 0#32
  let c0_163 : Index := 0#32
  ![6, v305.toNat, 0, 0]
def k0_off32 (k0_t1 : Fin k0_t1_loop.trips) : Fin 4 → Nat :=
  let c7_166 : Index := 7#32
  let c0_i32_17 : BitVec 32 := 0#32
  let c1_i32 : BitVec 32 := 1#32
  let arg12 : BitVec 32 := Scf.iv c0_i32_17 c1_i32 k0_t1
  let v316 : Index := Scalar.indexCast arg12
  let c0_167 : Index := 0#32
  let c0_168 : Index := 0#32
  ![7, v316.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x4x64x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x4x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x4x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev grid1 : Pipeline.Grid := ⟨2, ![1, 16], ![false, false]⟩

@[reducible] def k1_t1_loop : Scf.Loop 32 :=
  let c0_i32_17 : BitVec 32 := 0#32
  let c4_i32 : BitVec 32 := 4#32
  let v19 : BitVec 32 := Scalar.addi c0_i32_17 c4_i32
  let c1_i32 : BitVec 32 := 1#32
  ⟨c0_i32_17, v19, c1_i32⟩
def k1_mult1 (k1_t1 : Fin k1_t1_loop.trips) : BitVec 32 :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  v46
def k1_off1 (k1_t1 : Fin k1_t1_loop.trips) : Fin 4 → Nat :=
  let c0_43 : Index := 0#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v48 : Index := Scalar.indexCast v45
  let c0_44 : Index := 0#32
  let c0_45 : Index := 0#32
  ![0, v48.toNat, 0, 0]
def k1_off2 (k1_t1 : Fin k1_t1_loop.trips) : Fin 4 → Nat :=
  let c1_46 : Index := 1#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v51 : Index := Scalar.indexCast v45
  let c0_47 : Index := 0#32
  let c0_48 : Index := 0#32
  ![1, v51.toNat, 0, 0]
def k1_off3 (k1_t1 : Fin k1_t1_loop.trips) : Fin 4 → Nat :=
  let c2_49 : Index := 2#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v54 : Index := Scalar.indexCast v45
  let c0_50 : Index := 0#32
  let c0_51 : Index := 0#32
  ![2, v54.toNat, 0, 0]
def k1_off4 (k1_t1 : Fin k1_t1_loop.trips) : Fin 4 → Nat :=
  let c3_52 : Index := 3#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v57 : Index := Scalar.indexCast v45
  let c0_53 : Index := 0#32
  let c0_54 : Index := 0#32
  ![3, v57.toNat, 0, 0]
def k1_off5 (k1_t1 : Fin k1_t1_loop.trips) : Fin 4 → Nat :=
  let c4_55 : Index := 4#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v60 : Index := Scalar.indexCast v45
  let c0_56 : Index := 0#32
  let c0_57 : Index := 0#32
  ![4, v60.toNat, 0, 0]
def k1_off6 (k1_t1 : Fin k1_t1_loop.trips) : Fin 4 → Nat :=
  let c5_58 : Index := 5#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v63 : Index := Scalar.indexCast v45
  let c0_59 : Index := 0#32
  let c0_60 : Index := 0#32
  ![5, v63.toNat, 0, 0]
def k1_off7 (k1_t1 : Fin k1_t1_loop.trips) : Fin 4 → Nat :=
  let c6_61 : Index := 6#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v66 : Index := Scalar.indexCast v45
  let c0_62 : Index := 0#32
  let c0_63 : Index := 0#32
  ![6, v66.toNat, 0, 0]
def k1_off8 (k1_t1 : Fin k1_t1_loop.trips) : Fin 4 → Nat :=
  let c7_64 : Index := 7#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v69 : Index := Scalar.indexCast v45
  let c0_65 : Index := 0#32
  let c0_66 : Index := 0#32
  ![7, v69.toNat, 0, 0]
def k1_off9 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v72 : Index := Scalar.indexCast v47
  let c0_67 : Index := 0#32
  ![v72.toNat, 0]
def k1_off10 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v74 : Index := Scalar.indexCast v47
  let c128 : Index := 128#32
  ![v74.toNat, 128]
def k1_off11 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v76 : Index := Scalar.indexCast v47
  let c256 : Index := 256#32
  ![v76.toNat, 256]
def k1_off12 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v78 : Index := Scalar.indexCast v47
  let c384 : Index := 384#32
  ![v78.toNat, 384]
def k1_off13 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v80 : Index := Scalar.indexCast v47
  let c512 : Index := 512#32
  ![v80.toNat, 512]
def k1_off14 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v82 : Index := Scalar.indexCast v47
  let c640 : Index := 640#32
  ![v82.toNat, 640]
def k1_off15 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v84 : Index := Scalar.indexCast v47
  let c768 : Index := 768#32
  ![v84.toNat, 768]
def k1_off16 (k1_t1 : Fin k1_t1_loop.trips) : Fin 2 → Nat :=
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let c64_i32 : BitVec 32 := 64#32
  let v46 : BitVec 32 := Scalar.muli v45 c64_i32
  let v47 : BitVec 32 := v46
  let v86 : Index := Scalar.indexCast v47
  let c896 : Index := 896#32
  ![v86.toNat, 896]
def k1_off17 (k1_t1 : Fin k1_t1_loop.trips) : Fin 4 → Nat :=
  let c0_76 : Index := 0#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v112 : Index := Scalar.indexCast v45
  let c0_77 : Index := 0#32
  let c0_78 : Index := 0#32
  ![0, v112.toNat, 0, 0]
def k1_off18 (k1_t1 : Fin k1_t1_loop.trips) : Fin 4 → Nat :=
  let c1_79 : Index := 1#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v118 : Index := Scalar.indexCast v45
  let c0_80 : Index := 0#32
  let c0_81 : Index := 0#32
  ![1, v118.toNat, 0, 0]
def k1_off19 (k1_t1 : Fin k1_t1_loop.trips) : Fin 4 → Nat :=
  let c2_83 : Index := 2#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v124 : Index := Scalar.indexCast v45
  let c0_84 : Index := 0#32
  let c0_85 : Index := 0#32
  ![2, v124.toNat, 0, 0]
def k1_off20 (k1_t1 : Fin k1_t1_loop.trips) : Fin 4 → Nat :=
  let c3_87 : Index := 3#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v130 : Index := Scalar.indexCast v45
  let c0_88 : Index := 0#32
  let c0_89 : Index := 0#32
  ![3, v130.toNat, 0, 0]
def k1_off21 (k1_t1 : Fin k1_t1_loop.trips) : Fin 4 → Nat :=
  let c4_91 : Index := 4#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v136 : Index := Scalar.indexCast v45
  let c0_92 : Index := 0#32
  let c0_93 : Index := 0#32
  ![4, v136.toNat, 0, 0]
def k1_off22 (k1_t1 : Fin k1_t1_loop.trips) : Fin 4 → Nat :=
  let c5_95 : Index := 5#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v142 : Index := Scalar.indexCast v45
  let c0_96 : Index := 0#32
  let c0_97 : Index := 0#32
  ![5, v142.toNat, 0, 0]
def k1_off23 (k1_t1 : Fin k1_t1_loop.trips) : Fin 4 → Nat :=
  let c6_99 : Index := 6#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v148 : Index := Scalar.indexCast v45
  let c0_100 : Index := 0#32
  let c0_101 : Index := 0#32
  ![6, v148.toNat, 0, 0]
def k1_off24 (k1_t1 : Fin k1_t1_loop.trips) : Fin 4 → Nat :=
  let c7_103 : Index := 7#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v154 : Index := Scalar.indexCast v45
  let c0_104 : Index := 0#32
  let c0_105 : Index := 0#32
  ![7, v154.toNat, 0, 0]
def k1_off25 (k1_t1 : Fin k1_t1_loop.trips) : Fin 4 → Nat :=
  let c0_195 : Index := 0#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v400 : Index := Scalar.indexCast v45
  let c0_196 : Index := 0#32
  let c0_197 : Index := 0#32
  ![0, v400.toNat, 0, 0]
def k1_off26 (k1_t1 : Fin k1_t1_loop.trips) : Fin 4 → Nat :=
  let c1_198 : Index := 1#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v407 : Index := Scalar.indexCast v45
  let c0_199 : Index := 0#32
  let c0_200 : Index := 0#32
  ![1, v407.toNat, 0, 0]
def k1_off27 (k1_t1 : Fin k1_t1_loop.trips) : Fin 4 → Nat :=
  let c2_201 : Index := 2#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v414 : Index := Scalar.indexCast v45
  let c0_202 : Index := 0#32
  let c0_203 : Index := 0#32
  ![2, v414.toNat, 0, 0]
def k1_off28 (k1_t1 : Fin k1_t1_loop.trips) : Fin 4 → Nat :=
  let c3_204 : Index := 3#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v421 : Index := Scalar.indexCast v45
  let c0_205 : Index := 0#32
  let c0_206 : Index := 0#32
  ![3, v421.toNat, 0, 0]
def k1_off29 (k1_t1 : Fin k1_t1_loop.trips) : Fin 4 → Nat :=
  let c4_207 : Index := 4#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v428 : Index := Scalar.indexCast v45
  let c0_208 : Index := 0#32
  let c0_209 : Index := 0#32
  ![4, v428.toNat, 0, 0]
def k1_off30 (k1_t1 : Fin k1_t1_loop.trips) : Fin 4 → Nat :=
  let c5_210 : Index := 5#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v435 : Index := Scalar.indexCast v45
  let c0_211 : Index := 0#32
  let c0_212 : Index := 0#32
  ![5, v435.toNat, 0, 0]
def k1_off31 (k1_t1 : Fin k1_t1_loop.trips) : Fin 4 → Nat :=
  let c6_213 : Index := 6#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v442 : Index := Scalar.indexCast v45
  let c0_214 : Index := 0#32
  let c0_215 : Index := 0#32
  ![6, v442.toNat, 0, 0]
def k1_off32 (k1_t1 : Fin k1_t1_loop.trips) : Fin 4 → Nat :=
  let c7_216 : Index := 7#32
  let c3_i32 : BitVec 32 := 3#32
  let c0_i32_17 : BitVec 32 := 0#32
  let c1_i32 : BitVec 32 := 1#32
  let arg17 : BitVec 32 := Scf.iv c0_i32_17 c1_i32 k1_t1
  let v45 : BitVec 32 := Scalar.subi c3_i32 arg17
  let v449 : Index := Scalar.indexCast v45
  let c0_217 : Index := 0#32
  let c0_218 : Index := 0#32
  ![7, v449.toNat, 0, 0]
def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_2 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_3 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_7 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_9 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_10 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_11 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_12 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_13 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S256x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x4x64x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x4x1x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S8x4x128x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]

abbrev stage1_9 : Fin 2 → Memref sig .tc .vmem S256x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true]

abbrev stage1_10 : Fin 2 → Memref sig .tc .vmem S256x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true]

abbrev stage1_11 : Fin 2 → Memref sig .tc .vmem S256x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true, true]

abbrev stage1_12 : Fin 2 → Memref sig .tc .vmem S8x4x64x64 .f32 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true, true]

abbrev stage1_13 : Fin 2 → Memref sig .tc .vmem S8x4x1x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true, true]
-- ==== ReferenceIdeal.lean ====
abbrev S4096x1024 : Shape := ⟨2, ![4096, 1024]⟩
abbrev S8x64x64x64 : Shape := ⟨4, ![8, 64, 64, 64]⟩
abbrev S8x64 : Shape := ⟨2, ![8, 64]⟩
abbrev S64x64x8x128 : Shape := ⟨4, ![64, 64, 8, 128]⟩
abbrev S8x64x64x128 : Shape := ⟨4, ![8, 64, 64, 128]⟩
abbrev S64x8x64x128 : Shape := ⟨4, ![64, 8, 64, 128]⟩
abbrev S64x8x64x64 : Shape := ⟨4, ![64, 8, 64, 64]⟩
abbrev S64x8 : Shape := ⟨2, ![64, 8]⟩
abbrev S_ : Shape := ⟨0, ![]⟩
abbrev S8x128x128 : Shape := ⟨3, ![8, 128, 128]⟩
abbrev S64x8x128x128 : Shape := ⟨4, ![64, 8, 128, 128]⟩
abbrev S64x8x1x1 : Shape := ⟨4, ![64, 8, 1, 1]⟩
abbrev S1x8x64x128 : Shape := ⟨4, ![1, 8, 64, 128]⟩
abbrev S8x64x128 : Shape := ⟨3, ![8, 64, 128]⟩
abbrev S1x8x64x64 : Shape := ⟨4, ![1, 8, 64, 64]⟩
abbrev S8x64x64 : Shape := ⟨3, ![8, 64, 64]⟩
abbrev S1x8 : Shape := ⟨2, ![1, 8]⟩
abbrev S8 : Shape := ⟨1, ![8]⟩
abbrev S8x1x1 : Shape := ⟨3, ![8, 1, 1]⟩
abbrev S1x8x128x128 : Shape := ⟨4, ![1, 8, 128, 128]⟩
abbrev S1x8x1x1 : Shape := ⟨4, ![1, 8, 1, 1]⟩
abbrev S8x128x64 : Shape := ⟨3, ![8, 128, 64]⟩
abbrev S8x64x1x1 : Shape := ⟨4, ![8, 64, 1, 1]⟩
abbrev S8x64x1x128 : Shape := ⟨4, ![8, 64, 1, 128]⟩

abbrev nBuf : Space → Nat
  | .hbm => 260
  | .vmem => 0
  | .smem => 0
  | _ => 0

abbrev hbmTy0_0 (i : Nat) : BufTy := match i % 128 with
  | 0 => ⟨S4096x1024, .f32⟩
  | 1 => ⟨S4096x1024, .f32⟩
  | 2 => ⟨S4096x1024, .f32⟩
  | 3 => ⟨S4096x1024, .f32⟩
  | 4 => ⟨S8x64x64x64, .f32⟩
  | 5 => ⟨S8x64, .f32⟩
  | 6 => ⟨S4096x1024, .f32⟩
  | 7 => ⟨S64x64x8x128, .f32⟩
  | 8 => ⟨S8x64x64x128, .f32⟩
  | 9 => ⟨S64x64x8x128, .f32⟩
  | 10 => ⟨S8x64x64x128, .f32⟩
  | 11 => ⟨S64x64x8x128, .f32⟩
  | 12 => ⟨S8x64x64x128, .f32⟩
  | 13 => ⟨S64x64x8x128, .f32⟩
  | 14 => ⟨S8x64x64x128, .f32⟩
  | 15 => ⟨S64x8x64x128, .f32⟩
  | 16 => ⟨S64x8x64x128, .f32⟩
  | 17 => ⟨S64x8x64x64, .f32⟩
  | 18 => ⟨S64x8x64x128, .f32⟩
  | 19 => ⟨S64x8x64x128, .f32⟩
  | 20 => ⟨S64x8, .f32⟩
  | 21 => ⟨S_, .f32⟩
  | 22 => ⟨S8x128x128, .f32⟩
  | 23 => ⟨S_, .f32⟩
  | 24 => ⟨S64x8x64x128, .f32⟩
  | 25 => ⟨S_, .f32⟩
  | 26 => ⟨S64x8x128x128, .f32⟩
  | 27 => ⟨S_, .f32⟩
  | 28 => ⟨S64x8x64x128, .f32⟩
  | 29 => ⟨S_, .f32⟩
  | 30 => ⟨S64x8x1x1, .f32⟩
  | 31 => ⟨S_, .i32⟩
  | 32 => ⟨S64x8x64x128, .f32⟩
  | 33 => ⟨S64x8x64x128, .f32⟩
  | 34 => ⟨S64x8x64x64, .f32⟩
  | 35 => ⟨S64x8x64x128, .f32⟩
  | 36 => ⟨S64x8x64x128, .f32⟩
  | 37 => ⟨S64x8, .f32⟩
  | 38 => ⟨S_, .i32⟩
  | 39 => ⟨S8x128x128, .f32⟩
  | 40 => ⟨S64x8x64x128, .f32⟩
  | 41 => ⟨S64x8x128x128, .f32⟩
  | 42 => ⟨S64x8x64x128, .f32⟩
  | 43 => ⟨S64x8x1x1, .f32⟩
  | 44 => ⟨S_, .i32⟩
  | 45 => ⟨S_, .i1⟩
  | 46 => ⟨S_, .i32⟩
  | 47 => ⟨S_, .i32⟩
  | 48 => ⟨S_, .i32⟩
  | 49 => ⟨S1x8x64x128, .f32⟩
  | 50 => ⟨S8x64x128, .f32⟩
  | 51 => ⟨S_, .i32⟩
  | 52 => ⟨S_, .i32⟩
  | 53 => ⟨S_, .i32⟩
  | 54 => ⟨S1x8x64x128, .f32⟩
  | 55 => ⟨S8x64x128, .f32⟩
  | 56 => ⟨S_, .i32⟩
  | 57 => ⟨S_, .i32⟩
  | 58 => ⟨S_, .i32⟩
  | 59 => ⟨S1x8x64x64, .f32⟩
  | 60 => ⟨S8x64x64, .f32⟩
  | 61 => ⟨S_, .i32⟩
  | 62 => ⟨S_, .i32⟩
  | 63 => ⟨S_, .i32⟩
  | 64 => ⟨S1x8x64x128, .f32⟩
  | 65 => ⟨S8x64x128, .f32⟩
  | 66 => ⟨S_, .i32⟩
  | 67 => ⟨S_, .i32⟩
  | 68 => ⟨S_, .i32⟩
  | 69 => ⟨S1x8x64x128, .f32⟩
  | 70 => ⟨S8x64x128, .f32⟩
  | 71 => ⟨S_, .i32⟩
  | 72 => ⟨S1x8, .f32⟩
  | 73 => ⟨S8, .f32⟩
  | 74 => ⟨S8x64x128, .f32⟩
  | 75 => ⟨S8x64x128, .f32⟩
  | 76 => ⟨S8x64x128, .f32⟩
  | 77 => ⟨S8x64x128, .f32⟩
  | 78 => ⟨S8x64x128, .f32⟩
  | 79 => ⟨S8x1x1, .f32⟩
  | 80 => ⟨S8x128x128, .f32⟩
  | 81 => ⟨S8x128x128, .f32⟩
  | 82 => ⟨S8x128x128, .f32⟩
  | 83 => ⟨S8x128x128, .f32⟩
  | 84 => ⟨S1x8x64x128, .f32⟩
  | 85 => ⟨S_, .i32⟩
  | 86 => ⟨S_, .i32⟩
  | 87 => ⟨S_, .i32⟩
  | 88 => ⟨S64x8x64x128, .f32⟩
  | 89 => ⟨S1x8x128x128, .f32⟩
  | 90 => ⟨S_, .i32⟩
  | 91 => ⟨S_, .i32⟩
  | 92 => ⟨S_, .i32⟩
  | 93 => ⟨S64x8x128x128, .f32⟩
  | 94 => ⟨S1x8x64x128, .f32⟩
  | 95 => ⟨S_, .i32⟩
  | 96 => ⟨S_, .i32⟩
  | 97 => ⟨S_, .i32⟩
  | 98 => ⟨S64x8x64x128, .f32⟩
  | 99 => ⟨S1x8x1x1, .f32⟩
  | 100 => ⟨S_, .i32⟩
  | 101 => ⟨S_, .i32⟩
  | 102 => ⟨S_, .i32⟩
  | 103 => ⟨S64x8x1x1, .f32⟩
  | 104 => ⟨S_, .i32⟩
  | 105 => ⟨S_, .i32⟩
  | 106 => ⟨S8x64x64x128, .f32⟩
  | 107 => ⟨S64x64x8x128, .f32⟩
  | 108 => ⟨S8x64x64x128, .f32⟩
  | 109 => ⟨S_, .f32⟩
  | 110 => ⟨S8x128x128, .f32⟩
  | 111 => ⟨S64x8x64x128, .f32⟩
  | 112 => ⟨S_, .f32⟩
  | 113 => ⟨S8x128x128, .f32⟩
  | 114 => ⟨S_, .f32⟩
  | 115 => ⟨S64x8x64x128, .f32⟩
  | 116 => ⟨S_, .f32⟩
  | 117 => ⟨S64x8x64x128, .f32⟩
  | 118 => ⟨S_, .f32⟩
  | 119 => ⟨S64x8x64x64, .f32⟩
  | 120 => ⟨S_, .f32⟩
  | 121 => ⟨S64x8x64x128, .f32⟩
  | 122 => ⟨S_, .f32⟩
  | 123 => ⟨S64x8x64x128, .f32⟩
  | 124 => ⟨S_, .f32⟩
  | 125 => ⟨S64x8, .f32⟩
  | 126 => ⟨S_, .i32⟩
  | 127 => ⟨S64x8x64x128, .f32⟩
  | _ => ⟨S4096x1024, .f32⟩

abbrev hbmTy0_1 (i : Nat) : BufTy := match i % 128 with
  | 0 => ⟨S64x8x128x128, .f32⟩
  | 1 => ⟨S64x8x64x128, .f32⟩
  | 2 => ⟨S64x8x64x128, .f32⟩
  | 3 => ⟨S64x8x64x128, .f32⟩
  | 4 => ⟨S64x8x64x64, .f32⟩
  | 5 => ⟨S64x8x1x1, .f32⟩
  | 6 => ⟨S64x8x64x128, .f32⟩
  | 7 => ⟨S_, .i32⟩
  | 8 => ⟨S8x128x128, .f32⟩
  | 9 => ⟨S64x8x64x128, .f32⟩
  | 10 => ⟨S64x8x64x128, .f32⟩
  | 11 => ⟨S64x8x64x64, .f32⟩
  | 12 => ⟨S64x8x64x128, .f32⟩
  | 13 => ⟨S64x8x64x128, .f32⟩
  | 14 => ⟨S64x8, .f32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i32⟩
  | 22 => ⟨S_, .i32⟩
  | 23 => ⟨S_, .i32⟩
  | 24 => ⟨S1x8x64x128, .f32⟩
  | 25 => ⟨S8x64x128, .f32⟩
  | 26 => ⟨S_, .i32⟩
  | 27 => ⟨S_, .i32⟩
  | 28 => ⟨S_, .i32⟩
  | 29 => ⟨S1x8x128x128, .f32⟩
  | 30 => ⟨S8x128x128, .f32⟩
  | 31 => ⟨S_, .i32⟩
  | 32 => ⟨S_, .i32⟩
  | 33 => ⟨S_, .i32⟩
  | 34 => ⟨S1x8x64x128, .f32⟩
  | 35 => ⟨S8x64x128, .f32⟩
  | 36 => ⟨S_, .i32⟩
  | 37 => ⟨S_, .i32⟩
  | 38 => ⟨S_, .i32⟩
  | 39 => ⟨S1x8x64x128, .f32⟩
  | 40 => ⟨S8x64x128, .f32⟩
  | 41 => ⟨S_, .i32⟩
  | 42 => ⟨S_, .i32⟩
  | 43 => ⟨S_, .i32⟩
  | 44 => ⟨S1x8x64x128, .f32⟩
  | 45 => ⟨S8x64x128, .f32⟩
  | 46 => ⟨S_, .i32⟩
  | 47 => ⟨S_, .i32⟩
  | 48 => ⟨S_, .i32⟩
  | 49 => ⟨S1x8x64x64, .f32⟩
  | 50 => ⟨S8x64x64, .f32⟩
  | 51 => ⟨S_, .i32⟩
  | 52 => ⟨S_, .i32⟩
  | 53 => ⟨S_, .i32⟩
  | 54 => ⟨S1x8x1x1, .f32⟩
  | 55 => ⟨S8x1x1, .f32⟩
  | 56 => ⟨S_, .i32⟩
  | 57 => ⟨S_, .i32⟩
  | 58 => ⟨S_, .i32⟩
  | 59 => ⟨S1x8x64x128, .f32⟩
  | 60 => ⟨S8x64x128, .f32⟩
  | 61 => ⟨S8x128x64, .f32⟩
  | 62 => ⟨S8x64x128, .f32⟩
  | 63 => ⟨S8x128x64, .f32⟩
  | 64 => ⟨S8x64x128, .f32⟩
  | 65 => ⟨S8x128x128, .f32⟩
  | 66 => ⟨S_, .f32⟩
  | 67 => ⟨S8, .f32⟩
  | 68 => ⟨S8x1x1, .f32⟩
  | 69 => ⟨S8x128x128, .f32⟩
  | 70 => ⟨S8x128x128, .f32⟩
  | 71 => ⟨S_, .f32⟩
  | 72 => ⟨S8, .f32⟩
  | 73 => ⟨S8x128x64, .f32⟩
  | 74 => ⟨S8x64x128, .f32⟩
  | 75 => ⟨S8x64x128, .f32⟩
  | 76 => ⟨S8x64x64, .f32⟩
  | 77 => ⟨S8x128x128, .f32⟩
  | 78 => ⟨S8x128x128, .f32⟩
  | 79 => ⟨S8x128x128, .f32⟩
  | 80 => ⟨S8x64x128, .f32⟩
  | 81 => ⟨S8x64x128, .f32⟩
  | 82 => ⟨S8x128x128, .f32⟩
  | 83 => ⟨S8x128x128, .f32⟩
  | 84 => ⟨S8x128x128, .f32⟩
  | 85 => ⟨S8x64x128, .f32⟩
  | 86 => ⟨S1x8x64x128, .f32⟩
  | 87 => ⟨S_, .i32⟩
  | 88 => ⟨S_, .i32⟩
  | 89 => ⟨S_, .i32⟩
  | 90 => ⟨S64x8x64x128, .f32⟩
  | 91 => ⟨S1x8x64x128, .f32⟩
  | 92 => ⟨S_, .i32⟩
  | 93 => ⟨S_, .i32⟩
  | 94 => ⟨S_, .i32⟩
  | 95 => ⟨S64x8x64x128, .f32⟩
  | 96 => ⟨S1x8x64x64, .f32⟩
  | 97 => ⟨S_, .i32⟩
  | 98 => ⟨S_, .i32⟩
  | 99 => ⟨S_, .i32⟩
  | 100 => ⟨S64x8x64x64, .f32⟩
  | 101 => ⟨S1x8x64x128, .f32⟩
  | 102 => ⟨S_, .i32⟩
  | 103 => ⟨S_, .i32⟩
  | 104 => ⟨S_, .i32⟩
  | 105 => ⟨S64x8x64x128, .f32⟩
  | 106 => ⟨S1x8x64x128, .f32⟩
  | 107 => ⟨S_, .i32⟩
  | 108 => ⟨S_, .i32⟩
  | 109 => ⟨S_, .i32⟩
  | 110 => ⟨S64x8x64x128, .f32⟩
  | 111 => ⟨S1x8, .f32⟩
  | 112 => ⟨S_, .i32⟩
  | 113 => ⟨S64x8, .f32⟩
  | 114 => ⟨S_, .i32⟩
  | 115 => ⟨S_, .i32⟩
  | 116 => ⟨S8x64, .f32⟩
  | 117 => ⟨S8x64x64x128, .f32⟩
  | 118 => ⟨S8x64x64x128, .f32⟩
  | 119 => ⟨S8x64x64x64, .f32⟩
  | 120 => ⟨S8x64x64x128, .f32⟩
  | 121 => ⟨S8x64x64x128, .f32⟩
  | 122 => ⟨S64x64x8x128, .f32⟩
  | 123 => ⟨S4096x1024, .f32⟩
  | 124 => ⟨S64x64x8x128, .f32⟩
  | 125 => ⟨S4096x1024, .f32⟩
  | 126 => ⟨S64x64x8x128, .f32⟩
  | 127 => ⟨S4096x1024, .f32⟩
  | _ => ⟨S4096x1024, .f32⟩

abbrev hbmTy0_2 (i : Nat) : BufTy := match i % 128 with
  | 0 => ⟨S64x64x8x128, .f32⟩
  | 1 => ⟨S4096x1024, .f32⟩
  | 2 => ⟨S8x64x1x1, .f32⟩
  | 3 => ⟨S8x64x1x128, .f32⟩
  | _ => ⟨S4096x1024, .f32⟩

abbrev hbmTy (i : Nat) : BufTy := match i / 128 with
  | 0 => hbmTy0_0 i
  | 1 => hbmTy0_1 i
  | 2 => hbmTy0_2 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_c : Ref sig .tc := ⟨.hbm, 31, rfl⟩
abbrev main_v19_0 : Ref sig .tc := ⟨.hbm, 32, rfl⟩
abbrev main_v19_1 : Ref sig .tc := ⟨.hbm, 33, rfl⟩
abbrev main_v19_2 : Ref sig .tc := ⟨.hbm, 34, rfl⟩
abbrev main_v19_3 : Ref sig .tc := ⟨.hbm, 35, rfl⟩
abbrev main_v19_4 : Ref sig .tc := ⟨.hbm, 36, rfl⟩
abbrev main_v19_5 : Ref sig .tc := ⟨.hbm, 37, rfl⟩
abbrev main_v19_6 : Ref sig .tc := ⟨.hbm, 38, rfl⟩
abbrev main_v19_7 : Ref sig .tc := ⟨.hbm, 39, rfl⟩
abbrev main_v19_8 : Ref sig .tc := ⟨.hbm, 40, rfl⟩
abbrev main_v19_9 : Ref sig .tc := ⟨.hbm, 41, rfl⟩
abbrev main_v19_10 : Ref sig .tc := ⟨.hbm, 42, rfl⟩
abbrev main_v19_11 : Ref sig .tc := ⟨.hbm, 43, rfl⟩
abbrev main_while0c_c_24 : Ref sig .tc := ⟨.hbm, 44, rfl⟩
abbrev main_while0c_v49 : Ref sig .tc := ⟨.hbm, 45, rfl⟩
abbrev main_while0b_call0_c : Ref sig .tc := ⟨.hbm, 46, rfl⟩
abbrev main_while0b_call0_c_0 : Ref sig .tc := ⟨.hbm, 47, rfl⟩
abbrev main_while0b_call0_c_1 : Ref sig .tc := ⟨.hbm, 48, rfl⟩
abbrev main_while0b_call0_v0 : Ref sig .tc := ⟨.hbm, 49, rfl⟩
abbrev main_while0b_v49 : Ref sig .tc := ⟨.hbm, 50, rfl⟩
abbrev main_while0b_call1_c : Ref sig .tc := ⟨.hbm, 51, rfl⟩
abbrev main_while0b_call1_c_0 : Ref sig .tc := ⟨.hbm, 52, rfl⟩
abbrev main_while0b_call1_c_1 : Ref sig .tc := ⟨.hbm, 53, rfl⟩
abbrev main_while0b_call1_v0 : Ref sig .tc := ⟨.hbm, 54, rfl⟩
abbrev main_while0b_v50 : Ref sig .tc := ⟨.hbm, 55, rfl⟩
abbrev main_while0b_call2_c : Ref sig .tc := ⟨.hbm, 56, rfl⟩
abbrev main_while0b_call2_c_0 : Ref sig .tc := ⟨.hbm, 57, rfl⟩
abbrev main_while0b_call2_c_1 : Ref sig .tc := ⟨.hbm, 58, rfl⟩
abbrev main_while0b_call2_v0 : Ref sig .tc := ⟨.hbm, 59, rfl⟩
abbrev main_while0b_v51 : Ref sig .tc := ⟨.hbm, 60, rfl⟩
abbrev main_while0b_call3_c : Ref sig .tc := ⟨.hbm, 61, rfl⟩
abbrev main_while0b_call3_c_0 : Ref sig .tc := ⟨.hbm, 62, rfl⟩
abbrev main_while0b_call3_c_1 : Ref sig .tc := ⟨.hbm, 63, rfl⟩
abbrev main_while0b_call3_v0 : Ref sig .tc := ⟨.hbm, 64, rfl⟩
abbrev main_while0b_v52 : Ref sig .tc := ⟨.hbm, 65, rfl⟩
abbrev main_while0b_call4_c : Ref sig .tc := ⟨.hbm, 66, rfl⟩
abbrev main_while0b_call4_c_0 : Ref sig .tc := ⟨.hbm, 67, rfl⟩
abbrev main_while0b_call4_c_1 : Ref sig .tc := ⟨.hbm, 68, rfl⟩
abbrev main_while0b_call4_v0 : Ref sig .tc := ⟨.hbm, 69, rfl⟩
abbrev main_while0b_v53 : Ref sig .tc := ⟨.hbm, 70, rfl⟩
abbrev main_while0b_call5_c : Ref sig .tc := ⟨.hbm, 71, rfl⟩
abbrev main_while0b_call5_v0 : Ref sig .tc := ⟨.hbm, 72, rfl⟩
abbrev main_while0b_v54 : Ref sig .tc := ⟨.hbm, 73, rfl⟩
abbrev main_while0b_v55 : Ref sig .tc := ⟨.hbm, 74, rfl⟩
abbrev main_while0b_v56 : Ref sig .tc := ⟨.hbm, 75, rfl⟩
abbrev main_while0b_v57 : Ref sig .tc := ⟨.hbm, 76, rfl⟩
abbrev main_while0b_v58 : Ref sig .tc := ⟨.hbm, 77, rfl⟩
abbrev main_while0b_v59 : Ref sig .tc := ⟨.hbm, 78, rfl⟩
abbrev main_while0b_v60 : Ref sig .tc := ⟨.hbm, 79, rfl⟩
abbrev main_while0b_v61 : Ref sig .tc := ⟨.hbm, 80, rfl⟩
abbrev main_while0b_v62 : Ref sig .tc := ⟨.hbm, 81, rfl⟩
abbrev main_while0b_v63 : Ref sig .tc := ⟨.hbm, 82, rfl⟩
abbrev main_while0b_v64 : Ref sig .tc := ⟨.hbm, 83, rfl⟩
abbrev main_while0b_call6_v0 : Ref sig .tc := ⟨.hbm, 84, rfl⟩
abbrev main_while0b_call6_c : Ref sig .tc := ⟨.hbm, 85, rfl⟩
abbrev main_while0b_call6_c_0 : Ref sig .tc := ⟨.hbm, 86, rfl⟩
abbrev main_while0b_call6_c_1 : Ref sig .tc := ⟨.hbm, 87, rfl⟩
abbrev main_while0b_v65 : Ref sig .tc := ⟨.hbm, 88, rfl⟩
abbrev main_while0b_call7_v0 : Ref sig .tc := ⟨.hbm, 89, rfl⟩
abbrev main_while0b_call7_c : Ref sig .tc := ⟨.hbm, 90, rfl⟩
abbrev main_while0b_call7_c_0 : Ref sig .tc := ⟨.hbm, 91, rfl⟩
abbrev main_while0b_call7_c_1 : Ref sig .tc := ⟨.hbm, 92, rfl⟩
abbrev main_while0b_v66 : Ref sig .tc := ⟨.hbm, 93, rfl⟩
abbrev main_while0b_call8_v0 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_v67 : Ref sig .tc := ⟨.hbm, 98, rfl⟩
abbrev main_while0b_call9_v0 : Ref sig .tc := ⟨.hbm, 99, rfl⟩
abbrev main_while0b_call9_c : Ref sig .tc := ⟨.hbm, 100, rfl⟩
abbrev main_while0b_call9_c_0 : Ref sig .tc := ⟨.hbm, 101, rfl⟩
abbrev main_while0b_call9_c_1 : Ref sig .tc := ⟨.hbm, 102, rfl⟩
abbrev main_while0b_v68 : Ref sig .tc := ⟨.hbm, 103, rfl⟩
abbrev main_while0b_c_24 : Ref sig .tc := ⟨.hbm, 104, rfl⟩
abbrev main_while0b_v69 : Ref sig .tc := ⟨.hbm, 105, rfl⟩
abbrev main_v20 : Ref sig .tc := ⟨.hbm, 106, rfl⟩
abbrev main_v21 : Ref sig .tc := ⟨.hbm, 107, rfl⟩
abbrev main_v22 : Ref sig .tc := ⟨.hbm, 108, rfl⟩
abbrev main_cst_4 : Ref sig .tc := ⟨.hbm, 109, rfl⟩
abbrev main_v23 : Ref sig .tc := ⟨.hbm, 110, rfl⟩
abbrev main_v24 : Ref sig .tc := ⟨.hbm, 111, rfl⟩
abbrev main_cst_5 : Ref sig .tc := ⟨.hbm, 112, rfl⟩
abbrev main_v25 : Ref sig .tc := ⟨.hbm, 113, rfl⟩
abbrev main_cst_6 : Ref sig .tc := ⟨.hbm, 114, rfl⟩
abbrev main_v26 : Ref sig .tc := ⟨.hbm, 115, rfl⟩
abbrev main_cst_7 : Ref sig .tc := ⟨.hbm, 116, rfl⟩
abbrev main_v27 : Ref sig .tc := ⟨.hbm, 117, rfl⟩
abbrev main_cst_8 : Ref sig .tc := ⟨.hbm, 118, rfl⟩
abbrev main_v28 : Ref sig .tc := ⟨.hbm, 119, rfl⟩
abbrev main_cst_9 : Ref sig .tc := ⟨.hbm, 120, rfl⟩
abbrev main_v29 : Ref sig .tc := ⟨.hbm, 121, rfl⟩
abbrev main_cst_10 : Ref sig .tc := ⟨.hbm, 122, rfl⟩
abbrev main_v30 : Ref sig .tc := ⟨.hbm, 123, rfl⟩
abbrev main_cst_11 : Ref sig .tc := ⟨.hbm, 124, rfl⟩
abbrev main_v31 : Ref sig .tc := ⟨.hbm, 125, rfl⟩
abbrev main_c_12 : Ref sig .tc := ⟨.hbm, 126, rfl⟩
abbrev main_v32_0 : Ref sig .tc := ⟨.hbm, 127, rfl⟩
abbrev main_v32_1 : Ref sig .tc := ⟨.hbm, 128, rfl⟩
abbrev main_v32_2 : Ref sig .tc := ⟨.hbm, 129, rfl⟩
abbrev main_v32_3 : Ref sig .tc := ⟨.hbm, 130, rfl⟩
abbrev main_v32_4 : Ref sig .tc := ⟨.hbm, 131, rfl⟩
abbrev main_v32_5 : Ref sig .tc := ⟨.hbm, 132, rfl⟩
abbrev main_v32_6 : Ref sig .tc := ⟨.hbm, 133, rfl⟩
abbrev main_v32_7 : Ref sig .tc := ⟨.hbm, 134, rfl⟩
abbrev main_v32_8 : Ref sig .tc := ⟨.hbm, 135, rfl⟩
abbrev main_v32_9 : Ref sig .tc := ⟨.hbm, 136, rfl⟩
abbrev main_v32_10 : Ref sig .tc := ⟨.hbm, 137, rfl⟩
abbrev main_v32_11 : Ref sig .tc := ⟨.hbm, 138, rfl⟩
abbrev main_v32_12 : Ref sig .tc := ⟨.hbm, 139, rfl⟩
abbrev main_v32_13 : Ref sig .tc := ⟨.hbm, 140, rfl⟩
abbrev main_v32_14 : Ref sig .tc := ⟨.hbm, 141, rfl⟩
abbrev main_v32_15 : Ref sig .tc := ⟨.hbm, 142, rfl⟩
abbrev main_while1c_c_28 : Ref sig .tc := ⟨.hbm, 143, rfl⟩
abbrev main_while1c_v49 : Ref sig .tc := ⟨.hbm, 144, rfl⟩
abbrev main_while1b_c_28 : Ref sig .tc := ⟨.hbm, 145, rfl⟩
abbrev main_while1b_v49 : Ref sig .tc := ⟨.hbm, 146, rfl⟩
abbrev main_while1b_c_29 : Ref sig .tc := ⟨.hbm, 147, rfl⟩
abbrev main_while1b_v50 : Ref sig .tc := ⟨.hbm, 148, rfl⟩
abbrev main_while1b_call10_c : Ref sig .tc := ⟨.hbm, 149, rfl⟩
abbrev main_while1b_call10_c_0 : Ref sig .tc := ⟨.hbm, 150, rfl⟩
abbrev main_while1b_call10_c_1 : Ref sig .tc := ⟨.hbm, 151, rfl⟩
abbrev main_while1b_call10_v0 : Ref sig .tc := ⟨.hbm, 152, rfl⟩
abbrev main_while1b_v51 : Ref sig .tc := ⟨.hbm, 153, rfl⟩
abbrev main_while1b_call11_c : Ref sig .tc := ⟨.hbm, 154, rfl⟩
abbrev main_while1b_call11_c_0 : Ref sig .tc := ⟨.hbm, 155, rfl⟩
abbrev main_while1b_call11_c_1 : Ref sig .tc := ⟨.hbm, 156, rfl⟩
abbrev main_while1b_call11_v0 : Ref sig .tc := ⟨.hbm, 157, rfl⟩
abbrev main_while1b_v52 : Ref sig .tc := ⟨.hbm, 158, rfl⟩
abbrev main_while1b_call12_c : Ref sig .tc := ⟨.hbm, 159, rfl⟩
abbrev main_while1b_call12_c_0 : Ref sig .tc := ⟨.hbm, 160, rfl⟩
abbrev main_while1b_call12_c_1 : Ref sig .tc := ⟨.hbm, 161, rfl⟩
abbrev main_while1b_call12_v0 : Ref sig .tc := ⟨.hbm, 162, rfl⟩
abbrev main_while1b_v53 : Ref sig .tc := ⟨.hbm, 163, rfl⟩
abbrev main_while1b_call13_c : Ref sig .tc := ⟨.hbm, 164, rfl⟩
abbrev main_while1b_call13_c_0 : Ref sig .tc := ⟨.hbm, 165, rfl⟩
abbrev main_while1b_call13_c_1 : Ref sig .tc := ⟨.hbm, 166, rfl⟩
abbrev main_while1b_call13_v0 : Ref sig .tc := ⟨.hbm, 167, rfl⟩
abbrev main_while1b_v54 : Ref sig .tc := ⟨.hbm, 168, rfl⟩
abbrev main_while1b_call14_c : Ref sig .tc := ⟨.hbm, 169, rfl⟩
abbrev main_while1b_call14_c_0 : Ref sig .tc := ⟨.hbm, 170, rfl⟩
abbrev main_while1b_call14_c_1 : Ref sig .tc := ⟨.hbm, 171, rfl⟩
abbrev main_while1b_call14_v0 : Ref sig .tc := ⟨.hbm, 172, rfl⟩
abbrev main_while1b_v55 : Ref sig .tc := ⟨.hbm, 173, rfl⟩
abbrev main_while1b_call15_c : Ref sig .tc := ⟨.hbm, 174, rfl⟩
abbrev main_while1b_call15_c_0 : Ref sig .tc := ⟨.hbm, 175, rfl⟩
abbrev main_while1b_call15_c_1 : Ref sig .tc := ⟨.hbm, 176, rfl⟩
abbrev main_while1b_call15_v0 : Ref sig .tc := ⟨.hbm, 177, rfl⟩
abbrev main_while1b_v56 : Ref sig .tc := ⟨.hbm, 178, rfl⟩
abbrev main_while1b_call16_c : Ref sig .tc := ⟨.hbm, 179, rfl⟩
abbrev main_while1b_call16_c_0 : Ref sig .tc := ⟨.hbm, 180, rfl⟩
abbrev main_while1b_call16_c_1 : Ref sig .tc := ⟨.hbm, 181, rfl⟩
abbrev main_while1b_call16_v0 : Ref sig .tc := ⟨.hbm, 182, rfl⟩
abbrev main_while1b_v57 : Ref sig .tc := ⟨.hbm, 183, rfl⟩
abbrev main_while1b_call17_c : Ref sig .tc := ⟨.hbm, 184, rfl⟩
abbrev main_while1b_call17_c_0 : Ref sig .tc := ⟨.hbm, 185, rfl⟩
abbrev main_while1b_call17_c_1 : Ref sig .tc := ⟨.hbm, 186, rfl⟩
abbrev main_while1b_call17_v0 : Ref sig .tc := ⟨.hbm, 187, rfl⟩
abbrev main_while1b_v58 : Ref sig .tc := ⟨.hbm, 188, rfl⟩
abbrev main_while1b_v59 : Ref sig .tc := ⟨.hbm, 189, rfl⟩
abbrev main_while1b_v60 : Ref sig .tc := ⟨.hbm, 190, rfl⟩
abbrev main_while1b_v61 : Ref sig .tc := ⟨.hbm, 191, rfl⟩
abbrev main_while1b_v62 : Ref sig .tc := ⟨.hbm, 192, rfl⟩
abbrev main_while1b_v63 : Ref sig .tc := ⟨.hbm, 193, rfl⟩
abbrev main_while1b_cst_30 : Ref sig .tc := ⟨.hbm, 194, rfl⟩
abbrev main_while1b_v64 : Ref sig .tc := ⟨.hbm, 195, rfl⟩
abbrev main_while1b_v65 : Ref sig .tc := ⟨.hbm, 196, rfl⟩
abbrev main_while1b_v66 : Ref sig .tc := ⟨.hbm, 197, rfl⟩
abbrev main_while1b_v67 : Ref sig .tc := ⟨.hbm, 198, rfl⟩
abbrev main_while1b_cst_31 : Ref sig .tc := ⟨.hbm, 199, rfl⟩
abbrev main_while1b_v68 : Ref sig .tc := ⟨.hbm, 200, rfl⟩
abbrev main_while1b_v69 : Ref sig .tc := ⟨.hbm, 201, rfl⟩
abbrev main_while1b_v70 : Ref sig .tc := ⟨.hbm, 202, rfl⟩
abbrev main_while1b_v71 : Ref sig .tc := ⟨.hbm, 203, rfl⟩
abbrev main_while1b_v72 : Ref sig .tc := ⟨.hbm, 204, rfl⟩
abbrev main_while1b_v73 : Ref sig .tc := ⟨.hbm, 205, rfl⟩
abbrev main_while1b_v74 : Ref sig .tc := ⟨.hbm, 206, rfl⟩
abbrev main_while1b_v75 : Ref sig .tc := ⟨.hbm, 207, rfl⟩
abbrev main_while1b_v76 : Ref sig .tc := ⟨.hbm, 208, rfl⟩
abbrev main_while1b_v77 : Ref sig .tc := ⟨.hbm, 209, rfl⟩
abbrev main_while1b_v78 : Ref sig .tc := ⟨.hbm, 210, rfl⟩
abbrev main_while1b_v79 : Ref sig .tc := ⟨.hbm, 211, rfl⟩
abbrev main_while1b_v80 : Ref sig .tc := ⟨.hbm, 212, rfl⟩
abbrev main_while1b_v81 : Ref sig .tc := ⟨.hbm, 213, rfl⟩
abbrev main_while1b_call18_v0 : Ref sig .tc := ⟨.hbm, 214, rfl⟩
abbrev main_while1b_call18_c : Ref sig .tc := ⟨.hbm, 215, rfl⟩
abbrev main_while1b_call18_c_0 : Ref sig .tc := ⟨.hbm, 216, rfl⟩
abbrev main_while1b_call18_c_1 : Ref sig .tc := ⟨.hbm, 217, rfl⟩
abbrev main_while1b_v82 : Ref sig .tc := ⟨.hbm, 218, rfl⟩
abbrev main_while1b_call19_v0 : Ref sig .tc := ⟨.hbm, 219, rfl⟩
abbrev main_while1b_call19_c : Ref sig .tc := ⟨.hbm, 220, rfl⟩
abbrev main_while1b_call19_c_0 : Ref sig .tc := ⟨.hbm, 221, rfl⟩
abbrev main_while1b_call19_c_1 : Ref sig .tc := ⟨.hbm, 222, rfl⟩
abbrev main_while1b_v83 : Ref sig .tc := ⟨.hbm, 223, rfl⟩
abbrev main_while1b_call20_v0 : Ref sig .tc := ⟨.hbm, 224, rfl⟩
abbrev main_while1b_call20_c : Ref sig .tc := ⟨.hbm, 225, rfl⟩
abbrev main_while1b_call20_c_0 : Ref sig .tc := ⟨.hbm, 226, rfl⟩
abbrev main_while1b_call20_c_1 : Ref sig .tc := ⟨.hbm, 227, rfl⟩
abbrev main_while1b_v84 : Ref sig .tc := ⟨.hbm, 228, rfl⟩
abbrev main_while1b_call21_v0 : Ref sig .tc := ⟨.hbm, 229, rfl⟩
abbrev main_while1b_call21_c : Ref sig .tc := ⟨.hbm, 230, rfl⟩
abbrev main_while1b_call21_c_0 : Ref sig .tc := ⟨.hbm, 231, rfl⟩
abbrev main_while1b_call21_c_1 : Ref sig .tc := ⟨.hbm, 232, rfl⟩
abbrev main_while1b_v85 : Ref sig .tc := ⟨.hbm, 233, rfl⟩
abbrev main_while1b_call22_v0 : Ref sig .tc := ⟨.hbm, 234, rfl⟩
abbrev main_while1b_call22_c : Ref sig .tc := ⟨.hbm, 235, rfl⟩
abbrev main_while1b_call22_c_0 : Ref sig .tc := ⟨.hbm, 236, rfl⟩
abbrev main_while1b_call22_c_1 : Ref sig .tc := ⟨.hbm, 237, rfl⟩
abbrev main_while1b_v86 : Ref sig .tc := ⟨.hbm, 238, rfl⟩
abbrev main_while1b_call23_v0 : Ref sig .tc := ⟨.hbm, 239, rfl⟩
abbrev main_while1b_call23_c : Ref sig .tc := ⟨.hbm, 240, rfl⟩
abbrev main_while1b_v87 : Ref sig .tc := ⟨.hbm, 241, rfl⟩
abbrev main_while1b_c_32 : Ref sig .tc := ⟨.hbm, 242, rfl⟩
abbrev main_while1b_v88 : Ref sig .tc := ⟨.hbm, 243, rfl⟩
abbrev main_v33 : Ref sig .tc := ⟨.hbm, 244, rfl⟩
abbrev main_v34 : Ref sig .tc := ⟨.hbm, 245, rfl⟩
abbrev main_v35 : Ref sig .tc := ⟨.hbm, 246, rfl⟩
abbrev main_v36 : Ref sig .tc := ⟨.hbm, 247, rfl⟩
abbrev main_v37 : Ref sig .tc := ⟨.hbm, 248, rfl⟩
abbrev main_v38 : Ref sig .tc := ⟨.hbm, 249, rfl⟩
abbrev main_v39 : Ref sig .tc := ⟨.hbm, 250, rfl⟩
abbrev main_v40 : Ref sig .tc := ⟨.hbm, 251, rfl⟩
abbrev main_v41 : Ref sig .tc := ⟨.hbm, 252, rfl⟩
abbrev main_v42 : Ref sig .tc := ⟨.hbm, 253, rfl⟩
abbrev main_v43 : Ref sig .tc := ⟨.hbm, 254, rfl⟩
abbrev main_v44 : Ref sig .tc := ⟨.hbm, 255, rfl⟩
abbrev main_v45 : Ref sig .tc := ⟨.hbm, 256, rfl⟩
abbrev main_v46 : Ref sig .tc := ⟨.hbm, 257, rfl⟩
abbrev main_v47 : Ref sig .tc := ⟨.hbm, 258, rfl⟩
abbrev main_v48 : Ref sig .tc := ⟨.hbm, 259, rfl⟩

abbrev nD : Nat := 1
abbrev τ : Topo := Topo.v7x

variable {F : FTy → Type} [FloatOps F]

abbrev main_while0_count : Scf.Loop 32 := ⟨0#32, 64#32, 1#32⟩

abbrev main_while1_count : Scf.Loop 32 := ⟨0#32, 64#32, 1#32⟩
-- ==== Kernel2.lean ====
abbrev S4096x2048 : Shape := ⟨2, ![4096, 2048]⟩
abbrev S2048x11264 : Shape := ⟨2, ![2048, 11264]⟩
abbrev S4096x11264 : Shape := ⟨2, ![4096, 11264]⟩
abbrev S4096x2x5632 : Shape := ⟨3, ![4096, 2, 5632]⟩
abbrev S2x4096x5632 : Shape := ⟨3, ![2, 4096, 5632]⟩
abbrev S8x2048x1408 : Shape := ⟨3, ![8, 2048, 1408]⟩
abbrev S4096x1024 : Shape := ⟨2, ![4096, 1024]⟩
abbrev S1x4096x1408 : Shape := ⟨3, ![1, 4096, 1408]⟩
abbrev S1x1024x1408 : Shape := ⟨3, ![1, 1024, 1408]⟩
abbrev S4096x1408 : Shape := ⟨2, ![4096, 1408]⟩
abbrev S1024x1408 : Shape := ⟨2, ![1024, 1408]⟩

abbrev nBuf : Space → Nat
  | .hbm => 8
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x2x5632, .f32⟩
  | .hbm, ⟨4, _⟩ => ⟨S2x4096x5632, .f32⟩
  | .hbm, ⟨5, _⟩ => ⟨S2x4096x5632, .bf16⟩
  | .hbm, ⟨6, _⟩ => ⟨S4096x2048, .bf16⟩
  | .hbm, ⟨7, _⟩ => ⟨S8x2048x1408, .bf16⟩
  | .local _ .vmem, ⟨0, _⟩ => ⟨S4096x1024, .bf16⟩
  | .local _ .vmem, ⟨1, _⟩ => ⟨S4096x1024, .bf16⟩
  | .local _ .vmem, ⟨2, _⟩ => ⟨S1x4096x1408, .bf16⟩
  | .local _ .vmem, ⟨3, _⟩ => ⟨S1x4096x1408, .bf16⟩
  | .local _ .vmem, ⟨4, _⟩ => ⟨S1x1024x1408, .bf16⟩
  | .local _ .vmem, ⟨5, _⟩ => ⟨S1x1024x1408, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg1 c4_i32
  let c4_i32_0 : BitVec 32 := 4#32
  let v1 : BitVec 32 := Scalar.remsi arg1 c4_i32_0
  let c0_i32 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg0.toNat, v1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x4096x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4096x2048 : Shape := ⟨2, ![4096, 2048]⟩
abbrev S2048x11264 : Shape := ⟨2, ![2048, 11264]⟩
abbrev S4096x11264 : Shape := ⟨2, ![4096, 11264]⟩
abbrev S11264x2048 : Shape := ⟨2, ![11264, 2048]⟩
abbrev S2048x8x1408 : Shape := ⟨3, ![2048, 8, 1408]⟩
abbrev S8x2048x1408 : Shape := ⟨3, ![8, 2048, 1408]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x11264, .f32⟩
  | .hbm, ⟨4, _⟩ => ⟨S11264x2048, .f32⟩
  | .hbm, ⟨5, _⟩ => ⟨S2048x11264, .f32⟩
  | .hbm, ⟨6, _⟩ => ⟨S2048x8x1408, .f32⟩
  | .hbm, ⟨7, _⟩ => ⟨S8x2048x1408, .f32⟩
  | .hbm, ⟨8, _⟩ => ⟨S8x2048x1408, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel3.lean ====
abbrev S4096x5632 : Shape := ⟨2, ![4096, 5632]⟩
abbrev S5632x2048 : Shape := ⟨2, ![5632, 2048]⟩
abbrev S4096x2048 : Shape := ⟨2, ![4096, 2048]⟩
abbrev S_ : Shape := ⟨0, ![]⟩
abbrev S8x128 : Shape := ⟨2, ![8, 128]⟩
abbrev S1024x2048 : Shape := ⟨2, ![1024, 2048]⟩
abbrev S1408x2048 : Shape := ⟨2, ![1408, 2048]⟩
abbrev S1024x1408 : Shape := ⟨2, ![1024, 1408]⟩

abbrev nBuf : Space → Nat
  | .hbm => 8
  | .vmem => 7
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S_, .f32⟩
  | .hbm, ⟨4, _⟩ => ⟨S8x128, .f32⟩
  | .hbm, ⟨5, _⟩ => ⟨S4096x2048, .bf16⟩
  | .hbm, ⟨6, _⟩ => ⟨S5632x2048, .bf16⟩
  | .hbm, ⟨7, _⟩ => ⟨S4096x5632, .f32⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S8x128, .f32⟩
  | .local _ .vmem, ⟨5, _⟩ => ⟨S1024x1408, .f32⟩
  | .local _ .vmem, ⟨6, _⟩ => ⟨S1024x1408, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference3Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x5632, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel4.lean ====
abbrev S4096x2048 : Shape := ⟨2, ![4096, 2048]⟩
abbrev S2048x11264 : Shape := ⟨2, ![2048, 11264]⟩
abbrev S4096x11264 : Shape := ⟨2, ![4096, 11264]⟩
abbrev S_ : Shape := ⟨0, ![]⟩
abbrev S8x128 : Shape := ⟨2, ![8, 128]⟩
abbrev S4096x2x5632 : Shape := ⟨3, ![4096, 2, 5632]⟩
abbrev S2x4096x5632 : Shape := ⟨3, ![2, 4096, 5632]⟩
abbrev S2048x8x1408 : Shape := ⟨3, ![2048, 8, 1408]⟩
abbrev S8x2048x1408 : Shape := ⟨3, ![8, 2048, 1408]⟩
abbrev S1x1024x2816 : Shape := ⟨3, ![1, 1024, 2816]⟩
abbrev S2x1024x1408 : Shape := ⟨3, ![2, 1024, 1408]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 12
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S_, .f32⟩
  | .hbm, ⟨4, _⟩ => ⟨S8x128, .f32⟩
  | .hbm, ⟨5, _⟩ => ⟨S4096x2x5632, .f32⟩
  | .hbm, ⟨6, _⟩ => ⟨S2x4096x5632, .f32⟩
  | .hbm, ⟨7, _⟩ => ⟨S2x4096x5632, .bf16⟩
  | .hbm, ⟨8, _⟩ => ⟨S2048x8x1408, .f32⟩
  | .hbm, ⟨9, _⟩ => ⟨S8x2048x1408, .f32⟩
  | .hbm, ⟨10, _⟩ => ⟨S8x2048x1408, .bf16⟩
  | .hbm, ⟨11, _⟩ => ⟨S4096x2048, .f32⟩
  | .local _ .vmem, ⟨0, _⟩ => ⟨S1x1024x2816, .bf16⟩
  | .local _ .vmem, ⟨1, _⟩ => ⟨S1x1024x2816, .bf16⟩
  | .local _ .vmem, ⟨2, _⟩ => ⟨S2x1024x1408, .bf16⟩
  | .local _ .vmem, ⟨3, _⟩ => ⟨S2x1024x1408, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32 : BitVec 32 := 3#32
  let v19 : BitVec 1 := Scalar.cmpi .eq arg2 c3_i32
  let v20 : BitVec 32 := Scalar.extui v19
  let c0_i32_14 : BitVec 32 := 0#32
  let v21 : BitVec 1 := Scalar.cmpi .ne v20 c0_i32_14
  v21

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c2_i32_0 : BitVec 32 := 2#32
  let v1 : BitVec 32 := Scalar.remsi arg2 c2_i32_0
  let c0_i32 : BitVec 32 := 0#32
  ![v0.toNat, arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference4Ideal.lean ====
abbrev S4096x2048 : Shape := ⟨2, ![4096, 2048]⟩
abbrev S2048x11264 : Shape := ⟨2, ![2048, 11264]⟩
abbrev S4096x11264 : Shape := ⟨2, ![4096, 11264]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x11264, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel5.lean ====
abbrev S4096x5632 : Shape := ⟨2, ![4096, 5632]⟩
abbrev S5632x2048 : Shape := ⟨2, ![5632, 2048]⟩
abbrev S4096x2048 : Shape := ⟨2, ![4096, 2048]⟩
abbrev S4096x512 : Shape := ⟨2, ![4096, 512]⟩
abbrev S4096x1024 : Shape := ⟨2, ![4096, 1024]⟩
abbrev S512x1024 : Shape := ⟨2, ![512, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S4096x2048, .bf16⟩
  | .hbm, ⟨5, _⟩ => ⟨S5632x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x5632 : Shape := ⟨2, ![4096, 5632]⟩
abbrev S5632x2048 : Shape := ⟨2, ![5632, 2048]⟩
abbrev S4096x2048 : Shape := ⟨2, ![4096, 2048]⟩
abbrev S2048x5632 : Shape := ⟨2, ![2048, 5632]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S2048x5632, .f32⟩
  | .hbm, ⟨5, _⟩ => ⟨S5632x2048, .f32⟩
  | .hbm, ⟨6, _⟩ => ⟨S5632x2048, .bf16⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4096x2048 : Shape := ⟨2, ![4096, 2048]⟩
abbrev S2048x7184 : Shape := ⟨2, ![2048, 7184]⟩
abbrev S4096x7184 : Shape := ⟨2, ![4096, 7184]⟩
abbrev S_ : Shape := ⟨0, ![]⟩
abbrev S4096x7680 : Shape := ⟨2, ![4096, 7680]⟩
abbrev S7680x2048 : Shape := ⟨2, ![7680, 2048]⟩
abbrev S4096x768 : Shape := ⟨2, ![4096, 768]⟩
abbrev S4096x1024 : Shape := ⟨2, ![4096, 1024]⟩
abbrev S768x1024 : Shape := ⟨2, ![768, 1024]⟩

abbrev nBuf : Space → Nat
  | .hbm => 9
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7184, .f32⟩
  | .hbm, ⟨3, _⟩ => ⟨S4096x7184, .bf16⟩
  | .hbm, ⟨4, _⟩ => ⟨S_, .i32⟩
  | .hbm, ⟨5, _⟩ => ⟨S_, .bf16⟩
  | .hbm, ⟨6, _⟩ => ⟨S4096x7680, .bf16⟩
  | .hbm, ⟨7, _⟩ => ⟨S4096x2048, .bf16⟩
  | .hbm, ⟨8, _⟩ => ⟨S7680x2048, .bf16⟩
  | .local _ .vmem, ⟨0, _⟩ => ⟨S4096x768, .bf16⟩
  | .local _ .vmem, ⟨1, _⟩ => ⟨S4096x768, .bf16⟩
  | .local _ .vmem, ⟨2, _⟩ => ⟨S4096x1024, .bf16⟩
  | .local _ .vmem, ⟨3, _⟩ => ⟨S4096x1024, .bf16⟩
  | .local _ .vmem, ⟨4, _⟩ => ⟨S768x1024, .bf16⟩
  | .local _ .vmem, ⟨5, _⟩ => ⟨S768x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![10, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x2048 : Shape := ⟨2, ![4096, 2048]⟩
abbrev S2048x7184 : Shape := ⟨2, ![2048, 7184]⟩
abbrev S4096x7184 : Shape := ⟨2, ![4096, 7184]⟩
abbrev S7184x2048 : Shape := ⟨2, ![7184, 2048]⟩
abbrev S_ : Shape := ⟨0, ![]⟩
abbrev S7680x2048 : Shape := ⟨2, ![7680, 2048]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7184, .f32⟩
  | .hbm, ⟨3, _⟩ => ⟨S4096x7184, .f32⟩
  | .hbm, ⟨4, _⟩ => ⟨S7184x2048, .f32⟩
  | .hbm, ⟨5, _⟩ => ⟨S2048x7184, .f32⟩
  | .hbm, ⟨6, _⟩ => ⟨S7184x2048, .f32⟩
  | .hbm, ⟨7, _⟩ => ⟨S7184x2048, .bf16⟩
  | .hbm, ⟨8, _⟩ => ⟨S_, .i32⟩
  | .hbm, ⟨9, _⟩ => ⟨S_, .bf16⟩
  | .hbm, ⟨10, _⟩ => ⟨S7680x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Kernel7.lean ====
abbrev S4096x2048 : Shape := ⟨2, ![4096, 2048]⟩
abbrev S2048x7184 : Shape := ⟨2, ![2048, 7184]⟩
abbrev S4096x7184 : Shape := ⟨2, ![4096, 7184]⟩
abbrev S_ : Shape := ⟨0, ![]⟩
abbrev S8x128 : Shape := ⟨2, ![8, 128]⟩
abbrev S4096x7680 : Shape := ⟨2, ![4096, 7680]⟩
abbrev S7184x2048 : Shape := ⟨2, ![7184, 2048]⟩
abbrev S7680x2048 : Shape := ⟨2, ![7680, 2048]⟩
abbrev S1024x3840 : Shape := ⟨2, ![1024, 3840]⟩
abbrev S3840x1024 : Shape := ⟨2, ![3840, 1024]⟩
abbrev S1024x1024 : Shape := ⟨2, ![1024, 1024]⟩

abbrev nBuf : Space → Nat
  | .hbm => 15
  | .vmem => 8
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7184, .f32⟩
  | .hbm, ⟨3, _⟩ => ⟨S_, .f32⟩
  | .hbm, ⟨4, _⟩ => ⟨S8x128, .f32⟩
  | .hbm, ⟨5, _⟩ => ⟨S4096x7184, .bf16⟩
  | .hbm, ⟨6, _⟩ => ⟨S_, .i32⟩
  | .hbm, ⟨7, _⟩ => ⟨S_, .bf16⟩
  | .hbm, ⟨8, _⟩ => ⟨S4096x7680, .bf16⟩
  | .hbm, ⟨9, _⟩ => ⟨S7184x2048, .f32⟩
  | .hbm, ⟨10, _⟩ => ⟨S7184x2048, .bf16⟩
  | .hbm, ⟨11, _⟩ => ⟨S_, .i32⟩
  | .hbm, ⟨12, _⟩ => ⟨S_, .bf16⟩
  | .hbm, ⟨13, _⟩ => ⟨S7680x2048, .bf16⟩
  | .hbm, ⟨14, _⟩ => ⟨S4096x2048, .f32⟩
  | .local _ .vmem, ⟨0, _⟩ => ⟨S1024x3840, .bf16⟩
  | .local _ .vmem, ⟨1, _⟩ => ⟨S1024x3840, .bf16⟩
  | .local _ .vmem, ⟨2, _⟩ => ⟨S3840x1024, .bf16⟩
  | .local _ .vmem, ⟨3, _⟩ => ⟨S3840x1024, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3840 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3840x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S4096x2048 : Shape := ⟨2, ![4096, 2048]⟩
abbrev S2048x7184 : Shape := ⟨2, ![2048, 7184]⟩
abbrev S4096x7184 : Shape := ⟨2, ![4096, 7184]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7184, .f32⟩
  | .hbm, ⟨3, _⟩ => ⟨S4096x7184, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4096x2048 : Shape := ⟨2, ![4096, 2048]⟩
abbrev S2048x2048 : Shape := ⟨2, ![2048, 2048]⟩
abbrev S4096x1024 : Shape := ⟨2, ![4096, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .bf16⟩
  | .hbm, ⟨4, _⟩ => ⟨S4096x2048, .bf16⟩
  | .hbm, ⟨5, _⟩ => ⟨S2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S2048x2048, .f32⟩
  | .hbm, ⟨6, _⟩ => ⟨S2048x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S_ : Shape := ⟨0, ![]⟩
abbrev S8x128 : Shape := ⟨2, ![8, 128]⟩
abbrev S1024x2048 : Shape := ⟨2, ![1024, 2048]⟩
abbrev S1024x1024 : Shape := ⟨2, ![1024, 1024]⟩

abbrev nBuf : Space → Nat
  | .hbm => 8
  | .vmem => 7
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S_, .f32⟩
  | .hbm, ⟨4, _⟩ => ⟨S8x128, .f32⟩
  | .hbm, ⟨5, _⟩ => ⟨S4096x2048, .bf16⟩
  | .hbm, ⟨6, _⟩ => ⟨S2048x2048, .bf16⟩
  | .hbm, ⟨7, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S8x128, .f32⟩
  | .local _ .vmem, ⟨5, _⟩ => ⟨S1024x1024, .f32⟩
  | .local _ .vmem, ⟨6, _⟩ => ⟨S1024x1024, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference9Ideal.lean ====
abbrev S4096x2048 : Shape := ⟨2, ![4096, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel10.lean ====
abbrev S4096x2048 : Shape := ⟨2, ![4096, 2048]⟩
abbrev S2048x11264 : Shape := ⟨2, ![2048, 11264]⟩
abbrev S2048x8x1408 : Shape := ⟨3, ![2048, 8, 1408]⟩
abbrev S8x2048x1408 : Shape := ⟨3, ![8, 2048, 1408]⟩
abbrev S88x4096x128 : Shape := ⟨3, ![88, 4096, 128]⟩
abbrev S1024x2048 : Shape := ⟨2, ![1024, 2048]⟩
abbrev S1x2048x1408 : Shape := ⟨3, ![1, 2048, 1408]⟩
abbrev S11x1024x128 : Shape := ⟨3, ![11, 1024, 128]⟩
abbrev S2048x1408 : Shape := ⟨2, ![2048, 1408]⟩
abbrev S1024x1408 : Shape := ⟨2, ![1024, 1408]⟩
abbrev S1024x128 : Shape := ⟨2, ![1024, 128]⟩
abbrev S1x1024x128 : Shape := ⟨3, ![1, 1024, 128]⟩

abbrev nBuf : Space → Nat
  | .hbm => 7
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S2048x8x1408, .f32⟩
  | .hbm, ⟨3, _⟩ => ⟨S8x2048x1408, .f32⟩
  | .hbm, ⟨4, _⟩ => ⟨S8x2048x1408, .bf16⟩
  | .hbm, ⟨5, _⟩ => ⟨S4096x2048, .bf16⟩
  | .hbm, ⟨6, _⟩ => ⟨S88x4096x128, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S11x1024x128, .f32⟩
  | .local _ .vmem, ⟨5, _⟩ => ⟨S11x1024x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c1_i32_0 : BitVec 32 := 1#32
  let v1 : BitVec 32 := Scalar.remsi arg1 c1_i32_0
  let c0_i32 : BitVec 32 := 0#32
  ![v0.toNat, arg2.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S11x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S2048x11264 : Shape := ⟨2, ![2048, 11264]⟩
abbrev S4096x11264 : Shape := ⟨2, ![4096, 11264]⟩
abbrev S4096x88x128 : Shape := ⟨3, ![4096, 88, 128]⟩
abbrev S88x4096x128 : Shape := ⟨3, ![88, 4096, 128]⟩

abbrev nBuf : Space → Nat
  | .hbm => 5
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x11264, .f32⟩
  | .hbm, ⟨2, _⟩ => ⟨S4096x11264, .f32⟩
  | .hbm, ⟨3, _⟩ => ⟨S4096x88x128, .f32⟩
  | .hbm, ⟨4, _⟩ => ⟨S88x4096x128, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel11.lean ====
abbrev S4096x2048 : Shape := ⟨2, ![4096, 2048]⟩
abbrev S2048x7184 : Shape := ⟨2, ![2048, 7184]⟩
abbrev S7184x2048 : Shape := ⟨2, ![7184, 2048]⟩
abbrev S_ : Shape := ⟨0, ![]⟩
abbrev S7680x2048 : Shape := ⟨2, ![7680, 2048]⟩
abbrev S4096x7680 : Shape := ⟨2, ![4096, 7680]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 9
  | .vmem => 6
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S7184x2048, .f32⟩
  | .hbm, ⟨3, _⟩ => ⟨S7184x2048, .bf16⟩
  | .hbm, ⟨4, _⟩ => ⟨S_, .i32⟩
  | .hbm, ⟨5, _⟩ => ⟨S_, .bf16⟩
  | .hbm, ⟨6, _⟩ => ⟨S7680x2048, .bf16⟩
  | .hbm, ⟨7, _⟩ => ⟨S4096x2048, .bf16⟩
  | .hbm, ⟨8, _⟩ => ⟨S4096x7680, .f32⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .f32⟩
  | .local _ .vmem, ⟨5, _⟩ => ⟨S1024x1536, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 5, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S2048x7184 : Shape := ⟨2, ![2048, 7184]⟩
abbrev S4096x7184 : Shape := ⟨2, ![4096, 7184]⟩
abbrev S_ : Shape := ⟨0, ![]⟩
abbrev S4096x7680 : Shape := ⟨2, ![4096, 7680]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x7184, .f32⟩
  | .hbm, ⟨2, _⟩ => ⟨S4096x7184, .f32⟩
  | .hbm, ⟨3, _⟩ => ⟨S_, .i32⟩
  | .hbm, ⟨4, _⟩ => ⟨S_, .f32⟩
  | .hbm, ⟨5, _⟩ => ⟨S4096x7680, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩

abbrev nD : Nat := 1
abbrev τ : Topo := Topo.v7x

variable {F : FTy → Type} [FloatOps F]
-- ==== Kernel12.lean ====
abbrev S4096x5632 : Shape := ⟨2, ![4096, 5632]⟩
abbrev S5632x2048 : Shape := ⟨2, ![5632, 2048]⟩
abbrev S4096x2048 : Shape := ⟨2, ![4096, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 6
  | .vmem => 9
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x5632, .bf16⟩
  | .hbm, ⟨4, _⟩ => ⟨S5632x2048, .bf16⟩
  | .hbm, ⟨5, _⟩ => ⟨S4096x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference12Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4096x5632, .f32⟩
  | .hbm, ⟨1, _⟩ => ⟨S5632x2048, .f32⟩
  | .hbm, ⟨2, _⟩ => ⟨S4096x2048, .f32⟩
  | .hbm, ⟨3, _⟩ => ⟨S4096x2048, .f32⟩
  | .hbm, ⟨4, _⟩ => ⟨S4096x2048, .f32⟩
  | _, _ => ⟨S4096x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Proof.Products.Common.lean ====
/- What the products with the weights share: a program without semaphores ends quiescent. -/
module

public import proofs.«01_k».proof.Defs
public import Idealize.ShloMosaic.Lib.Pointwise
public import Idealize.ShloMosaic.Lib.Pipeline.ValueKit

@[expose] public section

noncomputable section

open Idealize.ShloMosaic

namespace Cert.Proof

/-- A program that declares no semaphore has every counter at zero in every state. -/
theorem sem_zero {nD : ℕ} {τ : Topo} {sig : RefSig} {Val : EltTy → Type} (h : sig.nSem + sig.nDmaSem = 0)
    (s : MemSt nD τ sig Val) : s.sem = fun _ => 0 :=
  have : IsEmpty (SemLoc sig) := Fintype.card_eq_zero_iff.mp (SemLoc.card_eq.trans h)
  funext fun g => (this.false g.2).elim

/-- The constant a padded operand is filled with is zero, in either format. -/
theorem fill_zero (e : FTy) : FloatOps.sitofp (F := Ideal) e (0#32 : BitVec 32) = (0 : EReal) := by
  first
  | (simp [FloatOps.sitofp]; done)
  | (norm_num [FloatOps.sitofp, Ideal.sitofp]; done)
  | (show ((((0#32 : BitVec 32).toInt : ℤ) : ℝ) : EReal) = 0; simp)

/-- A sum whose last terms are zero is the sum of the others. -/
theorem sum_padded (a b : ℕ) (g : Fin a → EReal) :
    ∑ l : Fin (a + b), (if h : l.val < a then g ⟨l.val, h⟩ else 0) = ∑ l, g l := by
  rw [Fin.sum_univ_add]; simp

end Cert.Proof
end
-- ==== Proof.Products.MmDwup.lean ====
/- The gradient of w_up: the call mm_dwup against the gradient of the plain product. -/
module

public import proofs.«01_k».proof.Proof.Products.Common
public import proofs.«01_k».proof.Proof.Gen.Kernel2.Frame
public import proofs.«01_k».proof.Proof.Gen.Kernel2Ideal.Value
public import proofs.«01_k».proof.Proof.Gen.Reference2Ideal.Read

@[expose] public section

set_option maxRecDepth 16384

noncomputable section

open Idealize.ShloMosaic Idealize.ShloMosaic.TcCoe Idealize.SL.Sem
open Idealize.ShloMosaic.Pipeline (Dat)

namespace Cert.Proof.MmDwup

open Cert.Kernel2Ideal Cert.Kernel2Ideal.Gen

variable (m : (ℓ : Loc nD τ sig) → Buf (Elt Ideal) ℓ)

/-- Which block of each array a grid point works on. -/
theorem idx : ∀ t : Fin cfg0.N, win0_0.index t = ![0, (grid0.coords t 0).val]
    ∧ win0_1.index t = ![(grid0.coords t 1).val / 4, 0, (grid0.coords t 1).val % 4]
    ∧ win0_2.index t = ![(grid0.coords t 1).val, (grid0.coords t 0).val, 0] :=
  (by decide +kernel : ∀ t : Fin grid0.N, _)

/-- The reference's result, as its operations compute it from the input and the cotangent. -/
abbrev want (h : FVec Ideal S4096x2048 .f32) (ct : FVec Ideal S4096x11264 .f32) : FVec Ideal S8x2048x1408 .bf16 :=
  Cert.Reference2Ideal.Read.val_main_v5 (F := Ideal) h ct

/-- What a grid point stores is the reference's result at the place it stores it. -/
theorem point (c : Dev nD) (t : Fin cfg0.N) (y) : k0_pay1 (iblk m c 0 t) (iblk m c 1 t) y
    = want (m ((c : Thread nD τ).loc main_arg0)) (m ((c : Thread nD τ).loc main_arg2)) (((cfg0.win 2).blk t).view.emb y) := by
  pointwise [k0_pay1, want, Cert.Reference2Ideal.Read.val_main_v5, Cert.Reference2Ideal.Read.val_main_v4, Cert.Reference2Ideal.Read.val_main_v3, Cert.Reference2Ideal.Read.val_main_v2, Cert.Reference2Ideal.Read.val_main_v1]
  refine (Finset.sum_congr rfl fun k _ => mul_comm _ _).trans ?_
  blk_point [iblk, idx t]

/-- The array the call returns is the reference's result. -/
theorem result (c : Dev nD) :
    (dats m 0 c).arrAt 2 cfg0.N = want (m ((c : Thread nD τ).loc main_arg0)) (m ((c : Thread nD τ).loc main_arg2)) := by
  refine (dats m 0 c).arrAt_eq_of_covers 2 _ (by decide +kernel) fun t hf y => ?_
  blk_simp
  rw [after0_2]; frame_out
  exact point m c t y

theorem frame_kernel : Cert.quiescent_Kernel2 := fun m ρ _ => Cert.Kernel2.Gen.frame m ρ
theorem frame_ideal : Cert.quiescent_Kernel2Ideal := fun m ρ _ => frame m ρ
theorem frame_reference : Cert.quiescent_Reference2Ideal := fun m ρ _ =>
  (θ_run Cert.Reference2Ideal.defs _ _).mono (fun r h => ⟨fun c => (h c).2, sem_zero rfl r.2⟩) (Cert.Reference2Ideal.Value.run m ρ)

/-- Kernel and reference end with the same result. -/
theorem value : Cert.algebraic_Kernel2Ideal_Reference2Ideal := fun m g m' g' _ ha =>
  ⟨fun c => (dats m 0 c).arrAt 2 cfg0.N, Cert.Kernel2Ideal.Value.run_blocks m g,
    (θ_run Cert.Reference2Ideal.defs _ _).mono (fun r h c => ⟨(h c).1.trans (by
      rw [(ha c).1, (ha c).2.2]; exact (result m c).symm), (h c).2⟩) (Cert.Reference2Ideal.Value.run m' g')⟩

end Cert.Proof.MmDwup
end
-- ==== Proof.Products.MmDact.lean ====
/- The gradient of the input of w_down: the call mm_dact against the gradient of the plain product. -/
module

public import proofs.«01_k».proof.Proof.Products.Common
public import proofs.«01_k».proof.Proof.Gen.Kernel3.Frame
public import proofs.«01_k».proof.Proof.Gen.Kernel3Ideal.Value
public import proofs.«01_k».proof.Proof.Gen.Reference3Ideal.Read

@[expose] public section

set_option maxRecDepth 16384

noncomputable section

open Idealize.ShloMosaic Idealize.ShloMosaic.TcCoe Idealize.SL.Sem
open Idealize.ShloMosaic.Pipeline (Dat)

namespace Cert.Proof.MmDact

open Cert.Kernel3Ideal Cert.Kernel3Ideal.Gen

variable (m : (ℓ : Loc nD τ sig) → Buf (Elt Ideal) ℓ)

/-- Which block of each array a grid point works on. -/
theorem idx : ∀ t : Fin cfg0.N, win0_0.index t = ![(grid0.coords t 0).val, 0]
    ∧ win0_1.index t = ![(grid0.coords t 1).val, 0]
    ∧ win0_3.index t = ![(grid0.coords t 0).val, (grid0.coords t 1).val] :=
  (by decide +kernel : ∀ t : Fin grid0.N, _)

/-- The reference's result, as its operations compute it from its arguments. -/
abbrev want (w : FVec Ideal S5632x2048 .f32) (ct : FVec Ideal S4096x2048 .f32) : FVec Ideal S4096x5632 .f32 :=
  Cert.Reference3Ideal.Read.val_main_v1 (F := Ideal) w ct

/-- What a grid point stores is the reference's result at the place it stores it. -/
theorem point (c : Dev nD) (t : Fin cfg0.N) (y) : k0_pay1 (iblk m c 0 t) (iblk m c 1 t) y
    = want (m ((c : Thread nD τ).loc main_arg1)) (m ((c : Thread nD τ).loc main_arg2)) (((cfg0.win 3).blk t).view.emb y) := by
  pointwise [k0_pay1, want, Cert.Reference3Ideal.Read.val_main_v1]
  blk_point [iblk, idx t]

/-- The array the call returns is the reference's result. -/
theorem result (c : Dev nD) :
    (dats m 0 c).arrAt 3 cfg0.N = want (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

theorem frame_kernel : Cert.quiescent_Kernel3 := fun m ρ _ => Cert.Kernel3.Gen.frame m ρ
theorem frame_ideal : Cert.quiescent_Kernel3Ideal := fun m ρ _ => frame m ρ
theorem frame_reference : Cert.quiescent_Reference3Ideal := fun m ρ _ =>
  (θ_run Cert.Reference3Ideal.defs _ _).mono (fun r h => ⟨fun c => (h c).2, sem_zero rfl r.2⟩) (Cert.Reference3Ideal.Value.run m ρ)

/-- Kernel and reference end with the same result. -/
theorem value : Cert.algebraic_Kernel3Ideal_Reference3Ideal := fun m g m' g' _ ha =>
  ⟨fun c => (dats m 0 c).arrAt 3 cfg0.N, Cert.Kernel3Ideal.Value.run_blocks m g,
    (θ_run Cert.Reference3Ideal.defs _ _).mono (fun r h c => ⟨(h c).1.trans (by
      rw [(ha c).2.1, (ha c).2.2]; exact (result m c).symm), (h c).2⟩) (Cert.Reference3Ideal.Value.run m' g')⟩

end Cert.Proof.MmDact
end
-- ==== Proof.Products.MmDh2.lean ====
/- The gradient of the input of w_in: the call mm_dh1 against the gradient of the plain product. -/
module

public import proofs.«01_k».proof.Proof.Products.Common
public import proofs.«01_k».proof.Proof.Gen.Kernel4.Frame
public import proofs.«01_k».proof.Proof.Gen.Kernel4Ideal.Value
public import proofs.«01_k».proof.Proof.Gen.Reference4Ideal.Read

@[expose] public section

set_option maxRecDepth 16384

noncomputable section

open Idealize.ShloMosaic Idealize.ShloMosaic.TcCoe Idealize.SL.Sem
open Idealize.ShloMosaic.Pipeline (Dat)

namespace Cert.Proof.MmDh2

open Cert.Kernel4Ideal Cert.Kernel4Ideal.Gen

variable (m : (ℓ : Loc nD τ sig) → Buf (Elt Ideal) ℓ)

/-- Which block of each array a grid point works on. -/
theorem idx : ∀ t : Fin cfg0.N, win0_0.index t = ![(grid0.coords t 2).val / 2, (grid0.coords t 0).val, (grid0.coords t 2).val % 2]
    ∧ win0_1.index t = ![(grid0.coords t 2).val, (grid0.coords t 1).val, 0]
    ∧ win0_3.index t = ![(grid0.coords t 0).val, (grid0.coords t 1).val] :=
  (by decide +kernel : ∀ t : Fin grid0.N, _)

/-- The reference's result, as its operations compute it from its arguments. -/
abbrev want (w : FVec Ideal S2048x11264 .f32) (ct : FVec Ideal S4096x11264 .f32) : FVec Ideal S4096x2048 .f32 :=
  Cert.Reference4Ideal.Read.val_main_v1 (F := Ideal) w ct

/-- The points of a run share all coordinates but the last, which counts them. -/
theorem run : ∀ (t : Fin cfg0.N) (s : Fin 4) (h : 4 * (t.val / 4) + s.val < cfg0.N), (grid0.coords ⟨4 * (t.val / 4) + s.val, h⟩ 0).val = (grid0.coords t 0).val
    ∧ (grid0.coords ⟨4 * (t.val / 4) + s.val, h⟩ 1).val = (grid0.coords t 1).val ∧ (grid0.coords ⟨4 * (t.val / 4) + s.val, h⟩ 2).val = s.val :=
  (by decide +kernel : ∀ t : Fin grid0.N, _)

/-- The product of two blocks at an index, shard by shard. -/
def prod (a : FVec Ideal S1x1024x2816 .bf16) (b : FVec Ideal S2x1024x1408 .bf16) (j : S1024x1024.Idx) : EReal :=
  ∑ u : Fin 2, ∑ k : Fin 1408, a (ix3 0 (j 0) ⟨u.val * 1408 + k.val, by omega⟩) * b (ix3 u (j 1) k)

/-- The product of the blocks of one grid point. -/
def part (c : Dev nD) (p : Fin cfg0.N) (j : S1024x1024.Idx) : EReal := prod (iblk m c 0 p) (iblk m c 1 p) j

/-- The product a grid point computes. -/
theorem both (a : Vec Ideal S1x1024x2816 .bf16) (b : Vec Ideal S2x1024x1408 .bf16) (j : S1024x1024.Idx) :
    k0_pay1 (F := Ideal) (View.ld a (Rect.unit ![0, 0, 0] ![1, 1024, 1408] inb_S1x1024x2816_S1x1024x1408_0_0_0))
      (View.ld b (Rect.unit ![0, 0, 0] ![1, 1024, 1408] inb_S2x1024x1408_S1x1024x1408_0_0_0))
      (View.ld a (Rect.unit ![0, 0, 1408] ![1, 1024, 1408] inb_S1x1024x2816_S1x1024x1408_0_0_1408))
      (View.ld b (Rect.unit ![1, 0, 0] ![1, 1024, 1408] inb_S2x1024x1408_S1x1024x1408_1_0_0)) j = prod a b j := by
  rw [prod, Fin.sum_univ_two]
  pointwise [k0_pay1]

/-- The first point of a run stores its product. -/
theorem first (v w x z : Vec Ideal S1x1024x1408 .bf16) (j : S1024x1024.Idx) : k0_pay2 (F := Ideal) v w x z j = k0_pay1 (F := Ideal) v w x z j := by
  unfold k0_pay2; generalize k0_pay1 (F := Ideal) v w x z = T; pointwise

/-- A later point of a run adds its product. -/
theorem step (v w x z : Vec Ideal S1x1024x1408 .bf16) (acc : Vec Ideal S1024x1024 .f32) (j : S1024x1024.Idx) :
    k0_pay3 (F := Ideal) v w x z acc j = acc j + k0_pay1 (F := Ideal) v w x z j := by
  unfold k0_pay3; generalize k0_pay1 (F := Ideal) v w x z = T; pointwise

/-- The scratch after the first point of a run. -/
theorem start (c : Dev nD) (t : Fin cfg0.N) (h : t.val % 4 = 0) (j : S1024x1024.Idx) : (outsAt0 m c t.val t.isLt).2 j = 0 + part m c t j := by
  rw [outsAt0_A m c t h (by omega) (by omega)]; frame_out
  rw [zero_add]
  exact (first _ _ _ _ j).trans (both _ _ j)

/-- The scratch after a later point of a run. -/
theorem more (c : Dev nD) (t : Fin cfg0.N) (h : ¬t.val % 4 = 0) (j : S1024x1024.Idx) :
    (outsAt0 m c t.val t.isLt).2 j = (outsAt0 m c (t.val - 1) (Nat.lt_of_le_of_lt (Nat.sub_le _ _) t.isLt)).2 j + part m c t j := by
  by_cases h3 : t.val % 4 = 3
  · rw [outsAt0_C m c t h (by omega) h3]; frame_out
    exact (step _ _ _ _ _ j).trans (congrArg₂ (fun a b : EReal => a + b) (congrFun (Memref.IsWhole.read_unread _ _) j) (both _ _ j))
  · rw [outsAt0_B m c t h (by omega) h3]; frame_out
    exact (step _ _ _ _ _ j).trans (congrArg₂ (fun a b : EReal => a + b) (congrFun (Memref.IsWhole.read_unread _ _) j) (both _ _ j))

/-- The running sum at the last point of a run: all the products of the run's blocks. -/
theorem total (c : Dev nD) (t : Fin cfg0.N) (h : t.val % 4 = 3) (y : S1024x1024.Idx) :
    (outsAt0 m c t.val t.isLt).2 y = ∑ s : Fin 4, part m c ⟨4 * (t.val / 4) + s.val, Pipeline.run_point_lt_of_flush t h s⟩ y := by
  rw [Pipeline.eq_sum_fin_of_reset_step_apply_of_flush (fun n h => (outsAt0 m c n h).2) 4 (fun _ => 0) (part m c)
    (fun t h j => start m c t h j) (fun t h j => more m c t h j) t h y]
  exact zero_add _

/-- A sum over the contracted columns, taken step by step and shard by shard. -/
theorem sum_shards (g : Fin 11264 → EReal) :
    ∑ s : Fin 4, ∑ u : Fin 2, ∑ k : Fin 1408, g ⟨s.val * 2816 + (u.val * 1408 + k.val), by omega⟩ = ∑ l, g l := by
  have h1 : ∀ s : Fin 4, ∑ u : Fin 2, ∑ k : Fin 1408, g ⟨s.val * 2816 + (u.val * 1408 + k.val), by omega⟩
      = ∑ l : Fin 2816, g ⟨s.val * 2816 + l.val, by omega⟩ := fun s => Fin.sum_mul_add_congr fun u k hl => rfl
  have h2 : ∑ s : Fin 4, ∑ l : Fin 2816, g ⟨s.val * 2816 + l.val, by omega⟩ = ∑ l, g l := Fin.sum_mul_add_congr fun s k hl => rfl
  exact (Finset.sum_congr rfl fun s _ => h1 s).trans h2

/-- What the last point of a run stores is the running sum. -/
theorem stored (c : Dev nD) (t : Fin cfg0.N) (h : t.val % 4 = 3) (y : S1024x1024.Idx) :
    (outsAt0 m c t.val t.isLt).1 y = (outsAt0 m c t.val t.isLt).2 y := by
  rw [outsAt0_C m c t (by omega) (by omega) h]; frame_out

/-- The array the call returns is the reference's result. -/
theorem result (c : Dev nD) :
    (dats m 0 c).arrAt 3 cfg0.N = want (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored m c t h, total m c t h]
  pointwise [want, Cert.Reference4Ideal.Read.val_main_v1]
  refine Eq.trans ?_ (sum_shards _)
  refine Fin.sum_fin_congr fun s => Fin.sum_fin_congr fun u => Fin.sum_fin_congr fun k => ?_
  have hr := run t s (Pipeline.run_point_lt_of_flush t h s)
  blk_point [iblk, idx t, idx ⟨_, Pipeline.run_point_lt_of_flush t h s⟩]
  all_goals omega

theorem frame_kernel : Cert.quiescent_Kernel4 := fun m ρ _ => Cert.Kernel4.Gen.frame m ρ
theorem frame_ideal : Cert.quiescent_Kernel4Ideal := fun m ρ _ => frame m ρ
theorem frame_reference : Cert.quiescent_Reference4Ideal := fun m ρ _ =>
  (θ_run Cert.Reference4Ideal.defs _ _).mono (fun r h => ⟨fun c => (h c).2, sem_zero rfl r.2⟩) (Cert.Reference4Ideal.Value.run m ρ)

/-- Kernel and reference end with the same result. -/
theorem value : Cert.algebraic_Kernel4Ideal_Reference4Ideal := fun m g m' g' _ ha =>
  ⟨fun c => (dats m 0 c).arrAt 3 cfg0.N, Cert.Kernel4Ideal.Value.run_blocks m g,
    (θ_run Cert.Reference4Ideal.defs _ _).mono (fun r h c => ⟨(h c).1.trans (by
      rw [(ha c).2.1, (ha c).2.2]; exact (result m c).symm), (h c).2⟩) (Cert.Reference4Ideal.Value.run m' g')⟩

end Cert.Proof.MmDh2
end
-- ==== Proof.Products.MmDwdown.lean ====
/- The gradient of w_down: the call mm_dwdown against the gradient of the plain product. -/
module

public import proofs.«01_k».proof.Proof.Products.Common
public import proofs.«01_k».proof.Proof.Gen.Kernel5.Frame
public import proofs.«01_k».proof.Proof.Gen.Kernel5Ideal.Value
public import proofs.«01_k».proof.Proof.Gen.Reference5Ideal.Read

@[expose] public section

set_option maxRecDepth 16384

noncomputable section

open Idealize.ShloMosaic Idealize.ShloMosaic.TcCoe Idealize.SL.Sem
open Idealize.ShloMosaic.Pipeline (Dat)

namespace Cert.Proof.MmDwdown

open Cert.Kernel5Ideal Cert.Kernel5Ideal.Gen

variable (m : (ℓ : Loc nD τ sig) → Buf (Elt Ideal) ℓ)

/-- Which block of each array a grid point works on. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The reference's result, as its operations compute it from its arguments. -/
abbrev want (h : FVec Ideal S4096x5632 .f32) (ct : FVec Ideal S4096x2048 .f32) : FVec Ideal S5632x2048 .bf16 :=
  Cert.Reference5Ideal.Read.val_main_v3 (F := Ideal) h ct

/-- What a grid point stores is the reference's result at the place it stores it. -/
theorem point (c : Dev nD) (t : Fin cfg0.N) (y) : k0_pay1 (iblk m c 0 t) (iblk m c 1 t) y
    = want (m ((c : Thread nD τ).loc main_arg0)) (m ((c : Thread nD τ).loc main_arg2)) (((cfg0.win 2).blk t).view.emb y) := by
  pointwise [k0_pay1, want, Cert.Reference5Ideal.Read.val_main_v3, Cert.Reference5Ideal.Read.val_main_v2, Cert.Reference5Ideal.Read.val_main_v1]
  refine (Finset.sum_congr rfl fun k _ => mul_comm _ _).trans ?_
  blk_point [iblk, idx t]

/-- The array the call returns is the reference's result. -/
theorem result (c : Dev nD) :
    (dats m 0 c).arrAt 2 cfg0.N = want (m ((c : Thread nD τ).loc main_arg0)) (m ((c : Thread nD τ).loc main_arg2)) := by
  refine (dats m 0 c).arrAt_eq_of_covers 2 _ (by decide +kernel) fun t hf y => ?_
  blk_simp
  rw [after0_2]; frame_out
  exact point m c t y

theorem frame_kernel : Cert.quiescent_Kernel5 := fun m ρ _ => Cert.Kernel5.Gen.frame m ρ
theorem frame_ideal : Cert.quiescent_Kernel5Ideal := fun m ρ _ => frame m ρ
theorem frame_reference : Cert.quiescent_Reference5Ideal := fun m ρ _ =>
  (θ_run Cert.Reference5Ideal.defs _ _).mono (fun r h => ⟨fun c => (h c).2, sem_zero rfl r.2⟩) (Cert.Reference5Ideal.Value.run m ρ)

/-- Kernel and reference end with the same result. -/
theorem value : Cert.algebraic_Kernel5Ideal_Reference5Ideal := fun m g m' g' _ ha =>
  ⟨fun c => (dats m 0 c).arrAt 2 cfg0.N, Cert.Kernel5Ideal.Value.run_blocks m g,
    (θ_run Cert.Reference5Ideal.defs _ _).mono (fun r h c => ⟨(h c).1.trans (by
      rw [(ha c).1, (ha c).2.2]; exact (result m c).symm), (h c).2⟩) (Cert.Reference5Ideal.Value.run m' g')⟩

end Cert.Proof.MmDwdown
end
-- ==== Proof.Products.MmDwin.lean ====
/- The gradient of w_in: the call mm_dwin against the gradient of the plain product. -/
module

public import proofs.«01_k».proof.Proof.Products.Common
public import proofs.«01_k».proof.Proof.Gen.Kernel6.Frame
public import proofs.«01_k».proof.Proof.Gen.Kernel6Ideal.Value
public import proofs.«01_k».proof.Proof.Gen.Reference6Ideal.Read

@[expose] public section

set_option maxRecDepth 16384

noncomputable section

open Idealize.ShloMosaic Idealize.ShloMosaic.TcCoe Idealize.SL.Sem
open Idealize.ShloMosaic.Pipeline (Dat)

namespace Cert.Proof.MmDwin

open Cert.Kernel6Ideal Cert.Kernel6Ideal.Gen

variable (m : (ℓ : Loc nD τ sig) → Buf (Elt Ideal) ℓ)

/-- Which block of each array a grid point works on. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The reference's result, as its operations compute it from its arguments. -/
abbrev want (h : FVec Ideal S4096x2048 .f32) (ct : FVec Ideal S4096x7184 .f32) : FVec Ideal S7680x2048 .bf16 :=
  Cert.Reference6Ideal.Read.val_main_v5 (F := Ideal) h ct

/-- The padded operand at an index: the argument's entry, and zero past its edge. -/
theorem v1 (c : Dev nD) (q : Fin 4096) (l : Fin 7680) : (V m c main_v1 : FVec Ideal S4096x7680 .bf16) (ix2 q l)
    = if h : l.val < 7184 then (m ((c : Thread nD τ).loc main_arg2) : FVec Ideal S4096x7184 .f32) (ix2 q ⟨l.val, h⟩) else (0 : EReal) := by
  unfold V
  simp only [hostOps0, hostOps0_1, hostOps0_2, List.flatten_cons, List.flatten_nil, List.append_nil, List.cons_append, List.nil_append]
  after_results
  change pad S4096x7680 ![0, 0] ![0, 496] ![0, 0] (truncf FTy.bf16 (m ((c : Thread nD τ).loc main_arg2) : FVec Ideal S4096x7184 .f32) bitsLt_bf16_f32 : FVec Ideal S4096x7184 .bf16)
    (sitofp (F := Ideal) FTy.bf16 (constantI S_ 32 0#32)) pads_S4096x7184_S4096x7680_000_04960 h_S_ (ix2 q l) = _
  pointwise
  rw [Cert.Proof.fill_zero]

/-- The padded block a grid point reads. -/
theorem block (c : Dev nD) (t : Fin cfg0.N) (q : Fin 4096) (n : Fin 768) (l : Fin 7680) (hl : l.val = (grid0.coords t 0).val * 768 + n.val) :
    (iblk m c 0 t : FVec Ideal S4096x768 .bf16) (ix2 q n) = (V m c main_v1 : FVec Ideal S4096x7680 .bf16) (ix2 q l) := by
  blk_ext [iblk, idx t]

/-- What a grid point stores is the reference's result at the place it stores it. -/
theorem point (c : Dev nD) (t : Fin cfg0.N) (y : S768x1024.Idx) : k0_pay1 (iblk m c 0 t) (iblk m c 1 t) y
    = want (m ((c : Thread nD τ).loc main_arg0)) (m ((c : Thread nD τ).loc main_arg2)) (((cfg0.win 2).blk t).view.emb y) := by
  have e : ((((cfg0.win 2).blk t).view.emb y 0 : Fin 7680) : ℕ) = (grid0.coords t 0).val * 768 + (y 0).val := by blk_simp [idx t]
  pointwise [k0_pay1, want, Cert.Reference6Ideal.Read.val_main_v5, Cert.Reference6Ideal.Read.val_main_v4, Cert.Reference6Ideal.Read.val_main_v3, Cert.Reference6Ideal.Read.val_main_v2, Cert.Reference6Ideal.Read.val_main_v1, Cert.Reference6Ideal.Read.val_main_call0_v0, Cert.Reference6Ideal.Read.val_main_c]
  split
  · next h =>
    refine Fin.sum_fin_congr fun k => congrArg₂ (fun a b : EReal => a * b) (((block m c t k (y 0) _ e).trans (v1 m c k _)).trans (dif_pos h)) ?_
    blk_ext [iblk, idx t]
  · next h =>
    refine (Fin.sum_fin_congr fun k => (congrArg₂ (fun a b : EReal => a * b) (((block m c t k (y 0) _ e).trans (v1 m c k _)).trans (dif_neg h)) rfl).trans (zero_mul _)).trans ?_
    exact (Finset.sum_const_zero).trans (Cert.Proof.fill_zero _).symm

/-- The array the call returns is the reference's result. -/
theorem result (c : Dev nD) :
    (dats m 0 c).arrAt 2 cfg0.N = want (m ((c : Thread nD τ).loc main_arg0)) (m ((c : Thread nD τ).loc main_arg2)) := by
  refine (dats m 0 c).arrAt_eq_of_covers 2 _ (by decide +kernel) fun t hf y => ?_
  blk_simp
  rw [after0_2]; frame_out
  exact point m c t y

theorem frame_kernel : Cert.quiescent_Kernel6 := fun m ρ _ => Cert.Kernel6.Gen.frame m ρ
theorem frame_ideal : Cert.quiescent_Kernel6Ideal := fun m ρ _ => frame m ρ
theorem frame_reference : Cert.quiescent_Reference6Ideal := fun m ρ _ =>
  (θ_run Cert.Reference6Ideal.defs _ _).mono (fun r h => ⟨fun c => (h c).2, sem_zero rfl r.2⟩) (Cert.Reference6Ideal.Value.run m ρ)

/-- Kernel and reference end with the same result. -/
theorem value : Cert.algebraic_Kernel6Ideal_Reference6Ideal := fun m g m' g' _ ha =>
  ⟨fun c => (dats m 0 c).arrAt 2 cfg0.N, Cert.Kernel6Ideal.Value.run_blocks m g,
    (θ_run Cert.Reference6Ideal.defs _ _).mono (fun r h c => ⟨(h c).1.trans (by
      rw [(ha c).1, (ha c).2.2]; exact (result m c).symm), (h c).2⟩) (Cert.Reference6Ideal.Value.run m' g')⟩

end Cert.Proof.MmDwin
end
-- ==== Proof.Products.MmDh1.lean ====
/- The gradient of the input of w_in: the call mm_dh1 against the gradient of the plain product. -/
module

public import proofs.«01_k».proof.Proof.Products.Common
public import proofs.«01_k».proof.Proof.Gen.Kernel7.Frame
public import proofs.«01_k».proof.Proof.Gen.Kernel7Ideal.Value
public import proofs.«01_k».proof.Proof.Gen.Reference7Ideal.Read

@[expose] public section

set_option maxRecDepth 16384

noncomputable section

open Idealize.ShloMosaic Idealize.ShloMosaic.TcCoe Idealize.SL.Sem
open Idealize.ShloMosaic.Pipeline (Dat)

namespace Cert.Proof.MmDh1

open Cert.Kernel7Ideal Cert.Kernel7Ideal.Gen

variable (m : (ℓ : Loc nD τ sig) → Buf (Elt Ideal) ℓ)

/-- Which block of each array a grid point works on. -/
theorem idx : ∀ t : Fin cfg0.N, win0_0.index t = ![(grid0.coords t 0).val, (grid0.coords t 2).val]
    ∧ win0_1.index t = ![(grid0.coords t 2).val, (grid0.coords t 1).val]
    ∧ win0_3.index t = ![(grid0.coords t 0).val, (grid0.coords t 1).val] :=
  (by decide +kernel : ∀ t : Fin grid0.N, _)

/-- The reference's result, as its operations compute it from its arguments. -/
abbrev want (w : FVec Ideal S2048x7184 .f32) (ct : FVec Ideal S4096x7184 .f32) : FVec Ideal S4096x2048 .f32 :=
  Cert.Reference7Ideal.Read.val_main_v1 (F := Ideal) w ct

/-- One step of the running sum: what was there plus the product of the two blocks. -/
theorem step (acc : Vec Ideal S1024x1024 .f32) (a : Vec Ideal S1024x3840 .bf16) (b : Vec Ideal S3840x1024 .bf16) (j : S1024x1024.Idx) :
    k0_pay3 (F := Ideal) a b acc j = acc j + ∑ k : Fin 3840, a (ix2 (j 0) k) * b (ix2 k (j 1)) := by
  pointwise [k0_pay3, k0_pay1]

/-- The first term of the running sum. -/
theorem first (a : Vec Ideal S1024x3840 .bf16) (b : Vec Ideal S3840x1024 .bf16) (j : S1024x1024.Idx) :
    k0_pay2 (F := Ideal) a b j = 0 + ∑ k : Fin 3840, a (ix2 (j 0) k) * b (ix2 k (j 1)) := by
  rw [zero_add]; pointwise [k0_pay2, k0_pay1]

/-- The points of a run share all coordinates but the last, which counts them. -/
theorem run : ∀ (t : Fin cfg0.N) (s : Fin 2) (h : 2 * (t.val / 2) + s.val < cfg0.N), (grid0.coords ⟨2 * (t.val / 2) + s.val, h⟩ 0).val = (grid0.coords t 0).val
    ∧ (grid0.coords ⟨2 * (t.val / 2) + s.val, h⟩ 1).val = (grid0.coords t 1).val ∧ (grid0.coords ⟨2 * (t.val / 2) + s.val, h⟩ 2).val = s.val :=
  (by decide +kernel : ∀ t : Fin grid0.N, _)

/-- The product of two blocks at an index. -/
def prod (a : FVec Ideal S1024x3840 .bf16) (b : FVec Ideal S3840x1024 .bf16) (j : S1024x1024.Idx) : EReal :=
  ∑ k : Fin 3840, a (ix2 (j 0) k) * b (ix2 k (j 1))

/-- The product of the blocks of one grid point. -/
def part (c : Dev nD) (p : Fin cfg0.N) (j : S1024x1024.Idx) : EReal := prod (iblk m c 0 p) (iblk m c 1 p) j

/-- The running sum at the last point of a run: all the products of the run's blocks. -/
theorem total (c : Dev nD) (t : Fin cfg0.N) (h : t.val % 2 = 1) (y : S1024x1024.Idx) :
    (outsAt0 m c t.val t.isLt).2 y = ∑ s : Fin 2, part m c ⟨2 * (t.val / 2) + s.val, Pipeline.run_point_lt_of_flush t h s⟩ y := by
  rw [Pipeline.eq_sum_fin_of_reset_step_apply_of_flush (fun n h => (outsAt0 m c n h).2) 2 (fun _ => 0) (part m c)
    (fun t h j => by rw [outsAt0_A m c t h (by omega) (by omega)]; frame_out; rw [first]; rfl)
    (fun t h j => by rw [outsAt0_B m c t h (by omega) (by omega)]; frame_out; rw [step]; exact congrArg₂ (fun a b : EReal => a + b) (congrFun (Memref.IsWhole.read_unread _ _) j) rfl)
    t h y]
  exact zero_add _

/-- What the last point of a run stores is the running sum. -/
theorem stored (c : Dev nD) (t : Fin cfg0.N) (h : t.val % 2 = 1) (y : S1024x1024.Idx) :
    (outsAt0 m c t.val t.isLt).1 y = (outsAt0 m c t.val t.isLt).2 y := by
  rw [outsAt0_B m c t (by omega) h h]; frame_out

/-- The padded operand at an index: the argument's entry, and zero past its edge. -/
theorem v2 (c : Dev nD) (q : Fin 4096) (l : Fin 7680) : (V m c main_v2 : FVec Ideal S4096x7680 .bf16) (ix2 q l)
    = if h : l.val < 7184 then (m ((c : Thread nD τ).loc main_arg2) : FVec Ideal S4096x7184 .f32) (ix2 q ⟨l.val, h⟩) else (0 : EReal) := by
  unfold V
  simp only [hostOps0, hostOps0_1, hostOps0_2, hostOps0_3, List.flatten_cons, List.flatten_nil, List.append_nil, List.cons_append, List.nil_append]
  after_results
  change pad S4096x7680 ![0, 0] ![0, 496] ![0, 0] (truncf FTy.bf16 (m ((c : Thread nD τ).loc main_arg2) : FVec Ideal S4096x7184 .f32) bitsLt_bf16_f32 : FVec Ideal S4096x7184 .bf16)
    (sitofp (F := Ideal) FTy.bf16 (constantI S_ 32 0#32)) pads_S4096x7184_S4096x7680_000_04960 h_S_ (ix2 q l) = _
  pointwise
  rw [Cert.Proof.fill_zero]

/-- The padded operand at an index: the argument's entry, and zero past its edge. -/
theorem v5 (c : Dev nD) (q : Fin 7680) (l : Fin 2048) : (V m c main_v5 : FVec Ideal S7680x2048 .bf16) (ix2 q l)
    = if h : q.val < 7184 then (m ((c : Thread nD τ).loc main_arg1) : FVec Ideal S2048x7184 .f32) (ix2 l ⟨q.val, h⟩) else (0 : EReal) := by
  unfold V
  simp only [hostOps0, hostOps0_1, hostOps0_2, hostOps0_3, List.flatten_cons, List.flatten_nil, List.append_nil, List.cons_append, List.nil_append]
  after_results
  change pad S7680x2048 ![0, 0] ![496, 0] ![0, 0] (truncf FTy.bf16 (transpose S7184x2048 [1, 0] (m ((c : Thread nD τ).loc main_arg1) : FVec Ideal S2048x7184 .f32) transposes_S2048x7184_S7184x2048_1_0 : FVec Ideal S7184x2048 .f32) bitsLt_bf16_f32 : FVec Ideal S7184x2048 .bf16)
    (sitofp (F := Ideal) FTy.bf16 (constantI S_ 32 0#32)) pads_S7184x2048_S7680x2048_04960_000 h_S_ (ix2 q l) = _
  pointwise
  rw [Cert.Proof.fill_zero]

/-- The padded block a grid point reads. -/
theorem block0 (c : Dev nD) (p : Fin cfg0.N) (n : Fin 1024) (k : Fin 3840) (q : Fin 4096) (l : Fin 7680)
    (hq : q.val = (grid0.coords p 0).val * 1024 + n.val) (hl : l.val = (grid0.coords p 2).val * 3840 + k.val) :
    (iblk m c 0 p : FVec Ideal S1024x3840 .bf16) (ix2 n k) = (V m c main_v2 : FVec Ideal S4096x7680 .bf16) (ix2 q l) := by
  blk_ext [iblk, idx p]

/-- The padded block of the other operand. -/
theorem block1 (c : Dev nD) (p : Fin cfg0.N) (k : Fin 3840) (n : Fin 1024) (l : Fin 7680) (q : Fin 2048)
    (hl : l.val = (grid0.coords p 2).val * 3840 + k.val) (hq : q.val = (grid0.coords p 1).val * 1024 + n.val) :
    (iblk m c 1 p : FVec Ideal S3840x1024 .bf16) (ix2 k n) = (V m c main_v5 : FVec Ideal S7680x2048 .bf16) (ix2 l q) := by
  blk_ext [iblk, idx p]

/-- The array the call returns is the reference's result. -/
theorem result (c : Dev nD) :
    (dats m 0 c).arrAt 3 cfg0.N = want (m ((c : Thread nD τ).loc main_arg1)) (m ((c : Thread nD τ).loc main_arg2)) := by
  refine (dats m 0 c).arrAt_eq_of_covers 3 _ (by decide +kernel) fun t hf y => ?_
  have h := (flush0_3 t).mp hf
  have e0 : ((((cfg0.win 3).blk t).view.emb y 0 : Fin 4096) : ℕ) = (grid0.coords t 0).val * 1024 + (y 0).val := by blk_simp [idx t]
  have e1 : ((((cfg0.win 3).blk t).view.emb y 1 : Fin 2048) : ℕ) = (grid0.coords t 1).val * 1024 + (y 1).val := by blk_simp [idx t]
  blk_simp
  rw [after0_3, stored m c t h, total m c t h]
  pointwise [want, Cert.Reference7Ideal.Read.val_main_v1]
  refine Eq.trans ?_ (Cert.Proof.sum_padded 7184 496 _)
  refine Fin.sum_mul_add_congr fun s k hl => ?_
  obtain ⟨r0, r1, r2⟩ := run t s (Pipeline.run_point_lt_of_flush t h s)
  refine (congrArg₂ (fun a b : EReal => a * b)
    ((block0 m c _ _ k _ ⟨s.val * 3840 + k.val, hl⟩ (by rw [r0]; exact e0) (by rw [r2])).trans (v2 m c _ _))
    ((block1 m c _ k _ ⟨s.val * 3840 + k.val, hl⟩ _ (by rw [r2]) (by rw [r1]; exact e1)).trans (v5 m c _ _))).trans ?_
  dsimp only
  split
  · rfl
  · exact zero_mul _

theorem frame_kernel : Cert.quiescent_Kernel7 := fun m ρ _ => Cert.Kernel7.Gen.frame m ρ
theorem frame_ideal : Cert.quiescent_Kernel7Ideal := fun m ρ _ => frame m ρ
theorem frame_reference : Cert.quiescent_Reference7Ideal := fun m ρ _ =>
  (θ_run Cert.Reference7Ideal.defs _ _).mono (fun r h => ⟨fun c => (h c).2, sem_zero rfl r.2⟩) (Cert.Reference7Ideal.Value.run m ρ)

/-- Kernel and reference end with the same result. -/
theorem value : Cert.algebraic_Kernel7Ideal_Reference7Ideal := fun m g m' g' _ ha =>
  ⟨fun c => (dats m 0 c).arrAt 3 cfg0.N, Cert.Kernel7Ideal.Value.run_blocks m g,
    (θ_run Cert.Reference7Ideal.defs _ _).mono (fun r h c => ⟨(h c).1.trans (by
      rw [(ha c).2.1, (ha c).2.2]; exact (result m c).symm), (h c).2⟩) (Cert.Reference7Ideal.Value.run m' g')⟩

end Cert.Proof.MmDh1
end
-- ==== Proof.Products.MmDwout.lean ====
/- The gradient of w_out: the call mm_dwout against the gradient of the plain product. -/
module

public import proofs.«01_k».proof.Proof.Products.Common
public import proofs.«01_k».proof.Proof.Gen.Kernel8.Frame
public import proofs.«01_k».proof.Proof.Gen.Kernel8Ideal.Value
public import proofs.«01_k».proof.Proof.Gen.Reference8Ideal.Read

@[expose] public section

set_option maxRecDepth 16384

noncomputable section

open Idealize.ShloMosaic Idealize.ShloMosaic.TcCoe Idealize.SL.Sem
open Idealize.ShloMosaic.Pipeline (Dat)

namespace Cert.Proof.MmDwout

open Cert.Kernel8Ideal Cert.Kernel8Ideal.Gen

variable (m : (ℓ : Loc nD τ sig) → Buf (Elt Ideal) ℓ)

/-- Which block of each array a grid point works on. -/
theorem idx : ∀ t : Fin cfg0.N, win0_0.index t = ![0, (grid0.coords t 0).val]
    ∧ win0_1.index t = ![0, (grid0.coords t 1).val]
    ∧ win0_2.index t = ![(grid0.coords t 0).val, (grid0.coords t 1).val] :=
  (by decide +kernel : ∀ t : Fin grid0.N, _)

/-- The reference's result, as its operations compute it from its arguments. -/
abbrev want (h : FVec Ideal S4096x2048 .f32) (ct : FVec Ideal S4096x2048 .f32) : FVec Ideal S2048x2048 .bf16 :=
  Cert.Reference8Ideal.Read.val_main_v3 (F := Ideal) h ct

/-- What a grid point stores is the reference's result at the place it stores it. -/
theorem point (c : Dev nD) (t : Fin cfg0.N) (y) : k0_pay1 (iblk m c 0 t) (iblk m c 1 t) y
    = want (m ((c : Thread nD τ).loc main_arg0)) (m ((c : Thread nD τ).loc main_arg2)) (((cfg0.win 2).blk t).view.emb y) := by
  pointwise [k0_pay1, want, Cert.Reference8Ideal.Read.val_main_v3, Cert.Reference8Ideal.Read.val_main_v2, Cert.Reference8Ideal.Read.val_main_v1]
  refine (Finset.sum_congr rfl fun k _ => mul_comm _ _).trans ?_
  blk_point [iblk, idx t]

/-- The array the call returns is the reference's result. -/
theorem result (c : Dev nD) :
    (dats m 0 c).arrAt 2 cfg0.N = want (m ((c : Thread nD τ).loc main_arg0)) (m ((c : Thread nD τ).loc main_arg2)) := by
  refine (dats m 0 c).arrAt_eq_of_covers 2 _ (by decide +kernel) fun t hf y => ?_
  blk_simp
  rw [after0_2]; frame_out
  exact point m c t y

theorem frame_kernel : Cert.quiescent_Kernel8 := fun m ρ _ => Cert.Kernel8.Gen.frame m ρ
theorem frame_ideal : Cert.quiescent_Kernel8Ideal := fun m ρ _ => frame m ρ
theorem frame_reference : Cert.quiescent_Reference8Ideal := fun m ρ _ =>
  (θ_run Cert.Reference8Ideal.defs _ _).mono (fun r h => ⟨fun c => (h c).2, sem_zero rfl r.2⟩) (Cert.Reference8Ideal.Value.run m ρ)

/-- Kernel and reference end with the same result. -/
theorem value : Cert.algebraic_Kernel8Ideal_Reference8Ideal := fun m g m' g' _ ha =>
  ⟨fun c => (dats m 0 c).arrAt 2 cfg0.N, Cert.Kernel8Ideal.Value.run_blocks m g,
    (θ_run Cert.Reference8Ideal.defs _ _).mono (fun r h c => ⟨(h c).1.trans (by
      rw [(ha c).1, (ha c).2.2]; exact (result m c).symm), (h c).2⟩) (Cert.Reference8Ideal.Value.run m' g')⟩

end Cert.Proof.MmDwout
end
-- ==== Proof.Products.MmDycat.lean ====
/- The gradient of the input of w_out: the call mm_dycat against the gradient of the plain product. -/
module

public import proofs.«01_k».proof.Proof.Products.Common
public import proofs.«01_k».proof.Proof.Gen.Kernel9.Frame
public import proofs.«01_k».proof.Proof.Gen.Kernel9Ideal.Value
public import proofs.«01_k».proof.Proof.Gen.Reference9Ideal.Read

@[expose] public section

set_option maxRecDepth 16384

noncomputable section

open Idealize.ShloMosaic Idealize.ShloMosaic.TcCoe Idealize.SL.Sem
open Idealize.ShloMosaic.Pipeline (Dat)

namespace Cert.Proof.MmDycat

open Cert.Kernel9Ideal Cert.Kernel9Ideal.Gen

variable (m : (ℓ : Loc nD τ sig) → Buf (Elt Ideal) ℓ)

/-- Which block of each array a grid point works on. -/
theorem idx : ∀ t : Fin cfg0.N, win0_0.index t = ![(grid0.coords t 0).val, 0]
    ∧ win0_1.index t = ![(grid0.coords t 1).val, 0]
    ∧ win0_3.index t = ![(grid0.coords t 0).val, (grid0.coords t 1).val] :=
  (by decide +kernel : ∀ t : Fin grid0.N, _)

/-- The reference's result, as its operations compute it from its arguments. -/
abbrev want (w : FVec Ideal S2048x2048 .f32) (ct : FVec Ideal S4096x2048 .f32) : FVec Ideal S4096x2048 .f32 :=
  Cert.Reference9Ideal.Read.val_main_v1 (F := Ideal) w ct

/-- What a grid point stores is the reference's result at the place it stores it. -/
theorem point (c : Dev nD) (t : Fin cfg0.N) (y) : k0_pay1 (iblk m c 0 t) (iblk m c 1 t) y
    = want (m ((c : Thread nD τ).loc main_arg1)) (m ((c : Thread nD τ).loc main_arg2)) (((cfg0.win 3).blk t).view.emb y) := by
  pointwise [k0_pay1, want, Cert.Reference9Ideal.Read.val_main_v1]
  blk_point [iblk, idx t]

/-- The array the call returns is the reference's result. -/
theorem result (c : Dev nD) :
    (dats m 0 c).arrAt 3 cfg0.N = want (m ((c : Thread nD τ).loc main_arg1)) (m ((c : Thread nD τ).loc main_arg2)) := by
  refine (dats m 0 c).arrAt_eq_of_covers 3 _ (by decide +kernel) fun t hf y => ?_
  blk_simp
  rw [after0_3]; frame_out
  exact point m c t y

theorem frame_kernel : Cert.quiescent_Kernel9 := fun m ρ _ => Cert.Kernel9.Gen.frame m ρ
theorem frame_ideal : Cert.quiescent_Kernel9Ideal := fun m ρ _ => frame m ρ
theorem frame_reference : Cert.quiescent_Reference9Ideal := fun m ρ _ =>
  (θ_run Cert.Reference9Ideal.defs _ _).mono (fun r h => ⟨fun c => (h c).2, sem_zero rfl r.2⟩) (Cert.Reference9Ideal.Value.run m ρ)

/-- Kernel and reference end with the same result. -/
theorem value : Cert.algebraic_Kernel9Ideal_Reference9Ideal := fun m g m' g' _ ha =>
  ⟨fun c => (dats m 0 c).arrAt 3 cfg0.N, Cert.Kernel9Ideal.Value.run_blocks m g,
    (θ_run Cert.Reference9Ideal.defs _ _).mono (fun r h c => ⟨(h c).1.trans (by
      rw [(ha c).2.1, (ha c).2.2]; exact (result m c).symm), (h c).2⟩) (Cert.Reference9Ideal.Value.run m' g')⟩

end Cert.Proof.MmDycat
end
-- ==== Proof.Products.MmUp.lean ====
/- The product with w_up: the call mm_up against the plain product. -/
module

public import proofs.«01_k».proof.Proof.Products.Common
public import proofs.«01_k».proof.Proof.Gen.Kernel10.Frame
public import proofs.«01_k».proof.Proof.Gen.Kernel10Ideal.Value
public import proofs.«01_k».proof.Proof.Gen.Reference10Ideal.Read

@[expose] public section

set_option maxRecDepth 16384

noncomputable section

open Idealize.ShloMosaic Idealize.ShloMosaic.TcCoe Idealize.SL.Sem
open Idealize.ShloMosaic.Pipeline (Dat)

namespace Cert.Proof.MmUp

open Cert.Kernel10Ideal Cert.Kernel10Ideal.Gen

variable (m : (ℓ : Loc nD τ sig) → Buf (Elt Ideal) ℓ)

/-- Which block of each array a grid point works on. -/
theorem idx : ∀ t : Fin cfg0.N, win0_0.index t = ![(grid0.coords t 0).val, 0]
    ∧ win0_1.index t = ![(grid0.coords t 1).val, 0, 0]
    ∧ win0_2.index t = ![(grid0.coords t 1).val, (grid0.coords t 0).val, 0] :=
  (by decide +kernel : ∀ t : Fin grid0.N, _)

/-- The reference's result, as its operations compute it from its arguments. -/
abbrev want (h : FVec Ideal S4096x2048 .f32) (w : FVec Ideal S2048x11264 .f32) : FVec Ideal S88x4096x128 .f32 :=
  Cert.Reference10Ideal.Read.val_main_v2 (F := Ideal) h w

/-- One panel of 128 columns of a product. -/
def panel (o : Fin 2 → ℕ) (h : S1024x1408.Slices o S1024x128) (T : FVec Ideal S1024x1408 .f32) : FVec Ideal S1x1024x128 .f32 :=
  shapeCast S1x1024x128 (extractStridedSlice S1024x128 o T h) shapeCasts_S1024x128_S1x1024x128

/-- The eleven panels side by side hold the product. -/
theorem panels (T : FVec Ideal S1024x1408 .f32) (y : S11x1024x128.Idx) (i : S1024x1408.Idx)
    (hi0 : (i 0 : ℕ) = y 1) (hi1 : (i 1 : ℕ) = 128 * y 0 + y 2) :
    View.canon (Val := Elt Ideal) (s := S11x1024x128) (e := .f32) [⟨r0_12, panel ![0, 1280] slices_S1024x1408_o0_1280_S1024x128 T⟩,
      ⟨r0_11, panel ![0, 1152] slices_S1024x1408_o0_1152_S1024x128 T⟩,
      ⟨r0_10, panel ![0, 1024] slices_S1024x1408_o0_1024_S1024x128 T⟩,
      ⟨r0_9, panel ![0, 896] slices_S1024x1408_o0_896_S1024x128 T⟩,
      ⟨r0_8, panel ![0, 768] slices_S1024x1408_o0_768_S1024x128 T⟩,
      ⟨r0_7, panel ![0, 640] slices_S1024x1408_o0_640_S1024x128 T⟩,
      ⟨r0_6, panel ![0, 512] slices_S1024x1408_o0_512_S1024x128 T⟩,
      ⟨r0_5, panel ![0, 384] slices_S1024x1408_o0_384_S1024x128 T⟩,
      ⟨r0_4, panel ![0, 256] slices_S1024x1408_o0_256_S1024x128 T⟩,
      ⟨r0_3, panel ![0, 128] slices_S1024x1408_o0_128_S1024x128 T⟩,
      ⟨r0_2, panel ![0, 0] slices_S1024x1408_o0_0_S1024x128 T⟩] y = T i := by
  canon_tiles x h
  all_goals (pointwise [panel]; blk_ext)

/-- The product of two blocks is the reference's result at the place that holds it. -/
theorem core (c : Dev nD) (t : Fin cfg0.N) (y : S11x1024x128.Idx) (i : S1024x1408.Idx) (j : S88x4096x128.Idx)
    (hi0 : (i 0 : ℕ) = y 1) (hi1 : (i 1 : ℕ) = 128 * y 0 + y 2)
    (hj0 : (j 0 : ℕ) = (grid0.coords t 1).val * 11 + y 0) (hj1 : (j 1 : ℕ) = (grid0.coords t 0).val * 1024 + y 1) (hj2 : (j 2 : ℕ) = y 2) :
    k0_pay14 (F := Ideal) (iblk m c 0 t) (iblk m c 1 t) i
      = want (m ((c : Thread nD τ).loc main_arg0)) (m ((c : Thread nD τ).loc main_arg1)) j := by
  pointwise [k0_pay14, k0_pay7, want, Cert.Reference10Ideal.Read.val_main_v2, Cert.Reference10Ideal.Read.val_main_v1, Cert.Reference10Ideal.Read.val_main_v0]
  blk_point [iblk, idx t]

/-- The stores of a grid point are the panels of the product of its blocks. -/
theorem stores (a : Vec Ideal S1024x2048 .bf16) (b : Vec Ideal S1x2048x1408 .bf16) (y : S11x1024x128.Idx) (i : S1024x1408.Idx)
    (hi0 : (i 0 : ℕ) = y 1) (hi1 : (i 1 : ℕ) = 128 * y 0 + y 2) : out0_2 (F := Ideal) a b y = k0_pay14 (F := Ideal) a b i :=
  panels (k0_pay14 (F := Ideal) a b) y i hi0 hi1

/-- What a grid point stores, panel by panel, is the reference's result at the place it stores it. -/
theorem point (c : Dev nD) (t : Fin cfg0.N) (y : S11x1024x128.Idx) : out0_2 (iblk m c 0 t) (iblk m c 1 t) y
    = want (m ((c : Thread nD τ).loc main_arg0)) (m ((c : Thread nD τ).loc main_arg1)) (((cfg0.win 2).blk t).view.emb y) := by
  obtain_idx i : S1024x1408 := [(y 1 : ℕ), 128 * (y 0 : ℕ) + (y 2 : ℕ)] with hi
  refine (stores _ _ y i hi0 hi1).trans (core m c t y i _ hi0 hi1 ?_ ?_ ?_)
  all_goals (blk_simp [idx t] <;> try omega)

/-- The array the call returns is the reference's result. -/
theorem result (c : Dev nD) :
    (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]
  exact point m c t y

theorem frame_kernel : Cert.quiescent_Kernel10 := fun m ρ _ => Cert.Kernel10.Gen.frame m ρ
theorem frame_ideal : Cert.quiescent_Kernel10Ideal := fun m ρ _ => frame m ρ
theorem frame_reference : Cert.quiescent_Reference10Ideal := fun m ρ _ =>
  (θ_run Cert.Reference10Ideal.defs _ _).mono (fun r h => ⟨fun c => (h c).2, sem_zero rfl r.2⟩) (Cert.Reference10Ideal.Value.run m ρ)

/-- Kernel and reference end with the same result. -/
theorem value : Cert.algebraic_Kernel10Ideal_Reference10Ideal := fun m g m' g' _ ha =>
  ⟨fun c => (dats m 0 c).arrAt 2 cfg0.N, Cert.Kernel10Ideal.Value.run_blocks m g,
    (θ_run Cert.Reference10Ideal.defs _ _).mono (fun r h c => ⟨(h c).1.trans (by
      rw [(ha c).1, (ha c).2]; exact (result m c).symm), (h c).2⟩) (Cert.Reference10Ideal.Value.run m' g')⟩

end Cert.Proof.MmUp
end
-- ==== Proof.Products.MmIn.lean ====
/- The product with w_in: the call mm_in against the plain product. -/
module

public import proofs.«01_k».proof.Proof.Products.Common
public import proofs.«01_k».proof.Proof.Gen.Kernel11.Frame
public import proofs.«01_k».proof.Proof.Gen.Kernel11Ideal.Value
public import proofs.«01_k».proof.Proof.Gen.Reference11Ideal.Read

@[expose] public section

set_option maxRecDepth 16384

noncomputable section

open Idealize.ShloMosaic Idealize.ShloMosaic.TcCoe Idealize.SL.Sem
open Idealize.ShloMosaic.Pipeline (Dat)

namespace Cert.Proof.MmIn

open Cert.Kernel11Ideal Cert.Kernel11Ideal.Gen

variable (m : (ℓ : Loc nD τ sig) → Buf (Elt Ideal) ℓ)

/-- Which block of each array a grid point works on. -/
theorem idx : ∀ t : Fin cfg0.N, win0_0.index t = ![(grid0.coords t 0).val, 0]
    ∧ win0_1.index t = ![(grid0.coords t 1).val, 0]
    ∧ win0_2.index t = ![(grid0.coords t 0).val, (grid0.coords t 1).val] :=
  (by decide +kernel : ∀ t : Fin grid0.N, _)

/-- The reference's result, as its operations compute it from its arguments. -/
abbrev want (h : FVec Ideal S4096x2048 .f32) (w : FVec Ideal S2048x7184 .f32) : FVec Ideal S4096x7680 .f32 :=
  Cert.Reference11Ideal.Read.val_main_v1 (F := Ideal) h w

/-- The padded operand at an index: the argument's entry, and zero past its edge. -/
theorem v2 (c : Dev nD) (q : Fin 7680) (l : Fin 2048) : (V m c main_v2 : FVec Ideal S7680x2048 .bf16) (ix2 q l)
    = if h : q.val < 7184 then (m ((c : Thread nD τ).loc main_arg1) : FVec Ideal S2048x7184 .f32) (ix2 l ⟨q.val, h⟩) else (0 : EReal) := by
  unfold V
  simp only [hostOps0, hostOps0_1, hostOps0_2, List.flatten_cons, List.flatten_nil, List.append_nil, List.cons_append, List.nil_append]
  after_results
  change pad S7680x2048 ![0, 0] ![496, 0] ![0, 0] (truncf FTy.bf16 (transpose S7184x2048 [1, 0] (m ((c : Thread nD τ).loc main_arg1) : FVec Ideal S2048x7184 .f32) transposes_S2048x7184_S7184x2048_1_0 : FVec Ideal S7184x2048 .f32) bitsLt_bf16_f32 : FVec Ideal S7184x2048 .bf16)
    (sitofp (F := Ideal) FTy.bf16 (constantI S_ 32 0#32)) pads_S7184x2048_S7680x2048_04960_000 h_S_ (ix2 q l) = _
  pointwise
  rw [Cert.Proof.fill_zero]

/-- The padded block a grid point reads. -/
theorem block (c : Dev nD) (t : Fin cfg0.N) (l : Fin 2048) (n : Fin 1536) (q : Fin 7680) (hq : q.val = (grid0.coords t 1).val * 1536 + n.val) :
    (iblk m c 1 t : FVec Ideal S1536x2048 .bf16) (ix2 n l) = (V m c main_v2 : FVec Ideal S7680x2048 .bf16) (ix2 q l) := by
  blk_ext [iblk, idx t]

/-- What a grid point stores is the reference's result at the place it stores it. -/
theorem point (c : Dev nD) (t : Fin cfg0.N) (y : S1024x1536.Idx) : k0_pay1 (iblk m c 0 t) (iblk m c 1 t) y
    = want (m ((c : Thread nD τ).loc main_arg0)) (m ((c : Thread nD τ).loc main_arg1)) (((cfg0.win 2).blk t).view.emb y) := by
  have e : ((((cfg0.win 2).blk t).view.emb y 1 : Fin 7680) : ℕ) = (grid0.coords t 1).val * 1536 + (y 1).val := by blk_simp [idx t]
  pointwise [k0_pay1, want, Cert.Reference11Ideal.Read.val_main_v1, Cert.Reference11Ideal.Read.val_main_v0, Cert.Reference11Ideal.Read.val_main_call0_v0, Cert.Reference11Ideal.Read.val_main_c]
  split
  · next h =>
    refine Fin.sum_fin_congr fun k => congrArg₂ (fun a b : EReal => a * b) ?_ (((block m c t k (y 1) _ e).trans (v2 m c _ k)).trans (dif_pos h))
    blk_point [iblk, V, idx t]
  · next h =>
    refine (Fin.sum_fin_congr fun k => (congrArg₂ (fun a b : EReal => a * b) rfl (((block m c t k (y 1) _ e).trans (v2 m c _ k)).trans (dif_neg h))).trans (mul_zero _)).trans ?_
    exact (Finset.sum_const_zero).trans (Cert.Proof.fill_zero _).symm

/-- The array the call returns is the reference's result. -/
theorem result (c : Dev nD) :
    (dats m 0 c).arrAt 2 cfg0.N = want (m ((c : Thread nD τ).loc main_arg0)) (m ((c : Thread nD τ).loc main_arg1)) := by
  refine (dats m 0 c).arrAt_eq_of_covers 2 _ (by decide +kernel) fun t hf y => ?_
  blk_simp
  rw [after0_2]; frame_out
  exact point m c t y

theorem frame_kernel : Cert.quiescent_Kernel11 := fun m ρ _ => Cert.Kernel11.Gen.frame m ρ
theorem frame_ideal : Cert.quiescent_Kernel11Ideal := fun m ρ _ => frame m ρ
theorem frame_reference : Cert.quiescent_Reference11Ideal := fun m ρ _ =>
  (θ_run Cert.Reference11Ideal.defs _ _).mono (fun r h => ⟨fun c => (h c).2, sem_zero rfl r.2⟩) (Cert.Reference11Ideal.Value.run m ρ)

/-- Kernel and reference end with the same result. -/
theorem value : Cert.algebraic_Kernel11Ideal_Reference11Ideal := fun m g m' g' _ ha =>
  ⟨fun c => (dats m 0 c).arrAt 2 cfg0.N, Cert.Kernel11Ideal.Value.run_blocks m g,
    (θ_run Cert.Reference11Ideal.defs _ _).mono (fun r h c => ⟨(h c).1.trans (by
      rw [(ha c).1, (ha c).2]; exact (result m c).symm), (h c).2⟩) (Cert.Reference11Ideal.Value.run m' g')⟩

end Cert.Proof.MmIn
end
-- ==== Proof.Products.MmDown.lean ====
/- The product with w_down added to the residual: the call mm_down against the plain product. -/
module

public import proofs.«01_k».proof.Proof.Products.Common
public import proofs.«01_k».proof.Proof.Gen.Kernel12.Frame
public import proofs.«01_k».proof.Proof.Gen.Kernel12Ideal.Value
public import proofs.«01_k».proof.Proof.Gen.Reference12Ideal.Read

@[expose] public section

set_option maxRecDepth 16384

noncomputable section

open Idealize.ShloMosaic Idealize.ShloMosaic.TcCoe Idealize.SL.Sem
open Idealize.ShloMosaic.Pipeline (Dat)

namespace Cert.Proof.MmDown

open Cert.Kernel12Ideal Cert.Kernel12Ideal.Gen

variable (m : (ℓ : Loc nD τ sig) → Buf (Elt Ideal) ℓ)

/-- Which block of each array a grid point works on. -/
theorem idx : ∀ t : Fin cfg0.N, win0_0.index t = ![(grid0.coords t 0).val, (grid0.coords t 2).val]
    ∧ win0_1.index t = ![(grid0.coords t 2).val, (grid0.coords t 1).val]
    ∧ win0_2.index t = ![(grid0.coords t 0).val, (grid0.coords t 1).val]
    ∧ win0_3.index t = ![(grid0.coords t 0).val, (grid0.coords t 1).val] :=
  (by decide +kernel : ∀ t : Fin grid0.N, _)

/-- The reference's result, as its operations compute it from its arguments. -/
abbrev want (h : FVec Ideal S4096x5632 .f32) (w : FVec Ideal S5632x2048 .f32) (x : FVec Ideal S4096x2048 .f32) : FVec Ideal S4096x2048 .f32 :=
  Cert.Reference12Ideal.Read.val_main_v1 (F := Ideal) h w x

/-- One step of the running sum: what was there plus the product of the two blocks. -/
theorem step (acc : Vec Ideal S1024x1024 .f32) (a : Vec Ideal S1024x2816 .bf16) (b : Vec Ideal S2816x1024 .bf16) (j : S1024x1024.Idx) :
    k0_pay3 (F := Ideal) a b acc j = acc j + ∑ k : Fin 2816, a (ix2 (j 0) k) * b (ix2 k (j 1)) := by
  pointwise [k0_pay3, k0_pay1]

/-- The first term of the running sum. -/
theorem first (a : Vec Ideal S1024x2816 .bf16) (b : Vec Ideal S2816x1024 .bf16) (j : S1024x1024.Idx) :
    k0_pay2 (F := Ideal) a b j = 0 + ∑ k : Fin 2816, a (ix2 (j 0) k) * b (ix2 k (j 1)) := by
  rw [zero_add]; pointwise [k0_pay2, k0_pay1]

/-- The points of a run share all coordinates but the last, which counts them. -/
theorem run : ∀ (t : Fin cfg0.N) (s : Fin 2) (h : 2 * (t.val / 2) + s.val < cfg0.N), (grid0.coords ⟨2 * (t.val / 2) + s.val, h⟩ 0).val = (grid0.coords t 0).val
    ∧ (grid0.coords ⟨2 * (t.val / 2) + s.val, h⟩ 1).val = (grid0.coords t 1).val ∧ (grid0.coords ⟨2 * (t.val / 2) + s.val, h⟩ 2).val = s.val :=
  (by decide +kernel : ∀ t : Fin grid0.N, _)

/-- The product of two blocks at an index. -/
def prod (a : FVec Ideal S1024x2816 .bf16) (b : FVec Ideal S2816x1024 .bf16) (j : S1024x1024.Idx) : EReal :=
  ∑ k : Fin 2816, a (ix2 (j 0) k) * b (ix2 k (j 1))

/-- The product of the blocks of one grid point. -/
def part (c : Dev nD) (p : Fin cfg0.N) (j : S1024x1024.Idx) : EReal := prod (iblk m c 0 p) (iblk m c 1 p) j

/-- The running sum at the last point of a run: all the products of the run's blocks. -/
theorem total (c : Dev nD) (t : Fin cfg0.N) (h : t.val % 2 = 1) (y : S1024x1024.Idx) :
    (outsAt0 m c t.val t.isLt).2 y = ∑ s : Fin 2, part m c ⟨2 * (t.val / 2) + s.val, Pipeline.run_point_lt_of_flush t h s⟩ y := by
  rw [Pipeline.eq_sum_fin_of_reset_step_apply_of_flush (fun n h => (outsAt0 m c n h).2) 2 (fun _ => 0) (part m c)
    (fun t h j => by rw [outsAt0_A m c t h (by omega) (by omega)]; frame_out; rw [first]; rfl)
    (fun t h j => by rw [outsAt0_B m c t h (by omega) (by omega)]; frame_out; rw [step]; exact congrArg₂ (fun a b : EReal => a + b) (congrFun (Memref.IsWhole.read_unread _ _) j) rfl)
    t h y]
  exact zero_add _

/-- The last point of a run stores the running sum plus the residual's block. -/
theorem stored (c : Dev nD) (t : Fin cfg0.N) (h : t.val % 2 = 1) (y : S1024x1024.Idx) :
    (outsAt0 m c t.val t.isLt).1 y = k0_pay4 (F := Ideal) (outsAt0 m c t.val t.isLt).2 (iblk m c 2 t) y := by
  rw [outsAt0_B m c t (by omega) h h]; frame_out

/-- The last step at an index. -/
theorem last (acc : FVec Ideal S1024x1024 .f32) (r : Vec Ideal S1024x1024 .f32) (j : S1024x1024.Idx) : k0_pay4 (F := Ideal) acc r j = r j + acc j := by
  pointwise [k0_pay4]; try exact add_comm _ _

/-- The array the call returns is the reference's result. -/
theorem result (c : Dev nD) :
    (dats m 0 c).arrAt 3 cfg0.N = want (m ((c : Thread nD τ).loc main_arg0)) (m ((c : Thread nD τ).loc main_arg1)) (m ((c : Thread nD τ).loc main_arg2)) := by
  refine (dats m 0 c).arrAt_eq_of_covers 3 _ (by decide +kernel) fun t hf y => ?_
  have h := (flush0_3 t).mp hf
  blk_simp
  rw [after0_3, stored m c t h, last, total m c t h]
  pointwise [want, Cert.Reference12Ideal.Read.val_main_v1, Cert.Reference12Ideal.Read.val_main_v0]
  refine congrArg₂ (fun a b : EReal => a + b) (by blk_point [iblk, idx t]) (Fin.sum_mul_add_congr fun s k hl => ?_)
  have hr := run t s (Pipeline.run_point_lt_of_flush t h s)
  blk_point [iblk, idx t, idx ⟨_, Pipeline.run_point_lt_of_flush t h s⟩]
  all_goals omega

theorem frame_kernel : Cert.quiescent_Kernel12 := fun m ρ _ => Cert.Kernel12.Gen.frame m ρ
theorem frame_ideal : Cert.quiescent_Kernel12Ideal := fun m ρ _ => frame m ρ
theorem frame_reference : Cert.quiescent_Reference12Ideal := fun m ρ _ =>
  (θ_run Cert.Reference12Ideal.defs _ _).mono (fun r h => ⟨fun c => (h c).2, sem_zero rfl r.2⟩) (Cert.Reference12Ideal.Value.run m ρ)

/-- Kernel and reference end with the same result. -/
theorem value : Cert.algebraic_Kernel12Ideal_Reference12Ideal := fun m g m' g' _ ha =>
  ⟨fun c => (dats m 0 c).arrAt 3 cfg0.N, Cert.Kernel12Ideal.Value.run_blocks m g,
    (θ_run Cert.Reference12Ideal.defs _ _).mono (fun r h c => ⟨(h c).1.trans (by
      rw [(ha c).1, (ha c).2.1, (ha c).2.2]; exact (result m c).symm), (h c).2⟩) (Cert.Reference12Ideal.Value.run m' g')⟩

end Cert.Proof.MmDown
end
-- ==== Proof.Same.lean ====
module

public import proofs.«01_k».proof.Defs
public import proofs.«01_k».proof.Proof.Gen.Kernel
public import proofs.«01_k».proof.Proof.Gen.KernelIdeal
@[expose] public section
set_option maxRecDepth 16384
noncomputable section
/-! The kernel and its copy over any number type are the same program, part by part. -/
namespace Cert.Proof

open Idealize.ShloMosaic Idealize.ShloMosaic.TcCoe Idealize.SL.Sem

variable {F : FTy → Type} [FloatOps F]

set_option maxHeartbeats 20000000

theorem same_fwd : @Cert.Kernel.cc0_delta_scan_fwd F _ Cert.Kernel.Gen.facts = @Cert.KernelIdeal.cc0_delta_scan_fwd F _ Cert.KernelIdeal.Gen.facts := rfl

theorem same_bwd : @Cert.Kernel.cc1_delta_scan_bwd F _ Cert.Kernel.Gen.facts = @Cert.KernelIdeal.cc1_delta_scan_bwd F _ Cert.KernelIdeal.Gen.facts := rfl

theorem same_calls : (Cert.Kernel.pcfgs (F := F)) = Cert.KernelIdeal.pcfgs (F := F) := rfl

theorem same_bodies : (Cert.Kernel.defs₀ (F := F)) = Cert.KernelIdeal.defs₀ (F := F) := by
  unfold Cert.Kernel.defs₀ Cert.KernelIdeal.defs₀
  rw [same_fwd, same_bwd]
  refine congrArg _ (funext fun i => funext fun x => ?_)
  match i, x with
  | 0, (t, s) => rfl
  | 1, (t, s) => rfl

theorem same_main : (Cert.Kernel.main (F := F)) = Cert.KernelIdeal.main (F := F) := rfl

end Cert.Proof
end
-- ==== Proof.Scan.Spec.lean ====
module

public import proofs.«01_k».proof.Proof.Gen.KernelIdeal.Loops
public import Idealize.ShloMosaic.Lib.Pipeline.ValueKit
public import Idealize.ShloMosaic.Lib.Pipeline.ReadBack
@[expose] public section
set_option maxRecDepth 16384
noncomputable section

/-! What the two kernels compute, chunk by chunk and head by head, as functions of whole arrays. -/
namespace Cert.Proof.Scan

open Cert.KernelIdeal Cert.KernelIdeal.Gen
open Idealize.ShloMosaic

/-! ## Places of the arrays by natural coordinates -/

section Places
variable {α : Type}

/-- The element of a (4096, 1024) array at row `r` and column `c`. -/
def at2 (X : S4096x1024.Idx → α) (r c : ℕ) : α :=
  X (ix2 ⟨r % 4096, Nat.mod_lt _ (by decide)⟩ ⟨c % 1024, Nat.mod_lt _ (by decide)⟩)

/-- The element of an (8, 64, p, q) array. -/
def at4 {p q : ℕ} [NeZero p] [NeZero q] (X : (⟨4, ![8, 64, p, q]⟩ : Shape).Idx → α) (a b c d : ℕ) : α :=
  X (ix4 ⟨a % 8, Nat.mod_lt _ (by decide)⟩ ⟨b % 64, Nat.mod_lt _ (by decide)⟩
    ⟨c % p, Nat.mod_lt _ (Nat.pos_of_ne_zero (NeZero.ne p))⟩ ⟨d % q, Nat.mod_lt _ (Nat.pos_of_ne_zero (NeZero.ne q))⟩)

/-- Chunk `n` of head `j` of a (4096, 1024) array. -/
def ch (X : S4096x1024.Idx → α) (n j : ℕ) : S64x128.Idx → α :=
  fun x => at2 X (64 * n + (x 0).val) (128 * j + (x 1).val)

/-- Member `(j, n)` of an (8, 64, p, q) array, under its two unit axes. -/
def ch4 {p q : ℕ} [NeZero p] [NeZero q] (X : (⟨4, ![8, 64, p, q]⟩ : Shape).Idx → α) (n j : ℕ) : (⟨4, ![1, 1, p, q]⟩ : Shape).Idx → α :=
  fun x => at4 X j n (x 2).val (x 3).val

/-- The (4096, 1024) array whose chunk `n` of head `j` is `f n j`. -/
def asm2 (f : ℕ → ℕ → S64x128.Idx → α) : S4096x1024.Idx → α :=
  fun y => f ((y 0).val / 64) ((y 1).val / 128) (ix2 ⟨(y 0).val % 64, Nat.mod_lt _ (by decide)⟩ ⟨(y 1).val % 128, Nat.mod_lt _ (by decide)⟩)

/-- The (8, 64, p, q) array whose member `(j, n)` is `f n j`. -/
def asm4 {p q : ℕ} (f : ℕ → ℕ → (⟨4, ![1, 1, p, q]⟩ : Shape).Idx → α) : (⟨4, ![8, 64, p, q]⟩ : Shape).Idx → α :=
  fun y => f (y 1).val (y 0).val (ix4 (0 : Fin 1) (0 : Fin 1) (⟨(y 2).val, (y 2).isLt⟩ : Fin p) (⟨(y 3).val, (y 3).isLt⟩ : Fin q))

theorem at2_eq (X : S4096x1024.Idx → α) (y : S4096x1024.Idx) (r c : ℕ) (hr : r = (y 0).val) (hc : c = (y 1).val) : at2 X r c = X y := by
  unfold at2
  refine congrArg X ?_
  funext a
  subst hr hc
  have h0 : (y 0).val < 4096 := (y 0).isLt
  have h1 : (y 1).val < 1024 := (y 1).isLt
  match a with
  | ⟨0, _⟩ => exact Fin.ext (Nat.mod_eq_of_lt h0)
  | ⟨1, _⟩ => exact Fin.ext (Nat.mod_eq_of_lt h1)

theorem at4_eq {p q : ℕ} [NeZero p] [NeZero q] (X : (⟨4, ![8, 64, p, q]⟩ : Shape).Idx → α) (y : (⟨4, ![8, 64, p, q]⟩ : Shape).Idx)
    (a b c d : ℕ) (ha : a = (y 0).val) (hb : b = (y 1).val) (hc : c = (y 2).val) (hd : d = (y 3).val) : at4 X a b c d = X y := by
  unfold at4
  refine congrArg X ?_
  funext e
  subst ha hb hc hd
  have h0 : (y 0).val < 8 := (y 0).isLt
  have h1 : (y 1).val < 64 := (y 1).isLt
  have h2 : (y 2).val < p := (y 2).isLt
  have h3 : (y 3).val < q := (y 3).isLt
  match e with
  | ⟨0, _⟩ => exact Fin.ext (Nat.mod_eq_of_lt h0)
  | ⟨1, _⟩ => exact Fin.ext (Nat.mod_eq_of_lt h1)
  | ⟨2, _⟩ => exact Fin.ext (Nat.mod_eq_of_lt h2)
  | ⟨3, _⟩ => exact Fin.ext (Nat.mod_eq_of_lt h3)

theorem at2_asm2 (f : ℕ → ℕ → S64x128.Idx → α) (n j r c : ℕ) (x : S64x128.Idx) (hn : n < 64) (hj : j < 8)
    (hr : r = 64 * n + (x 0).val) (hc : c = 128 * j + (x 1).val) : at2 (asm2 f) r c = f n j x := by
  have h0 : (x 0).val < 64 := (x 0).isLt
  have h1 : (x 1).val < 128 := (x 1).isLt
  have er : r % 4096 = 64 * n + (x 0).val := by omega
  have ec : c % 1024 = 128 * j + (x 1).val := by omega
  unfold at2 asm2
  have e1 : (r % 4096) / 64 = n := by omega
  have e2 : (c % 1024) / 128 = j := by omega
  have e3 : (r % 4096) % 64 = (x 0).val := by omega
  have e4 : (c % 1024) % 128 = (x 1).val := by omega
  show f ((r % 4096) / 64) ((c % 1024) / 128) _ = _
  rw [e1, e2]
  refine congrArg (f n j) ?_
  funext a
  match a with
  | ⟨0, _⟩ => exact Fin.ext e3
  | ⟨1, _⟩ => exact Fin.ext e4

theorem at4_asm4 {p q : ℕ} [NeZero p] [NeZero q] (f : ℕ → ℕ → (⟨4, ![1, 1, p, q]⟩ : Shape).Idx → α) (n j a b c d : ℕ)
    (x : (⟨4, ![1, 1, p, q]⟩ : Shape).Idx) (hn : n < 64) (hj : j < 8)
    (ha : a = j) (hb : b = n) (hc : c = (x 2).val) (hd : d = (x 3).val) : at4 (asm4 f) a b c d = f n j x := by
  have h0 : (x 0).val < 1 := (x 0).isLt
  have h1 : (x 1).val < 1 := (x 1).isLt
  have h2 : (x 2).val < p := (x 2).isLt
  have h3 : (x 3).val < q := (x 3).isLt
  subst ha hb hc hd
  unfold at4 asm4
  refine congr (congr (congrArg f (Nat.mod_eq_of_lt hn)) (Nat.mod_eq_of_lt hj)) ?_
  funext e
  match e with
  | ⟨0, _⟩ => exact Fin.ext (show 0 = (x 0).val by omega)
  | ⟨1, _⟩ => exact Fin.ext (show 0 = (x 1).val by omega)
  | ⟨2, _⟩ => exact Fin.ext (Nat.mod_eq_of_lt h2)
  | ⟨3, _⟩ => exact Fin.ext (Nat.mod_eq_of_lt h3)

/-- The chunks of an assembled array. -/
theorem ch_asm2 (f : ℕ → ℕ → S64x128.Idx → α) (n j : ℕ) (hn : n < 64) (hj : j < 8) : ch (asm2 f) n j = f n j :=
  funext fun x => at2_asm2 f n j _ _ x hn hj rfl rfl

/-- The members of an assembled array. -/
theorem ch4_asm4 {p q : ℕ} [NeZero p] [NeZero q] (f : ℕ → ℕ → (⟨4, ![1, 1, p, q]⟩ : Shape).Idx → α) (n j : ℕ) (hn : n < 64) (hj : j < 8) :
    ch4 (asm4 f) n j = f n j :=
  funext fun x => at4_asm4 f n j _ _ _ _ x hn hj rfl rfl rfl rfl

/-- Eight values in the order in which the loops carry them. -/
abbrev tup {β : Type} (f : ℕ → β) : β × β × β × β × β × β × β × β := (f 0, f 1, f 2, f 3, f 4, f 5, f 6, f 7)

end Places

variable {F : FTy → Type} [FloatOps F]

/-! ## The forward scan -/

/-- The state of head `j` before chunk `n`. -/
def fS (u w kd : FVec F S4096x1024 .f32) (gl : FVec F S8x64x1x128 .f32) (j : ℕ) : ℕ → FVec F S128x128 .f32
  | 0 => broadcast S128x128 (Scalar.ofBits .f32 0x00000000#32)
  | n + 1 => k0_pay49 (fS u w kd gl j n) (k0_pay32 (k0_pay16 (fS u w kd gl j n) (ch w n j)) (ch u n j)) (ch4 gl n j) (ch kd n j)

/-- The new values of chunk `n`. -/
def fVn (u w kd : FVec F S4096x1024 .f32) (gl : FVec F S8x64x1x128 .f32) (n j : ℕ) : FVec F S64x128 .f32 :=
  k0_pay32 (k0_pay16 (fS u w kd gl j n) (ch w n j)) (ch u n j)

/-- The output of chunk `n`. -/
def fO (u w qd kd : FVec F S4096x1024 .f32) (qk : FVec F S8x64x64x64 .f32) (gl : FVec F S8x64x1x128 .f32) (n j : ℕ) : FVec F S64x128 .f32 :=
  k0_pay40 (k0_pay16 (fS u w kd gl j n) (ch w n j)) (k0_pay24 (fS u w kd gl j n) (ch qd n j)) (ch u n j) (ch4 qk n j)

/-- The output array of the forward scan. -/
def GO (u w qd kd : FVec F S4096x1024 .f32) (qk : FVec F S8x64x64x64 .f32) (gl : FVec F S8x64x1x128 .f32) : FVec F S4096x1024 .f32 :=
  asm2 (fO u w qd kd qk gl)

/-- The array of new values. -/
def GVn (u w kd : FVec F S4096x1024 .f32) (gl : FVec F S8x64x1x128 .f32) : FVec F S4096x1024 .f32 := asm2 (fVn u w kd gl)

/-- The array of the states before each chunk. -/
def GS (u w kd : FVec F S4096x1024 .f32) (gl : FVec F S8x64x1x128 .f32) : FVec F S8x64x128x128 .f32 :=
  asm4 fun n j => k0_pay8 (fS u w kd gl j n)

/-! ## The backward scan -/

/-- The gradient of the new values of chunk `n`, of the state gradient `D` after it. -/
def bDvn (dO kd : FVec F S4096x1024 .f32) (qk : FVec F S8x64x64x64 .f32) (D : FVec F S128x128 .f32) (n j : ℕ) : FVec F S64x128 .f32 :=
  addf (k1_pay24 (ch dO n j) (ch4 qk n j)) (k1_pay32 D (ch kd n j))

/-- The gradient of the state of head `j` after the chunk that is `m` before the last. -/
def bS (dO w qd kd : FVec F S4096x1024 .f32) (qk : FVec F S8x64x64x64 .f32) (gl : FVec F S8x64x1x128 .f32) (j : ℕ) : ℕ → FVec F S128x128 .f32
  | 0 => broadcast S128x128 (Scalar.ofBits .f32 0x00000000#32)
  | m + 1 => k1_pay100 (bS dO w qd kd qk gl j m) (k1_pay88 (ch dO (63 - m) j) (ch qd (63 - m) j))
      (k1_pay91 (bDvn dO kd qk (bS dO w qd kd qk gl j m) (63 - m) j) (ch w (63 - m) j)) (ch4 gl (63 - m) j)

/-- The state gradient of head `j` after chunk `n`. -/
def bD (dO w qd kd : FVec F S4096x1024 .f32) (qk : FVec F S8x64x64x64 .f32) (gl : FVec F S8x64x1x128 .f32) (n j : ℕ) : FVec F S128x128 .f32 :=
  bS dO w qd kd qk gl j (63 - n)

/-- The gradient of `u`. -/
def HDu (dO w qd kd : FVec F S4096x1024 .f32) (qk : FVec F S8x64x64x64 .f32) (gl : FVec F S8x64x1x128 .f32) : FVec F S4096x1024 .f32 :=
  asm2 fun n j => bDvn dO kd qk (bD dO w qd kd qk gl n j) n j

/-- The gradient of `w`. -/
def HDw (dO w qd kd : FVec F S4096x1024 .f32) (qk : FVec F S8x64x64x64 .f32) (gl : FVec F S8x64x1x128 .f32) (ss : FVec F S8x64x128x128 .f32) :
    FVec F S4096x1024 .f32 :=
  asm2 fun n j => k1_pay73 (k1_pay8 (ch4 ss n j)) (bDvn dO kd qk (bD dO w qd kd qk gl n j) n j)

/-- The gradient of the scaled queries. -/
def HDqd (dO : FVec F S4096x1024 .f32) (ss : FVec F S8x64x128x128 .f32) : FVec F S4096x1024 .f32 :=
  asm2 fun n j => k1_pay48 (k1_pay8 (ch4 ss n j)) (ch dO n j)

/-- The gradient of the scaled keys. -/
def HDkd (dO w qd kd vn : FVec F S4096x1024 .f32) (qk : FVec F S8x64x64x64 .f32) (gl : FVec F S8x64x1x128 .f32) : FVec F S4096x1024 .f32 :=
  asm2 fun n j => k1_pay56 (bD dO w qd kd qk gl n j) (k1_pay16 (ch vn n j))

/-- The gradient of the products of queries and keys within a chunk. -/
def HDqk (dO vn : FVec F S4096x1024 .f32) : FVec F S8x64x64x64 .f32 :=
  asm4 fun n j => k1_pay108 (k1_pay65 (ch dO n j) (k1_pay16 (ch vn n j)))

/-- The gradient of the decay of a chunk. -/
def HDgl (dO w qd kd : FVec F S4096x1024 .f32) (qk : FVec F S8x64x64x64 .f32) (gl : FVec F S8x64x1x128 .f32) (ss : FVec F S8x64x128x128 .f32) :
    FVec F S8x64x1x128 .f32 :=
  asm4 fun n j => k1_pay109 (bD dO w qd kd qk gl n j) (k1_pay8 (ch4 ss n j))

end Cert.Proof.Scan
end
-- ==== Proof.Scan.Blocks.lean ====
module

public import proofs.«01_k».proof.Proof.Scan.Spec
@[expose] public section
set_option maxRecDepth 16384
noncomputable section
/-! Loads from a block and stores into one, against the chunks of the whole array. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- What a (256, 1024) block number `b` of an array holds. -/
abbrev Blk2 (A : FVec F S4096x1024 .f32) (b : ℕ) : S256x1024.Idx → Elt F .f32 := fun y => at2 A (256 * b + (y 0).val) (y 1).val

/-- What block number `b` along the second axis of an (8, 64, p, q) array holds. -/
abbrev Blk4 {p q : ℕ} [NeZero p] [NeZero q] (A : FVec F ⟨4, ![8, 64, p, q]⟩ .f32) (b : ℕ) : (⟨4, ![8, 4, p, q]⟩ : Shape).Idx → Elt F .f32 :=
  fun y => at4 A (y 0).val (4 * b + (y 1).val) (y 2).val (y 3).val

/-- A load of 64 rows of one head's columns is a chunk of the array. -/
theorem rd_col {κ : Kind} {sp : Space} (v : View sig κ sp S256x1024 .f32) (X : v.ty.Contents (Elt F)) (A : FVec F S4096x1024 .f32) (b : ℕ)
    (hX : v.read (Elt F) X = Blk2 A b) (k j : ℕ) (off : Fin 2 → ℕ)
    (hoff : off = ![64 * k, 128 * j]) (inb) :
    v.readAt (Elt F) (Rect.unit (s := S256x1024) off S64x128.size inb).toLoadRect X = ch A (4 * b + k) j := by
  funext x
  rw [View.readAt_apply]
  erw [hX]
  subst hoff
  unfold ch
  show at2 A (256 * b + (64 * k + 1 * (x 0).val)) (128 * j + 1 * (x 1).val) = _
  congr 1 <;> omega

/-- A load of the member of one head and one chunk. -/
theorem rd_mem {κ : Kind} {sp : Space} {p q : ℕ} [NeZero p] [NeZero q] (v : View sig κ sp ⟨4, ![8, 4, p, q]⟩ .f32) (X : v.ty.Contents (Elt F))
    (A : FVec F ⟨4, ![8, 64, p, q]⟩ .f32) (b : ℕ) (hX : v.read (Elt F) X = Blk4 A b) (k j : ℕ) (off : Fin 4 → ℕ)
    (hoff : off = ![j, k, 0, 0]) (inb) :
    v.readAt (Elt F) (Rect.unit (s := ⟨4, ![8, 4, p, q]⟩) off (⟨4, ![1, 1, p, q]⟩ : Shape).size inb).toLoadRect X = ch4 A (4 * b + k) j := by
  funext x
  rw [View.readAt_apply]
  erw [hX]
  subst hoff
  unfold ch4
  have h0 : (x 0).val < 1 := (x 0).isLt
  have h1 : (x 1).val < 1 := (x 1).isLt
  show at4 A (j + 1 * (x 0).val) (4 * b + (k + 1 * (x 1).val)) (0 + 1 * (x 2).val) (0 + 1 * (x 3).val) = _
  congr 1 <;> omega

/-- A piece of 64 rows of one head's columns that stores chunk `4 b + k` of an assembled array. -/
theorem pc_col (g : ℕ → ℕ → FVec F S64x128 .f32) (b k j : ℕ) (hb : b < 16) (hk : k < 4) (hj : j < 8) (off : Fin 2 → ℕ)
    (hoff : off = ![64 * k, 128 * j]) (inb) (w : FVec F S64x128 .f32) (hw : w = g (4 * b + k) j) :
    ∀ x, w x = Blk2 (asm2 g) b ((Rect.unit (s := S256x1024) off S64x128.size inb).emb x) := by
  intro x
  subst hoff hw
  symm
  refine at2_asm2 g (4 * b + k) j _ _ x (by omega) hj ?_ ?_
  · show 256 * b + (64 * k + 1 * (x 0).val) = _
    omega
  · show 128 * j + 1 * (x 1).val = _
    omega

/-- A piece of one head and one chunk that stores that member of an assembled array. -/
theorem pc_mem {p q : ℕ} [NeZero p] [NeZero q] (g : ℕ → ℕ → FVec F ⟨4, ![1, 1, p, q]⟩ .f32) (b k j : ℕ) (hb : b < 16) (hk : k < 4) (hj : j < 8)
    (off : Fin 4 → ℕ) (hoff : off = ![j, k, 0, 0]) (inb) (w : FVec F ⟨4, ![1, 1, p, q]⟩ .f32) (hw : w = g (4 * b + k) j) :
    ∀ x, w x = Blk4 (asm4 g) b ((Rect.unit (s := ⟨4, ![8, 4, p, q]⟩) off (⟨4, ![1, 1, p, q]⟩ : Shape).size inb).emb x) := by
  intro x
  subst hoff hw
  symm
  have h0 : (x 0).val < 1 := (x 0).isLt
  have h1 : (x 1).val < 1 := (x 1).isLt
  refine at4_asm4 g (4 * b + k) j _ _ _ _ x (by omega) hj ?_ ?_ ?_ ?_
  · show j + 1 * (x 0).val = _
    omega
  · show 4 * b + (k + 1 * (x 1).val) = _
    omega
  · show 0 + 1 * (x 2).val = _
    omega
  · show 0 + 1 * (x 3).val = _
    omega

/-- The piece covers the rows of chunk `k` in the columns of head `j`. -/
def CovC (p : View.Piece (Elt F) S256x1024 .f32) (k j : ℕ) : Prop :=
  ∀ y : S256x1024.Idx, 64 * k ≤ (y 0).val → (y 0).val < 64 * k + 64 → (y 1).val / 128 = j → y ∈ p.1.set

/-- The piece covers the member of head `j` and chunk `k`. -/
def CovM {r s : ℕ} (p : View.Piece (Elt F) ⟨4, ![8, 4, r, s]⟩ .f32) (k j : ℕ) : Prop :=
  ∀ y : (⟨4, ![8, 4, r, s]⟩ : Shape).Idx, (y 1).val = k → (y 0).val = j → y ∈ p.1.set

theorem cov_col (k j : ℕ) (off : Fin 2 → ℕ) (hoff : off = ![64 * k, 128 * j]) (inb) (w : FVec F S64x128 .f32) :
    CovC (F := F) ⟨Rect.unit (s := S256x1024) off S64x128.size inb, w⟩ k j := by
  intro y h0 h1 h2
  subst hoff
  rw [Rect.mem_set_unit]
  intro a
  match a with
  | ⟨0, _⟩ => exact ⟨h0, h1⟩
  | ⟨1, _⟩ => exact ⟨by show 128 * j ≤ (y 1).val; omega, by show (y 1).val < 128 * j + 128; omega⟩

theorem cov_mem {r s : ℕ} (k j : ℕ) (off : Fin 4 → ℕ) (hoff : off = ![j, k, 0, 0]) (inb) (w : FVec F ⟨4, ![1, 1, r, s]⟩ .f32) :
    CovM (F := F) ⟨Rect.unit (s := ⟨4, ![8, 4, r, s]⟩) off (⟨4, ![1, 1, r, s]⟩ : Shape).size inb, w⟩ k j := by
  intro y h0 h1
  subst hoff
  have h2 : (y 2).val < r := (y 2).isLt
  have h3 : (y 3).val < s := (y 3).isLt
  rw [Rect.mem_set_unit]
  intro a
  match a with
  | ⟨0, _⟩ => exact ⟨by show j ≤ (y 0).val; omega, by show (y 0).val < j + 1; omega⟩
  | ⟨1, _⟩ => exact ⟨by show k ≤ (y 1).val; omega, by show (y 1).val < k + 1; omega⟩
  | ⟨2, _⟩ => exact ⟨Nat.zero_le _, by show (y 2).val < 0 + r; omega⟩
  | ⟨3, _⟩ => exact ⟨Nat.zero_le _, by show (y 3).val < 0 + s; omega⟩

theorem eight {β : Type} (P : β → Prop) (p7 p6 p5 p4 p3 p2 p1 p0 : β) (j : ℕ) (hj : j < 8)
    (h7 : j = 7 → P p7) (h6 : j = 6 → P p6) (h5 : j = 5 → P p5) (h4 : j = 4 → P p4) (h3 : j = 3 → P p3) (h2 : j = 2 → P p2)
    (h1 : j = 1 → P p1) (h0 : j = 0 → P p0) : ∃ p ∈ [p7, p6, p5, p4, p3, p2, p1, p0], P p := by
  simp only [List.mem_cons, List.not_mem_nil, or_false]
  have : j = 0 ∨ j = 1 ∨ j = 2 ∨ j = 3 ∨ j = 4 ∨ j = 5 ∨ j = 6 ∨ j = 7 := by omega
  rcases this with h | h | h | h | h | h | h | h
  · exact ⟨p0, .inr (.inr (.inr (.inr (.inr (.inr (.inr rfl)))))), h0 h⟩
  · exact ⟨p1, .inr (.inr (.inr (.inr (.inr (.inr (.inl rfl)))))), h1 h⟩
  · exact ⟨p2, .inr (.inr (.inr (.inr (.inr (.inl rfl))))), h2 h⟩
  · exact ⟨p3, .inr (.inr (.inr (.inr (.inl rfl)))), h3 h⟩
  · exact ⟨p4, .inr (.inr (.inr (.inl rfl))), h4 h⟩
  · exact ⟨p5, .inr (.inr (.inl rfl)), h5 h⟩
  · exact ⟨p6, .inr (.inl rfl), h6 h⟩
  · exact ⟨p7, .inl rfl, h7 h⟩

/-- Eight pieces, one per head, cover the rows of a chunk. -/
theorem cov8_col (k : ℕ) (p7 p6 p5 p4 p3 p2 p1 p0 : View.Piece (Elt F) S256x1024 .f32)
    (h7 : CovC p7 k 7) (h6 : CovC p6 k 6) (h5 : CovC p5 k 5) (h4 : CovC p4 k 4) (h3 : CovC p3 k 3) (h2 : CovC p2 k 2) (h1 : CovC p1 k 1)
    (h0 : CovC p0 k 0) (y : S256x1024.Idx) (a : 64 * k ≤ (y 0).val) (b : (y 0).val < 64 * k + 64) :
    ∃ p ∈ [p7, p6, p5, p4, p3, p2, p1, p0], y ∈ p.1.set := by
  have hy : (y 1).val < 1024 := (y 1).isLt
  exact eight (fun p => y ∈ p.1.set) p7 p6 p5 p4 p3 p2 p1 p0 ((y 1).val / 128) (by omega) (h7 y a b) (h6 y a b) (h5 y a b) (h4 y a b) (h3 y a b)
    (h2 y a b) (h1 y a b) (h0 y a b)

/-- Eight pieces, one per head, cover the members of a chunk. -/
theorem cov8_mem {r s : ℕ} (k : ℕ) (p7 p6 p5 p4 p3 p2 p1 p0 : View.Piece (Elt F) ⟨4, ![8, 4, r, s]⟩ .f32)
    (h7 : CovM p7 k 7) (h6 : CovM p6 k 6) (h5 : CovM p5 k 5) (h4 : CovM p4 k 4) (h3 : CovM p3 k 3) (h2 : CovM p2 k 2) (h1 : CovM p1 k 1)
    (h0 : CovM p0 k 0) (y : (⟨4, ![8, 4, r, s]⟩ : Shape).Idx) (a : (y 1).val = k) :
    ∃ p ∈ [p7, p6, p5, p4, p3, p2, p1, p0], y ∈ p.1.set := by
  have hy : (y 0).val < 8 := (y 0).isLt
  exact eight (fun p => y ∈ p.1.set) p7 p6 p5 p4 p3 p2 p1 p0 (y 0).val hy (h7 y a) (h6 y a) (h5 y a) (h4 y a) (h3 y a) (h2 y a) (h1 y a) (h0 y a)

/-- What one trip's eight stores into a (256, 1024) block are. -/
def Good2 (g : ℕ → ℕ → FVec F S64x128 .f32) (b k : ℕ) (L : List (View.Piece (Elt F) S256x1024 .f32)) : Prop :=
  View.PiecesOf (Blk2 (asm2 g) b) L ∧ ∀ y : S256x1024.Idx, 64 * k ≤ (y 0).val → (y 0).val < 64 * k + 64 → ∃ p ∈ L, y ∈ p.1.set

/-- What one trip's eight stores into an (8, 4, p, q) block are. -/
def Good4 {p q : ℕ} [NeZero p] [NeZero q] (g : ℕ → ℕ → FVec F ⟨4, ![1, 1, p, q]⟩ .f32) (b k : ℕ)
    (L : List (View.Piece (Elt F) ⟨4, ![8, 4, p, q]⟩ .f32)) : Prop :=
  View.PiecesOf (Blk4 (asm4 g) b) L ∧ ∀ y : (⟨4, ![8, 4, p, q]⟩ : Shape).Idx, (y 1).val = k → ∃ p ∈ L, y ∈ p.1.set

end Cert.Proof.Scan
end
-- ==== Proof.Scan.Trip0.lean ====
module

public import proofs.«01_k».proof.Proof.Scan.Blocks
@[expose] public section
set_option maxRecDepth 16384
noncomputable section
/-! One trip of the forward loop: the states it yields and the stores it makes. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
theorem off0_1 : ∀ k : Fin k0_t1_loop.trips, k0_off1 k = ![0, k.val, 0, 0] := by decide +kernel
theorem off0_2 : ∀ k : Fin k0_t1_loop.trips, k0_off2 k = ![1, k.val, 0, 0] := by decide +kernel
theorem off0_3 : ∀ k : Fin k0_t1_loop.trips, k0_off3 k = ![2, k.val, 0, 0] := by decide +kernel
theorem off0_4 : ∀ k : Fin k0_t1_loop.trips, k0_off4 k = ![3, k.val, 0, 0] := by decide +kernel
theorem off0_5 : ∀ k : Fin k0_t1_loop.trips, k0_off5 k = ![4, k.val, 0, 0] := by decide +kernel
theorem off0_6 : ∀ k : Fin k0_t1_loop.trips, k0_off6 k = ![5, k.val, 0, 0] := by decide +kernel
theorem off0_7 : ∀ k : Fin k0_t1_loop.trips, k0_off7 k = ![6, k.val, 0, 0] := by decide +kernel
theorem off0_8 : ∀ k : Fin k0_t1_loop.trips, k0_off8 k = ![7, k.val, 0, 0] := by decide +kernel
theorem off0_9 : ∀ k : Fin k0_t1_loop.trips, k0_off9 k = ![64 * k.val, 128 * 0] := by decide +kernel
theorem off0_10 : ∀ k : Fin k0_t1_loop.trips, k0_off10 k = ![64 * k.val, 128 * 1] := by decide +kernel
theorem off0_11 : ∀ k : Fin k0_t1_loop.trips, k0_off11 k = ![64 * k.val, 128 * 2] := by decide +kernel
theorem off0_12 : ∀ k : Fin k0_t1_loop.trips, k0_off12 k = ![64 * k.val, 128 * 3] := by decide +kernel
theorem off0_13 : ∀ k : Fin k0_t1_loop.trips, k0_off13 k = ![64 * k.val, 128 * 4] := by decide +kernel
theorem off0_14 : ∀ k : Fin k0_t1_loop.trips, k0_off14 k = ![64 * k.val, 128 * 5] := by decide +kernel
theorem off0_15 : ∀ k : Fin k0_t1_loop.trips, k0_off15 k = ![64 * k.val, 128 * 6] := by decide +kernel
theorem off0_16 : ∀ k : Fin k0_t1_loop.trips, k0_off16 k = ![64 * k.val, 128 * 7] := by decide +kernel
theorem off0_17 : ∀ k : Fin k0_t1_loop.trips, k0_off17 k = ![0, k.val, 0, 0] := by decide +kernel
theorem off0_18 : ∀ k : Fin k0_t1_loop.trips, k0_off18 k = ![1, k.val, 0, 0] := by decide +kernel
theorem off0_19 : ∀ k : Fin k0_t1_loop.trips, k0_off19 k = ![2, k.val, 0, 0] := by decide +kernel
theorem off0_20 : ∀ k : Fin k0_t1_loop.trips, k0_off20 k = ![3, k.val, 0, 0] := by decide +kernel
theorem off0_21 : ∀ k : Fin k0_t1_loop.trips, k0_off21 k = ![4, k.val, 0, 0] := by decide +kernel
theorem off0_22 : ∀ k : Fin k0_t1_loop.trips, k0_off22 k = ![5, k.val, 0, 0] := by decide +kernel
theorem off0_23 : ∀ k : Fin k0_t1_loop.trips, k0_off23 k = ![6, k.val, 0, 0] := by decide +kernel
theorem off0_24 : ∀ k : Fin k0_t1_loop.trips, k0_off24 k = ![7, k.val, 0, 0] := by decide +kernel
theorem off0_25 : ∀ k : Fin k0_t1_loop.trips, k0_off25 k = ![0, k.val, 0, 0] := by decide +kernel
theorem off0_26 : ∀ k : Fin k0_t1_loop.trips, k0_off26 k = ![1, k.val, 0, 0] := by decide +kernel
theorem off0_27 : ∀ k : Fin k0_t1_loop.trips, k0_off27 k = ![2, k.val, 0, 0] := by decide +kernel
theorem off0_28 : ∀ k : Fin k0_t1_loop.trips, k0_off28 k = ![3, k.val, 0, 0] := by decide +kernel
theorem off0_29 : ∀ k : Fin k0_t1_loop.trips, k0_off29 k = ![4, k.val, 0, 0] := by decide +kernel
theorem off0_30 : ∀ k : Fin k0_t1_loop.trips, k0_off30 k = ![5, k.val, 0, 0] := by decide +kernel
theorem off0_31 : ∀ k : Fin k0_t1_loop.trips, k0_off31 k = ![6, k.val, 0, 0] := by decide +kernel
theorem off0_32 : ∀ k : Fin k0_t1_loop.trips, k0_off32 k = ![7, k.val, 0, 0] := by decide +kernel

/-- The states after the trip. -/
theorem trip0_R (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x4x64x64 .f32) (harg6 : arg6.IsWhole) (arg7 : Memref sig .tc .vmem S8x4x1x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S8x4x128x128 .f32) (harg10 : arg10.IsWhole) (arg11 : Memref sig .tc .vmem S8x128x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (U W QD KD : FVec F S4096x1024 .f32) (QK : FVec F S8x64x64x64 .f32) (DC : FVec F S8x64x1x128 .f32) (b : ℕ)
    (h2 : arg2.view.read (Elt F) X2 = Blk2 U b) (h3 : arg3.view.read (Elt F) X3 = Blk2 W b)
    (h4 : arg4.view.read (Elt F) X4 = Blk2 QD b) (h5 : arg5.view.read (Elt F) X5 = Blk2 KD b)
    (h6 : arg6.view.read (Elt F) X6 = Blk4 QK b) (h7 : arg7.view.read (Elt F) X7 = Blk4 DC b) (f : ℕ → FVec F S128x128 .f32) :
    (trip_k0_t1 (F := F) 𝒱 c bd i arg2 harg2 arg3 harg3 arg4 harg4 arg5 harg5 arg6 harg6 arg7 harg7 arg8 harg8 arg9 harg9 arg10 harg10 arg11 harg11 X2 X3 X4 X5 X6 X7 k).1 (tup f) = tup fun j =>
      k0_pay49 (f j) (k0_pay32 (k0_pay16 (f j) (ch W (4 * b + k.val) j)) (ch U (4 * b + k.val) j)) (ch4 DC (4 * b + k.val) j) (ch KD (4 * b + k.val) j) := by
  unfold trip_k0_t1
  dsimp only
  simp only [trip_k0_t1.sl.r, trip_k0_t1.sl.v50, trip_k0_t1.sl.v54, trip_k0_t1.sl.v58, trip_k0_t1.sl.v62, trip_k0_t1.sl.v66, trip_k0_t1.sl.v70, trip_k0_t1.sl.v74, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44]
  simp only [rd_col arg2.view X2 U b h2 k.val 0 _ (off0_9 k),
    rd_col arg2.view X2 U b h2 k.val 1 _ (off0_10 k),
    rd_col arg2.view X2 U b h2 k.val 2 _ (off0_11 k),
    rd_col arg2.view X2 U b h2 k.val 3 _ (off0_12 k),
    rd_col arg2.view X2 U b h2 k.val 4 _ (off0_13 k),
    rd_col arg2.view X2 U b h2 k.val 5 _ (off0_14 k),
    rd_col arg2.view X2 U b h2 k.val 6 _ (off0_15 k),
    rd_col arg2.view X2 U b h2 k.val 7 _ (off0_16 k),
    rd_col arg3.view X3 W b h3 k.val 0 _ (off0_9 k),
    rd_col arg3.view X3 W b h3 k.val 1 _ (off0_10 k),
    rd_col arg3.view X3 W b h3 k.val 2 _ (off0_11 k),
    rd_col arg3.view X3 W b h3 k.val 3 _ (off0_12 k),
    rd_col arg3.view X3 W b h3 k.val 4 _ (off0_13 k),
    rd_col arg3.view X3 W b h3 k.val 5 _ (off0_14 k),
    rd_col arg3.view X3 W b h3 k.val 6 _ (off0_15 k),
    rd_col arg3.view X3 W b h3 k.val 7 _ (off0_16 k),
    rd_col arg5.view X5 KD b h5 k.val 0 _ (off0_9 k),
    rd_col arg5.view X5 KD b h5 k.val 1 _ (off0_10 k),
    rd_col arg5.view X5 KD b h5 k.val 2 _ (off0_11 k),
    rd_col arg5.view X5 KD b h5 k.val 3 _ (off0_12 k),
    rd_col arg5.view X5 KD b h5 k.val 4 _ (off0_13 k),
    rd_col arg5.view X5 KD b h5 k.val 5 _ (off0_14 k),
    rd_col arg5.view X5 KD b h5 k.val 6 _ (off0_15 k),
    rd_col arg5.view X5 KD b h5 k.val 7 _ (off0_16 k),
    rd_mem (p := 1) (q := 128) arg7.view X7 DC b h7 k.val 0 _ (off0_25 k),
    rd_mem (p := 1) (q := 128) arg7.view X7 DC b h7 k.val 1 _ (off0_26 k),
    rd_mem (p := 1) (q := 128) arg7.view X7 DC b h7 k.val 2 _ (off0_27 k),
    rd_mem (p := 1) (q := 128) arg7.view X7 DC b h7 k.val 3 _ (off0_28 k),
    rd_mem (p := 1) (q := 128) arg7.view X7 DC b h7 k.val 4 _ (off0_29 k),
    rd_mem (p := 1) (q := 128) arg7.view X7 DC b h7 k.val 5 _ (off0_30 k),
    rd_mem (p := 1) (q := 128) arg7.view X7 DC b h7 k.val 6 _ (off0_31 k),
    rd_mem (p := 1) (q := 128) arg7.view X7 DC b h7 k.val 7 _ (off0_32 k)]
  rfl

/-- The stores of the outputs. -/
theorem trip0_O (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x4x64x64 .f32) (harg6 : arg6.IsWhole) (arg7 : Memref sig .tc .vmem S8x4x1x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S8x4x128x128 .f32) (harg10 : arg10.IsWhole) (arg11 : Memref sig .tc .vmem S8x128x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (U W QD KD : FVec F S4096x1024 .f32) (QK : FVec F S8x64x64x64 .f32) (DC : FVec F S8x64x1x128 .f32) (b : ℕ)
    (h2 : arg2.view.read (Elt F) X2 = Blk2 U b) (h3 : arg3.view.read (Elt F) X3 = Blk2 W b)
    (h4 : arg4.view.read (Elt F) X4 = Blk2 QD b) (h5 : arg5.view.read (Elt F) X5 = Blk2 KD b)
    (h6 : arg6.view.read (Elt F) X6 = Blk4 QK b) (h7 : arg7.view.read (Elt F) X7 = Blk4 DC b) (hb : b < 16)
    (f : ℕ → FVec F S128x128 .f32) (g : ℕ → ℕ → FVec F S64x128 .f32)
    (hg : ∀ j, g (4 * b + k.val) j = k0_pay40 (k0_pay16 (f j) (ch W (4 * b + k.val) j)) (k0_pay24 (f j) (ch QD (4 * b + k.val) j))
      (ch U (4 * b + k.val) j) (ch4 QK (4 * b + k.val) j)) :
    Good2 g b k.val ((trip_k0_t1 (F := F) 𝒱 c bd i arg2 harg2 arg3 harg3 arg4 harg4 arg5 harg5 arg6 harg6 arg7 harg7 arg8 harg8 arg9 harg9 arg10 harg10 arg11 harg11 X2 X3 X4 X5 X6 X7 k).2.1 (tup f)) := by
  have hk : k.val < 4 := Nat.lt_of_lt_of_le k.isLt k0_t1_abs.2.1
  unfold trip_k0_t1
  dsimp only
  simp only [trip_k0_t1.sl.r, trip_k0_t1.sl.v50, trip_k0_t1.sl.v54, trip_k0_t1.sl.v58, trip_k0_t1.sl.v62, trip_k0_t1.sl.v66, trip_k0_t1.sl.v70, trip_k0_t1.sl.v74, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44]
  simp only [rd_col arg2.view X2 U b h2 k.val 0 _ (off0_9 k),
    rd_col arg2.view X2 U b h2 k.val 1 _ (off0_10 k),
    rd_col arg2.view X2 U b h2 k.val 2 _ (off0_11 k),
    rd_col arg2.view X2 U b h2 k.val 3 _ (off0_12 k),
    rd_col arg2.view X2 U b h2 k.val 4 _ (off0_13 k),
    rd_col arg2.view X2 U b h2 k.val 5 _ (off0_14 k),
    rd_col arg2.view X2 U b h2 k.val 6 _ (off0_15 k),
    rd_col arg2.view X2 U b h2 k.val 7 _ (off0_16 k),
    rd_col arg3.view X3 W b h3 k.val 0 _ (off0_9 k),
    rd_col arg3.view X3 W b h3 k.val 1 _ (off0_10 k),
    rd_col arg3.view X3 W b h3 k.val 2 _ (off0_11 k),
    rd_col arg3.view X3 W b h3 k.val 3 _ (off0_12 k),
    rd_col arg3.view X3 W b h3 k.val 4 _ (off0_13 k),
    rd_col arg3.view X3 W b h3 k.val 5 _ (off0_14 k),
    rd_col arg3.view X3 W b h3 k.val 6 _ (off0_15 k),
    rd_col arg3.view X3 W b h3 k.val 7 _ (off0_16 k),
    rd_col arg4.view X4 QD b h4 k.val 0 _ (off0_9 k),
    rd_col arg4.view X4 QD b h4 k.val 1 _ (off0_10 k),
    rd_col arg4.view X4 QD b h4 k.val 2 _ (off0_11 k),
    rd_col arg4.view X4 QD b h4 k.val 3 _ (off0_12 k),
    rd_col arg4.view X4 QD b h4 k.val 4 _ (off0_13 k),
    rd_col arg4.view X4 QD b h4 k.val 5 _ (off0_14 k),
    rd_col arg4.view X4 QD b h4 k.val 6 _ (off0_15 k),
    rd_col arg4.view X4 QD b h4 k.val 7 _ (off0_16 k),
    rd_mem (p := 64) (q := 64) arg6.view X6 QK b h6 k.val 0 _ (off0_17 k),
    rd_mem (p := 64) (q := 64) arg6.view X6 QK b h6 k.val 1 _ (off0_18 k),
    rd_mem (p := 64) (q := 64) arg6.view X6 QK b h6 k.val 2 _ (off0_19 k),
    rd_mem (p := 64) (q := 64) arg6.view X6 QK b h6 k.val 3 _ (off0_20 k),
    rd_mem (p := 64) (q := 64) arg6.view X6 QK b h6 k.val 4 _ (off0_21 k),
    rd_mem (p := 64) (q := 64) arg6.view X6 QK b h6 k.val 5 _ (off0_22 k),
    rd_mem (p := 64) (q := 64) arg6.view X6 QK b h6 k.val 6 _ (off0_23 k),
    rd_mem (p := 64) (q := 64) arg6.view X6 QK b h6 k.val 7 _ (off0_24 k)]
  exact ⟨⟨pc_col _ b k.val 7 hb hk (by decide) _ (off0_16 k) (k0_off16_inb k) _ (hg _).symm, pc_col _ b k.val 6 hb hk (by decide) _ (off0_15 k) (k0_off15_inb k) _ (hg _).symm, pc_col _ b k.val 5 hb hk (by decide) _ (off0_14 k) (k0_off14_inb k) _ (hg _).symm, pc_col _ b k.val 4 hb hk (by decide) _ (off0_13 k) (k0_off13_inb k) _ (hg _).symm, pc_col _ b k.val 3 hb hk (by decide) _ (off0_12 k) (k0_off12_inb k) _ (hg _).symm, pc_col _ b k.val 2 hb hk (by decide) _ (off0_11 k) (k0_off11_inb k) _ (hg _).symm, pc_col _ b k.val 1 hb hk (by decide) _ (off0_10 k) (k0_off10_inb k) _ (hg _).symm, pc_col _ b k.val 0 hb hk (by decide) _ (off0_9 k) (k0_off9_inb k) _ (hg _).symm, trivial⟩,
    cov8_col _ _ _ _ _ _ _ _ _ (cov_col _ _ _ (off0_16 k) _ _) (cov_col _ _ _ (off0_15 k) _ _) (cov_col _ _ _ (off0_14 k) _ _) (cov_col _ _ _ (off0_13 k) _ _) (cov_col _ _ _ (off0_12 k) _ _) (cov_col _ _ _ (off0_11 k) _ _) (cov_col _ _ _ (off0_10 k) _ _) (cov_col _ _ _ (off0_9 k) _ _)⟩

/-- The stores of the new values. -/
theorem trip0_Vn (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x4x64x64 .f32) (harg6 : arg6.IsWhole) (arg7 : Memref sig .tc .vmem S8x4x1x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S8x4x128x128 .f32) (harg10 : arg10.IsWhole) (arg11 : Memref sig .tc .vmem S8x128x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (U W QD KD : FVec F S4096x1024 .f32) (QK : FVec F S8x64x64x64 .f32) (DC : FVec F S8x64x1x128 .f32) (b : ℕ)
    (h2 : arg2.view.read (Elt F) X2 = Blk2 U b) (h3 : arg3.view.read (Elt F) X3 = Blk2 W b)
    (h4 : arg4.view.read (Elt F) X4 = Blk2 QD b) (h5 : arg5.view.read (Elt F) X5 = Blk2 KD b)
    (h6 : arg6.view.read (Elt F) X6 = Blk4 QK b) (h7 : arg7.view.read (Elt F) X7 = Blk4 DC b) (hb : b < 16)
    (f : ℕ → FVec F S128x128 .f32) (g : ℕ → ℕ → FVec F S64x128 .f32)
    (hg : ∀ j, g (4 * b + k.val) j = k0_pay32 (k0_pay16 (f j) (ch W (4 * b + k.val) j)) (ch U (4 * b + k.val) j)) :
    Good2 g b k.val ((trip_k0_t1 (F := F) 𝒱 c bd i arg2 harg2 arg3 harg3 arg4 harg4 arg5 harg5 arg6 harg6 arg7 harg7 arg8 harg8 arg9 harg9 arg10 harg10 arg11 harg11 X2 X3 X4 X5 X6 X7 k).2.2.1 (tup f)) := by
  have hk : k.val < 4 := Nat.lt_of_lt_of_le k.isLt k0_t1_abs.2.1
  unfold trip_k0_t1
  dsimp only
  simp only [trip_k0_t1.sl.r, trip_k0_t1.sl.v50, trip_k0_t1.sl.v54, trip_k0_t1.sl.v58, trip_k0_t1.sl.v62, trip_k0_t1.sl.v66, trip_k0_t1.sl.v70, trip_k0_t1.sl.v74, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44]
  simp only [rd_col arg2.view X2 U b h2 k.val 0 _ (off0_9 k),
    rd_col arg2.view X2 U b h2 k.val 1 _ (off0_10 k),
    rd_col arg2.view X2 U b h2 k.val 2 _ (off0_11 k),
    rd_col arg2.view X2 U b h2 k.val 3 _ (off0_12 k),
    rd_col arg2.view X2 U b h2 k.val 4 _ (off0_13 k),
    rd_col arg2.view X2 U b h2 k.val 5 _ (off0_14 k),
    rd_col arg2.view X2 U b h2 k.val 6 _ (off0_15 k),
    rd_col arg2.view X2 U b h2 k.val 7 _ (off0_16 k),
    rd_col arg3.view X3 W b h3 k.val 0 _ (off0_9 k),
    rd_col arg3.view X3 W b h3 k.val 1 _ (off0_10 k),
    rd_col arg3.view X3 W b h3 k.val 2 _ (off0_11 k),
    rd_col arg3.view X3 W b h3 k.val 3 _ (off0_12 k),
    rd_col arg3.view X3 W b h3 k.val 4 _ (off0_13 k),
    rd_col arg3.view X3 W b h3 k.val 5 _ (off0_14 k),
    rd_col arg3.view X3 W b h3 k.val 6 _ (off0_15 k),
    rd_col arg3.view X3 W b h3 k.val 7 _ (off0_16 k)]
  exact ⟨⟨pc_col _ b k.val 7 hb hk (by decide) _ (off0_16 k) (k0_off16_inb k) _ (hg _).symm, pc_col _ b k.val 6 hb hk (by decide) _ (off0_15 k) (k0_off15_inb k) _ (hg _).symm, pc_col _ b k.val 5 hb hk (by decide) _ (off0_14 k) (k0_off14_inb k) _ (hg _).symm, pc_col _ b k.val 4 hb hk (by decide) _ (off0_13 k) (k0_off13_inb k) _ (hg _).symm, pc_col _ b k.val 3 hb hk (by decide) _ (off0_12 k) (k0_off12_inb k) _ (hg _).symm, pc_col _ b k.val 2 hb hk (by decide) _ (off0_11 k) (k0_off11_inb k) _ (hg _).symm, pc_col _ b k.val 1 hb hk (by decide) _ (off0_10 k) (k0_off10_inb k) _ (hg _).symm, pc_col _ b k.val 0 hb hk (by decide) _ (off0_9 k) (k0_off9_inb k) _ (hg _).symm, trivial⟩,
    cov8_col _ _ _ _ _ _ _ _ _ (cov_col _ _ _ (off0_16 k) _ _) (cov_col _ _ _ (off0_15 k) _ _) (cov_col _ _ _ (off0_14 k) _ _) (cov_col _ _ _ (off0_13 k) _ _) (cov_col _ _ _ (off0_12 k) _ _) (cov_col _ _ _ (off0_11 k) _ _) (cov_col _ _ _ (off0_10 k) _ _) (cov_col _ _ _ (off0_9 k) _ _)⟩

/-- The stores of the states. -/
theorem trip0_S (𝒱 : Variants) (c : Dev nD) (bd : Option 𝒱.V) (i : grid0.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S8x4x64x64 .f32) (harg6 : arg6.IsWhole) (arg7 : Memref sig .tc .vmem S8x4x1x128 .f32) (harg7 : arg7.IsWhole) (arg8 : Memref sig .tc .vmem S256x1024 .f32) (harg8 : arg8.IsWhole) (arg9 : Memref sig .tc .vmem S256x1024 .f32) (harg9 : arg9.IsWhole) (arg10 : Memref sig .tc .vmem S8x4x128x128 .f32) (harg10 : arg10.IsWhole) (arg11 : Memref sig .tc .vmem S8x128x128 .f32) (harg11 : arg11.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (k : Fin k0_t1_loop.trips) (b : ℕ) (hb : b < 16)
    (f : ℕ → FVec F S128x128 .f32) (g : ℕ → ℕ → FVec F S1x1x128x128 .f32) (hg : ∀ j, g (4 * b + k.val) j = k0_pay8 (f j)) :
    Good4 (p := 128) (q := 128) g b k.val ((trip_k0_t1 (F := F) 𝒱 c bd i arg2 harg2 arg3 harg3 arg4 harg4 arg5 harg5 arg6 harg6 arg7 harg7 arg8 harg8 arg9 harg9 arg10 harg10 arg11 harg11 X2 X3 X4 X5 X6 X7 k).2.2.2.1 (tup f)) := by
  have hk : k.val < 4 := Nat.lt_of_lt_of_le k.isLt k0_t1_abs.2.1
  unfold trip_k0_t1
  dsimp only
  simp only [trip_k0_t1.sl.r, trip_k0_t1.sl.v50, trip_k0_t1.sl.v54, trip_k0_t1.sl.v58, trip_k0_t1.sl.v62, trip_k0_t1.sl.v66, trip_k0_t1.sl.v70, trip_k0_t1.sl.v74, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.r_17, trip_k0_t1.sl.r_18, trip_k0_t1.sl.r_19, trip_k0_t1.sl.r_20, trip_k0_t1.sl.r_21, trip_k0_t1.sl.r_22, trip_k0_t1.sl.r_23, trip_k0_t1.sl.r_24, trip_k0_t1.sl.r_25, trip_k0_t1.sl.r_26, trip_k0_t1.sl.r_27, trip_k0_t1.sl.r_28, trip_k0_t1.sl.r_29, trip_k0_t1.sl.r_30, trip_k0_t1.sl.r_31, trip_k0_t1.sl.r_32, trip_k0_t1.sl.r_33, trip_k0_t1.sl.r_34, trip_k0_t1.sl.r_35, trip_k0_t1.sl.r_36, trip_k0_t1.sl.r_37, trip_k0_t1.sl.r_38, trip_k0_t1.sl.r_39, trip_k0_t1.sl.r_40, trip_k0_t1.sl.r_41, trip_k0_t1.sl.r_42, trip_k0_t1.sl.r_43, trip_k0_t1.sl.r_44]
  exact ⟨⟨pc_mem _ b k.val 7 hb hk (by decide) _ (off0_8 k) (k0_off8_inb k) _ (hg _).symm, pc_mem _ b k.val 6 hb hk (by decide) _ (off0_7 k) (k0_off7_inb k) _ (hg _).symm, pc_mem _ b k.val 5 hb hk (by decide) _ (off0_6 k) (k0_off6_inb k) _ (hg _).symm, pc_mem _ b k.val 4 hb hk (by decide) _ (off0_5 k) (k0_off5_inb k) _ (hg _).symm, pc_mem _ b k.val 3 hb hk (by decide) _ (off0_4 k) (k0_off4_inb k) _ (hg _).symm, pc_mem _ b k.val 2 hb hk (by decide) _ (off0_3 k) (k0_off3_inb k) _ (hg _).symm, pc_mem _ b k.val 1 hb hk (by decide) _ (off0_2 k) (k0_off2_inb k) _ (hg _).symm, pc_mem _ b k.val 0 hb hk (by decide) _ (off0_1 k) (k0_off1_inb k) _ (hg _).symm, trivial⟩,
    cov8_mem _ _ _ _ _ _ _ _ _ (cov_mem _ _ _ (off0_8 k) _ _) (cov_mem _ _ _ (off0_7 k) _ _) (cov_mem _ _ _ (off0_6 k) _ _) (cov_mem _ _ _ (off0_5 k) _ _) (cov_mem _ _ _ (off0_4 k) _ _) (cov_mem _ _ _ (off0_3 k) _ _) (cov_mem _ _ _ (off0_2 k) _ _) (cov_mem _ _ _ (off0_1 k) _ _)⟩

end Cert.Proof.Scan
end
-- ==== Proof.Scan.Stores.lean ====
module

public import proofs.«01_k».proof.Proof.Scan.Blocks
@[expose] public section
set_option maxRecDepth 16384
noncomputable section
/-! Stores of several trips, one after the other, and the scratch that carries the states. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem piecesOf_append {s : Shape} (G : s.Idx → Elt F .f32) : ∀ (L' L : List (View.Piece (Elt F) s .f32)), View.PiecesOf G L' → View.PiecesOf G L →
    View.PiecesOf G (L' ++ L)
  | [], _, _, h => h
  | _ :: L', L, h', h => ⟨h'.1, piecesOf_append G L' L h'.2 h⟩

/-- Stores into a (256, 1024) block that make up the chunks marked by `P`. -/
def Done2 (g : ℕ → ℕ → FVec F S64x128 .f32) (b : ℕ) (P : ℕ → Prop) (L : List (View.Piece (Elt F) S256x1024 .f32)) : Prop :=
  View.PiecesOf (Blk2 (asm2 g) b) L ∧ ∀ y : S256x1024.Idx, P ((y 0).val / 64) → ∃ p ∈ L, y ∈ p.1.set

/-- Stores into an (8, 4, p, q) block that make up the chunks marked by `P`. -/
def Done4 {p q : ℕ} [NeZero p] [NeZero q] (g : ℕ → ℕ → FVec F ⟨4, ![1, 1, p, q]⟩ .f32) (b : ℕ) (P : ℕ → Prop)
    (L : List (View.Piece (Elt F) ⟨4, ![8, 4, p, q]⟩ .f32)) : Prop :=
  View.PiecesOf (Blk4 (asm4 g) b) L ∧ ∀ y : (⟨4, ![8, 4, p, q]⟩ : Shape).Idx, P (y 1).val → ∃ p ∈ L, y ∈ p.1.set

theorem Done2.nil (g : ℕ → ℕ → FVec F S64x128 .f32) (b : ℕ) (P : ℕ → Prop) (hP : ∀ a, a < 4 → ¬ P a) : Done2 g b P [] :=
  ⟨trivial, fun y h => absurd h (hP _ (by have h0 : (y 0).val < 256 := (y 0).isLt; omega))⟩

theorem Done4.nil {p q : ℕ} [NeZero p] [NeZero q] (g : ℕ → ℕ → FVec F ⟨4, ![1, 1, p, q]⟩ .f32) (b : ℕ) (P : ℕ → Prop) (hP : ∀ a, a < 4 → ¬ P a) :
    Done4 g b P [] :=
  ⟨trivial, fun y h => absurd h (hP _ (y 1).isLt)⟩

theorem Done2.step {g : ℕ → ℕ → FVec F S64x128 .f32} {b k : ℕ} {P P' : ℕ → Prop} {L' L : List (View.Piece (Elt F) S256x1024 .f32)}
    (h' : Good2 g b k L') (h : Done2 g b P L) (hP : ∀ a, a < 4 → P' a → a = k ∨ P a) : Done2 g b P' (L' ++ L) := by
  refine ⟨piecesOf_append _ _ _ h'.1 h.1, fun y hy => ?_⟩
  have h0 : (y 0).val < 256 := (y 0).isLt
  rcases hP _ (by omega) hy with e | e
  · obtain ⟨p, hp, hs⟩ := h'.2 y (by omega) (by omega)
    exact ⟨p, List.mem_append_left _ hp, hs⟩
  · obtain ⟨p, hp, hs⟩ := h.2 y e
    exact ⟨p, List.mem_append_right _ hp, hs⟩

theorem Done4.step {p q : ℕ} [NeZero p] [NeZero q] {g : ℕ → ℕ → FVec F ⟨4, ![1, 1, p, q]⟩ .f32} {b k : ℕ} {P P' : ℕ → Prop}
    {L' L : List (View.Piece (Elt F) ⟨4, ![8, 4, p, q]⟩ .f32)}
    (h' : Good4 g b k L') (h : Done4 g b P L) (hP : ∀ a, a < 4 → P' a → a = k ∨ P a) : Done4 g b P' (L' ++ L) := by
  refine ⟨piecesOf_append _ _ _ h'.1 h.1, fun y hy => ?_⟩
  rcases hP _ (y 1).isLt hy with e | e
  · obtain ⟨p, hp, hs⟩ := h'.2 y e
    exact ⟨p, List.mem_append_left _ hp, hs⟩
  · obtain ⟨p, hp, hs⟩ := h.2 y e
    exact ⟨p, List.mem_append_right _ hp, hs⟩

theorem Done2.read {κ : Kind} {sp : Space} (v : View sig κ sp S256x1024 .f32) (X : v.ty.Contents (Elt F)) {g : ℕ → ℕ → FVec F S64x128 .f32} {b : ℕ}
    {P : ℕ → Prop} {L : List (View.Piece (Elt F) S256x1024 .f32)} (h : Done2 g b P L) (hP : ∀ a, a < 4 → P a) :
    v.read (Elt F) (v.writes (Elt F) X L) = Blk2 (asm2 g) b :=
  funext fun y => View.read_writes_apply_of_pieces v X (Blk2 (asm2 g) b) L (h.1.mem) y
    (h.2 y (hP _ (by have h0 : (y 0).val < 256 := (y 0).isLt; omega)))

theorem Done4.read {κ : Kind} {sp : Space} {p q : ℕ} [NeZero p] [NeZero q] (v : View sig κ sp ⟨4, ![8, 4, p, q]⟩ .f32) (X : v.ty.Contents (Elt F))
    {g : ℕ → ℕ → FVec F ⟨4, ![1, 1, p, q]⟩ .f32} {b : ℕ} {P : ℕ → Prop} {L : List (View.Piece (Elt F) ⟨4, ![8, 4, p, q]⟩ .f32)}
    (h : Done4 g b P L) (hP : ∀ a, a < 4 → P a) :
    v.read (Elt F) (v.writes (Elt F) X L) = Blk4 (asm4 g) b :=
  funext fun y => View.read_writes_apply_of_pieces v X (Blk4 (asm4 g) b) L (h.1.mem) y (h.2 y (hP _ (y 1).isLt))

/-- The scratch that holds the state of each head. -/
abbrev Scr (f : ℕ → FVec F S128x128 .f32) : S8x128x128.Idx → Elt F .f32 :=
  fun y => f (y 0).val (ix2 (⟨(y 1).val, (y 1).isLt⟩ : Fin 128) (⟨(y 2).val, (y 2).isLt⟩ : Fin 128))

/-- A head's state, loaded from the scratch. -/
theorem rd_scr {κ : Kind} {sp : Space} (v : View sig κ sp S8x128x128 .f32) (X : v.ty.Contents (Elt F)) (f : ℕ → FVec F S128x128 .f32)
    (hX : v.read (Elt F) X = Scr f) (j : ℕ) (inb) (hs : S1x128x128.ShapeCasts S128x128) :
    shapeCast S128x128 (v.readAt (Elt F) (Rect.unit (s := S8x128x128) ![j, 0, 0] S1x128x128.size inb).toLoadRect X) hs = f j := by
  funext x
  refine (shapeCast_dropUnit_apply ![128, 128] _ hs x).trans ?_
  rw [View.readAt_apply]
  erw [hX]
  show f (j + 1 * 0) _ = _
  rw [Nat.mul_zero, Nat.add_zero]
  refine congrArg (f j) ?_
  funext a
  match a with
  | ⟨0, _⟩ => exact Fin.ext (by show 0 + 1 * (x 0).val = (x 0).val; omega)
  | ⟨1, _⟩ => exact Fin.ext (by show 0 + 1 * (x 1).val = (x 1).val; omega)

/-- A store of a head's state. -/
theorem pc_scr (f : ℕ → FVec F S128x128 .f32) (j : ℕ) (inb) (hs : S128x128.ShapeCasts S1x128x128) (w : FVec F S1x128x128 .f32)
    (hw : w = shapeCast S1x128x128 (f j) hs) :
    ∀ x, w x = Scr f ((Rect.unit (s := S8x128x128) ![j, 0, 0] S1x128x128.size inb).emb x) := by
  intro x
  subst hw
  refine (shapeCast_addUnit_apply ![128, 128] _ hs x).trans ?_
  have h0 : (x 0).val < 1 := (x 0).isLt
  have e : j = j + 1 * (x 0).val := by omega
  show f j _ = f (j + 1 * (x 0).val) _
  rw [← e]
  refine congrArg (f j) ?_
  funext a
  match a with
  | ⟨0, _⟩ => exact Fin.ext (by show (x 1).val = 0 + 1 * (x 1).val; omega)
  | ⟨1, _⟩ => exact Fin.ext (by show (x 2).val = 0 + 1 * (x 2).val; omega)

theorem mem_scr (j : ℕ) (inb) (y : S8x128x128.Idx) (h : (y 0).val = j) :
    y ∈ (Rect.unit (s := S8x128x128) ![j, 0, 0] S1x128x128.size inb).set := by
  rw [Rect.mem_set_unit]
  have h1 : (y 1).val < 128 := (y 1).isLt
  have h2 : (y 2).val < 128 := (y 2).isLt
  intro a
  match a with
  | ⟨0, _⟩ => exact ⟨by show j ≤ (y 0).val; omega, by show (y 0).val < j + 1; omega⟩
  | ⟨1, _⟩ => exact ⟨Nat.zero_le _, by show (y 1).val < 0 + 128; omega⟩
  | ⟨2, _⟩ => exact ⟨Nat.zero_le _, by show (y 2).val < 0 + 128; omega⟩

/-- Eight stores, one per head, leave the scratch holding their states. -/
theorem scr_writes {κ : Kind} {sp : Space} (v : View sig κ sp S8x128x128 .f32) (X : v.ty.Contents (Elt F)) (f : ℕ → FVec F S128x128 .f32)
    (i7 i6 i5 i4 i3 i2 i1 i0) (w7 w6 w5 w4 w3 w2 w1 w0 : FVec F S1x128x128 .f32) (hs : S128x128.ShapeCasts S1x128x128)
    (h7 : w7 = shapeCast S1x128x128 (f 7) hs) (h6 : w6 = shapeCast S1x128x128 (f 6) hs) (h5 : w5 = shapeCast S1x128x128 (f 5) hs)
    (h4 : w4 = shapeCast S1x128x128 (f 4) hs) (h3 : w3 = shapeCast S1x128x128 (f 3) hs) (h2 : w2 = shapeCast S1x128x128 (f 2) hs)
    (h1 : w1 = shapeCast S1x128x128 (f 1) hs) (h0 : w0 = shapeCast S1x128x128 (f 0) hs) :
    v.read (Elt F) (v.writes (Elt F) X
      [⟨Rect.unit (s := S8x128x128) ![7, 0, 0] S1x128x128.size i7, w7⟩, ⟨Rect.unit (s := S8x128x128) ![6, 0, 0] S1x128x128.size i6, w6⟩,
        ⟨Rect.unit (s := S8x128x128) ![5, 0, 0] S1x128x128.size i5, w5⟩, ⟨Rect.unit (s := S8x128x128) ![4, 0, 0] S1x128x128.size i4, w4⟩,
        ⟨Rect.unit (s := S8x128x128) ![3, 0, 0] S1x128x128.size i3, w3⟩, ⟨Rect.unit (s := S8x128x128) ![2, 0, 0] S1x128x128.size i2, w2⟩,
        ⟨Rect.unit (s := S8x128x128) ![1, 0, 0] S1x128x128.size i1, w1⟩, ⟨Rect.unit (s := S8x128x128) ![0, 0, 0] S1x128x128.size i0, w0⟩]) = Scr f := by
  funext y
  refine View.read_writes_apply_of_pieces v X (Scr f) _ (View.PiecesOf.mem ?_) y ?_
  exact ⟨pc_scr f 7 i7 hs _ h7, pc_scr f 6 i6 hs _ h6, pc_scr f 5 i5 hs _ h5, pc_scr f 4 i4 hs _ h4, pc_scr f 3 i3 hs _ h3, pc_scr f 2 i2 hs _ h2,
      pc_scr f 1 i1 hs _ h1, pc_scr f 0 i0 hs _ h0, trivial⟩
  exact eight (fun p : View.Piece (Elt F) S8x128x128 .f32 => y ∈ p.1.set) _ _ _ _ _ _ _ _ (y 0).val (y 0).isLt (mem_scr 7 i7 y) (mem_scr 6 i6 y)
    (mem_scr 5 i5 y) (mem_scr 4 i4 y) (mem_scr 3 i3 y) (mem_scr 2 i2 y) (mem_scr 1 i1 y) (mem_scr 0 i0 y)

/-- The store of the zero state over the whole scratch. -/
theorem scr_zero {κ : Kind} {sp : Space} (v : View sig κ sp S8x128x128 .f32) (X : v.ty.Contents (Elt F)) (f : ℕ → FVec F S128x128 .f32)
    (hf : ∀ j, f j = broadcast S128x128 (Scalar.ofBits .f32 0x00000000#32)) (inb) (w : FVec F S8x128x128 .f32)
    (hw : w = broadcast S8x128x128 (Scalar.ofBits .f32 0x00000000#32)) :
    v.read (Elt F) (v.writes (Elt F) X [⟨Rect.unit (s := S8x128x128) ![0, 0, 0] S8x128x128.size inb, w⟩]) = Scr f := by
  funext y
  refine View.read_writes_apply_of_pieces v X (Scr f) _ (View.PiecesOf.mem ?_) y ?_
  · refine ⟨fun x => ?_, trivial⟩
    subst hw
    show _ = f _ _
    rw [hf]
    rfl
  · refine ⟨_, List.mem_cons_self, ?_⟩
    rw [Rect.mem_set_unit]
    intro a
    match a with
    | ⟨0, _⟩ => exact ⟨Nat.zero_le _, by show (y 0).val < 0 + 8; have h : (y 0).val < 8 := (y 0).isLt; omega⟩
    | ⟨1, _⟩ => exact ⟨Nat.zero_le _, by show (y 1).val < 0 + 128; have h : (y 1).val < 128 := (y 1).isLt; omega⟩
    | ⟨2, _⟩ => exact ⟨Nat.zero_le _, by show (y 2).val < 0 + 128; have h : (y 2).val < 128 := (y 2).isLt; omega⟩

end Cert.Proof.Scan
end
-- ==== Proof.Scan.Loop0.lean ====
module

public import proofs.«01_k».proof.Proof.Scan.Trip0
public import proofs.«01_k».proof.Proof.Scan.Stores
@[expose] public section
set_option maxRecDepth 16384
noncomputable section
/-! The forward loop over the four chunks of a block. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (𝒱 : Variants) (c : Dev nD) (bd : Option 𝒱.V) (i : grid0.Coords)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S8x4x64x64 .f32) (harg6 : arg6.IsWhole)
  (arg7 : Memref sig .tc .vmem S8x4x1x128 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S8x4x128x128 .f32) (harg10 : arg10.IsWhole)
  (arg11 : Memref sig .tc .vmem S8x128x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
  {U W QD KD : FVec F S4096x1024 .f32} {QK : FVec F S8x64x64x64 .f32} {DC : FVec F S8x64x1x128 .f32} {b : ℕ}
  (h2 : arg2.view.read (Elt F) X2 = Blk2 U b) (h3 : arg3.view.read (Elt F) X3 = Blk2 W b)
  (h4 : arg4.view.read (Elt F) X4 = Blk2 QD b) (h5 : arg5.view.read (Elt F) X5 = Blk2 KD b)
  (h6 : arg6.view.read (Elt F) X6 = Blk4 QK b) (h7 : arg7.view.read (Elt F) X7 = Blk4 DC b)
include h2 h3 h4 h5 h6 h7

/-- After `k` trips the loop carries the states after `k` more chunks, and has stored those chunks' outputs, new values and states. -/
theorem loop0 (hb : b < 16) (init) (hi : init = tup fun j => fS U W KD DC j (4 * b)) : ∀ k, k ≤ k0_t1_loop.trips →
    (st_k0_t1 (F := F) 𝒱 c bd i arg2 harg2 arg3 harg3 arg4 harg4 arg5 harg5 arg6 harg6 arg7 harg7 arg8 harg8 arg9 harg9 arg10 harg10 arg11 harg11 X2 X3 X4 X5 X6 X7 init k).1 = (tup fun j => fS U W KD DC j (4 * b + k)) ∧
    Done2 (fO U W QD KD QK DC) b (· < k) (st_k0_t1 (F := F) 𝒱 c bd i arg2 harg2 arg3 harg3 arg4 harg4 arg5 harg5 arg6 harg6 arg7 harg7 arg8 harg8 arg9 harg9 arg10 harg10 arg11 harg11 X2 X3 X4 X5 X6 X7 init k).2.1 ∧
    Done2 (fVn U W KD DC) b (· < k) (st_k0_t1 (F := F) 𝒱 c bd i arg2 harg2 arg3 harg3 arg4 harg4 arg5 harg5 arg6 harg6 arg7 harg7 arg8 harg8 arg9 harg9 arg10 harg10 arg11 harg11 X2 X3 X4 X5 X6 X7 init k).2.2.1 ∧
    Done4 (p := 128) (q := 128) (fun n j => k0_pay8 (fS U W KD DC j n)) b (· < k) (st_k0_t1 (F := F) 𝒱 c bd i arg2 harg2 arg3 harg3 arg4 harg4 arg5 harg5 arg6 harg6 arg7 harg7 arg8 harg8 arg9 harg9 arg10 harg10 arg11 harg11 X2 X3 X4 X5 X6 X7 init k).2.2.2
  | 0, _ => ⟨hi, .nil _ _ _ (fun _ _ => Nat.not_lt_zero _), .nil _ _ _ (fun _ _ => Nat.not_lt_zero _), .nil _ _ _ (fun _ _ => Nat.not_lt_zero _)⟩
  | k + 1, hk => by
    have hlt : k < k0_t1_loop.trips := hk
    obtain ⟨i1, i2, i3, i4⟩ := loop0 hb init hi k hlt.le
    have e := st_k0_t1_succ (F := F) 𝒱 c bd i arg2 harg2 arg3 harg3 arg4 harg4 arg5 harg5 arg6 harg6 arg7 harg7 arg8 harg8 arg9 harg9 arg10 harg10 arg11 harg11 X2 X3 X4 X5 X6 X7 init ⟨k, hlt⟩
    have hP : ∀ a, a < 4 → a < k + 1 → a = k ∨ a < k := fun a _ h => by omega
    rw [show k + 1 = (⟨k, hlt⟩ : Fin k0_t1_loop.trips).val + 1 from rfl, e]
    dsimp only
    rw [i1]
    exact ⟨trip0_R 𝒱 c bd i arg2 harg2 arg3 harg3 arg4 harg4 arg5 harg5 arg6 harg6 arg7 harg7 arg8 harg8 arg9 harg9 arg10 harg10 arg11 harg11 X2 X3 X4 X5 X6 X7 ⟨k, hlt⟩ U W QD KD QK DC b h2 h3 h4 h5 h6 h7 _,
      .step (trip0_O 𝒱 c bd i arg2 harg2 arg3 harg3 arg4 harg4 arg5 harg5 arg6 harg6 arg7 harg7 arg8 harg8 arg9 harg9 arg10 harg10 arg11 harg11 X2 X3 X4 X5 X6 X7 ⟨k, hlt⟩ U W QD KD QK DC b h2 h3 h4 h5 h6 h7 hb _ _ (fun _ => rfl)) i2 hP,
      .step (trip0_Vn 𝒱 c bd i arg2 harg2 arg3 harg3 arg4 harg4 arg5 harg5 arg6 harg6 arg7 harg7 arg8 harg8 arg9 harg9 arg10 harg10 arg11 harg11 X2 X3 X4 X5 X6 X7 ⟨k, hlt⟩ U W QD KD QK DC b h2 h3 h4 h5 h6 h7 hb _ _ (fun _ => rfl)) i3 hP,
      .step (trip0_S 𝒱 c bd i arg2 harg2 arg3 harg3 arg4 harg4 arg5 harg5 arg6 harg6 arg7 harg7 arg8 harg8 arg9 harg9 arg10 harg10 arg11 harg11 X2 X3 X4 X5 X6 X7 ⟨k, hlt⟩ b hb _ _ (fun _ => rfl)) i4 hP⟩
end

end Cert.Proof.Scan
end
-- ==== Proof.Scan.Body0.lean ====
module

public import proofs.«01_k».proof.Proof.Scan.Loop0
@[expose] public section
set_option maxRecDepth 16384
noncomputable section
/-! The body of the forward scan. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The test for the first step of the grid. -/
theorem first_step : ∀ n : Fin 16, Iff (Scalar.cmpi .ne (Scalar.extui (Scalar.cmpi .eq (BitVec.ofNat 32 n.val) 0#32) : BitVec 32) 0#32 = 1#1) (n.val = 0) := by
  decide +kernel

section
variable (𝒱 : Variants) (c : Dev nD) (bd : Option 𝒱.V) (i : grid0.Coords)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S8x4x64x64 .f32) (harg6 : arg6.IsWhole)
  (arg7 : Memref sig .tc .vmem S8x4x1x128 .f32) (harg7 : arg7.IsWhole)
  (arg8 : Memref sig .tc .vmem S256x1024 .f32) (harg8 : arg8.IsWhole)
  (arg9 : Memref sig .tc .vmem S256x1024 .f32) (harg9 : arg9.IsWhole)
  (arg10 : Memref sig .tc .vmem S8x4x128x128 .f32) (harg10 : arg10.IsWhole)
  (arg11 : Memref sig .tc .vmem S8x128x128 .f32) (harg11 : arg11.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty)
  {U W QD KD : FVec F S4096x1024 .f32} {QK : FVec F S8x64x64x64 .f32} {DC : FVec F S8x64x1x128 .f32} {b : ℕ}
  (h2 : arg2.view.read (Elt F) X2 = Blk2 U b) (h3 : arg3.view.read (Elt F) X3 = Blk2 W b)
  (h4 : arg4.view.read (Elt F) X4 = Blk2 QD b) (h5 : arg5.view.read (Elt F) X5 = Blk2 KD b)
  (h6 : arg6.view.read (Elt F) X6 = Blk4 QK b) (h7 : arg7.view.read (Elt F) X7 = Blk4 DC b)
include h2 h3 h4 h5 h6 h7

/-- One step of the grid: from blocks of the arguments and the states before the block, it leaves the blocks of the results and the states after it. -/
theorem body0 (hb : b < 16) (hib : (i 1).val = b) (G8 : BufTy.Contents (Elt F) arg8.view.ty) (G9 : BufTy.Contents (Elt F) arg9.view.ty) (G10 : BufTy.Contents (Elt F) arg10.view.ty) (G11 : BufTy.Contents (Elt F) arg11.view.ty) (hG : (i 1).val ≠ 0 → arg11.view.read (Elt F) G11 = Scr (fun j => fS U W KD DC j (4 * b))) (E : Set ℕ) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} G8) ∗ (arg9.view.loc (c : Thread nD τ) ↦[arg9.view.set]{fullShare} G9) ∗ (arg10.view.loc (c : Thread nD τ) ↦[arg10.view.set]{fullShare} G10) ∗ (arg11.view.loc (c : Thread nD τ) ↦[arg11.view.set]{fullShare} G11)) ⊢ wp frame (wpE (defs₀ (F := F)) 𝒱 (c : Thread nD τ) bd) E (cc0_delta_scan_fwd (F := F) i arg2 harg2 arg3 harg3 arg4 harg4 arg5 harg5 arg6 harg6 arg7 harg7 arg8 harg8 arg9 harg9 arg10 harg10 arg11 harg11)
      (fun _ : PUnit => (iprop(∃ f8 f9 f10 f11, ⌜arg8.view.read (Elt F) f8 = Blk2 (GO U W QD KD QK DC) b ∧
        arg9.view.read (Elt F) f9 = Blk2 (GVn U W KD DC) b ∧
        arg10.view.read (Elt F) f10 = Blk4 (GS U W KD DC) b ∧
        arg11.view.read (Elt F) f11 = Scr (fun j => fS U W KD DC j (4 * b + 4))⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11)) : sProp (MT nD τ sig Unit (Elt F) ℕ (UR sig nD τ) ℕ))) := by
  rw [cc0_delta_scan_fwd_eq_skeleton]
  unfold cc0_delta_scan_fwd_skel
  iintro ⟨HR_arg2, HR_arg3, HR_arg4, HR_arg5, HR_arg6, HR_arg7, HW_arg8, HW_arg9, HW_arg10, HW_arg11⟩
  sl_exec
  sl_step
  iexists _, _, _, _
  isplitr; swap
  · sl_close
  ipureintro
  have ht : Scf.trips k0_t1_loop.lb k0_t1_loop.ub k0_t1_loop.st = 4 := by decide
  have hscr : arg11.view.read (Elt F) (if hc : body0.sl.v2 i = 1#1 then
      arg11.view.writes (Elt F) G11 [⟨Rect.unit ![0, 0, 0] S8x128x128.size inb_S8x128x128_S8x128x128_0_0_0, k0_pay60⟩]
      else G11) = Scr (fun j => fS U W KD DC j (4 * b)) := by
    split
    · next hc =>
      have h0 : (i 1).val = 0 := (first_step ⟨(i 1).val, (i 1).isLt⟩).1 hc
      exact scr_zero _ _ _ (fun j => by rw [show 4 * b = 0 by omega]; rfl) _ _ rfl
    · next hc => exact hG fun h0 => hc ((first_step ⟨(i 1).val, (i 1).isLt⟩).2 h0)
  have L := loop0 𝒱 c bd i arg2 harg2 arg3 harg3 arg4 harg4 arg5 harg5 arg6 harg6 arg7 harg7 arg8 harg8 arg9 harg9 arg10 harg10 arg11 harg11 X2 X3 X4 X5 X6 X7 h2 h3 h4 h5 h6 h7 hb (k0_pay61 (body0.sl.v3 i arg11 G11), k0_pay62 (body0.sl.v5 i arg11 G11), k0_pay63 (body0.sl.v7 i arg11 G11), k0_pay64 (body0.sl.v9 i arg11 G11), k0_pay65 (body0.sl.v11 i arg11 G11), k0_pay66 (body0.sl.v13 i arg11 G11), k0_pay67 (body0.sl.v15 i arg11 G11), k0_pay68 (body0.sl.v17 i arg11 G11))
    (Prod.ext (rd_scr arg11.view _ _ hscr 0 _ _) <| Prod.ext (rd_scr arg11.view _ _ hscr 1 _ _) <| Prod.ext (rd_scr arg11.view _ _ hscr 2 _ _) <|
      Prod.ext (rd_scr arg11.view _ _ hscr 3 _ _) <| Prod.ext (rd_scr arg11.view _ _ hscr 4 _ _) <| Prod.ext (rd_scr arg11.view _ _ hscr 5 _ _) <|
      Prod.ext (rd_scr arg11.view _ _ hscr 6 _ _) (rd_scr arg11.view _ _ hscr 7 _ _)) (Scf.trips k0_t1_loop.lb k0_t1_loop.ub k0_t1_loop.st) le_rfl
  simp only [ht] at L
  delta body0.sl.r body0.sl.r_1 body0.sl.r_2 body0.sl.r_3 body0.sl.r_4 body0.sl.r_5 body0.sl.r_6 body0.sl.r_7
  simp only [ht, L.1]
  exact ⟨L.2.1.read _ _ (fun a h => h), L.2.2.1.read _ _ (fun a h => h), L.2.2.2.read _ _ (fun a h => h),
    scr_writes _ _ (fun j => fS U W KD DC j (4 * b + 4)) _ _ _ _ _ _ _ _ _ _ _ _ _ _ _ _ _ rfl rfl rfl rfl rfl rfl rfl rfl⟩

end

end Cert.Proof.Scan
end
-- ==== Proof.Scan.Dat0.lean ====
module

public import proofs.«01_k».proof.Proof.Scan.Body0
public import proofs.«01_k».proof.Proof.Gen.KernelIdeal.Points
public import proofs.«01_k».proof.Proof.Gen.KernelIdeal.Regions
@[expose] public section
set_option maxRecDepth 16384
noncomputable section
/-! The forward scan's proof data on its grid. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem pt0 : ∀ t : Fin grid0.N, (grid0.coords t 1).val = t.val ∧ t.val < 16 := by decide +kernel

theorem index0 : (∀ t, win0_0.index t = ![t.val, 0]) ∧ (∀ t, win0_1.index t = ![t.val, 0]) ∧ (∀ t, win0_2.index t = ![t.val, 0])
    ∧ (∀ t, win0_3.index t = ![t.val, 0]) ∧ (∀ t, win0_4.index t = ![0, t.val, 0, 0]) ∧ (∀ t, win0_5.index t = ![0, t.val, 0, 0])
    ∧ (∀ t, win0_6.index t = ![t.val, 0]) ∧ (∀ t, win0_7.index t = ![t.val, 0]) ∧ (∀ t, win0_8.index t = ![0, t.val, 0, 0]) := by
  decide +kernel

/-- Every block of the forward scan's windows at point `t` is block `t` of its array. -/
theorem blocks0 (t : Fin cfg0.N) :
    (∀ A, ((cfg0.win 0).blk t).view.read (Elt F) A = Blk2 (F := F) A t.val) ∧
    (∀ A, ((cfg0.win 1).blk t).view.read (Elt F) A = Blk2 (F := F) A t.val) ∧
    (∀ A, ((cfg0.win 2).blk t).view.read (Elt F) A = Blk2 (F := F) A t.val) ∧
    (∀ A, ((cfg0.win 3).blk t).view.read (Elt F) A = Blk2 (F := F) A t.val) ∧
    (∀ A, ((cfg0.win 4).blk t).view.read (Elt F) A = Blk4 (F := F) (p := 64) (q := 64) A t.val) ∧
    (∀ A, ((cfg0.win 5).blk t).view.read (Elt F) A = Blk4 (F := F) (p := 1) (q := 128) A t.val) ∧
    (∀ A, ((cfg0.win 6).blk t).view.read (Elt F) A = Blk2 (F := F) A t.val) ∧
    (∀ A, ((cfg0.win 7).blk t).view.read (Elt F) A = Blk2 (F := F) A t.val) ∧
    (∀ A, ((cfg0.win 8).blk t).view.read (Elt F) A = Blk4 (F := F) (p := 128) (q := 128) A t.val) := by
  obtain ⟨i0, i1, i2, i3, i4, i5, i6, i7, i8⟩ := index0
  refine ⟨fun A => ?_, fun A => ?_, fun A => ?_, fun A => ?_, fun A => ?_, fun A => ?_, fun A => ?_, fun A => ?_, fun A => ?_⟩ <;> funext y
  · exact (at2_eq A (((cfg0.win 0).blk t).view.emb y) _ _ (by blk_simp [i0]; rw [Nat.mul_comm]) (by blk_simp [i0])).symm
  · exact (at2_eq A (((cfg0.win 1).blk t).view.emb y) _ _ (by blk_simp [i1]; rw [Nat.mul_comm]) (by blk_simp [i1])).symm
  · exact (at2_eq A (((cfg0.win 2).blk t).view.emb y) _ _ (by blk_simp [i2]; rw [Nat.mul_comm]) (by blk_simp [i2])).symm
  · exact (at2_eq A (((cfg0.win 3).blk t).view.emb y) _ _ (by blk_simp [i3]; rw [Nat.mul_comm]) (by blk_simp [i3])).symm
  · exact (at4_eq A (((cfg0.win 4).blk t).view.emb y) _ _ _ _ (by blk_simp [i4]) (by blk_simp [i4]; rw [Nat.mul_comm]) (by blk_simp [i4]) (by blk_simp [i4])).symm
  · exact (at4_eq A (((cfg0.win 5).blk t).view.emb y) _ _ _ _ (by blk_simp [i5]) (by blk_simp [i5]; rw [Nat.mul_comm]) (by blk_simp [i5]) (by blk_simp [i5])).symm
  · exact (at2_eq A (((cfg0.win 6).blk t).view.emb y) _ _ (by blk_simp [i6]; rw [Nat.mul_comm]) (by blk_simp [i6])).symm
  · exact (at2_eq A (((cfg0.win 7).blk t).view.emb y) _ _ (by blk_simp [i7]; rw [Nat.mul_comm]) (by blk_simp [i7])).symm
  · exact (at4_eq A (((cfg0.win 8).blk t).view.emb y) _ _ _ _ (by blk_simp [i8]) (by blk_simp [i8]; rw [Nat.mul_comm]) (by blk_simp [i8]) (by blk_simp [i8])).symm

local notation "𝕄" => MT nD τ sig Unit (Elt F) ℕ (UR sig nD τ) ℕ

section
variable (V : Dev nD → Valuation τ sig (Elt F)) (c : Dev nD)

/-- The arrays the forward scan is entered with. -/
abbrev a0U : FVec F S4096x1024 .f32 := V c main_arg0
abbrev a0W : FVec F S4096x1024 .f32 := V c main_arg1
abbrev a0Qd : FVec F S4096x1024 .f32 := V c main_arg2
abbrev a0Kd : FVec F S4096x1024 .f32 := V c main_arg3
abbrev a0Qk : FVec F S8x64x64x64 .f32 := V c main_arg4
abbrev a0Gl : FVec F S8x64x1x128 .f32 := V c main_v1

/-- Before point `n` the scratch holds every head's state after `4 n` chunks. -/
def Inv0 (n : ℕ) : sProp 𝕄 :=
  iprop((∃ f : BufTy.Contents (Elt F) (Memref.whole cc0_scratch0).view.ty,
      ⌜n ≠ 0 → (Memref.whole cc0_scratch0).view.read (Elt F) f = Scr (fun j => fS (a0U V c) (a0W V c) (a0Kd V c) (a0Gl V c) j (4 * n))⌝
      ∗ ((Memref.whole cc0_scratch0).view.loc (c : Thread nD τ) ↦[(Memref.whole cc0_scratch0).view.set]{fullShare} f))
    ∗ Pipeline.scopedRestBut (Ix := Unit) (Name := ℕ) (U := UR sig nD τ) (Lvl := ℕ) (Val := Elt F) spec0 c [cc0_scratch0])

/-- The forward scan's proof data: each result's block at a point is that block of the whole result. -/
def dat0 : Dat τ (Elt F) Unit ℕ (UR sig nD τ) ℕ cfg0 c where
  A w := V c (Pipeline.arrRef spec0 w)
  after w t := match w with
    | ⟨0, _⟩ => Blk2 (F := F) (a0U V c) t.val
    | ⟨1, _⟩ => Blk2 (F := F) (a0W V c) t.val
    | ⟨2, _⟩ => Blk2 (F := F) (a0Qd V c) t.val
    | ⟨3, _⟩ => Blk2 (F := F) (a0Kd V c) t.val
    | ⟨4, _⟩ => Blk4 (F := F) (p := 64) (q := 64) (a0Qk V c) t.val
    | ⟨5, _⟩ => Blk4 (F := F) (p := 1) (q := 128) (a0Gl V c) t.val
    | ⟨6, _⟩ => Blk2 (F := F) (GO (a0U V c) (a0W V c) (a0Qd V c) (a0Kd V c) (a0Qk V c) (a0Gl V c)) t.val
    | ⟨7, _⟩ => Blk2 (F := F) (GVn (a0U V c) (a0W V c) (a0Kd V c) (a0Gl V c)) t.val
    | ⟨8, _⟩ => Blk4 (F := F) (p := 128) (q := 128) (GS (a0U V c) (a0W V c) (a0Kd V c) (a0Gl V c)) t.val
  Φ t := Inv0 V c t.val
  q _ := fullShare
  owed _ := 0

/-- What the body finds in the operands' staging buffers. -/
theorem before0 (t : Fin cfg0.N) :
    (∀ d, (dat0 V c).before 0 t d = Blk2 (F := F) (a0U V c) t.val) ∧
    (∀ d, (dat0 V c).before 1 t d = Blk2 (F := F) (a0W V c) t.val) ∧
    (∀ d, (dat0 V c).before 2 t d = Blk2 (F := F) (a0Qd V c) t.val) ∧
    (∀ d, (dat0 V c).before 3 t d = Blk2 (F := F) (a0Kd V c) t.val) ∧
    (∀ d, (dat0 V c).before 4 t d = Blk4 (F := F) (p := 64) (q := 64) (a0Qk V c) t.val) ∧
    (∀ d, (dat0 V c).before 5 t d = Blk4 (F := F) (p := 1) (q := 128) (a0Gl V c) t.val) := by
  obtain ⟨b0, b1, b2, b3, b4, b5, -⟩ := blocks0 (F := F) t
  exact ⟨fun d => ((dat0 V c).before_fetched 0 t (fetch0_0 t) d).trans (b0 _),
    fun d => ((dat0 V c).before_fetched 1 t (fetch0_1 t) d).trans (b1 _),
    fun d => ((dat0 V c).before_fetched 2 t (fetch0_2 t) d).trans (b2 _),
    fun d => ((dat0 V c).before_fetched 3 t (fetch0_3 t) d).trans (b3 _),
    fun d => ((dat0 V c).before_fetched 4 t (fetch0_4 t) d).trans (b4 _),
    fun d => ((dat0 V c).before_fetched 5 t (fetch0_5 t) d).trans (b5 _)⟩

/-- The body at every point. -/
theorem obligation0 : BodyObligation (dat0 V c) (defs₀ (F := F)) Variants.none () Set.univ := fun t => by
  obtain ⟨b0, b1, b2, b3, b4, b5⟩ := before0 V c t
  obtain ⟨hp, hlt⟩ := pt0 t
  rw [bigSep_W0, bigSep_W0]
  dsimp only
  rw [show (dat0 V c).Φ t.castSucc = Inv0 V c t.val from rfl, show (dat0 V c).Φ t.succ = Inv0 V c (t.val + 1) from rfl,
    show defs₀ (F := F) .tc cfg0.body (cfg0.bodyArgs t (cfg0.slots t)) = bodyAt0 t from rfl]
  simp only [b0, b1, b2, b3, b4, b5]
  unfold Inv0 owns Dat.owesAt Pipeline.owesWithin
  rw [show (dat0 V c).owed t.castSucc = 0 from rfl, show (dat0 V c).owed t.succ = 0 from rfl]
  iintro ⟨⟨⟨%g, %hg, Hs⟩, Hrest⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩⟩
  iapply (wp_wand_r _ _ _)
  isplitl [H0 H1 H2 H3 H4 H5 H6 H7 H8 Hs]
  · iapply (body0 Variants.none c none (grid0.coords t) _ _ _ _ _ _ _ _ _ _ _ _ _ _ _ _ _ _ _ _ f0 f1 f2 f3 f4 f5 h0 h1 h2 h3 h4 h5 hlt hp f6 f7 f8 g (fun h => hg (fun e => h (hp.trans e))) Set.univ)
    sl_close
  · iintro %_ ⟨%g6, %g7, %g8, %gs, %hr, H0, H1, H2, H3, H4, H5, H6, H7, H8, Hs⟩
    isplitl [Hs Hrest]
    · isplitl [Hs]
      · iexists gs
        isplitr
        · ipureintro
          exact fun _ => hr.2.2.2
        · iexact Hs
      · iexact Hrest
    isplitl [HO]
    · iexists W
      isplitr
      · ipureintro; exact fun _ _ => Or.inl trivial
      · iexact HO
    isplitl [H0]
    · iexists _; isplitr; swap; (· iexact H0); ipureintro; exact h0
    isplitl [H1]
    · iexists _; isplitr; swap; (· iexact H1); ipureintro; exact h1
    isplitl [H2]
    · iexists _; isplitr; swap; (· iexact H2); ipureintro; exact h2
    isplitl [H3]
    · iexists _; isplitr; swap; (· iexact H3); ipureintro; exact h3
    isplitl [H4]
    · iexists _; isplitr; swap; (· iexact H4); ipureintro; exact h4
    isplitl [H5]
    · iexists _; isplitr; swap; (· iexact H5); ipureintro; exact h5
    isplitl [H6]
    · iexists _; isplitr; swap; (· iexact H6); ipureintro; exact hr.1
    isplitl [H7]
    · iexists _; isplitr; swap; (· iexact H7); ipureintro; exact hr.2.1
    · iexists _; isplitr; swap; (· iexact H8); ipureintro; exact hr.2.2.1

/-- What the region leaves in the results' arrays. -/
theorem final0 :
    (dat0 V c).arrAt 6 cfg0.N = GO (a0U V c) (a0W V c) (a0Qd V c) (a0Kd V c) (a0Qk V c) (a0Gl V c) ∧
    (dat0 V c).arrAt 7 cfg0.N = GVn (a0U V c) (a0W V c) (a0Kd V c) (a0Gl V c) ∧
    (dat0 V c).arrAt 8 cfg0.N = GS (a0U V c) (a0W V c) (a0Kd V c) (a0Gl V c) := by
  refine ⟨(dat0 V c).arrAt_eq_of_covers 6 _ (by decide +kernel) fun t _ y => ?_, (dat0 V c).arrAt_eq_of_covers 7 _ (by decide +kernel) fun t _ y => ?_,
    (dat0 V c).arrAt_eq_of_covers 8 _ (by decide +kernel) fun t _ y => ?_⟩ <;>
    obtain ⟨-, -, -, -, -, -, b6, b7, b8⟩ := blocks0 (F := F) t
  · exact (congrFun (b6 (GO (a0U V c) (a0W V c) (a0Qd V c) (a0Kd V c) (a0Qk V c) (a0Gl V c))) y).symm
  · exact (congrFun (b7 (GVn (a0U V c) (a0W V c) (a0Kd V c) (a0Gl V c))) y).symm
  · exact (congrFun (b8 (GS (a0U V c) (a0W V c) (a0Kd V c) (a0Gl V c))) y).symm

end

end Cert.Proof.Scan
end
-- ==== Proof.Scan.Trip1.lean ====
module

public import proofs.«01_k».proof.Proof.Scan.Blocks
@[expose] public section
set_option maxRecDepth 16384
noncomputable section
/-! One trip of the backward loop: the gradients of the states it yields and the stores it makes. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
theorem off1_1 : ∀ k : Fin k1_t1_loop.trips, k1_off1 k = ![0, (3 - k.val), 0, 0] := by decide +kernel
theorem off1_2 : ∀ k : Fin k1_t1_loop.trips, k1_off2 k = ![1, (3 - k.val), 0, 0] := by decide +kernel
theorem off1_3 : ∀ k : Fin k1_t1_loop.trips, k1_off3 k = ![2, (3 - k.val), 0, 0] := by decide +kernel
theorem off1_4 : ∀ k : Fin k1_t1_loop.trips, k1_off4 k = ![3, (3 - k.val), 0, 0] := by decide +kernel
theorem off1_5 : ∀ k : Fin k1_t1_loop.trips, k1_off5 k = ![4, (3 - k.val), 0, 0] := by decide +kernel
theorem off1_6 : ∀ k : Fin k1_t1_loop.trips, k1_off6 k = ![5, (3 - k.val), 0, 0] := by decide +kernel
theorem off1_7 : ∀ k : Fin k1_t1_loop.trips, k1_off7 k = ![6, (3 - k.val), 0, 0] := by decide +kernel
theorem off1_8 : ∀ k : Fin k1_t1_loop.trips, k1_off8 k = ![7, (3 - k.val), 0, 0] := by decide +kernel
theorem off1_9 : ∀ k : Fin k1_t1_loop.trips, k1_off9 k = ![64 * (3 - k.val), 128 * 0] := by decide +kernel
theorem off1_10 : ∀ k : Fin k1_t1_loop.trips, k1_off10 k = ![64 * (3 - k.val), 128 * 1] := by decide +kernel
theorem off1_11 : ∀ k : Fin k1_t1_loop.trips, k1_off11 k = ![64 * (3 - k.val), 128 * 2] := by decide +kernel
theorem off1_12 : ∀ k : Fin k1_t1_loop.trips, k1_off12 k = ![64 * (3 - k.val), 128 * 3] := by decide +kernel
theorem off1_13 : ∀ k : Fin k1_t1_loop.trips, k1_off13 k = ![64 * (3 - k.val), 128 * 4] := by decide +kernel
theorem off1_14 : ∀ k : Fin k1_t1_loop.trips, k1_off14 k = ![64 * (3 - k.val), 128 * 5] := by decide +kernel
theorem off1_15 : ∀ k : Fin k1_t1_loop.trips, k1_off15 k = ![64 * (3 - k.val), 128 * 6] := by decide +kernel
theorem off1_16 : ∀ k : Fin k1_t1_loop.trips, k1_off16 k = ![64 * (3 - k.val), 128 * 7] := by decide +kernel
theorem off1_17 : ∀ k : Fin k1_t1_loop.trips, k1_off17 k = ![0, (3 - k.val), 0, 0] := by decide +kernel
theorem off1_18 : ∀ k : Fin k1_t1_loop.trips, k1_off18 k = ![1, (3 - k.val), 0, 0] := by decide +kernel
theorem off1_19 : ∀ k : Fin k1_t1_loop.trips, k1_off19 k = ![2, (3 - k.val), 0, 0] := by decide +kernel
theorem off1_20 : ∀ k : Fin k1_t1_loop.trips, k1_off20 k = ![3, (3 - k.val), 0, 0] := by decide +kernel
theorem off1_21 : ∀ k : Fin k1_t1_loop.trips, k1_off21 k = ![4, (3 - k.val), 0, 0] := by decide +kernel
theorem off1_22 : ∀ k : Fin k1_t1_loop.trips, k1_off22 k = ![5, (3 - k.val), 0, 0] := by decide +kernel
theorem off1_23 : ∀ k : Fin k1_t1_loop.trips, k1_off23 k = ![6, (3 - k.val), 0, 0] := by decide +kernel
theorem off1_24 : ∀ k : Fin k1_t1_loop.trips, k1_off24 k = ![7, (3 - k.val), 0, 0] := by decide +kernel
theorem off1_25 : ∀ k : Fin k1_t1_loop.trips, k1_off25 k = ![0, (3 - k.val), 0, 0] := by decide +kernel
theorem off1_26 : ∀ k : Fin k1_t1_loop.trips, k1_off26 k = ![1, (3 - k.val), 0, 0] := by decide +kernel
theorem off1_27 : ∀ k : Fin k1_t1_loop.trips, k1_off27 k = ![2, (3 - k.val), 0, 0] := by decide +kernel
theorem off1_28 : ∀ k : Fin k1_t1_loop.trips, k1_off28 k = ![3, (3 - k.val), 0, 0] := by decide +kernel
theorem off1_29 : ∀ k : Fin k1_t1_loop.trips, k1_off29 k = ![4, (3 - k.val), 0, 0] := by decide +kernel
theorem off1_30 : ∀ k : Fin k1_t1_loop.trips, k1_off30 k = ![5, (3 - k.val), 0, 0] := by decide +kernel
theorem off1_31 : ∀ k : Fin k1_t1_loop.trips, k1_off31 k = ![6, (3 - k.val), 0, 0] := by decide +kernel
theorem off1_32 : ∀ k : Fin k1_t1_loop.trips, k1_off32 k = ![7, (3 - k.val), 0, 0] := by decide +kernel

/-- The gradients of the states after the trip. -/
theorem trip1_R (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (f : ℕ → FVec F S128x128 .f32) :
    (trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).1 (tup f) = tup fun j =>
      k1_pay100 (f j) (k1_pay88 (ch DO (4 * b + (3 - k.val)) j) (ch QD (4 * b + (3 - k.val)) j)) (k1_pay91 (addf (k1_pay24 (ch DO (4 * b + (3 - k.val)) j) (ch4 QK (4 * b + (3 - k.val)) j)) (k1_pay32 (f j) (ch KD (4 * b + (3 - k.val)) j))) (ch W (4 * b + (3 - k.val)) j)) (ch4 DC (4 * b + (3 - k.val)) j) := by
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_col arg2.view X2 DO b h2 (3 - k.val) 0 _ (off1_9 k),
    rd_col arg2.view X2 DO b h2 (3 - k.val) 1 _ (off1_10 k),
    rd_col arg2.view X2 DO b h2 (3 - k.val) 2 _ (off1_11 k),
    rd_col arg2.view X2 DO b h2 (3 - k.val) 3 _ (off1_12 k),
    rd_col arg2.view X2 DO b h2 (3 - k.val) 4 _ (off1_13 k),
    rd_col arg2.view X2 DO b h2 (3 - k.val) 5 _ (off1_14 k),
    rd_col arg2.view X2 DO b h2 (3 - k.val) 6 _ (off1_15 k),
    rd_col arg2.view X2 DO b h2 (3 - k.val) 7 _ (off1_16 k),
    rd_col arg3.view X3 W b h3 (3 - k.val) 0 _ (off1_9 k),
    rd_col arg3.view X3 W b h3 (3 - k.val) 1 _ (off1_10 k),
    rd_col arg3.view X3 W b h3 (3 - k.val) 2 _ (off1_11 k),
    rd_col arg3.view X3 W b h3 (3 - k.val) 3 _ (off1_12 k),
    rd_col arg3.view X3 W b h3 (3 - k.val) 4 _ (off1_13 k),
    rd_col arg3.view X3 W b h3 (3 - k.val) 5 _ (off1_14 k),
    rd_col arg3.view X3 W b h3 (3 - k.val) 6 _ (off1_15 k),
    rd_col arg3.view X3 W b h3 (3 - k.val) 7 _ (off1_16 k),
    rd_col arg4.view X4 QD b h4 (3 - k.val) 0 _ (off1_9 k),
    rd_col arg4.view X4 QD b h4 (3 - k.val) 1 _ (off1_10 k),
    rd_col arg4.view X4 QD b h4 (3 - k.val) 2 _ (off1_11 k),
    rd_col arg4.view X4 QD b h4 (3 - k.val) 3 _ (off1_12 k),
    rd_col arg4.view X4 QD b h4 (3 - k.val) 4 _ (off1_13 k),
    rd_col arg4.view X4 QD b h4 (3 - k.val) 5 _ (off1_14 k),
    rd_col arg4.view X4 QD b h4 (3 - k.val) 6 _ (off1_15 k),
    rd_col arg4.view X4 QD b h4 (3 - k.val) 7 _ (off1_16 k),
    rd_col arg5.view X5 KD b h5 (3 - k.val) 0 _ (off1_9 k),
    rd_col arg5.view X5 KD b h5 (3 - k.val) 1 _ (off1_10 k),
    rd_col arg5.view X5 KD b h5 (3 - k.val) 2 _ (off1_11 k),
    rd_col arg5.view X5 KD b h5 (3 - k.val) 3 _ (off1_12 k),
    rd_col arg5.view X5 KD b h5 (3 - k.val) 4 _ (off1_13 k),
    rd_col arg5.view X5 KD b h5 (3 - k.val) 5 _ (off1_14 k),
    rd_col arg5.view X5 KD b h5 (3 - k.val) 6 _ (off1_15 k),
    rd_col arg5.view X5 KD b h5 (3 - k.val) 7 _ (off1_16 k),
    rd_mem (p := 64) (q := 64) arg7.view X7 QK b h7 (3 - k.val) 0 _ (off1_17 k),
    rd_mem (p := 64) (q := 64) arg7.view X7 QK b h7 (3 - k.val) 1 _ (off1_18 k),
    rd_mem (p := 64) (q := 64) arg7.view X7 QK b h7 (3 - k.val) 2 _ (off1_19 k),
    rd_mem (p := 64) (q := 64) arg7.view X7 QK b h7 (3 - k.val) 3 _ (off1_20 k),
    rd_mem (p := 64) (q := 64) arg7.view X7 QK b h7 (3 - k.val) 4 _ (off1_21 k),
    rd_mem (p := 64) (q := 64) arg7.view X7 QK b h7 (3 - k.val) 5 _ (off1_22 k),
    rd_mem (p := 64) (q := 64) arg7.view X7 QK b h7 (3 - k.val) 6 _ (off1_23 k),
    rd_mem (p := 64) (q := 64) arg7.view X7 QK b h7 (3 - k.val) 7 _ (off1_24 k),
    rd_mem (p := 1) (q := 128) arg8.view X8 DC b h8 (3 - k.val) 0 _ (off1_25 k),
    rd_mem (p := 1) (q := 128) arg8.view X8 DC b h8 (3 - k.val) 1 _ (off1_26 k),
    rd_mem (p := 1) (q := 128) arg8.view X8 DC b h8 (3 - k.val) 2 _ (off1_27 k),
    rd_mem (p := 1) (q := 128) arg8.view X8 DC b h8 (3 - k.val) 3 _ (off1_28 k),
    rd_mem (p := 1) (q := 128) arg8.view X8 DC b h8 (3 - k.val) 4 _ (off1_29 k),
    rd_mem (p := 1) (q := 128) arg8.view X8 DC b h8 (3 - k.val) 5 _ (off1_30 k),
    rd_mem (p := 1) (q := 128) arg8.view X8 DC b h8 (3 - k.val) 6 _ (off1_31 k),
    rd_mem (p := 1) (q := 128) arg8.view X8 DC b h8 (3 - k.val) 7 _ (off1_32 k)]
  rfl

/-- The stores of the gradient of u. -/
theorem trip1_Du (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (hb : b < 16) (f : ℕ → FVec F S128x128 .f32) (g : ℕ → ℕ → FVec F S64x128 .f32)
    (hg : ∀ j, g (4 * b + (3 - k.val)) j = (addf (k1_pay24 (ch DO (4 * b + (3 - k.val)) j) (ch4 QK (4 * b + (3 - k.val)) j)) (k1_pay32 (f j) (ch KD (4 * b + (3 - k.val)) j)))) :
    Good2 g b (3 - k.val) ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).2.1 (tup f)) := by
  have hk : 3 - k.val < 4 := by omega
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_col arg2.view X2 DO b h2 (3 - k.val) 0 _ (off1_9 k),
    rd_col arg2.view X2 DO b h2 (3 - k.val) 1 _ (off1_10 k),
    rd_col arg2.view X2 DO b h2 (3 - k.val) 2 _ (off1_11 k),
    rd_col arg2.view X2 DO b h2 (3 - k.val) 3 _ (off1_12 k),
    rd_col arg2.view X2 DO b h2 (3 - k.val) 4 _ (off1_13 k),
    rd_col arg2.view X2 DO b h2 (3 - k.val) 5 _ (off1_14 k),
    rd_col arg2.view X2 DO b h2 (3 - k.val) 6 _ (off1_15 k),
    rd_col arg2.view X2 DO b h2 (3 - k.val) 7 _ (off1_16 k),
    rd_col arg5.view X5 KD b h5 (3 - k.val) 0 _ (off1_9 k),
    rd_col arg5.view X5 KD b h5 (3 - k.val) 1 _ (off1_10 k),
    rd_col arg5.view X5 KD b h5 (3 - k.val) 2 _ (off1_11 k),
    rd_col arg5.view X5 KD b h5 (3 - k.val) 3 _ (off1_12 k),
    rd_col arg5.view X5 KD b h5 (3 - k.val) 4 _ (off1_13 k),
    rd_col arg5.view X5 KD b h5 (3 - k.val) 5 _ (off1_14 k),
    rd_col arg5.view X5 KD b h5 (3 - k.val) 6 _ (off1_15 k),
    rd_col arg5.view X5 KD b h5 (3 - k.val) 7 _ (off1_16 k),
    rd_mem (p := 64) (q := 64) arg7.view X7 QK b h7 (3 - k.val) 0 _ (off1_17 k),
    rd_mem (p := 64) (q := 64) arg7.view X7 QK b h7 (3 - k.val) 1 _ (off1_18 k),
    rd_mem (p := 64) (q := 64) arg7.view X7 QK b h7 (3 - k.val) 2 _ (off1_19 k),
    rd_mem (p := 64) (q := 64) arg7.view X7 QK b h7 (3 - k.val) 3 _ (off1_20 k),
    rd_mem (p := 64) (q := 64) arg7.view X7 QK b h7 (3 - k.val) 4 _ (off1_21 k),
    rd_mem (p := 64) (q := 64) arg7.view X7 QK b h7 (3 - k.val) 5 _ (off1_22 k),
    rd_mem (p := 64) (q := 64) arg7.view X7 QK b h7 (3 - k.val) 6 _ (off1_23 k),
    rd_mem (p := 64) (q := 64) arg7.view X7 QK b h7 (3 - k.val) 7 _ (off1_24 k)]
  exact ⟨⟨pc_col _ b (3 - k.val) 7 hb hk (by decide) _ (off1_16 k) (k1_off16_inb k) _ (hg _).symm,
    pc_col _ b (3 - k.val) 6 hb hk (by decide) _ (off1_15 k) (k1_off15_inb k) _ (hg _).symm,
    pc_col _ b (3 - k.val) 5 hb hk (by decide) _ (off1_14 k) (k1_off14_inb k) _ (hg _).symm,
    pc_col _ b (3 - k.val) 4 hb hk (by decide) _ (off1_13 k) (k1_off13_inb k) _ (hg _).symm,
    pc_col _ b (3 - k.val) 3 hb hk (by decide) _ (off1_12 k) (k1_off12_inb k) _ (hg _).symm,
    pc_col _ b (3 - k.val) 2 hb hk (by decide) _ (off1_11 k) (k1_off11_inb k) _ (hg _).symm,
    pc_col _ b (3 - k.val) 1 hb hk (by decide) _ (off1_10 k) (k1_off10_inb k) _ (hg _).symm,
    pc_col _ b (3 - k.val) 0 hb hk (by decide) _ (off1_9 k) (k1_off9_inb k) _ (hg _).symm, trivial⟩,
    cov8_col _ _ _ _ _ _ _ _ _ (cov_col _ _ _ (off1_16 k) (k1_off16_inb k) _)
    (cov_col _ _ _ (off1_15 k) (k1_off15_inb k) _)
    (cov_col _ _ _ (off1_14 k) (k1_off14_inb k) _)
    (cov_col _ _ _ (off1_13 k) (k1_off13_inb k) _)
    (cov_col _ _ _ (off1_12 k) (k1_off12_inb k) _)
    (cov_col _ _ _ (off1_11 k) (k1_off11_inb k) _)
    (cov_col _ _ _ (off1_10 k) (k1_off10_inb k) _)
    (cov_col _ _ _ (off1_9 k) (k1_off9_inb k) _)⟩

/-- The stores of the gradient of w. -/
theorem trip1_Dw (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (hb : b < 16) (f : ℕ → FVec F S128x128 .f32) (g : ℕ → ℕ → FVec F S64x128 .f32)
    (hg : ∀ j, g (4 * b + (3 - k.val)) j = k1_pay73 (k1_pay8 (ch4 SS (4 * b + (3 - k.val)) j)) (addf (k1_pay24 (ch DO (4 * b + (3 - k.val)) j) (ch4 QK (4 * b + (3 - k.val)) j)) (k1_pay32 (f j) (ch KD (4 * b + (3 - k.val)) j)))) :
    Good2 g b (3 - k.val) ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).2.2.1 (tup f)) := by
  have hk : 3 - k.val < 4 := by omega
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_col arg2.view X2 DO b h2 (3 - k.val) 0 _ (off1_9 k),
    rd_col arg2.view X2 DO b h2 (3 - k.val) 1 _ (off1_10 k),
    rd_col arg2.view X2 DO b h2 (3 - k.val) 2 _ (off1_11 k),
    rd_col arg2.view X2 DO b h2 (3 - k.val) 3 _ (off1_12 k),
    rd_col arg2.view X2 DO b h2 (3 - k.val) 4 _ (off1_13 k),
    rd_col arg2.view X2 DO b h2 (3 - k.val) 5 _ (off1_14 k),
    rd_col arg2.view X2 DO b h2 (3 - k.val) 6 _ (off1_15 k),
    rd_col arg2.view X2 DO b h2 (3 - k.val) 7 _ (off1_16 k),
    rd_col arg5.view X5 KD b h5 (3 - k.val) 0 _ (off1_9 k),
    rd_col arg5.view X5 KD b h5 (3 - k.val) 1 _ (off1_10 k),
    rd_col arg5.view X5 KD b h5 (3 - k.val) 2 _ (off1_11 k),
    rd_col arg5.view X5 KD b h5 (3 - k.val) 3 _ (off1_12 k),
    rd_col arg5.view X5 KD b h5 (3 - k.val) 4 _ (off1_13 k),
    rd_col arg5.view X5 KD b h5 (3 - k.val) 5 _ (off1_14 k),
    rd_col arg5.view X5 KD b h5 (3 - k.val) 6 _ (off1_15 k),
    rd_col arg5.view X5 KD b h5 (3 - k.val) 7 _ (off1_16 k),
    rd_mem (p := 64) (q := 64) arg7.view X7 QK b h7 (3 - k.val) 0 _ (off1_17 k),
    rd_mem (p := 64) (q := 64) arg7.view X7 QK b h7 (3 - k.val) 1 _ (off1_18 k),
    rd_mem (p := 64) (q := 64) arg7.view X7 QK b h7 (3 - k.val) 2 _ (off1_19 k),
    rd_mem (p := 64) (q := 64) arg7.view X7 QK b h7 (3 - k.val) 3 _ (off1_20 k),
    rd_mem (p := 64) (q := 64) arg7.view X7 QK b h7 (3 - k.val) 4 _ (off1_21 k),
    rd_mem (p := 64) (q := 64) arg7.view X7 QK b h7 (3 - k.val) 5 _ (off1_22 k),
    rd_mem (p := 64) (q := 64) arg7.view X7 QK b h7 (3 - k.val) 6 _ (off1_23 k),
    rd_mem (p := 64) (q := 64) arg7.view X7 QK b h7 (3 - k.val) 7 _ (off1_24 k),
    rd_mem (p := 128) (q := 128) arg9.view X9 SS b h9 (3 - k.val) 0 _ (off1_1 k),
    rd_mem (p := 128) (q := 128) arg9.view X9 SS b h9 (3 - k.val) 1 _ (off1_2 k),
    rd_mem (p := 128) (q := 128) arg9.view X9 SS b h9 (3 - k.val) 2 _ (off1_3 k),
    rd_mem (p := 128) (q := 128) arg9.view X9 SS b h9 (3 - k.val) 3 _ (off1_4 k),
    rd_mem (p := 128) (q := 128) arg9.view X9 SS b h9 (3 - k.val) 4 _ (off1_5 k),
    rd_mem (p := 128) (q := 128) arg9.view X9 SS b h9 (3 - k.val) 5 _ (off1_6 k),
    rd_mem (p := 128) (q := 128) arg9.view X9 SS b h9 (3 - k.val) 6 _ (off1_7 k),
    rd_mem (p := 128) (q := 128) arg9.view X9 SS b h9 (3 - k.val) 7 _ (off1_8 k)]
  exact ⟨⟨pc_col _ b (3 - k.val) 7 hb hk (by decide) _ (off1_16 k) (k1_off16_inb k) _ (hg _).symm,
    pc_col _ b (3 - k.val) 6 hb hk (by decide) _ (off1_15 k) (k1_off15_inb k) _ (hg _).symm,
    pc_col _ b (3 - k.val) 5 hb hk (by decide) _ (off1_14 k) (k1_off14_inb k) _ (hg _).symm,
    pc_col _ b (3 - k.val) 4 hb hk (by decide) _ (off1_13 k) (k1_off13_inb k) _ (hg _).symm,
    pc_col _ b (3 - k.val) 3 hb hk (by decide) _ (off1_12 k) (k1_off12_inb k) _ (hg _).symm,
    pc_col _ b (3 - k.val) 2 hb hk (by decide) _ (off1_11 k) (k1_off11_inb k) _ (hg _).symm,
    pc_col _ b (3 - k.val) 1 hb hk (by decide) _ (off1_10 k) (k1_off10_inb k) _ (hg _).symm,
    pc_col _ b (3 - k.val) 0 hb hk (by decide) _ (off1_9 k) (k1_off9_inb k) _ (hg _).symm, trivial⟩,
    cov8_col _ _ _ _ _ _ _ _ _ (cov_col _ _ _ (off1_16 k) (k1_off16_inb k) _)
    (cov_col _ _ _ (off1_15 k) (k1_off15_inb k) _)
    (cov_col _ _ _ (off1_14 k) (k1_off14_inb k) _)
    (cov_col _ _ _ (off1_13 k) (k1_off13_inb k) _)
    (cov_col _ _ _ (off1_12 k) (k1_off12_inb k) _)
    (cov_col _ _ _ (off1_11 k) (k1_off11_inb k) _)
    (cov_col _ _ _ (off1_10 k) (k1_off10_inb k) _)
    (cov_col _ _ _ (off1_9 k) (k1_off9_inb k) _)⟩

/-- The stores of the gradient of the decayed queries. -/
theorem trip1_Dqd (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (hb : b < 16) (f : ℕ → FVec F S128x128 .f32) (g : ℕ → ℕ → FVec F S64x128 .f32)
    (hg : ∀ j, g (4 * b + (3 - k.val)) j = k1_pay48 (k1_pay8 (ch4 SS (4 * b + (3 - k.val)) j)) (ch DO (4 * b + (3 - k.val)) j)) :
    Good2 g b (3 - k.val) ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).2.2.2.1 (tup f)) := by
  have hk : 3 - k.val < 4 := by omega
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_col arg2.view X2 DO b h2 (3 - k.val) 0 _ (off1_9 k),
    rd_col arg2.view X2 DO b h2 (3 - k.val) 1 _ (off1_10 k),
    rd_col arg2.view X2 DO b h2 (3 - k.val) 2 _ (off1_11 k),
    rd_col arg2.view X2 DO b h2 (3 - k.val) 3 _ (off1_12 k),
    rd_col arg2.view X2 DO b h2 (3 - k.val) 4 _ (off1_13 k),
    rd_col arg2.view X2 DO b h2 (3 - k.val) 5 _ (off1_14 k),
    rd_col arg2.view X2 DO b h2 (3 - k.val) 6 _ (off1_15 k),
    rd_col arg2.view X2 DO b h2 (3 - k.val) 7 _ (off1_16 k),
    rd_mem (p := 128) (q := 128) arg9.view X9 SS b h9 (3 - k.val) 0 _ (off1_1 k),
    rd_mem (p := 128) (q := 128) arg9.view X9 SS b h9 (3 - k.val) 1 _ (off1_2 k),
    rd_mem (p := 128) (q := 128) arg9.view X9 SS b h9 (3 - k.val) 2 _ (off1_3 k),
    rd_mem (p := 128) (q := 128) arg9.view X9 SS b h9 (3 - k.val) 3 _ (off1_4 k),
    rd_mem (p := 128) (q := 128) arg9.view X9 SS b h9 (3 - k.val) 4 _ (off1_5 k),
    rd_mem (p := 128) (q := 128) arg9.view X9 SS b h9 (3 - k.val) 5 _ (off1_6 k),
    rd_mem (p := 128) (q := 128) arg9.view X9 SS b h9 (3 - k.val) 6 _ (off1_7 k),
    rd_mem (p := 128) (q := 128) arg9.view X9 SS b h9 (3 - k.val) 7 _ (off1_8 k)]
  exact ⟨⟨pc_col _ b (3 - k.val) 7 hb hk (by decide) _ (off1_16 k) (k1_off16_inb k) _ (hg _).symm,
    pc_col _ b (3 - k.val) 6 hb hk (by decide) _ (off1_15 k) (k1_off15_inb k) _ (hg _).symm,
    pc_col _ b (3 - k.val) 5 hb hk (by decide) _ (off1_14 k) (k1_off14_inb k) _ (hg _).symm,
    pc_col _ b (3 - k.val) 4 hb hk (by decide) _ (off1_13 k) (k1_off13_inb k) _ (hg _).symm,
    pc_col _ b (3 - k.val) 3 hb hk (by decide) _ (off1_12 k) (k1_off12_inb k) _ (hg _).symm,
    pc_col _ b (3 - k.val) 2 hb hk (by decide) _ (off1_11 k) (k1_off11_inb k) _ (hg _).symm,
    pc_col _ b (3 - k.val) 1 hb hk (by decide) _ (off1_10 k) (k1_off10_inb k) _ (hg _).symm,
    pc_col _ b (3 - k.val) 0 hb hk (by decide) _ (off1_9 k) (k1_off9_inb k) _ (hg _).symm, trivial⟩,
    cov8_col _ _ _ _ _ _ _ _ _ (cov_col _ _ _ (off1_16 k) (k1_off16_inb k) _)
    (cov_col _ _ _ (off1_15 k) (k1_off15_inb k) _)
    (cov_col _ _ _ (off1_14 k) (k1_off14_inb k) _)
    (cov_col _ _ _ (off1_13 k) (k1_off13_inb k) _)
    (cov_col _ _ _ (off1_12 k) (k1_off12_inb k) _)
    (cov_col _ _ _ (off1_11 k) (k1_off11_inb k) _)
    (cov_col _ _ _ (off1_10 k) (k1_off10_inb k) _)
    (cov_col _ _ _ (off1_9 k) (k1_off9_inb k) _)⟩

/-- The stores of the gradient of the decayed keys. -/
theorem trip1_Dkd (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (hb : b < 16) (f : ℕ → FVec F S128x128 .f32) (g : ℕ → ℕ → FVec F S64x128 .f32)
    (hg : ∀ j, g (4 * b + (3 - k.val)) j = k1_pay56 (f j) (k1_pay16 (ch VN (4 * b + (3 - k.val)) j))) :
    Good2 g b (3 - k.val) ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).2.2.2.2.1 (tup f)) := by
  have hk : 3 - k.val < 4 := by omega
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_col arg6.view X6 VN b h6 (3 - k.val) 0 _ (off1_9 k),
    rd_col arg6.view X6 VN b h6 (3 - k.val) 1 _ (off1_10 k),
    rd_col arg6.view X6 VN b h6 (3 - k.val) 2 _ (off1_11 k),
    rd_col arg6.view X6 VN b h6 (3 - k.val) 3 _ (off1_12 k),
    rd_col arg6.view X6 VN b h6 (3 - k.val) 4 _ (off1_13 k),
    rd_col arg6.view X6 VN b h6 (3 - k.val) 5 _ (off1_14 k),
    rd_col arg6.view X6 VN b h6 (3 - k.val) 6 _ (off1_15 k),
    rd_col arg6.view X6 VN b h6 (3 - k.val) 7 _ (off1_16 k)]
  exact ⟨⟨pc_col _ b (3 - k.val) 7 hb hk (by decide) _ (off1_16 k) (k1_off16_inb k) _ (hg _).symm,
    pc_col _ b (3 - k.val) 6 hb hk (by decide) _ (off1_15 k) (k1_off15_inb k) _ (hg _).symm,
    pc_col _ b (3 - k.val) 5 hb hk (by decide) _ (off1_14 k) (k1_off14_inb k) _ (hg _).symm,
    pc_col _ b (3 - k.val) 4 hb hk (by decide) _ (off1_13 k) (k1_off13_inb k) _ (hg _).symm,
    pc_col _ b (3 - k.val) 3 hb hk (by decide) _ (off1_12 k) (k1_off12_inb k) _ (hg _).symm,
    pc_col _ b (3 - k.val) 2 hb hk (by decide) _ (off1_11 k) (k1_off11_inb k) _ (hg _).symm,
    pc_col _ b (3 - k.val) 1 hb hk (by decide) _ (off1_10 k) (k1_off10_inb k) _ (hg _).symm,
    pc_col _ b (3 - k.val) 0 hb hk (by decide) _ (off1_9 k) (k1_off9_inb k) _ (hg _).symm, trivial⟩,
    cov8_col _ _ _ _ _ _ _ _ _ (cov_col _ _ _ (off1_16 k) (k1_off16_inb k) _)
    (cov_col _ _ _ (off1_15 k) (k1_off15_inb k) _)
    (cov_col _ _ _ (off1_14 k) (k1_off14_inb k) _)
    (cov_col _ _ _ (off1_13 k) (k1_off13_inb k) _)
    (cov_col _ _ _ (off1_12 k) (k1_off12_inb k) _)
    (cov_col _ _ _ (off1_11 k) (k1_off11_inb k) _)
    (cov_col _ _ _ (off1_10 k) (k1_off10_inb k) _)
    (cov_col _ _ _ (off1_9 k) (k1_off9_inb k) _)⟩

/-- The stores of the gradient of the scores. -/
theorem trip1_Dqk (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (hb : b < 16) (f : ℕ → FVec F S128x128 .f32) (g : ℕ → ℕ → FVec F S1x1x64x64 .f32)
    (hg : ∀ j, g (4 * b + (3 - k.val)) j = k1_pay108 (k1_pay65 (ch DO (4 * b + (3 - k.val)) j) (k1_pay16 (ch VN (4 * b + (3 - k.val)) j)))) :
    Good4 (p := 64) (q := 64) g b (3 - k.val) ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).2.2.2.2.2.1 (tup f)) := by
  have hk : 3 - k.val < 4 := by omega
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_col arg2.view X2 DO b h2 (3 - k.val) 0 _ (off1_9 k),
    rd_col arg2.view X2 DO b h2 (3 - k.val) 1 _ (off1_10 k),
    rd_col arg2.view X2 DO b h2 (3 - k.val) 2 _ (off1_11 k),
    rd_col arg2.view X2 DO b h2 (3 - k.val) 3 _ (off1_12 k),
    rd_col arg2.view X2 DO b h2 (3 - k.val) 4 _ (off1_13 k),
    rd_col arg2.view X2 DO b h2 (3 - k.val) 5 _ (off1_14 k),
    rd_col arg2.view X2 DO b h2 (3 - k.val) 6 _ (off1_15 k),
    rd_col arg2.view X2 DO b h2 (3 - k.val) 7 _ (off1_16 k),
    rd_col arg6.view X6 VN b h6 (3 - k.val) 0 _ (off1_9 k),
    rd_col arg6.view X6 VN b h6 (3 - k.val) 1 _ (off1_10 k),
    rd_col arg6.view X6 VN b h6 (3 - k.val) 2 _ (off1_11 k),
    rd_col arg6.view X6 VN b h6 (3 - k.val) 3 _ (off1_12 k),
    rd_col arg6.view X6 VN b h6 (3 - k.val) 4 _ (off1_13 k),
    rd_col arg6.view X6 VN b h6 (3 - k.val) 5 _ (off1_14 k),
    rd_col arg6.view X6 VN b h6 (3 - k.val) 6 _ (off1_15 k),
    rd_col arg6.view X6 VN b h6 (3 - k.val) 7 _ (off1_16 k)]
  exact ⟨⟨pc_mem _ b (3 - k.val) 7 hb hk (by decide) _ (off1_24 k) (k1_off24_inb k) _ (hg _).symm,
    pc_mem _ b (3 - k.val) 6 hb hk (by decide) _ (off1_23 k) (k1_off23_inb k) _ (hg _).symm,
    pc_mem _ b (3 - k.val) 5 hb hk (by decide) _ (off1_22 k) (k1_off22_inb k) _ (hg _).symm,
    pc_mem _ b (3 - k.val) 4 hb hk (by decide) _ (off1_21 k) (k1_off21_inb k) _ (hg _).symm,
    pc_mem _ b (3 - k.val) 3 hb hk (by decide) _ (off1_20 k) (k1_off20_inb k) _ (hg _).symm,
    pc_mem _ b (3 - k.val) 2 hb hk (by decide) _ (off1_19 k) (k1_off19_inb k) _ (hg _).symm,
    pc_mem _ b (3 - k.val) 1 hb hk (by decide) _ (off1_18 k) (k1_off18_inb k) _ (hg _).symm,
    pc_mem _ b (3 - k.val) 0 hb hk (by decide) _ (off1_17 k) (k1_off17_inb k) _ (hg _).symm, trivial⟩,
    cov8_mem _ _ _ _ _ _ _ _ _ (cov_mem _ _ _ (off1_24 k) (k1_off24_inb k) _)
    (cov_mem _ _ _ (off1_23 k) (k1_off23_inb k) _)
    (cov_mem _ _ _ (off1_22 k) (k1_off22_inb k) _)
    (cov_mem _ _ _ (off1_21 k) (k1_off21_inb k) _)
    (cov_mem _ _ _ (off1_20 k) (k1_off20_inb k) _)
    (cov_mem _ _ _ (off1_19 k) (k1_off19_inb k) _)
    (cov_mem _ _ _ (off1_18 k) (k1_off18_inb k) _)
    (cov_mem _ _ _ (off1_17 k) (k1_off17_inb k) _)⟩

/-- The stores of the gradient of the decays. -/
theorem trip1_Dgl (𝒱 : Variants) (c : Dev nD) (bd : Option 𝒱.V) (i : grid1.Coords) (arg2 : Memref sig .tc .vmem S256x1024 .f32) (harg2 : arg2.IsWhole) (arg3 : Memref sig .tc .vmem S256x1024 .f32) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S8x4x64x64 .f32) (harg7 : arg7.IsWhole) (arg8 : Memref sig .tc .vmem S8x4x1x128 .f32) (harg8 : arg8.IsWhole) (arg9 : Memref sig .tc .vmem S8x4x128x128 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (arg13 : Memref sig .tc .vmem S256x1024 .f32) (harg13 : arg13.IsWhole) (arg14 : Memref sig .tc .vmem S8x4x64x64 .f32) (harg14 : arg14.IsWhole) (arg15 : Memref sig .tc .vmem S8x4x1x128 .f32) (harg15 : arg15.IsWhole) (arg16 : Memref sig .tc .vmem S8x128x128 .f32) (harg16 : arg16.IsWhole) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (k : Fin k1_t1_loop.trips) (DO W QD KD VN : FVec F S4096x1024 .f32) (QK : FVec F S8x64x64x64 .f32) (DC : FVec F S8x64x1x128 .f32)
    (SS : FVec F S8x64x128x128 .f32) (b : ℕ)
    (h2 : arg2.view.read (Elt F) X2 = Blk2 DO b) (h3 : arg3.view.read (Elt F) X3 = Blk2 W b)
    (h4 : arg4.view.read (Elt F) X4 = Blk2 QD b) (h5 : arg5.view.read (Elt F) X5 = Blk2 KD b) (h6 : arg6.view.read (Elt F) X6 = Blk2 VN b)
    (h7 : arg7.view.read (Elt F) X7 = Blk4 QK b) (h8 : arg8.view.read (Elt F) X8 = Blk4 DC b) (h9 : arg9.view.read (Elt F) X9 = Blk4 SS b) (hb : b < 16) (f : ℕ → FVec F S128x128 .f32) (g : ℕ → ℕ → FVec F S1x1x1x128 .f32)
    (hg : ∀ j, g (4 * b + (3 - k.val)) j = k1_pay109 (f j) (k1_pay8 (ch4 SS (4 * b + (3 - k.val)) j))) :
    Good4 (p := 1) (q := 128) g b (3 - k.val) ((trip_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 k).2.2.2.2.2.2.1 (tup f)) := by
  have hk : 3 - k.val < 4 := by omega
  unfold trip_k1_t1
  dsimp only
  simp only [trip_k1_t1.sl.r, trip_k1_t1.sl.r_1, trip_k1_t1.sl.r_2, trip_k1_t1.sl.r_3, trip_k1_t1.sl.r_4, trip_k1_t1.sl.r_5, trip_k1_t1.sl.r_6, trip_k1_t1.sl.r_7, trip_k1_t1.sl.r_8, trip_k1_t1.sl.r_9, trip_k1_t1.sl.r_10, trip_k1_t1.sl.r_11, trip_k1_t1.sl.r_12, trip_k1_t1.sl.r_13, trip_k1_t1.sl.r_14, trip_k1_t1.sl.r_15, trip_k1_t1.sl.r_16, trip_k1_t1.sl.r_17, trip_k1_t1.sl.r_18, trip_k1_t1.sl.r_19, trip_k1_t1.sl.r_20, trip_k1_t1.sl.r_21, trip_k1_t1.sl.r_22, trip_k1_t1.sl.r_23, trip_k1_t1.sl.r_24, trip_k1_t1.sl.r_25, trip_k1_t1.sl.r_26, trip_k1_t1.sl.r_27, trip_k1_t1.sl.r_28, trip_k1_t1.sl.r_29, trip_k1_t1.sl.r_30, trip_k1_t1.sl.r_31, trip_k1_t1.sl.r_32, trip_k1_t1.sl.r_33, trip_k1_t1.sl.r_34, trip_k1_t1.sl.r_35, trip_k1_t1.sl.r_36, trip_k1_t1.sl.r_37, trip_k1_t1.sl.r_38, trip_k1_t1.sl.r_39, trip_k1_t1.sl.r_40, trip_k1_t1.sl.r_41, trip_k1_t1.sl.r_42, trip_k1_t1.sl.r_43, trip_k1_t1.sl.r_44, trip_k1_t1.sl.r_45, trip_k1_t1.sl.r_46, trip_k1_t1.sl.r_47, trip_k1_t1.sl.r_48, trip_k1_t1.sl.r_49, trip_k1_t1.sl.r_50, trip_k1_t1.sl.r_51, trip_k1_t1.sl.r_52, trip_k1_t1.sl.r_53, trip_k1_t1.sl.r_54, trip_k1_t1.sl.r_55, trip_k1_t1.sl.r_56, trip_k1_t1.sl.r_57, trip_k1_t1.sl.r_58, trip_k1_t1.sl.r_59, trip_k1_t1.sl.r_60, trip_k1_t1.sl.r_61, trip_k1_t1.sl.r_62, trip_k1_t1.sl.r_63, trip_k1_t1.sl.r_64, trip_k1_t1.sl.r_65, trip_k1_t1.sl.r_66, trip_k1_t1.sl.r_67, trip_k1_t1.sl.r_68, trip_k1_t1.sl.r_69, trip_k1_t1.sl.r_70, trip_k1_t1.sl.r_71, trip_k1_t1.sl.r_72, trip_k1_t1.sl.r_73, trip_k1_t1.sl.r_74, trip_k1_t1.sl.r_75, trip_k1_t1.sl.r_76, trip_k1_t1.sl.r_77, trip_k1_t1.sl.r_78, trip_k1_t1.sl.r_79, trip_k1_t1.sl.r_80, trip_k1_t1.sl.r_81, trip_k1_t1.sl.r_82, trip_k1_t1.sl.r_83, trip_k1_t1.sl.r_84, trip_k1_t1.sl.r_85, trip_k1_t1.sl.r_86, trip_k1_t1.sl.r_87, trip_k1_t1.sl.r_88, trip_k1_t1.sl.r_89, trip_k1_t1.sl.r_90, trip_k1_t1.sl.r_91, trip_k1_t1.sl.r_92, trip_k1_t1.sl.r_93, trip_k1_t1.sl.r_94, trip_k1_t1.sl.r_95, trip_k1_t1.sl.r_96, trip_k1_t1.sl.r_97, trip_k1_t1.sl.r_98, trip_k1_t1.sl.r_99, trip_k1_t1.sl.r_100, trip_k1_t1.sl.r_101, trip_k1_t1.sl.v50, trip_k1_t1.sl.v53, trip_k1_t1.sl.v56, trip_k1_t1.sl.v59, trip_k1_t1.sl.v62, trip_k1_t1.sl.v65, trip_k1_t1.sl.v68, trip_k1_t1.sl.v71]
  simp only [rd_mem (p := 128) (q := 128) arg9.view X9 SS b h9 (3 - k.val) 0 _ (off1_1 k),
    rd_mem (p := 128) (q := 128) arg9.view X9 SS b h9 (3 - k.val) 1 _ (off1_2 k),
    rd_mem (p := 128) (q := 128) arg9.view X9 SS b h9 (3 - k.val) 2 _ (off1_3 k),
    rd_mem (p := 128) (q := 128) arg9.view X9 SS b h9 (3 - k.val) 3 _ (off1_4 k),
    rd_mem (p := 128) (q := 128) arg9.view X9 SS b h9 (3 - k.val) 4 _ (off1_5 k),
    rd_mem (p := 128) (q := 128) arg9.view X9 SS b h9 (3 - k.val) 5 _ (off1_6 k),
    rd_mem (p := 128) (q := 128) arg9.view X9 SS b h9 (3 - k.val) 6 _ (off1_7 k),
    rd_mem (p := 128) (q := 128) arg9.view X9 SS b h9 (3 - k.val) 7 _ (off1_8 k)]
  exact ⟨⟨pc_mem _ b (3 - k.val) 7 hb hk (by decide) _ (off1_32 k) (k1_off32_inb k) _ (hg _).symm,
    pc_mem _ b (3 - k.val) 6 hb hk (by decide) _ (off1_31 k) (k1_off31_inb k) _ (hg _).symm,
    pc_mem _ b (3 - k.val) 5 hb hk (by decide) _ (off1_30 k) (k1_off30_inb k) _ (hg _).symm,
    pc_mem _ b (3 - k.val) 4 hb hk (by decide) _ (off1_29 k) (k1_off29_inb k) _ (hg _).symm,
    pc_mem _ b (3 - k.val) 3 hb hk (by decide) _ (off1_28 k) (k1_off28_inb k) _ (hg _).symm,
    pc_mem _ b (3 - k.val) 2 hb hk (by decide) _ (off1_27 k) (k1_off27_inb k) _ (hg _).symm,
    pc_mem _ b (3 - k.val) 1 hb hk (by decide) _ (off1_26 k) (k1_off26_inb k) _ (hg _).symm,
    pc_mem _ b (3 - k.val) 0 hb hk (by decide) _ (off1_25 k) (k1_off25_inb k) _ (hg _).symm, trivial⟩,
    cov8_mem _ _ _ _ _ _ _ _ _ (cov_mem _ _ _ (off1_32 k) (k1_off32_inb k) _)
    (cov_mem _ _ _ (off1_31 k) (k1_off31_inb k) _)
    (cov_mem _ _ _ (off1_30 k) (k1_off30_inb k) _)
    (cov_mem _ _ _ (off1_29 k) (k1_off29_inb k) _)
    (cov_mem _ _ _ (off1_28 k) (k1_off28_inb k) _)
    (cov_mem _ _ _ (off1_27 k) (k1_off27_inb k) _)
    (cov_mem _ _ _ (off1_26 k) (k1_off26_inb k) _)
    (cov_mem _ _ _ (off1_25 k) (k1_off25_inb k) _)⟩

end Cert.Proof.Scan
end
-- ==== Proof.Scan.Loop1.lean ====
module

public import proofs.«01_k».proof.Proof.Scan.Trip1
public import proofs.«01_k».proof.Proof.Scan.Stores
@[expose] public section
set_option maxRecDepth 16384
noncomputable section
/-! The backward loop over the four chunks of a block. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

theorem bS_succ (dO w qd kd : FVec F S4096x1024 .f32) (qk : FVec F S8x64x64x64 .f32) (gl : FVec F S8x64x1x128 .f32) (j m : ℕ) :
    bS dO w qd kd qk gl j (m + 1) = k1_pay100 (bS dO w qd kd qk gl j m) (k1_pay88 (ch dO (63 - m) j) (ch qd (63 - m) j))
      (k1_pay91 (bDvn dO kd qk (bS dO w qd kd qk gl j m) (63 - m) j) (ch w (63 - m) j)) (ch4 gl (63 - m) j) := rfl

section
variable (𝒱 : Variants) (c : Dev nD) (bd : Option 𝒱.V) (i : grid1.Coords)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S8x4x64x64 .f32) (harg7 : arg7.IsWhole)
  (arg8 : Memref sig .tc .vmem S8x4x1x128 .f32) (harg8 : arg8.IsWhole)
  (arg9 : Memref sig .tc .vmem S8x4x128x128 .f32) (harg9 : arg9.IsWhole)
  (arg10 : Memref sig .tc .vmem S256x1024 .f32) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S8x4x64x64 .f32) (harg14 : arg14.IsWhole)
  (arg15 : Memref sig .tc .vmem S8x4x1x128 .f32) (harg15 : arg15.IsWhole)
  (arg16 : Memref sig .tc .vmem S8x128x128 .f32) (harg16 : arg16.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
  {DO W QD KD VN : FVec F S4096x1024 .f32} {QK : FVec F S8x64x64x64 .f32} {DC : FVec F S8x64x1x128 .f32}
  {SS : FVec F S8x64x128x128 .f32} {b : ℕ}
  (h2 : arg2.view.read (Elt F) X2 = Blk2 DO b) (h3 : arg3.view.read (Elt F) X3 = Blk2 W b)
  (h4 : arg4.view.read (Elt F) X4 = Blk2 QD b) (h5 : arg5.view.read (Elt F) X5 = Blk2 KD b) (h6 : arg6.view.read (Elt F) X6 = Blk2 VN b)
  (h7 : arg7.view.read (Elt F) X7 = Blk4 QK b) (h8 : arg8.view.read (Elt F) X8 = Blk4 DC b) (h9 : arg9.view.read (Elt F) X9 = Blk4 SS b)
include h2 h3 h4 h5 h6 h7 h8 h9

/-- After `k` trips the loop carries the states' gradients `k` chunks further to the front, and has stored those chunks' gradients. -/
theorem loop1 (hb : b < 16) (init) (hi : init = tup fun j => bS DO W QD KD QK DC j (4 * (15 - b))) : ∀ k, k ≤ k1_t1_loop.trips →
    (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).1 = (tup fun j => bS DO W QD KD QK DC j (4 * (15 - b) + k)) ∧
    Done2 (fun n j => bDvn DO KD QK (bD DO W QD KD QK DC n j) n j) b (fun a => 4 ≤ a + k) (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).2.1 ∧
    Done2 (fun n j => k1_pay73 (k1_pay8 (ch4 SS n j)) (bDvn DO KD QK (bD DO W QD KD QK DC n j) n j)) b (fun a => 4 ≤ a + k) (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).2.2.1 ∧
    Done2 (fun n j => k1_pay48 (k1_pay8 (ch4 SS n j)) (ch DO n j)) b (fun a => 4 ≤ a + k) (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).2.2.2.1 ∧
    Done2 (fun n j => k1_pay56 (bD DO W QD KD QK DC n j) (k1_pay16 (ch VN n j))) b (fun a => 4 ≤ a + k) (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).2.2.2.2.1 ∧
    Done4 (p := 64) (q := 64) (fun n j => k1_pay108 (k1_pay65 (ch DO n j) (k1_pay16 (ch VN n j)))) b (fun a => 4 ≤ a + k) (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).2.2.2.2.2.1 ∧
    Done4 (p := 1) (q := 128) (fun n j => k1_pay109 (bD DO W QD KD QK DC n j) (k1_pay8 (ch4 SS n j))) b (fun a => 4 ≤ a + k) (st_k1_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init k).2.2.2.2.2.2 := by
  intro k
  induction k with
  | zero => exact fun _ => ⟨hi, .nil _ _ _ (fun a h => by omega), .nil _ _ _ (fun a h => by omega), .nil _ _ _ (fun a h => by omega), .nil _ _ _ (fun a h => by omega), .nil _ _ _ (fun a h => by omega), .nil _ _ _ (fun a h => by omega)⟩
  | succ k ih =>
    intro hk
    have hlt : k < k1_t1_loop.trips := hk
    have hk4 : k < 4 := Nat.lt_of_lt_of_le hlt k1_t1_abs.2.1
    obtain ⟨i1, i2, i3, i4, i5, i6, i7⟩ := ih hlt.le
    have e := st_k1_t1_succ (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 init ⟨k, hlt⟩
    have hP : ∀ a, a < 4 → 4 ≤ a + (k + 1) → a = 3 - k ∨ 4 ≤ a + k := fun a _ h => by omega
    have hm : 63 - (4 * (15 - b) + k) = 4 * b + (3 - k) := by omega
    have hn : 63 - (4 * b + (3 - k)) = 4 * (15 - b) + k := by omega
    have hD : ∀ j, bD DO W QD KD QK DC (4 * b + (3 - k)) j = bS DO W QD KD QK DC j (4 * (15 - b) + k) := fun j => by rw [bD, hn]
    rw [show k + 1 = (⟨k, hlt⟩ : Fin k1_t1_loop.trips).val + 1 from rfl, e]
    dsimp only
    rw [i1]
    have tDu := trip1_Du 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 hb (fun j => bS DO W QD KD QK DC j (4 * (15 - b) + k)) (fun n j => bDvn DO KD QK (bD DO W QD KD QK DC n j) n j) (fun j => by simp only [hD, bDvn])
    have tDw := trip1_Dw 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 hb (fun j => bS DO W QD KD QK DC j (4 * (15 - b) + k)) (fun n j => k1_pay73 (k1_pay8 (ch4 SS n j)) (bDvn DO KD QK (bD DO W QD KD QK DC n j) n j)) (fun j => by simp only [hD, bDvn])
    have tDqd := trip1_Dqd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 hb (fun j => bS DO W QD KD QK DC j (4 * (15 - b) + k)) (fun n j => k1_pay48 (k1_pay8 (ch4 SS n j)) (ch DO n j)) (fun _ => rfl)
    have tDkd := trip1_Dkd 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 hb (fun j => bS DO W QD KD QK DC j (4 * (15 - b) + k)) (fun n j => k1_pay56 (bD DO W QD KD QK DC n j) (k1_pay16 (ch VN n j))) (fun j => by simp only [hD])
    have tDqk := trip1_Dqk 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 hb (fun j => bS DO W QD KD QK DC j (4 * (15 - b) + k)) (fun n j => k1_pay108 (k1_pay65 (ch DO n j) (k1_pay16 (ch VN n j)))) (fun _ => rfl)
    have tDgl := trip1_Dgl 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 hb (fun j => bS DO W QD KD QK DC j (4 * (15 - b) + k)) (fun n j => k1_pay109 (bD DO W QD KD QK DC n j) (k1_pay8 (ch4 SS n j))) (fun j => by simp only [hD])
    refine ⟨(trip1_R 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 ⟨k, hlt⟩ DO W QD KD VN QK DC SS b h2 h3 h4 h5 h6 h7 h8 h9 _).trans ?_,
      .step tDu i2 hP,
      .step tDw i3 hP,
      .step tDqd i4 hP,
      .step tDkd i5 hP,
      .step tDqk i6 hP,
      .step tDgl i7 hP⟩
    simp only [← Nat.add_assoc, bS_succ, hm, bDvn]
end

end Cert.Proof.Scan
end
-- ==== Proof.Scan.Body1.lean ====
module

public import proofs.«01_k».proof.Proof.Scan.Loop1
public import proofs.«01_k».proof.Proof.Scan.Body0
@[expose] public section
set_option maxRecDepth 16384
noncomputable section
/-! The body of the backward scan. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

section
variable (𝒱 : Variants) (c : Dev nD) (bd : Option 𝒱.V) (i : grid1.Coords)
  (arg2 : Memref sig .tc .vmem S256x1024 .f32) (harg2 : arg2.IsWhole)
  (arg3 : Memref sig .tc .vmem S256x1024 .f32) (harg3 : arg3.IsWhole)
  (arg4 : Memref sig .tc .vmem S256x1024 .f32) (harg4 : arg4.IsWhole)
  (arg5 : Memref sig .tc .vmem S256x1024 .f32) (harg5 : arg5.IsWhole)
  (arg6 : Memref sig .tc .vmem S256x1024 .f32) (harg6 : arg6.IsWhole)
  (arg7 : Memref sig .tc .vmem S8x4x64x64 .f32) (harg7 : arg7.IsWhole)
  (arg8 : Memref sig .tc .vmem S8x4x1x128 .f32) (harg8 : arg8.IsWhole)
  (arg9 : Memref sig .tc .vmem S8x4x128x128 .f32) (harg9 : arg9.IsWhole)
  (arg10 : Memref sig .tc .vmem S256x1024 .f32) (harg10 : arg10.IsWhole)
  (arg11 : Memref sig .tc .vmem S256x1024 .f32) (harg11 : arg11.IsWhole)
  (arg12 : Memref sig .tc .vmem S256x1024 .f32) (harg12 : arg12.IsWhole)
  (arg13 : Memref sig .tc .vmem S256x1024 .f32) (harg13 : arg13.IsWhole)
  (arg14 : Memref sig .tc .vmem S8x4x64x64 .f32) (harg14 : arg14.IsWhole)
  (arg15 : Memref sig .tc .vmem S8x4x1x128 .f32) (harg15 : arg15.IsWhole)
  (arg16 : Memref sig .tc .vmem S8x128x128 .f32) (harg16 : arg16.IsWhole)
  (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty)
  {DO W QD KD VN : FVec F S4096x1024 .f32} {QK : FVec F S8x64x64x64 .f32} {DC : FVec F S8x64x1x128 .f32}
  {SS : FVec F S8x64x128x128 .f32} {b : ℕ}
  (h2 : arg2.view.read (Elt F) X2 = Blk2 DO b) (h3 : arg3.view.read (Elt F) X3 = Blk2 W b)
  (h4 : arg4.view.read (Elt F) X4 = Blk2 QD b) (h5 : arg5.view.read (Elt F) X5 = Blk2 KD b) (h6 : arg6.view.read (Elt F) X6 = Blk2 VN b)
  (h7 : arg7.view.read (Elt F) X7 = Blk4 QK b) (h8 : arg8.view.read (Elt F) X8 = Blk4 DC b) (h9 : arg9.view.read (Elt F) X9 = Blk4 SS b)
include h2 h3 h4 h5 h6 h7 h8 h9

/-- One step of the grid: from blocks of the arguments and the states before the block, it leaves the blocks of the results and the states after it. -/
theorem body1 (hb : b < 16) (hib : b = 15 - (i 1).val) (G10 : BufTy.Contents (Elt F) arg10.view.ty) (G11 : BufTy.Contents (Elt F) arg11.view.ty) (G12 : BufTy.Contents (Elt F) arg12.view.ty) (G13 : BufTy.Contents (Elt F) arg13.view.ty) (G14 : BufTy.Contents (Elt F) arg14.view.ty) (G15 : BufTy.Contents (Elt F) arg15.view.ty) (G16 : BufTy.Contents (Elt F) arg16.view.ty) (hG : (i 1).val ≠ 0 → arg16.view.read (Elt F) G16 = Scr (fun j => bS DO W QD KD QK DC j (4 * (15 - b)))) (E : Set ℕ) :
    iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} G10) ∗ (arg11.view.loc (c : Thread nD τ) ↦[arg11.view.set]{fullShare} G11) ∗ (arg12.view.loc (c : Thread nD τ) ↦[arg12.view.set]{fullShare} G12) ∗ (arg13.view.loc (c : Thread nD τ) ↦[arg13.view.set]{fullShare} G13) ∗ (arg14.view.loc (c : Thread nD τ) ↦[arg14.view.set]{fullShare} G14) ∗ (arg15.view.loc (c : Thread nD τ) ↦[arg15.view.set]{fullShare} G15) ∗ (arg16.view.loc (c : Thread nD τ) ↦[arg16.view.set]{fullShare} G16)) ⊢ wp frame (wpE (defs₀ (F := F)) 𝒱 (c : Thread nD τ) bd) E (cc1_delta_scan_bwd (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16)
      (fun _ : PUnit => (iprop(∃ f10 f11 f12 f13 f14 f15 f16, ⌜arg10.view.read (Elt F) f10 = Blk2 (HDu DO W QD KD QK DC) b ∧
        arg11.view.read (Elt F) f11 = Blk2 (HDw DO W QD KD QK DC SS) b ∧
        arg12.view.read (Elt F) f12 = Blk2 (HDqd DO SS) b ∧
        arg13.view.read (Elt F) f13 = Blk2 (HDkd DO W QD KD VN QK DC) b ∧
        arg14.view.read (Elt F) f14 = Blk4 (HDqk DO VN) b ∧
        arg15.view.read (Elt F) f15 = Blk4 (HDgl DO W QD KD QK DC SS) b ∧
        arg16.view.read (Elt F) f16 = Scr (fun j => bS DO W QD KD QK DC j (4 * (15 - b) + 4))⌝ ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14) ∗ (arg15.view.loc (c : Thread nD τ) ↦[arg15.view.set]{fullShare} f15) ∗ (arg16.view.loc (c : Thread nD τ) ↦[arg16.view.set]{fullShare} f16)) : sProp (MT nD τ sig Unit (Elt F) ℕ (UR sig nD τ) ℕ))) := by
  rw [cc1_delta_scan_bwd_eq_skeleton]
  unfold cc1_delta_scan_bwd_skel
  iintro ⟨HR_arg2, HR_arg3, HR_arg4, HR_arg5, HR_arg6, HR_arg7, HR_arg8, HR_arg9, HW_arg10, HW_arg11, HW_arg12, HW_arg13, HW_arg14, HW_arg15, HW_arg16⟩
  sl_exec
  sl_step
  iexists _, _, _, _, _, _, _
  isplitr; swap
  · sl_close
  ipureintro
  have ht : Scf.trips k1_t1_loop.lb k1_t1_loop.ub k1_t1_loop.st = 4 := by decide
  have hscr : arg16.view.read (Elt F) (if hc : body1.sl.v2 i = 1#1 then
      arg16.view.writes (Elt F) G16 [⟨Rect.unit ![0, 0, 0] S8x128x128.size inb_S8x128x128_S8x128x128_0_0_0, k1_pay123⟩]
      else G16) = Scr (fun j => bS DO W QD KD QK DC j (4 * (15 - b))) := by
    split
    · next hc =>
      have h0 : (i 1).val = 0 := (first_step ⟨(i 1).val, (i 1).isLt⟩).1 hc
      exact scr_zero _ _ _ (fun j => by rw [show 4 * (15 - b) = 0 by omega]; rfl) _ _ rfl
    · next hc => exact hG fun h0 => hc ((first_step ⟨(i 1).val, (i 1).isLt⟩).2 h0)
  have L := loop1 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 X2 X3 X4 X5 X6 X7 X8 X9 h2 h3 h4 h5 h6 h7 h8 h9 hb (k1_pay124 (body1.sl.v3 i arg16 G16), k1_pay125 (body1.sl.v5 i arg16 G16), k1_pay126 (body1.sl.v7 i arg16 G16), k1_pay127 (body1.sl.v9 i arg16 G16), k1_pay128 (body1.sl.v11 i arg16 G16), k1_pay129 (body1.sl.v13 i arg16 G16), k1_pay130 (body1.sl.v15 i arg16 G16), k1_pay131 (body1.sl.v17 i arg16 G16))
    (Prod.ext (rd_scr arg16.view _ _ hscr 0 _ _) <| Prod.ext (rd_scr arg16.view _ _ hscr 1 _ _) <| Prod.ext (rd_scr arg16.view _ _ hscr 2 _ _) <|
      Prod.ext (rd_scr arg16.view _ _ hscr 3 _ _) <| Prod.ext (rd_scr arg16.view _ _ hscr 4 _ _) <| Prod.ext (rd_scr arg16.view _ _ hscr 5 _ _) <|
      Prod.ext (rd_scr arg16.view _ _ hscr 6 _ _) (rd_scr arg16.view _ _ hscr 7 _ _)) (Scf.trips k1_t1_loop.lb k1_t1_loop.ub k1_t1_loop.st) le_rfl
  simp only [ht] at L
  delta body1.sl.r body1.sl.r_1 body1.sl.r_2 body1.sl.r_3 body1.sl.r_4 body1.sl.r_5 body1.sl.r_6 body1.sl.r_7
  simp only [ht, L.1]
  exact ⟨L.2.1.read _ _ (fun a h => by omega), L.2.2.1.read _ _ (fun a h => by omega), L.2.2.2.1.read _ _ (fun a h => by omega), L.2.2.2.2.1.read _ _ (fun a h => by omega),
    L.2.2.2.2.2.1.read _ _ (fun a h => by omega), L.2.2.2.2.2.2.read _ _ (fun a h => by omega),
    scr_writes _ _ (fun j => bS DO W QD KD QK DC j (4 * (15 - b) + 4)) _ _ _ _ _ _ _ _ _ _ _ _ _ _ _ _ _ rfl rfl rfl rfl rfl rfl rfl rfl⟩

end

end Cert.Proof.Scan
end
-- ==== Proof.Scan.Dat1.lean ====
module

public import proofs.«01_k».proof.Proof.Scan.Body1
public import proofs.«01_k».proof.Proof.Gen.KernelIdeal.Points
public import proofs.«01_k».proof.Proof.Gen.KernelIdeal.Regions
@[expose] public section
set_option maxRecDepth 16384
noncomputable section
/-! The backward scan's proof data on its grid. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

theorem pt1 : ∀ t : Fin grid1.N, (grid1.coords t 1).val = t.val ∧ t.val < 16 := by decide +kernel

/-- The backward scan walks the blocks from the last to the first. -/
theorem index1 : (∀ t, win1_0.index t = ![15 - t.val, 0]) ∧ (∀ t, win1_1.index t = ![15 - t.val, 0]) ∧ (∀ t, win1_2.index t = ![15 - t.val, 0]) ∧ (∀ t, win1_3.index t = ![15 - t.val, 0]) ∧ (∀ t, win1_4.index t = ![15 - t.val, 0]) ∧ (∀ t, win1_5.index t = ![0, 15 - t.val, 0, 0]) ∧ (∀ t, win1_6.index t = ![0, 15 - t.val, 0, 0]) ∧ (∀ t, win1_7.index t = ![0, 15 - t.val, 0, 0]) ∧ (∀ t, win1_8.index t = ![15 - t.val, 0]) ∧ (∀ t, win1_9.index t = ![15 - t.val, 0]) ∧ (∀ t, win1_10.index t = ![15 - t.val, 0]) ∧ (∀ t, win1_11.index t = ![15 - t.val, 0]) ∧ (∀ t, win1_12.index t = ![0, 15 - t.val, 0, 0]) ∧ (∀ t, win1_13.index t = ![0, 15 - t.val, 0, 0]) := by
  decide +kernel

/-- Every block of the backward scan's windows at point `t` is block `15 - t` of its array. -/
theorem blocks1 (t : Fin cfg1.N) :
    (∀ A, ((cfg1.win 0).blk t).view.read (Elt F) A = Blk2 (F := F) A (15 - t.val)) ∧
    (∀ A, ((cfg1.win 1).blk t).view.read (Elt F) A = Blk2 (F := F) A (15 - t.val)) ∧
    (∀ A, ((cfg1.win 2).blk t).view.read (Elt F) A = Blk2 (F := F) A (15 - t.val)) ∧
    (∀ A, ((cfg1.win 3).blk t).view.read (Elt F) A = Blk2 (F := F) A (15 - t.val)) ∧
    (∀ A, ((cfg1.win 4).blk t).view.read (Elt F) A = Blk2 (F := F) A (15 - t.val)) ∧
    (∀ A, ((cfg1.win 5).blk t).view.read (Elt F) A = Blk4 (F := F) (p := 64) (q := 64) A (15 - t.val)) ∧
    (∀ A, ((cfg1.win 6).blk t).view.read (Elt F) A = Blk4 (F := F) (p := 1) (q := 128) A (15 - t.val)) ∧
    (∀ A, ((cfg1.win 7).blk t).view.read (Elt F) A = Blk4 (F := F) (p := 128) (q := 128) A (15 - t.val)) ∧
    (∀ A, ((cfg1.win 8).blk t).view.read (Elt F) A = Blk2 (F := F) A (15 - t.val)) ∧
    (∀ A, ((cfg1.win 9).blk t).view.read (Elt F) A = Blk2 (F := F) A (15 - t.val)) ∧
    (∀ A, ((cfg1.win 10).blk t).view.read (Elt F) A = Blk2 (F := F) A (15 - t.val)) ∧
    (∀ A, ((cfg1.win 11).blk t).view.read (Elt F) A = Blk2 (F := F) A (15 - t.val)) ∧
    (∀ A, ((cfg1.win 12).blk t).view.read (Elt F) A = Blk4 (F := F) (p := 64) (q := 64) A (15 - t.val)) ∧
    (∀ A, ((cfg1.win 13).blk t).view.read (Elt F) A = Blk4 (F := F) (p := 1) (q := 128) A (15 - t.val)) := by
  obtain ⟨i0, i1, i2, i3, i4, i5, i6, i7, i8, i9, i10, i11, i12, i13⟩ := index1
  refine ⟨fun A => ?_, fun A => ?_, fun A => ?_, fun A => ?_, fun A => ?_, fun A => ?_, fun A => ?_, fun A => ?_, fun A => ?_, fun A => ?_, fun A => ?_, fun A => ?_, fun A => ?_, fun A => ?_⟩ <;> funext y
  · exact (at2_eq A (((cfg1.win 0).blk t).view.emb y) _ _ (by blk_simp [i0]; rw [Nat.mul_comm]) (by blk_simp [i0])).symm
  · exact (at2_eq A (((cfg1.win 1).blk t).view.emb y) _ _ (by blk_simp [i1]; rw [Nat.mul_comm]) (by blk_simp [i1])).symm
  · exact (at2_eq A (((cfg1.win 2).blk t).view.emb y) _ _ (by blk_simp [i2]; rw [Nat.mul_comm]) (by blk_simp [i2])).symm
  · exact (at2_eq A (((cfg1.win 3).blk t).view.emb y) _ _ (by blk_simp [i3]; rw [Nat.mul_comm]) (by blk_simp [i3])).symm
  · exact (at2_eq A (((cfg1.win 4).blk t).view.emb y) _ _ (by blk_simp [i4]; rw [Nat.mul_comm]) (by blk_simp [i4])).symm
  · exact (at4_eq A (((cfg1.win 5).blk t).view.emb y) _ _ _ _ (by blk_simp [i5]) (by blk_simp [i5]; rw [Nat.mul_comm]) (by blk_simp [i5]) (by blk_simp [i5])).symm
  · exact (at4_eq A (((cfg1.win 6).blk t).view.emb y) _ _ _ _ (by blk_simp [i6]) (by blk_simp [i6]; rw [Nat.mul_comm]) (by blk_simp [i6]) (by blk_simp [i6])).symm
  · exact (at4_eq A (((cfg1.win 7).blk t).view.emb y) _ _ _ _ (by blk_simp [i7]) (by blk_simp [i7]; rw [Nat.mul_comm]) (by blk_simp [i7]) (by blk_simp [i7])).symm
  · exact (at2_eq A (((cfg1.win 8).blk t).view.emb y) _ _ (by blk_simp [i8]; rw [Nat.mul_comm]) (by blk_simp [i8])).symm
  · exact (at2_eq A (((cfg1.win 9).blk t).view.emb y) _ _ (by blk_simp [i9]; rw [Nat.mul_comm]) (by blk_simp [i9])).symm
  · exact (at2_eq A (((cfg1.win 10).blk t).view.emb y) _ _ (by blk_simp [i10]; rw [Nat.mul_comm]) (by blk_simp [i10])).symm
  · exact (at2_eq A (((cfg1.win 11).blk t).view.emb y) _ _ (by blk_simp [i11]; rw [Nat.mul_comm]) (by blk_simp [i11])).symm
  · exact (at4_eq A (((cfg1.win 12).blk t).view.emb y) _ _ _ _ (by blk_simp [i12]) (by blk_simp [i12]; rw [Nat.mul_comm]) (by blk_simp [i12]) (by blk_simp [i12])).symm
  · exact (at4_eq A (((cfg1.win 13).blk t).view.emb y) _ _ _ _ (by blk_simp [i13]) (by blk_simp [i13]; rw [Nat.mul_comm]) (by blk_simp [i13]) (by blk_simp [i13])).symm

local notation "𝕄" => MT nD τ sig Unit (Elt F) ℕ (UR sig nD τ) ℕ

section
variable (V : Dev nD → Valuation τ sig (Elt F)) (c : Dev nD)

/-- The arrays the backward scan is entered with. -/
abbrev a1Do : FVec F S4096x1024 .f32 := V c main_arg6
abbrev a1W : FVec F S4096x1024 .f32 := V c main_arg1
abbrev a1Qd : FVec F S4096x1024 .f32 := V c main_arg2
abbrev a1Kd : FVec F S4096x1024 .f32 := V c main_arg3
abbrev a1Vn : FVec F S4096x1024 .f32 := V c main_v2_1
abbrev a1Qk : FVec F S8x64x64x64 .f32 := V c main_arg4
abbrev a1Gl : FVec F S8x64x1x128 .f32 := V c main_v1
abbrev a1S : FVec F S8x64x128x128 .f32 := V c main_v2_2

/-- Before point `n` the scratch holds the gradient of every head's state before the last `4 n` chunks. -/
def Inv1 (n : ℕ) : sProp 𝕄 :=
  iprop((∃ f : BufTy.Contents (Elt F) (Memref.whole cc1_scratch0).view.ty,
      ⌜n ≠ 0 → (Memref.whole cc1_scratch0).view.read (Elt F) f = Scr (fun j => bS (a1Do V c) (a1W V c) (a1Qd V c) (a1Kd V c) (a1Qk V c) (a1Gl V c) j (4 * n))⌝
      ∗ ((Memref.whole cc1_scratch0).view.loc (c : Thread nD τ) ↦[(Memref.whole cc1_scratch0).view.set]{fullShare} f))
    ∗ Pipeline.scopedRestBut (Ix := Unit) (Name := ℕ) (U := UR sig nD τ) (Lvl := ℕ) (Val := Elt F) spec1 c [cc1_scratch0])

/-- The backward scan's proof data: each result's block at a point is that block of the whole result. -/
def dat1 : Dat τ (Elt F) Unit ℕ (UR sig nD τ) ℕ cfg1 c where
  A w := V c (Pipeline.arrRef spec1 w)
  after w t := match w with
    | ⟨0, _⟩ => Blk2 (F := F) (a1Do V c) (15 - t.val)
    | ⟨1, _⟩ => Blk2 (F := F) (a1W V c) (15 - t.val)
    | ⟨2, _⟩ => Blk2 (F := F) (a1Qd V c) (15 - t.val)
    | ⟨3, _⟩ => Blk2 (F := F) (a1Kd V c) (15 - t.val)
    | ⟨4, _⟩ => Blk2 (F := F) (a1Vn V c) (15 - t.val)
    | ⟨5, _⟩ => Blk4 (F := F) (p := 64) (q := 64) (a1Qk V c) (15 - t.val)
    | ⟨6, _⟩ => Blk4 (F := F) (p := 1) (q := 128) (a1Gl V c) (15 - t.val)
    | ⟨7, _⟩ => Blk4 (F := F) (p := 128) (q := 128) (a1S V c) (15 - t.val)
    | ⟨8, _⟩ => Blk2 (F := F) (HDu (a1Do V c) (a1W V c) (a1Qd V c) (a1Kd V c) (a1Qk V c) (a1Gl V c)) (15 - t.val)
    | ⟨9, _⟩ => Blk2 (F := F) (HDw (a1Do V c) (a1W V c) (a1Qd V c) (a1Kd V c) (a1Qk V c) (a1Gl V c) (a1S V c)) (15 - t.val)
    | ⟨10, _⟩ => Blk2 (F := F) (HDqd (a1Do V c) (a1S V c)) (15 - t.val)
    | ⟨11, _⟩ => Blk2 (F := F) (HDkd (a1Do V c) (a1W V c) (a1Qd V c) (a1Kd V c) (a1Vn V c) (a1Qk V c) (a1Gl V c)) (15 - t.val)
    | ⟨12, _⟩ => Blk4 (F := F) (p := 64) (q := 64) (HDqk (a1Do V c) (a1Vn V c)) (15 - t.val)
    | ⟨13, _⟩ => Blk4 (F := F) (p := 1) (q := 128) (HDgl (a1Do V c) (a1W V c) (a1Qd V c) (a1Kd V c) (a1Qk V c) (a1Gl V c) (a1S V c)) (15 - t.val)
  Φ t := Inv1 V c t.val
  q _ := fullShare
  owed _ := 0

/-- What the body finds in the operands' staging buffers. -/
theorem before1 (t : Fin cfg1.N) :
    (∀ d, (dat1 V c).before 0 t d = Blk2 (F := F) (a1Do V c) (15 - t.val)) ∧
    (∀ d, (dat1 V c).before 1 t d = Blk2 (F := F) (a1W V c) (15 - t.val)) ∧
    (∀ d, (dat1 V c).before 2 t d = Blk2 (F := F) (a1Qd V c) (15 - t.val)) ∧
    (∀ d, (dat1 V c).before 3 t d = Blk2 (F := F) (a1Kd V c) (15 - t.val)) ∧
    (∀ d, (dat1 V c).before 4 t d = Blk2 (F := F) (a1Vn V c) (15 - t.val)) ∧
    (∀ d, (dat1 V c).before 5 t d = Blk4 (F := F) (p := 64) (q := 64) (a1Qk V c) (15 - t.val)) ∧
    (∀ d, (dat1 V c).before 6 t d = Blk4 (F := F) (p := 1) (q := 128) (a1Gl V c) (15 - t.val)) ∧
    (∀ d, (dat1 V c).before 7 t d = Blk4 (F := F) (p := 128) (q := 128) (a1S V c) (15 - t.val)) := by
  obtain ⟨b0, b1, b2, b3, b4, b5, b6, b7, -⟩ := blocks1 (F := F) t
  exact ⟨fun d => ((dat1 V c).before_fetched 0 t (fetch1_0 t) d).trans (b0 _),
    fun d => ((dat1 V c).before_fetched 1 t (fetch1_1 t) d).trans (b1 _),
    fun d => ((dat1 V c).before_fetched 2 t (fetch1_2 t) d).trans (b2 _),
    fun d => ((dat1 V c).before_fetched 3 t (fetch1_3 t) d).trans (b3 _),
    fun d => ((dat1 V c).before_fetched 4 t (fetch1_4 t) d).trans (b4 _),
    fun d => ((dat1 V c).before_fetched 5 t (fetch1_5 t) d).trans (b5 _),
    fun d => ((dat1 V c).before_fetched 6 t (fetch1_6 t) d).trans (b6 _),
    fun d => ((dat1 V c).before_fetched 7 t (fetch1_7 t) d).trans (b7 _)⟩

set_option maxHeartbeats 1000000 in
/-- The body at every point. -/
theorem obligation1 : BodyObligation (dat1 V c) (defs₀ (F := F)) Variants.none () Set.univ := fun t => by
  obtain ⟨b0, b1, b2, b3, b4, b5, b6, b7⟩ := before1 V c t
  obtain ⟨hp, hlt⟩ := pt1 t
  have hq : 15 - (15 - t.val) = t.val := by omega
  rw [bigSep_W1, bigSep_W1]
  dsimp only
  rw [show (dat1 V c).Φ t.castSucc = Inv1 V c t.val from rfl, show (dat1 V c).Φ t.succ = Inv1 V c (t.val + 1) from rfl,
    show defs₀ (F := F) .tc cfg1.body (cfg1.bodyArgs t (cfg1.slots t)) = bodyAt1 t from rfl]
  simp only [b0, b1, b2, b3, b4, b5, b6, b7]
  unfold Inv1 owns Dat.owesAt Pipeline.owesWithin
  rw [show (dat1 V c).owed t.castSucc = 0 from rfl, show (dat1 V c).owed t.succ = 0 from rfl]
  iintro ⟨⟨⟨%g, %hg, Hs⟩, Hrest⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%d9, %f9, %h9, H9⟩, ⟨%d10, %f10, %h10, H10⟩, ⟨%d11, %f11, %h11, H11⟩, ⟨%d12, %f12, %h12, H12⟩, ⟨%d13, %f13, %h13, H13⟩⟩
  iapply (wp_wand_r _ _ _)
  isplitl [H0 H1 H2 H3 H4 H5 H6 H7 H8 H9 H10 H11 H12 H13 Hs]
  · iapply (body1 Variants.none c none (grid1.coords t) _ _ _ _ _ _ _ _ _ _ _ _ _ _ _ _ _ _ _ _ _ _ _ _ _ _ _ _ _ _ f0 f1 f2 f3 f4 f5 f6 f7 h0 h1 h2 h3 h4 h5 h6 h7 (by omega) (by rw [hp]) f8 f9 f10 f11 f12 f13 g (fun h => (hg (fun e => h (hp.trans e))).trans (by rw [hq])) Set.univ)
    sl_close
  · iintro %_ ⟨%g8, %g9, %g10, %g11, %g12, %g13, %gs, %hr, H0, H1, H2, H3, H4, H5, H6, H7, H8, H9, H10, H11, H12, H13, Hs⟩
    rw [hq] at hr
    isplitl [Hs Hrest]
    · isplitl [Hs]
      · iexists gs
        isplitr
        · ipureintro
          exact fun _ => hr.2.2.2.2.2.2
        · iexact Hs
      · iexact Hrest
    isplitl [HO]
    · iexists W
      isplitr
      · ipureintro; exact fun _ _ => Or.inl trivial
      · iexact HO
    isplitl [H0]
    · iexists _; isplitr; swap; (· iexact H0); ipureintro; exact h0
    isplitl [H1]
    · iexists _; isplitr; swap; (· iexact H1); ipureintro; exact h1
    isplitl [H2]
    · iexists _; isplitr; swap; (· iexact H2); ipureintro; exact h2
    isplitl [H3]
    · iexists _; isplitr; swap; (· iexact H3); ipureintro; exact h3
    isplitl [H4]
    · iexists _; isplitr; swap; (· iexact H4); ipureintro; exact h4
    isplitl [H5]
    · iexists _; isplitr; swap; (· iexact H5); ipureintro; exact h5
    isplitl [H6]
    · iexists _; isplitr; swap; (· iexact H6); ipureintro; exact h6
    isplitl [H7]
    · iexists _; isplitr; swap; (· iexact H7); ipureintro; exact h7
    isplitl [H8]
    · iexists _; isplitr; swap; (· iexact H8); ipureintro; exact hr.1
    isplitl [H9]
    · iexists _; isplitr; swap; (· iexact H9); ipureintro; exact hr.2.1
    isplitl [H10]
    · iexists _; isplitr; swap; (· iexact H10); ipureintro; exact hr.2.2.1
    isplitl [H11]
    · iexists _; isplitr; swap; (· iexact H11); ipureintro; exact hr.2.2.2.1
    isplitl [H12]
    · iexists _; isplitr; swap; (· iexact H12); ipureintro; exact hr.2.2.2.2.1
    · iexists _; isplitr; swap; (· iexact H13); ipureintro; exact hr.2.2.2.2.2.1

/-- What the region leaves in the results' arrays. -/
theorem final1 :
    (dat1 V c).arrAt 8 cfg1.N = (HDu (a1Do V c) (a1W V c) (a1Qd V c) (a1Kd V c) (a1Qk V c) (a1Gl V c)) ∧
    (dat1 V c).arrAt 9 cfg1.N = (HDw (a1Do V c) (a1W V c) (a1Qd V c) (a1Kd V c) (a1Qk V c) (a1Gl V c) (a1S V c)) ∧
    (dat1 V c).arrAt 10 cfg1.N = (HDqd (a1Do V c) (a1S V c)) ∧
    (dat1 V c).arrAt 11 cfg1.N = (HDkd (a1Do V c) (a1W V c) (a1Qd V c) (a1Kd V c) (a1Vn V c) (a1Qk V c) (a1Gl V c)) ∧
    (dat1 V c).arrAt 12 cfg1.N = (HDqk (a1Do V c) (a1Vn V c)) ∧
    (dat1 V c).arrAt 13 cfg1.N = (HDgl (a1Do V c) (a1W V c) (a1Qd V c) (a1Kd V c) (a1Qk V c) (a1Gl V c) (a1S V c)) := by
  refine ⟨(dat1 V c).arrAt_eq_of_covers 8 _ (by decide +kernel) fun t _ y => ?_, (dat1 V c).arrAt_eq_of_covers 9 _ (by decide +kernel) fun t _ y => ?_, (dat1 V c).arrAt_eq_of_covers 10 _ (by decide +kernel) fun t _ y => ?_, (dat1 V c).arrAt_eq_of_covers 11 _ (by decide +kernel) fun t _ y => ?_, (dat1 V c).arrAt_eq_of_covers 12 _ (by decide +kernel) fun t _ y => ?_, (dat1 V c).arrAt_eq_of_covers 13 _ (by decide +kernel) fun t _ y => ?_⟩ <;>
    obtain ⟨-, -, -, -, -, -, -, -, b8, b9, b10, b11, b12, b13⟩ := blocks1 (F := F) t
  · exact (congrFun (b8 (HDu (a1Do V c) (a1W V c) (a1Qd V c) (a1Kd V c) (a1Qk V c) (a1Gl V c))) y).symm
  · exact (congrFun (b9 (HDw (a1Do V c) (a1W V c) (a1Qd V c) (a1Kd V c) (a1Qk V c) (a1Gl V c) (a1S V c))) y).symm
  · exact (congrFun (b10 (HDqd (a1Do V c) (a1S V c))) y).symm
  · exact (congrFun (b11 (HDkd (a1Do V c) (a1W V c) (a1Qd V c) (a1Kd V c) (a1Vn V c) (a1Qk V c) (a1Gl V c))) y).symm
  · exact (congrFun (b12 (HDqk (a1Do V c) (a1Vn V c))) y).symm
  · exact (congrFun (b13 (HDgl (a1Do V c) (a1W V c) (a1Qd V c) (a1Kd V c) (a1Qk V c) (a1Gl V c) (a1S V c))) y).symm
end

end Cert.Proof.Scan
end
-- ==== Proof.Scan.Run.lean ====
module

public import proofs.«01_k».proof.Proof.Scan.Dat0
public import proofs.«01_k».proof.Proof.Scan.Dat1
public import Idealize.ShloMosaic.Lib.Pipeline.RegionArraysS
@[expose] public section
set_option maxRecDepth 16384
noncomputable section
/-! The whole run: the host's two operations, the forward scan, the backward scan. -/
namespace Cert.Proof.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation RegionSeg Seg afterRegion)

variable {F : FTy → Type} [FloatOps F]

local notation "𝕄" => MT nD τ sig Unit (Elt F) ℕ (UR sig nD τ) ℕ

/-- Every cell of a core's main processor is at the one level; nothing sits above it. -/
abbrev lvs : GSem nD τ sig → Finset Unit := fun g => if g.1.2 = .tc then {()} else ∅
abbrev lvl : GSem nD τ sig → Unit → ℕ := fun _ _ => 0

variable (m : (ℓ : Loc nD τ sig) → Buf (Elt F) ℓ) (ρ : Dev nD → PrngReg)

/-- The arrays after the forward scan, and after the backward scan. -/
def VB (c : Dev nD) : Valuation τ sig (Elt F) := afterRegion (dat0 (V1 m) c) (V1 m c)
def VC (c : Dev nD) : Valuation τ sig (Elt F) := afterRegion (dat1 (VB m) c) (VB m c)

/-- Both regions' proof data. -/
def pdats : (p : Fin 2) → (c : Dev nD) → Dat τ (Elt F) Unit ℕ (UR sig nD τ) ℕ (cfgs p) c
  | ⟨0, _⟩, c => dat0 (V1 m) c
  | ⟨1, _⟩, c => dat1 (VB m) c

theorem cut (p : Fin 2) : Pipeline.LevelCut (nD := nD) (τ := τ) (pcfgs (F := F)) adm () lvs lvl p (fun _ => (0 : CellTallies nD τ sig Unit)) (fun _ => 0) where
  hι _ _ _ := by simp [lvs]
  hιb _ _ _ := le_rfl
  hD _ _ _ h := absurd h (lt_irrefl _)

theorem scopedRest1_split (c : Dev nD) :
    (Pipeline.scopedRest (Ix := Unit) (Name := ℕ) (U := UR sig nD τ) (Lvl := ℕ) (Val := Elt F) spec1 c : sProp 𝕄)
      = iprop(iprop((∃ f : Buf (Elt F) ((c : Thread nD τ).loc cc1_scratch0), ((c : Thread nD τ).loc cc1_scratch0) ↦{fullShare} f))
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

section
variable (V : Dev nD → Valuation τ sig (Elt F)) (c : Dev nD)

theorem enter0 : iprop(Pipeline.scopedRest (Ix := Unit) (Name := ℕ) (U := UR sig nD τ) (Lvl := ℕ) (Val := Elt F) spec0 c ∗ emp) ⊢ (dat0 V c).Φ 0 := by
  rw [show (dat0 V c).Φ 0 = Inv0 V c 0 from rfl, scopedRest0_split]
  unfold Inv0
  simp only [Memref.view_whole, View.set_whole]
  iintro ⟨⟨⟨%f, Hs⟩, Hr⟩, -⟩
  isplitl [Hs]
  · iexists f
    isplitr
    · ipureintro; exact fun h => absurd rfl h
    · iexact Hs
  · iexact Hr

theorem leave0 : (dat0 V c).Φ (Fin.last cfg0.N) ⊢ iprop(Pipeline.scopedRest (Ix := Unit) (Name := ℕ) (U := UR sig nD τ) (Lvl := ℕ) (Val := Elt F) spec0 c ∗ emp) := by
  rw [show (dat0 V c).Φ (Fin.last cfg0.N) = Inv0 V c (Fin.last cfg0.N).val from rfl, scopedRest0_split]
  unfold Inv0
  simp only [Memref.view_whole, View.set_whole]
  iintro ⟨⟨%f, -, Hs⟩, Hr⟩
  isplitl
  · isplitl [Hs]
    · iexists f; iexact Hs
    · iexact Hr
  · iempintro

theorem enter1 : iprop(Pipeline.scopedRest (Ix := Unit) (Name := ℕ) (U := UR sig nD τ) (Lvl := ℕ) (Val := Elt F) spec1 c ∗ emp) ⊢ (dat1 V c).Φ 0 := by
  rw [show (dat1 V c).Φ 0 = Inv1 V c 0 from rfl, scopedRest1_split]
  unfold Inv1
  simp only [Memref.view_whole, View.set_whole]
  iintro ⟨⟨⟨%f, Hs⟩, Hr⟩, -⟩
  isplitl [Hs]
  · iexists f
    isplitr
    · ipureintro; exact fun h => absurd rfl h
    · iexact Hs
  · iexact Hr

theorem leave1 : (dat1 V c).Φ (Fin.last cfg1.N) ⊢ iprop(Pipeline.scopedRest (Ix := Unit) (Name := ℕ) (U := UR sig nD τ) (Lvl := ℕ) (Val := Elt F) spec1 c ∗ emp) := by
  rw [show (dat1 V c).Φ (Fin.last cfg1.N) = Inv1 V c (Fin.last cfg1.N).val from rfl, scopedRest1_split]
  unfold Inv1
  simp only [Memref.view_whole, View.set_whole]
  iintro ⟨⟨%f, -, Hs⟩, Hr⟩
  isplitl
  · isplitl [Hs]
    · iexists f; iexact Hs
    · iexact Hr
  · iempintro

end

/-- The forward scan's region, from the arrays the host leaves. -/
def reg0 : RegionSeg (pcfgs (F := F)) adm (pdats m) () defs₀ Variants.none lvs lvl 0 :=
  RegionSeg.ofHeldIn (pcfgs (F := F)) adm (pdats m) () defs₀ Variants.none lvs lvl 0 (fun _ => 0) (Pipeline.ucRefs τ sig)
    (fun _ => iprop(emp)) (fun _ => iprop(emp)) launch0.toP rfl (fun c => (obligation0 (V1 m) c).loose) (fun _ _ => rfl) (fun _ => rfl)
    (fun c => (dat0 (V1 m) c).share_full fun _ => rfl) (fun c => enter0 (V1 m) c) (fun c => leave0 (V1 m) c) (fun _ => 0) (cut 0)
    (fun _ => iprop(emp)) (V1 m) (fun _ _ => rfl)

/-- The backward scan's region, from the arrays the forward scan leaves. -/
def reg1 : RegionSeg (pcfgs (F := F)) adm (pdats m) () defs₀ Variants.none lvs lvl 1 :=
  RegionSeg.ofHeldIn (pcfgs (F := F)) adm (pdats m) () defs₀ Variants.none lvs lvl 1 (fun _ => 0) (Pipeline.ucRefs τ sig)
    (fun _ => iprop(emp)) (fun _ => iprop(emp)) launch1.toP rfl (fun c => (obligation1 (VB m) c).loose) (fun _ _ => rfl) (fun _ => rfl)
    (fun c => (dat1 (VB m) c).share_full fun _ => rfl) (fun c => enter1 (VB m) c) (fun c => leave1 (VB m) c) (fun _ => 0) (cut 1)
    (fun _ => iprop(emp)) (VB m) (fun _ _ => rfl)

/-- What rides beside the arrays: nothing owed. -/
abbrev Rest (c : Dev nD) : sProp 𝕄 :=
  iprop((∃ W, owes (c : Thread nD τ) (0 : CellTallies nD τ sig Unit) W) ∗ emp ∗ emp)

/-- What the run leaves: every array of every device as the two scans leave it. -/
def Final (s : MemSt nD τ sig (Elt F)) : Prop :=
  ∀ (c : Dev nD) (b : Ref sig .tc), (Proc.devRef .tc b : DevRef τ sig) ∈ Pipeline.ucRefs τ sig →
    s.mem ((c : Thread nD τ).loc b) = VC m c (Proc.devRef .tc b)

theorem arr0_sub : Pipeline.arrRefs (τ := τ) (pcfgs (F := F) 0).spec ⊆ Pipeline.ucRefs τ sig := Pipeline.arrRefs_sub_ucRefs _ launch0.win.arr_unscoped
theorem arr1_sub : Pipeline.arrRefs (τ := τ) (pcfgs (F := F) 1).spec ⊆ Pipeline.ucRefs τ sig := Pipeline.arrRefs_sub_ucRefs _ launch1.win.arr_unscoped

theorem main_wp (c : Dev nD) (Q : PUnit → sProp 𝕄) :
    wp frame (wpE defs (Variants.none : Variants).lift (c.tc : Thread nD τ) none) Set.univ
        (Seg.run (segs m Variants.none lvs lvl (fun _ => Rest) () (pdats m) (reg0 m) (reg1 m) c)) Q
      ⊢ wp frame (wpE defs (Variants.none : Variants).lift (c.tc : Thread nD τ) none) Set.univ (main (F := F) c) Q := by
  rw [main_chain c, Seg.run_eq_chain,
    show (segs m Variants.none lvs lvl (fun _ => Rest) () (pdats m) (reg0 m) (reg1 m) c).map Seg.prog = [
      StableHlo.seq hostOps0,
      Prog.lift (.customCall (Pipeline.entry 0) ()),
      Prog.lift (.customCall (Pipeline.entry 1) ()) ] from rfl]

/-- What a core holds between two items. -/
abbrev At (V : Dev nD → Valuation τ sig (Elt F)) (c : Dev nD) : sProp 𝕄 :=
  iprop(StableHlo.held (c : Thread nD τ) (Pipeline.ucRefs τ sig) (V c) ∗ Rest c)

theorem reg0_pre (c : Dev nD) : At (V1 m) c ⊢ (reg0 m).pre c := by
  unfold reg0
  exact RegionSeg.ofHeldIn_pre (D := fun _ => 0) (W := V1 m) (X := fun _ => iprop(emp)) (R := fun _ => iprop(emp)) (arr0_sub (F := F)) c
theorem reg0_post (c : Dev nD) : (reg0 m).post c ⊢ At (VB m) c := by
  unfold reg0
  exact RegionSeg.ofHeldIn_post (D := fun _ => 0) (W := V1 m) (X := fun _ => iprop(emp)) (R := fun _ => iprop(emp)) (arr0_sub (F := F)) c
theorem reg1_pre (c : Dev nD) : At (VB m) c ⊢ (reg1 m).pre c := by
  unfold reg1
  exact RegionSeg.ofHeldIn_pre (D := fun _ => 0) (W := VB m) (X := fun _ => iprop(emp)) (R := fun _ => iprop(emp)) (arr1_sub (F := F)) c
theorem reg1_post (c : Dev nD) : (reg1 m).post c ⊢ At (VC m) c := by
  unfold reg1
  exact RegionSeg.ofHeldIn_post (D := fun _ => 0) (W := VB m) (X := fun _ => iprop(emp)) (R := fun _ => iprop(emp)) (arr1_sub (F := F)) c

/-- The last state. -/
abbrev Last (c : Dev nD) : sProp 𝕄 := StableHlo.held (c : Thread nD τ) (Pipeline.ucRefs τ sig) (VC m c)

theorem chains (c : Dev nD) : Seg.ChainsAt c (At (V0 m)) (segs m Variants.none lvs lvl (fun _ => Rest) () (pdats m) (reg0 m) (reg1 m) c)
    (fun c => iprop(Last m c ∗ ∃ W, owes (c.tc : Thread nD τ) (0 : CellTallies nD τ sig Unit) W)) :=
  ⟨.rfl, reg0_pre m c, (reg0_post m c).trans (reg1_pre m c), (reg1_post m c).trans (sep_mono .rfl (by iintro ⟨H, -⟩; iexact H))⟩

theorem begins : iprop((bigSep Finset.univ fun c : Dev nD => iprop(unscopedBufs c (fun b => m ((c.tc : Thread nD τ).loc b)) ∗ unscopedSems0 c
      ∗ owes (c.tc : Thread nD τ) (0 : CellTallies nD τ sig Unit) ∅ ∗ Pipeline.launchCred (fun _ => 0) c ∗ prngReg c (ρ c) ∗ emp)) ∗ levAts lvs lvl)
    ⊢ (|={Set.univ}=> bigSep Finset.univ (At (V0 m)) : sProp 𝕄) := by
  refine Pipeline.initEach lvs lvl fun c => ?_
  rw [show unscopedBufs c (fun b => m ((c : Thread nD τ).loc b)) = StableHlo.held (c : Thread nD τ) (Pipeline.ucRefs τ sig) (V0 m c) from Pipeline.unscopedBufs_held c (V0 m c)]
  iintro ⟨⟨Hh, -, HO, -, -, -⟩, -⟩
  imodintro
  isplitl [Hh]; · iexact Hh
  isplitl [HO]
  · iexists ∅; iexact HO
  · isplitr <;> iempintro

theorem ends (c : Dev nD) (s' : Phys nD τ sig (Elt F)) : iprop(Last m c ∗ SI s') ⊢ (|={Set.univ}=> iprop(⌜∀ b : Ref sig .tc, (Proc.devRef .tc b : DevRef τ sig) ∈ Pipeline.ucRefs τ sig →
      s'.mem.mem ((c : Thread nD τ).loc b) = VC m c (Proc.devRef .tc b)⌝ ∗ SI s') : sProp 𝕄) := by
  unfold Last StableHlo.held
  iintro ⟨Hh, HSI⟩
  ihave %h := (SI_pointsTo_bufs_agree (qs := fun _ => fullShare) (Pipeline.ucRefs τ sig)) $$ [HSI Hh]
  · isplitl [HSI]; · iexact HSI
    iexact Hh
  imodintro
  isplitr; · ipureintro; exact fun b hb => h _ hb
  iexact HSI

set_option backward.isDefEq.respectTransparency.types false in
/-- THE RUN: from any memory with every counter at zero, every weakly fair execution of the program terminates, with every array as the two scans leave it
    and every counter at zero. -/
theorem run_main : θ_run defs (onTc (τ := τ) (main (F := F))) ⟨m, fun _ => 0, ρ⟩ (fun r => Final m r.2 ∧ r.2.sem = fun _ => 0) :=
  Pipeline.θ_run_regions_kit_dev_sems (pcfgs (F := F)) adm (pdats m) () cellOf_inj emb₁ defs₀ Variants.none lvs lvl m ρ main
    (segs m Variants.none lvs lvl (fun _ => Rest) () (pdats m) (reg0 m) (reg1 m)) (main_wp m)
    (fun c => by simp only [segs, Seg.pipes_host, Seg.pipes_region, Seg.pipes_nil]; decide)
    (O₀ := fun _ => 0) (hL := fun g h => if_neg h) (G := fun _ => iprop(emp))
    (u₀ := initOf (Pipeline.cells cfgs cellOf_inj) (Pipeline.launchToks cfgs cellOf_inj))
    (hu₀ := by
      iintro Hu
      imodintro
      isplitl [Hu]
      · iapply (show (ownU _ : sProp 𝕄) ⊢ BI.own (emb₁ (initOf (Pipeline.cells (Pipeline.pin (pcfgs (F := F)) adm) cellOf_inj) (Pipeline.launchToks (Pipeline.pin (pcfgs (F := F)) adm) cellOf_inj))) from .rfl)
        iexact Hu
      iapply (show (BI.emp : sProp 𝕄) ⊢ bigSep Finset.univ (fun _ : Dev nD => (BI.emp : sProp 𝕄)) from by rw [BI.bigSep_emp_const])
      iempintro)
    (T₀ := At (V0 m)) (Tₙ := Last m) (hch := chains m) (hinit := begins m ρ)
    (QY := fun c s => ∀ b : Ref sig .tc, (Proc.devRef .tc b : DevRef τ sig) ∈ Pipeline.ucRefs τ sig →
      s.mem ((c : Thread nD τ).loc b) = VC m c (Proc.devRef .tc b))
    (hfin := ends m)
    (hQ := fun s h hz => ⟨h, funext fun g => hz g (.inr (regions_no_unscoped g.2))⟩)

/-! ## The arrays read off -/

theorem VB_of (c : Dev nD) (r : Ref sig .tc) (h : ∀ w, Pipeline.arrRef spec0 w = r → (cfg0.win w).isOut = false) : VB m c r = V1 m c r :=
  Pipeline.afterRegion_keeps (dat0 (V1 m) c) (V1 m c) launch0.win.arr_inj (fun _ => rfl) r h
theorem VC_of (c : Dev nD) (r : Ref sig .tc) (h : ∀ w, Pipeline.arrRef spec1 w = r → (cfg1.win w).isOut = false) : VC m c r = VB m c r :=
  Pipeline.afterRegion_keeps (dat1 (VB m) c) (VB m c) launch1.win.arr_inj (fun _ => rfl) r h

/-- The arguments end as they began. -/
theorem VC_arg (c : Dev nD) : ∀ r ∈ [main_arg0, main_arg1, main_arg2, main_arg3, main_arg4, main_arg5, main_arg6], VC m c r = m ((c : Thread nD τ).loc r) := fun r hr =>
  (VC_of m c r ((by decide : ∀ r ∈ [main_arg0, main_arg1, main_arg2, main_arg3, main_arg4, main_arg5, main_arg6], ∀ w, Pipeline.arrRef spec1 w = r → (cfg1.win w).isOut = false) r hr)).trans <|
  (VB_of m c r ((by decide : ∀ r ∈ [main_arg0, main_arg1, main_arg2, main_arg3, main_arg4, main_arg5, main_arg6], ∀ w, Pipeline.arrRef spec0 w = r → (cfg0.win w).isOut = false) r hr)).trans <|
  (V1_of m c r ((by decide : ∀ r ∈ [main_arg0, main_arg1, main_arg2, main_arg3, main_arg4, main_arg5, main_arg6], r ∉ hostOps0_W) r hr))

end Cert.Proof.Scan
end
-- ==== Proof.KernelRun.lean ====
module

public import proofs.«01_k».proof.Proof.Same
public import proofs.«01_k».proof.Proof.Scan.Run
@[expose] public section
set_option maxRecDepth 16384
noncomputable section
/-! The run of the kernel's own program. -/
namespace Cert.Proof

open Idealize.ShloMosaic Idealize.ShloMosaic.TcCoe Idealize.SL.Sem
variable {F : FTy → Type} [FloatOps F]
set_option maxHeartbeats 20000000

theorem same_defs : (Cert.Kernel.defs (F := F)) = Cert.KernelIdeal.defs (F := F) :=
  (congrArg (Pipeline.defs (Cert.Kernel.pcfgs (F := F))) same_bodies :)

/-- The two programs of the kernel have the same text, so the run of the one is a run of the other. -/
theorem run_kernel (m : (ℓ : Loc Cert.Kernel.nD Cert.Kernel.τ Cert.Kernel.sig) → Buf (Elt Bits) ℓ) (g : Dev Cert.Kernel.nD → PrngReg) :
    θ_run (Cert.Kernel.defs (F := Bits)) (onTc (τ := Cert.Kernel.τ) (Cert.Kernel.main (F := Bits))) ⟨m, fun _ => 0, g⟩
      (fun r => Scan.Final (F := Bits) m r.2 ∧ r.2.sem = fun _ => 0) := by
  rw [same_defs, same_main]
  exact Scan.run_main (F := Bits) m g
end Cert.Proof
end
-- ==== Proof.Ref.Ops.lean ====
module

public import proofs.«01_k».proof.Proof.Gen.ReferenceIdeal
public import Idealize.ShloMosaic.Lib.StableHlo.RunLoop
public import Idealize.ShloMosaic.Lib.StableHlo.RunRead
@[expose] public section
set_option maxRecDepth 100000
noncomputable section
/-! The reference's operations as lists: before, between and after its two loops, and each loop's condition and body. -/
namespace Cert.Proof.Ref

open Cert.ReferenceIdeal Cert.ReferenceIdeal.Gen
open Idealize.ShloMosaic Idealize.ShloMosaic.TcCoe
open Idealize.SL.Sem

variable {F : FTy → Type} [FloatOps F]

/-- The operations before the first loop. -/
abbrev pre : List (HloOp τ sig (Elt F)) :=
  [ StableHlo.reshape main_arg0 main_v0 (rfl : (.f32 : EltTy) = .f32) shapeCasts_S4096x1024_S64x64x8x128,
    StableHlo.unary main_v0 main_v1 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F)),
    StableHlo.reshape main_arg1 main_v2 (rfl : (.f32 : EltTy) = .f32) shapeCasts_S4096x1024_S64x64x8x128,
    StableHlo.unary main_v2 main_v3 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F)),
    StableHlo.reshape main_arg2 main_v4 (rfl : (.f32 : EltTy) = .f32) shapeCasts_S4096x1024_S64x64x8x128,
    StableHlo.unary main_v4 main_v5 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F)),
    StableHlo.reshape main_arg3 main_v6 (rfl : (.f32 : EltTy) = .f32) shapeCasts_S4096x1024_S64x64x8x128,
    StableHlo.unary main_v6 main_v7 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F)),
    StableHlo.unary main_v1 main_v8 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F)),
    StableHlo.unary main_v3 main_v9 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F)),
    StableHlo.unary main_arg4 main_v10 ((transpose S64x8x64x64 [1, 0, 2, 3] · transposes_S8x64x64x64_S64x8x64x64_1_0_2_3) : (⟨S8x64x64x64, .f32⟩ : BufTy).Contents (Elt F) → (⟨S64x8x64x64, .f32⟩ : BufTy).Contents (Elt F)),
    StableHlo.unary main_v5 main_v11 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F)),
    StableHlo.unary main_v7 main_v12 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F)),
    StableHlo.unary main_arg5 main_v13 ((transpose S64x8 [1, 0] · transposes_S8x64_S64x8_1_0) : (⟨S8x64, .f32⟩ : BufTy).Contents (Elt F) → (⟨S64x8, .f32⟩ : BufTy).Contents (Elt F)),
    StableHlo.nullary main_cst (constant S_ .f32 0x00000000#32),
    StableHlo.unary main_cst main_v14 (broadcastInDim S8x128x128 ![] bcast_S_S8x128x128 : (⟨S_, .f32⟩ : BufTy).Contents (Elt F) → (⟨S8x128x128, .f32⟩ : BufTy).Contents (Elt F)),
    StableHlo.nullary main_cst_0 (constant S_ .f32 0x00000000#32),
    StableHlo.unary main_cst_0 main_v15 (broadcastInDim S64x8x64x128 ![] bcast_S_S64x8x64x128 : (⟨S_, .f32⟩ : BufTy).Contents (Elt F) → (⟨S64x8x64x128, .f32⟩ : BufTy).Contents (Elt F)),
    StableHlo.nullary main_cst_1 (constant S_ .f32 0x00000000#32),
    StableHlo.unary main_cst_1 main_v16 (broadcastInDim S64x8x128x128 ![] bcast_S_S64x8x128x128 : (⟨S_, .f32⟩ : BufTy).Contents (Elt F) → (⟨S64x8x128x128, .f32⟩ : BufTy).Contents (Elt F)),
    StableHlo.nullary main_cst_2 (constant S_ .f32 0x00000000#32),
    StableHlo.unary main_cst_2 main_v17 (broadcastInDim S64x8x64x128 ![] bcast_S_S64x8x64x128 : (⟨S_, .f32⟩ : BufTy).Contents (Elt F) → (⟨S64x8x64x128, .f32⟩ : BufTy).Contents (Elt F)),
    StableHlo.nullary main_cst_3 (constant S_ .f32 0x00000000#32),
    StableHlo.unary main_cst_3 main_v18 (broadcastInDim S64x8x1x1 ![] bcast_S_S64x8x1x1 : (⟨S_, .f32⟩ : BufTy).Contents (Elt F) → (⟨S64x8x1x1, .f32⟩ : BufTy).Contents (Elt F)),
    StableHlo.nullary main_c (constantI S_ 32 0#32),
    StableHlo.unary main_v8 main_v19_0 id,
    StableHlo.unary main_v9 main_v19_1 id,
    StableHlo.unary main_v10 main_v19_2 id,
    StableHlo.unary main_v11 main_v19_3 id,
    StableHlo.unary main_v12 main_v19_4 id,
    StableHlo.unary main_v13 main_v19_5 id,
    StableHlo.unary main_c main_v19_6 id,
    StableHlo.unary main_v14 main_v19_7 id,
    StableHlo.unary main_v15 main_v19_8 id,
    StableHlo.unary main_v16 main_v19_9 id,
    StableHlo.unary main_v17 main_v19_10 id,
    StableHlo.unary main_v18 main_v19_11 id ]

/-- The operations between the loops. -/
abbrev mid : List (HloOp τ sig (Elt F)) :=
  [ StableHlo.unary main_v19_8 main_v20 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    StableHlo.reshape main_arg6 main_v21 (rfl : (.f32 : EltTy) = .f32) shapeCasts_S4096x1024_S64x64x8x128,
    StableHlo.unary main_v21 main_v22 ((transpose S8x64x64x128 [2, 0, 1, 3] · transposes_S64x64x8x128_S8x64x64x128_2_0_1_3) : (⟨S64x64x8x128, .f32⟩ : BufTy).Contents (Elt F) → (⟨S8x64x64x128, .f32⟩ : BufTy).Contents (Elt F)),
    StableHlo.nullary main_cst_4 (constant S_ .f32 0x00000000#32),
    StableHlo.unary main_cst_4 main_v23 (broadcastInDim S8x128x128 ![] bcast_S_S8x128x128 : (⟨S_, .f32⟩ : BufTy).Contents (Elt F) → (⟨S8x128x128, .f32⟩ : BufTy).Contents (Elt F)),
    StableHlo.unary main_v22 main_v24 ((transpose S64x8x64x128 [1, 0, 2, 3] · transposes_S8x64x64x128_S64x8x64x128_1_0_2_3) : (⟨S8x64x64x128, .f32⟩ : BufTy).Contents (Elt F) → (⟨S64x8x64x128, .f32⟩ : BufTy).Contents (Elt F)),
    StableHlo.nullary main_cst_5 (constant S_ .f32 0x00000000#32),
    StableHlo.unary main_cst_5 main_v25 (broadcastInDim S8x128x128 ![] bcast_S_S8x128x128 : (⟨S_, .f32⟩ : BufTy).Contents (Elt F) → (⟨S8x128x128, .f32⟩ : BufTy).Contents (Elt F)),
    StableHlo.nullary main_cst_6 (constant S_ .f32 0x00000000#32),
    StableHlo.unary main_cst_6 main_v26 (broadcastInDim S64x8x64x128 ![] bcast_S_S64x8x64x128 : (⟨S_, .f32⟩ : BufTy).Contents (Elt F) → (⟨S64x8x64x128, .f32⟩ : BufTy).Contents (Elt F)),
    StableHlo.nullary main_cst_7 (constant S_ .f32 0x00000000#32),
    StableHlo.unary main_cst_7 main_v27 (broadcastInDim S64x8x64x128 ![] bcast_S_S64x8x64x128 : (⟨S_, .f32⟩ : BufTy).Contents (Elt F) → (⟨S64x8x64x128, .f32⟩ : BufTy).Contents (Elt F)),
    StableHlo.nullary main_cst_8 (constant S_ .f32 0x00000000#32),
    StableHlo.unary main_cst_8 main_v28 (broadcastInDim S64x8x64x64 ![] bcast_S_S64x8x64x64 : (⟨S_, .f32⟩ : BufTy).Contents (Elt F) → (⟨S64x8x64x64, .f32⟩ : BufTy).Contents (Elt F)),
    StableHlo.nullary main_cst_9 (constant S_ .f32 0x00000000#32),
    StableHlo.unary main_cst_9 main_v29 (broadcastInDim S64x8x64x128 ![] bcast_S_S64x8x64x128 : (⟨S_, .f32⟩ : BufTy).Contents (Elt F) → (⟨S64x8x64x128, .f32⟩ : BufTy).Contents (Elt F)),
    StableHlo.nullary main_cst_10 (constant S_ .f32 0x00000000#32),
    StableHlo.unary main_cst_10 main_v30 (broadcastInDim S64x8x64x128 ![] bcast_S_S64x8x64x128 : (⟨S_, .f32⟩ : BufTy).Contents (Elt F) → (⟨S64x8x64x128, .f32⟩ : BufTy).Contents (Elt F)),
    StableHlo.nullary main_cst_11 (constant S_ .f32 0x00000000#32),
    StableHlo.unary main_cst_11 main_v31 (broadcastInDim S64x8 ![] bcast_S_S64x8 : (⟨S_, .f32⟩ : BufTy).Contents (Elt F) → (⟨S64x8, .f32⟩ : BufTy).Contents (Elt F)),
    StableHlo.nullary main_c_12 (constantI S_ 32 0#32),
    StableHlo.unary main_v24 main_v32_0 id,
    StableHlo.unary main_v19_9 main_v32_1 id,
    StableHlo.unary main_v9 main_v32_2 id,
    StableHlo.unary main_v11 main_v32_3 id,
    StableHlo.unary main_v19_10 main_v32_4 id,
    StableHlo.unary main_v10 main_v32_5 id,
    StableHlo.unary main_v19_11 main_v32_6 id,
    StableHlo.unary main_v12 main_v32_7 id,
    StableHlo.unary main_c_12 main_v32_8 id,
    StableHlo.unary main_v25 main_v32_9 id,
    StableHlo.unary main_v26 main_v32_10 id,
    StableHlo.unary main_v27 main_v32_11 id,
    StableHlo.unary main_v28 main_v32_12 id,
    StableHlo.unary main_v29 main_v32_13 id,
    StableHlo.unary main_v30 main_v32_14 id,
    StableHlo.unary main_v31 main_v32_15 id ]

/-- The operations after the second loop. -/
abbrev post : List (HloOp τ sig (Elt F)) :=
  [ StableHlo.unary main_v32_15 main_v33 ((transpose S8x64 [1, 0] · transposes_S64x8_S8x64_1_0) : (⟨S64x8, .f32⟩ : BufTy).Contents (Elt F) → (⟨S8x64, .f32⟩ : BufTy).Contents (Elt F)),
    StableHlo.unary main_v32_14 main_v34 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    StableHlo.unary main_v32_13 main_v35 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    StableHlo.unary main_v32_12 main_v36 ((transpose S8x64x64x64 [1, 0, 2, 3] · transposes_S64x8x64x64_S8x64x64x64_1_0_2_3) : (⟨S64x8x64x64, .f32⟩ : BufTy).Contents (Elt F) → (⟨S8x64x64x64, .f32⟩ : BufTy).Contents (Elt F)),
    StableHlo.unary main_v32_11 main_v37 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    StableHlo.unary main_v32_10 main_v38 ((transpose S8x64x64x128 [1, 0, 2, 3] · transposes_S64x8x64x128_S8x64x64x128_1_0_2_3) : (⟨S64x8x64x128, .f32⟩ : BufTy).Contents (Elt F) → (⟨S8x64x64x128, .f32⟩ : BufTy).Contents (Elt F)),
    StableHlo.unary main_v38 main_v39 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    StableHlo.reshape main_v39 main_v40 (rfl : (.f32 : EltTy) = .f32) shapeCasts_S64x64x8x128_S4096x1024,
    StableHlo.unary main_v37 main_v41 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    StableHlo.reshape main_v41 main_v42 (rfl : (.f32 : EltTy) = .f32) shapeCasts_S64x64x8x128_S4096x1024,
    StableHlo.unary main_v35 main_v43 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    StableHlo.reshape main_v43 main_v44 (rfl : (.f32 : EltTy) = .f32) shapeCasts_S64x64x8x128_S4096x1024,
    StableHlo.unary main_v34 main_v45 ((transpose S64x64x8x128 [1, 2, 0, 3] · transposes_S8x64x64x128_S64x64x8x128_1_2_0_3) : (⟨S8x64x64x128, .f32⟩ : BufTy).Contents (Elt F) → (⟨S64x64x8x128, .f32⟩ : BufTy).Contents (Elt F)),
    StableHlo.reshape main_v45 main_v46 (rfl : (.f32 : EltTy) = .f32) shapeCasts_S64x64x8x128_S4096x1024,
    StableHlo.unary main_v33 main_v47 (broadcastInDim S8x64x1x1 ![0, 1] bcast_S8x64_S8x64x1x1_0_1 : (⟨S8x64, .f32⟩ : BufTy).Contents (Elt F) → (⟨S8x64x1x1, .f32⟩ : BufTy).Contents (Elt F)),
    StableHlo.unary main_v47 main_v48 (broadcastInDim S8x64x1x128 ![0, 1, 2, 3] bcast_S8x64x1x1_S8x64x1x128_0_1_2_3 : (⟨S8x64x1x1, .f32⟩ : BufTy).Contents (Elt F) → (⟨S8x64x1x128, .f32⟩ : BufTy).Contents (Elt F)) ]

/-- The first loop's body: the chunk read. -/
abbrev body0a : List (HloOp τ sig (Elt F)) :=
  [ StableHlo.TRef.nullary main_while0b_call0.c (constantI S_ 32 0#32),
    StableHlo.TRef.nullary main_while0b_call0.c_0 (constantI S_ 32 0#32),
    StableHlo.TRef.nullary main_while0b_call0.c_1 (constantI S_ 32 0#32),
    StableHlo.TRef.unaryIndexed (StableHlo.TRef.of main_v19_0 : StableHlo.TRef sig ⟨S64x8x64x128, .f32⟩) ![(StableHlo.TRef.of main_v19_6 : StableHlo.TRef sig ⟨S_, .i32⟩), main_while0b_call0.c, main_while0b_call0.c_0, main_while0b_call0.c_1] main_while0b_call0.v0 (fun x i => Host.dynamicSlice S1x8x64x128 x (fun k => (i k (Shape.Idx.first h_S_)).toInt) sliceFits_S64x8x64x128_S1x8x64x128),
    StableHlo.TRef.reshape main_while0b_call0.v0 main_while0b_call0.v1 (rfl : (.f32 : EltTy) = .f32) shapeCasts_S1x8x64x128_S8x64x128,
    StableHlo.TRef.nullary main_while0b_call1.c (constantI S_ 32 0#32),
    StableHlo.TRef.nullary main_while0b_call1.c_0 (constantI S_ 32 0#32),
    StableHlo.TRef.nullary main_while0b_call1.c_1 (constantI S_ 32 0#32),
    StableHlo.TRef.unaryIndexed (StableHlo.TRef.of main_v19_1 : StableHlo.TRef sig ⟨S64x8x64x128, .f32⟩) ![(StableHlo.TRef.of main_v19_6 : StableHlo.TRef sig ⟨S_, .i32⟩), main_while0b_call1.c, main_while0b_call1.c_0, main_while0b_call1.c_1] main_while0b_call1.v0 (fun x i => Host.dynamicSlice S1x8x64x128 x (fun k => (i k (Shape.Idx.first h_S_)).toInt) sliceFits_S64x8x64x128_S1x8x64x128),
    StableHlo.TRef.reshape main_while0b_call1.v0 main_while0b_call1.v1 (rfl : (.f32 : EltTy) = .f32) shapeCasts_S1x8x64x128_S8x64x128,
    StableHlo.TRef.nullary main_while0b_call2.c (constantI S_ 32 0#32),
    StableHlo.TRef.nullary main_while0b_call2.c_0 (constantI S_ 32 0#32),
    StableHlo.TRef.nullary main_while0b_call2.c_1 (constantI S_ 32 0#32),
    StableHlo.TRef.unaryIndexed (StableHlo.TRef.of main_v19_2 : StableHlo.TRef sig ⟨S64x8x64x64, .f32⟩) ![(StableHlo.TRef.of main_v19_6 : StableHlo.TRef sig ⟨S_, .i32⟩), main_while0b_call2.c, main_while0b_call2.c_0, main_while0b_call2.c_1] main_while0b_call2.v0 (fun x i => Host.dynamicSlice S1x8x64x64 x (fun k => (i k (Shape.Idx.first h_S_)).toInt) sliceFits_S64x8x64x64_S1x8x64x64),
    StableHlo.TRef.reshape main_while0b_call2.v0 main_while0b_call2.v1 (rfl : (.f32 : EltTy) = .f32) shapeCasts_S1x8x64x64_S8x64x64,
    StableHlo.TRef.nullary main_while0b_call3.c (constantI S_ 32 0#32),
    StableHlo.TRef.nullary main_while0b_call3.c_0 (constantI S_ 32 0#32),
    StableHlo.TRef.nullary main_while0b_call3.c_1 (constantI S_ 32 0#32),
    StableHlo.TRef.unaryIndexed (StableHlo.TRef.of main_v19_3 : StableHlo.TRef sig ⟨S64x8x64x128, .f32⟩) ![(StableHlo.TRef.of main_v19_6 : StableHlo.TRef sig ⟨S_, .i32⟩), main_while0b_call3.c, main_while0b_call3.c_0, main_while0b_call3.c_1] main_while0b_call3.v0 (fun x i => Host.dynamicSlice S1x8x64x128 x (fun k => (i k (Shape.Idx.first h_S_)).toInt) sliceFits_S64x8x64x128_S1x8x64x128),
    StableHlo.TRef.reshape main_while0b_call3.v0 main_while0b_call3.v1 (rfl : (.f32 : EltTy) = .f32) shapeCasts_S1x8x64x128_S8x64x128,
    StableHlo.TRef.nullary main_while0b_call4.c (constantI S_ 32 0#32),
    StableHlo.TRef.nullary main_while0b_call4.c_0 (constantI S_ 32 0#32),
    StableHlo.TRef.nullary main_while0b_call4.c_1 (constantI S_ 32 0#32),
    StableHlo.TRef.unaryIndexed (StableHlo.TRef.of main_v19_4 : StableHlo.TRef sig ⟨S64x8x64x128, .f32⟩) ![(StableHlo.TRef.of main_v19_6 : StableHlo.TRef sig ⟨S_, .i32⟩), main_while0b_call4.c, main_while0b_call4.c_0, main_while0b_call4.c_1] main_while0b_call4.v0 (fun x i => Host.dynamicSlice S1x8x64x128 x (fun k => (i k (Shape.Idx.first h_S_)).toInt) sliceFits_S64x8x64x128_S1x8x64x128),
    StableHlo.TRef.reshape main_while0b_call4.v0 main_while0b_call4.v1 (rfl : (.f32 : EltTy) = .f32) shapeCasts_S1x8x64x128_S8x64x128,
    StableHlo.TRef.nullary main_while0b_call5.c (constantI S_ 32 0#32),
    StableHlo.TRef.unaryIndexed (StableHlo.TRef.of main_v19_5 : StableHlo.TRef sig ⟨S64x8, .f32⟩) ![(StableHlo.TRef.of main_v19_6 : StableHlo.TRef sig ⟨S_, .i32⟩), main_while0b_call5.c] main_while0b_call5.v0 (fun x i => Host.dynamicSlice S1x8 x (fun k => (i k (Shape.Idx.first h_S_)).toInt) sliceFits_S64x8_S1x8),
    StableHlo.TRef.reshape main_while0b_call5.v0 main_while0b_call5.v1 (rfl : (.f32 : EltTy) = .f32) shapeCasts_S1x8_S8 ]

/-- The first loop's body: the products. -/
abbrev body0b : List (HloOp τ sig (Elt F)) :=
  [ StableHlo.binary main_while0b_v50 main_v19_7 main_while0b_v55 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v49 main_while0b_v55 main_while0b_v56 (subf : (⟨S8x64x128, .f32⟩ : BufTy).Contents (Elt F) → (⟨S8x64x128, .f32⟩ : BufTy).Contents (Elt F) → (⟨S8x64x128, .f32⟩ : BufTy).Contents (Elt F)),
    StableHlo.binary main_while0b_v52 main_v19_7 main_while0b_v57 ((fun l r => Host.dotGeneral dot_S8x64x128_S8x128x128_S8x64x128_2_1_1_2_0_0 none l r) : (⟨S8x64x128, .f32⟩ : BufTy).Contents (Elt F) → (⟨S8x128x128, .f32⟩ : BufTy).Contents (Elt F) → (⟨S8x64x128, .f32⟩ : BufTy).Contents (Elt F)),
    StableHlo.binary main_while0b_v51 main_while0b_v56 main_while0b_v58 ((fun l r => Host.dotGeneral dot_S8x64x64_S8x64x128_S8x64x128_2_1_1_2_0_0 none l r) : (⟨S8x64x64, .f32⟩ : BufTy).Contents (Elt F) → (⟨S8x64x128, .f32⟩ : BufTy).Contents (Elt F) → (⟨S8x64x128, .f32⟩ : BufTy).Contents (Elt F)),
    StableHlo.binary main_while0b_v57 main_while0b_v58 main_while0b_v59 (addf : (⟨S8x64x128, .f32⟩ : BufTy).Contents (Elt F) → (⟨S8x64x128, .f32⟩ : BufTy).Contents (Elt F) → (⟨S8x64x128, .f32⟩ : BufTy).Contents (Elt F)),
    StableHlo.unary main_while0b_v54 main_while0b_v60 (broadcastInDim S8x1x1 ![0] bcast_S8_S8x1x1_0 : (⟨S8, .f32⟩ : BufTy).Contents (Elt F) → (⟨S8x1x1, .f32⟩ : BufTy).Contents (Elt F)),
    StableHlo.unary main_while0b_v60 main_while0b_v61 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v19_7 main_while0b_v61 main_while0b_v62 (mulf : (⟨S8x128x128, .f32⟩ : BufTy).Contents (Elt F) → (⟨S8x128x128, .f32⟩ : BufTy).Contents (Elt F) → (⟨S8x128x128, .f32⟩ : BufTy).Contents (Elt F)),
    StableHlo.binary main_while0b_v53 main_while0b_v56 main_while0b_v63 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.binary main_while0b_v62 main_while0b_v63 main_while0b_v64 (addf : (⟨S8x128x128, .f32⟩ : BufTy).Contents (Elt F) → (⟨S8x128x128, .f32⟩ : BufTy).Contents (Elt F) → (⟨S8x128x128, .f32⟩ : BufTy).Contents (Elt F)) ]

/-- The first loop's body: the results stored and the counter raised. -/
abbrev body0c : List (HloOp τ sig (Elt F)) :=
  [ StableHlo.TRef.unary (StableHlo.TRef.of main_while0b_v59 : StableHlo.TRef sig ⟨S8x64x128, .f32⟩) main_while0b_call6.v0 (broadcastInDim S1x8x64x128 ![1, 2, 3] bcast_S8x64x128_S1x8x64x128_1_2_3),
    StableHlo.TRef.nullary main_while0b_call6.c (constantI S_ 32 0#32),
    StableHlo.TRef.nullary main_while0b_call6.c_0 (constantI S_ 32 0#32),
    StableHlo.TRef.nullary main_while0b_call6.c_1 (constantI S_ 32 0#32),
    StableHlo.TRef.binaryIndexed (StableHlo.TRef.of main_v19_8 : StableHlo.TRef sig ⟨S64x8x64x128, .f32⟩) main_while0b_call6.v0 ![(StableHlo.TRef.of main_v19_6 : StableHlo.TRef sig ⟨S_, .i32⟩), main_while0b_call6.c, main_while0b_call6.c_0, main_while0b_call6.c_1] main_while0b_call6.v1 (fun x u i => Host.dynamicUpdateSlice x u (fun k => (i k (Shape.Idx.first h_S_)).toInt) updateFits_S64x8x64x128_S1x8x64x128),
    StableHlo.TRef.unary (StableHlo.TRef.of main_v19_7 : StableHlo.TRef sig ⟨S8x128x128, .f32⟩) main_while0b_call7.v0 (broadcastInDim S1x8x128x128 ![1, 2, 3] bcast_S8x128x128_S1x8x128x128_1_2_3),
    StableHlo.TRef.nullary main_while0b_call7.c (constantI S_ 32 0#32),
    StableHlo.TRef.nullary main_while0b_call7.c_0 (constantI S_ 32 0#32),
    StableHlo.TRef.nullary main_while0b_call7.c_1 (constantI S_ 32 0#32),
    StableHlo.TRef.binaryIndexed (StableHlo.TRef.of main_v19_9 : StableHlo.TRef sig ⟨S64x8x128x128, .f32⟩) main_while0b_call7.v0 ![(StableHlo.TRef.of main_v19_6 : StableHlo.TRef sig ⟨S_, .i32⟩), main_while0b_call7.c, main_while0b_call7.c_0, main_while0b_call7.c_1] main_while0b_call7.v1 (fun x u i => Host.dynamicUpdateSlice x u (fun k => (i k (Shape.Idx.first h_S_)).toInt) updateFits_S64x8x128x128_S1x8x128x128),
    StableHlo.TRef.unary (StableHlo.TRef.of main_while0b_v56 : StableHlo.TRef sig ⟨S8x64x128, .f32⟩) main_while0b_call8.v0 (broadcastInDim S1x8x64x128 ![1, 2, 3] bcast_S8x64x128_S1x8x64x128_1_2_3),
    StableHlo.TRef.nullary main_while0b_call8.c (constantI S_ 32 0#32),
    StableHlo.TRef.nullary main_while0b_call8.c_0 (constantI S_ 32 0#32),
    StableHlo.TRef.nullary main_while0b_call8.c_1 (constantI S_ 32 0#32),
    StableHlo.TRef.binaryIndexed (StableHlo.TRef.of main_v19_10 : StableHlo.TRef sig ⟨S64x8x64x128, .f32⟩) main_while0b_call8.v0 ![(StableHlo.TRef.of main_v19_6 : StableHlo.TRef sig ⟨S_, .i32⟩), main_while0b_call8.c, main_while0b_call8.c_0, main_while0b_call8.c_1] main_while0b_call8.v1 (fun x u i => Host.dynamicUpdateSlice x u (fun k => (i k (Shape.Idx.first h_S_)).toInt) updateFits_S64x8x64x128_S1x8x64x128),
    StableHlo.TRef.unary (StableHlo.TRef.of main_while0b_v60 : StableHlo.TRef sig ⟨S8x1x1, .f32⟩) main_while0b_call9.v0 (broadcastInDim S1x8x1x1 ![1, 2, 3] bcast_S8x1x1_S1x8x1x1_1_2_3),
    StableHlo.TRef.nullary main_while0b_call9.c (constantI S_ 32 0#32),
    StableHlo.TRef.nullary main_while0b_call9.c_0 (constantI S_ 32 0#32),
    StableHlo.TRef.nullary main_while0b_call9.c_1 (constantI S_ 32 0#32),
    StableHlo.TRef.binaryIndexed (StableHlo.TRef.of main_v19_11 : StableHlo.TRef sig ⟨S64x8x1x1, .f32⟩) main_while0b_call9.v0 ![(StableHlo.TRef.of main_v19_6 : StableHlo.TRef sig ⟨S_, .i32⟩), main_while0b_call9.c, main_while0b_call9.c_0, main_while0b_call9.c_1] main_while0b_call9.v1 (fun x u i => Host.dynamicUpdateSlice x u (fun k => (i k (Shape.Idx.first h_S_)).toInt) updateFits_S64x8x1x1_S1x8x1x1),
    StableHlo.nullary main_while0b_c_24 (constantI S_ 32 1#32),
    StableHlo.binary main_v19_6 main_while0b_c_24 main_while0b_v69 (addi : (⟨S_, .i32⟩ : BufTy).Contents (Elt F) → (⟨S_, .i32⟩ : BufTy).Contents (Elt F) → (⟨S_, .i32⟩ : BufTy).Contents (Elt F)),
    StableHlo.unary main_while0b_v69 main_v19_6 id,
    StableHlo.unary main_while0b_v64 main_v19_7 id,
    StableHlo.unary main_while0b_v65 main_v19_8 id,
    StableHlo.unary main_while0b_v66 main_v19_9 id,
    StableHlo.unary main_while0b_v67 main_v19_10 id,
    StableHlo.unary main_while0b_v68 main_v19_11 id ]

/-- The second loop's body: the chunk read. -/
abbrev body1a : List (HloOp τ sig (Elt F)) :=
  [ StableHlo.nullary main_while1b_c_28 (constantI S_ 32 64#32),
    StableHlo.binary main_while1b_c_28 main_v32_8 main_while1b_v49 (subi : (⟨S_, .i32⟩ : BufTy).Contents (Elt F) → (⟨S_, .i32⟩ : BufTy).Contents (Elt F) → (⟨S_, .i32⟩ : BufTy).Contents (Elt F)),
    StableHlo.nullary main_while1b_c_29 (constantI S_ 32 1#32),
    StableHlo.binary main_while1b_v49 main_while1b_c_29 main_while1b_v50 (subi : (⟨S_, .i32⟩ : BufTy).Contents (Elt F) → (⟨S_, .i32⟩ : BufTy).Contents (Elt F) → (⟨S_, .i32⟩ : BufTy).Contents (Elt F)),
    StableHlo.TRef.nullary main_while1b_call10.c (constantI S_ 32 0#32),
    StableHlo.TRef.nullary main_while1b_call10.c_0 (constantI S_ 32 0#32),
    StableHlo.TRef.nullary main_while1b_call10.c_1 (constantI S_ 32 0#32),
    StableHlo.TRef.unaryIndexed (StableHlo.TRef.of main_v32_0 : StableHlo.TRef sig ⟨S64x8x64x128, .f32⟩) ![(StableHlo.TRef.of main_while1b_v50 : StableHlo.TRef sig ⟨S_, .i32⟩), main_while1b_call10.c, main_while1b_call10.c_0, main_while1b_call10.c_1] main_while1b_call10.v0 (fun x i => Host.dynamicSlice S1x8x64x128 x (fun k => (i k (Shape.Idx.first h_S_)).toInt) sliceFits_S64x8x64x128_S1x8x64x128),
    StableHlo.TRef.reshape main_while1b_call10.v0 main_while1b_call10.v1 (rfl : (.f32 : EltTy) = .f32) shapeCasts_S1x8x64x128_S8x64x128,
    StableHlo.TRef.nullary main_while1b_call11.c (constantI S_ 32 0#32),
    StableHlo.TRef.nullary main_while1b_call11.c_0 (constantI S_ 32 0#32),
    StableHlo.TRef.nullary main_while1b_call11.c_1 (constantI S_ 32 0#32),
    StableHlo.TRef.unaryIndexed (StableHlo.TRef.of main_v32_1 : StableHlo.TRef sig ⟨S64x8x128x128, .f32⟩) ![(StableHlo.TRef.of main_while1b_v50 : StableHlo.TRef sig ⟨S_, .i32⟩), main_while1b_call11.c, main_while1b_call11.c_0, main_while1b_call11.c_1] main_while1b_call11.v0 (fun x i => Host.dynamicSlice S1x8x128x128 x (fun k => (i k (Shape.Idx.first h_S_)).toInt) sliceFits_S64x8x128x128_S1x8x128x128),
    StableHlo.TRef.reshape main_while1b_call11.v0 main_while1b_call11.v1 (rfl : (.f32 : EltTy) = .f32) shapeCasts_S1x8x128x128_S8x128x128,
    StableHlo.TRef.nullary main_while1b_call12.c (constantI S_ 32 0#32),
    StableHlo.TRef.nullary main_while1b_call12.c_0 (constantI S_ 32 0#32),
    StableHlo.TRef.nullary main_while1b_call12.c_1 (constantI S_ 32 0#32),
    StableHlo.TRef.unaryIndexed (StableHlo.TRef.of main_v32_2 : StableHlo.TRef sig ⟨S64x8x64x128, .f32⟩) ![(StableHlo.TRef.of main_while1b_v50 : StableHlo.TRef sig ⟨S_, .i32⟩), main_while1b_call12.c, main_while1b_call12.c_0, main_while1b_call12.c_1] main_while1b_call12.v0 (fun x i => Host.dynamicSlice S1x8x64x128 x (fun k => (i k (Shape.Idx.first h_S_)).toInt) sliceFits_S64x8x64x128_S1x8x64x128),
    StableHlo.TRef.reshape main_while1b_call12.v0 main_while1b_call12.v1 (rfl : (.f32 : EltTy) = .f32) shapeCasts_S1x8x64x128_S8x64x128,
    StableHlo.TRef.nullary main_while1b_call13.c (constantI S_ 32 0#32),
    StableHlo.TRef.nullary main_while1b_call13.c_0 (constantI S_ 32 0#32),
    StableHlo.TRef.nullary main_while1b_call13.c_1 (constantI S_ 32 0#32),
    StableHlo.TRef.unaryIndexed (StableHlo.TRef.of main_v32_3 : StableHlo.TRef sig ⟨S64x8x64x128, .f32⟩) ![(StableHlo.TRef.of main_while1b_v50 : StableHlo.TRef sig ⟨S_, .i32⟩), main_while1b_call13.c, main_while1b_call13.c_0, main_while1b_call13.c_1] main_while1b_call13.v0 (fun x i => Host.dynamicSlice S1x8x64x128 x (fun k => (i k (Shape.Idx.first h_S_)).toInt) sliceFits_S64x8x64x128_S1x8x64x128),
    StableHlo.TRef.reshape main_while1b_call13.v0 main_while1b_call13.v1 (rfl : (.f32 : EltTy) = .f32) shapeCasts_S1x8x64x128_S8x64x128,
    StableHlo.TRef.nullary main_while1b_call14.c (constantI S_ 32 0#32),
    StableHlo.TRef.nullary main_while1b_call14.c_0 (constantI S_ 32 0#32),
    StableHlo.TRef.nullary main_while1b_call14.c_1 (constantI S_ 32 0#32),
    StableHlo.TRef.unaryIndexed (StableHlo.TRef.of main_v32_4 : StableHlo.TRef sig ⟨S64x8x64x128, .f32⟩) ![(StableHlo.TRef.of main_while1b_v50 : StableHlo.TRef sig ⟨S_, .i32⟩), main_while1b_call14.c, main_while1b_call14.c_0, main_while1b_call14.c_1] main_while1b_call14.v0 (fun x i => Host.dynamicSlice S1x8x64x128 x (fun k => (i k (Shape.Idx.first h_S_)).toInt) sliceFits_S64x8x64x128_S1x8x64x128),
    StableHlo.TRef.reshape main_while1b_call14.v0 main_while1b_call14.v1 (rfl : (.f32 : EltTy) = .f32) shapeCasts_S1x8x64x128_S8x64x128,
    StableHlo.TRef.nullary main_while1b_call15.c (constantI S_ 32 0#32),
    StableHlo.TRef.nullary main_while1b_call15.c_0 (constantI S_ 32 0#32),
    StableHlo.TRef.nullary main_while1b_call15.c_1 (constantI S_ 32 0#32),
    StableHlo.TRef.unaryIndexed (StableHlo.TRef.of main_v32_5 : StableHlo.TRef sig ⟨S64x8x64x64, .f32⟩) ![(StableHlo.TRef.of main_while1b_v50 : StableHlo.TRef sig ⟨S_, .i32⟩), main_while1b_call15.c, main_while1b_call15.c_0, main_while1b_call15.c_1] main_while1b_call15.v0 (fun x i => Host.dynamicSlice S1x8x64x64 x (fun k => (i k (Shape.Idx.first h_S_)).toInt) sliceFits_S64x8x64x64_S1x8x64x64),
    StableHlo.TRef.reshape main_while1b_call15.v0 main_while1b_call15.v1 (rfl : (.f32 : EltTy) = .f32) shapeCasts_S1x8x64x64_S8x64x64,
    StableHlo.TRef.nullary main_while1b_call16.c (constantI S_ 32 0#32),
    StableHlo.TRef.nullary main_while1b_call16.c_0 (constantI S_ 32 0#32),
    StableHlo.TRef.nullary main_while1b_call16.c_1 (constantI S_ 32 0#32),
    StableHlo.TRef.unaryIndexed (StableHlo.TRef.of main_v32_6 : StableHlo.TRef sig ⟨S64x8x1x1, .f32⟩) ![(StableHlo.TRef.of main_while1b_v50 : StableHlo.TRef sig ⟨S_, .i32⟩), main_while1b_call16.c, main_while1b_call16.c_0, main_while1b_call16.c_1] main_while1b_call16.v0 (fun x i => Host.dynamicSlice S1x8x1x1 x (fun k => (i k (Shape.Idx.first h_S_)).toInt) sliceFits_S64x8x1x1_S1x8x1x1),
    StableHlo.TRef.reshape main_while1b_call16.v0 main_while1b_call16.v1 (rfl : (.f32 : EltTy) = .f32) shapeCasts_S1x8x1x1_S8x1x1,
    StableHlo.TRef.nullary main_while1b_call17.c (constantI S_ 32 0#32),
    StableHlo.TRef.nullary main_while1b_call17.c_0 (constantI S_ 32 0#32),
    StableHlo.TRef.nullary main_while1b_call17.c_1 (constantI S_ 32 0#32),
    StableHlo.TRef.unaryIndexed (StableHlo.TRef.of main_v32_7 : StableHlo.TRef sig ⟨S64x8x64x128, .f32⟩) ![(StableHlo.TRef.of main_while1b_v50 : StableHlo.TRef sig ⟨S_, .i32⟩), main_while1b_call17.c, main_while1b_call17.c_0, main_while1b_call17.c_1] main_while1b_call17.v0 (fun x i => Host.dynamicSlice S1x8x64x128 x (fun k => (i k (Shape.Idx.first h_S_)).toInt) sliceFits_S64x8x64x128_S1x8x64x128),
    StableHlo.TRef.reshape main_while1b_call17.v0 main_while1b_call17.v1 (rfl : (.f32 : EltTy) = .f32) shapeCasts_S1x8x64x128_S8x64x128 ]

/-- The second loop's body: the products. -/
abbrev body1b : List (HloOp τ sig (Elt F)) :=
  [ StableHlo.binary main_v32_9 main_while1b_v58 main_while1b_v59 ((fun l r => Host.dotGeneral dot_S8x128x128_S8x64x128_S8x128x64_1_2_2_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v59 main_while1b_v60 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_v32_9 main_while1b_v55 main_while1b_v61 ((fun l r => Host.dotGeneral dot_S8x128x128_S8x64x128_S8x128x64_2_2_1_1_0_0 none l r) : (⟨S8x128x128, .f32⟩ : BufTy).Contents (Elt F) → (⟨S8x64x128, .f32⟩ : BufTy).Contents (Elt F) → (⟨S8x128x64, .f32⟩ : BufTy).Contents (Elt F)),
    StableHlo.unary main_while1b_v61 main_while1b_v62 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v52 main_v32_9 main_while1b_v63 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_30 (constant S_ .f32 0x00000000#32),
    StableHlo.binary main_while1b_v63 main_while1b_cst_30 main_while1b_v64 ((fun x v => Host.reduceAdd x v reducesTo_S8x128x128_S8_d1_2 h_S_) : (⟨S8x128x128, .f32⟩ : BufTy).Contents (Elt F) → (⟨S_, .f32⟩ : BufTy).Contents (Elt F) → (⟨S8, .f32⟩ : BufTy).Contents (Elt F)),
    StableHlo.reshape main_while1b_v64 main_while1b_v65 (rfl : (.f32 : EltTy) = .f32) shapeCasts_S8_S8x1x1,
    StableHlo.unary main_while1b_v57 main_while1b_v66 (broadcastInDim S8x128x128 ![0, 1, 2] bcast_S8x1x1_S8x128x128_0_1_2 : (⟨S8x1x1, .f32⟩ : BufTy).Contents (Elt F) → (⟨S8x128x128, .f32⟩ : BufTy).Contents (Elt F)),
    StableHlo.binary main_v32_9 main_while1b_v66 main_while1b_v67 (mulf : (⟨S8x128x128, .f32⟩ : BufTy).Contents (Elt F) → (⟨S8x128x128, .f32⟩ : BufTy).Contents (Elt F) → (⟨S8x128x128, .f32⟩ : BufTy).Contents (Elt F)),
    StableHlo.nullary main_while1b_cst_31 (constant S_ .f32 0x00000000#32),
    StableHlo.binary main_while1b_v65 main_while1b_cst_31 main_while1b_v68 ((fun x v => Host.reduceAdd x v reducesTo_S8x1x1_S8_d1_2 h_S_) : (⟨S8x1x1, .f32⟩ : BufTy).Contents (Elt F) → (⟨S_, .f32⟩ : BufTy).Contents (Elt F) → (⟨S8, .f32⟩ : BufTy).Contents (Elt F)),
    StableHlo.binary main_while1b_v51 main_while1b_v56 main_while1b_v69 ((fun l r => Host.dotGeneral dot_S8x64x128_S8x64x64_S8x128x64_1_1_2_2_0_0 none l r) : (⟨S8x64x128, .f32⟩ : BufTy).Contents (Elt F) → (⟨S8x64x64, .f32⟩ : BufTy).Contents (Elt F) → (⟨S8x128x64, .f32⟩ : BufTy).Contents (Elt F)),
    StableHlo.unary main_while1b_v69 main_while1b_v70 ((transpose S8x64x128 [0, 2, 1] · transposes_S8x128x64_S8x64x128_0_2_1) : (⟨S8x128x64, .f32⟩ : BufTy).Contents (Elt F) → (⟨S8x64x128, .f32⟩ : BufTy).Contents (Elt F)),
    StableHlo.binary main_while1b_v60 main_while1b_v70 main_while1b_v71 (addf : (⟨S8x64x128, .f32⟩ : BufTy).Contents (Elt F) → (⟨S8x64x128, .f32⟩ : BufTy).Contents (Elt F) → (⟨S8x64x128, .f32⟩ : BufTy).Contents (Elt F)),
    StableHlo.binary main_while1b_v51 main_while1b_v55 main_while1b_v72 ((fun l r => Host.dotGeneral dot_S8x64x128_S8x64x128_S8x64x64_2_2_1_1_0_0 none l r) : (⟨S8x64x128, .f32⟩ : BufTy).Contents (Elt F) → (⟨S8x64x128, .f32⟩ : BufTy).Contents (Elt F) → (⟨S8x64x64, .f32⟩ : BufTy).Contents (Elt F)),
    StableHlo.binary main_while1b_v51 main_while1b_v54 main_while1b_v73 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v73 main_while1b_v74 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v67 main_while1b_v74 main_while1b_v75 (addf : (⟨S8x128x128, .f32⟩ : BufTy).Contents (Elt F) → (⟨S8x128x128, .f32⟩ : BufTy).Contents (Elt F) → (⟨S8x128x128, .f32⟩ : BufTy).Contents (Elt F)),
    StableHlo.binary main_while1b_v51 main_while1b_v52 main_while1b_v76 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)),
    StableHlo.unary main_while1b_v71 main_while1b_v77 (Host.negf : (⟨S8x64x128, .f32⟩ : BufTy).Contents (Elt F) → (⟨S8x64x128, .f32⟩ : BufTy).Contents (Elt F)),
    StableHlo.binary main_while1b_v77 main_while1b_v53 main_while1b_v78 ((fun l r => Host.dotGeneral dot_S8x64x128_S8x64x128_S8x128x128_1_1_2_2_0_0 none l r) : (⟨S8x64x128, .f32⟩ : BufTy).Contents (Elt F) → (⟨S8x64x128, .f32⟩ : BufTy).Contents (Elt F) → (⟨S8x128x128, .f32⟩ : BufTy).Contents (Elt F)),
    StableHlo.unary main_while1b_v78 main_while1b_v79 ((transpose S8x128x128 [0, 2, 1] · transposes_S8x128x128_S8x128x128_0_2_1) : (⟨S8x128x128, .f32⟩ : BufTy).Contents (Elt F) → (⟨S8x128x128, .f32⟩ : BufTy).Contents (Elt F)),
    StableHlo.binary main_while1b_v75 main_while1b_v79 main_while1b_v80 (addf : (⟨S8x128x128, .f32⟩ : BufTy).Contents (Elt F) → (⟨S8x128x128, .f32⟩ : BufTy).Contents (Elt F) → (⟨S8x128x128, .f32⟩ : BufTy).Contents (Elt F)),
    StableHlo.binary main_while1b_v77 main_while1b_v52 main_while1b_v81 ((fun l r => Host.dotGeneral dot_S8x64x128_S8x128x128_S8x64x128_2_2_1_1_0_0 none l r) : (⟨S8x64x128, .f32⟩ : BufTy).Contents (Elt F) → (⟨S8x128x128, .f32⟩ : BufTy).Contents (Elt F) → (⟨S8x64x128, .f32⟩ : BufTy).Contents (Elt F)) ]

/-- The second loop's body: the results stored and the counter raised. -/
abbrev body1c : List (HloOp τ sig (Elt F)) :=
  [ StableHlo.TRef.unary (StableHlo.TRef.of main_while1b_v71 : StableHlo.TRef sig ⟨S8x64x128, .f32⟩) main_while1b_call18.v0 (broadcastInDim S1x8x64x128 ![1, 2, 3] bcast_S8x64x128_S1x8x64x128_1_2_3),
    StableHlo.TRef.nullary main_while1b_call18.c (constantI S_ 32 0#32),
    StableHlo.TRef.nullary main_while1b_call18.c_0 (constantI S_ 32 0#32),
    StableHlo.TRef.nullary main_while1b_call18.c_1 (constantI S_ 32 0#32),
    StableHlo.TRef.binaryIndexed (StableHlo.TRef.of main_v32_10 : StableHlo.TRef sig ⟨S64x8x64x128, .f32⟩) main_while1b_call18.v0 ![(StableHlo.TRef.of main_while1b_v50 : StableHlo.TRef sig ⟨S_, .i32⟩), main_while1b_call18.c, main_while1b_call18.c_0, main_while1b_call18.c_1] main_while1b_call18.v1 (fun x u i => Host.dynamicUpdateSlice x u (fun k => (i k (Shape.Idx.first h_S_)).toInt) updateFits_S64x8x64x128_S1x8x64x128),
    StableHlo.TRef.unary (StableHlo.TRef.of main_while1b_v81 : StableHlo.TRef sig ⟨S8x64x128, .f32⟩) main_while1b_call19.v0 (broadcastInDim S1x8x64x128 ![1, 2, 3] bcast_S8x64x128_S1x8x64x128_1_2_3),
    StableHlo.TRef.nullary main_while1b_call19.c (constantI S_ 32 0#32),
    StableHlo.TRef.nullary main_while1b_call19.c_0 (constantI S_ 32 0#32),
    StableHlo.TRef.nullary main_while1b_call19.c_1 (constantI S_ 32 0#32),
    StableHlo.TRef.binaryIndexed (StableHlo.TRef.of main_v32_11 : StableHlo.TRef sig ⟨S64x8x64x128, .f32⟩) main_while1b_call19.v0 ![(StableHlo.TRef.of main_while1b_v50 : StableHlo.TRef sig ⟨S_, .i32⟩), main_while1b_call19.c, main_while1b_call19.c_0, main_while1b_call19.c_1] main_while1b_call19.v1 (fun x u i => Host.dynamicUpdateSlice x u (fun k => (i k (Shape.Idx.first h_S_)).toInt) updateFits_S64x8x64x128_S1x8x64x128),
    StableHlo.TRef.unary (StableHlo.TRef.of main_while1b_v72 : StableHlo.TRef sig ⟨S8x64x64, .f32⟩) main_while1b_call20.v0 (broadcastInDim S1x8x64x64 ![1, 2, 3] bcast_S8x64x64_S1x8x64x64_1_2_3),
    StableHlo.TRef.nullary main_while1b_call20.c (constantI S_ 32 0#32),
    StableHlo.TRef.nullary main_while1b_call20.c_0 (constantI S_ 32 0#32),
    StableHlo.TRef.nullary main_while1b_call20.c_1 (constantI S_ 32 0#32),
    StableHlo.TRef.binaryIndexed (StableHlo.TRef.of main_v32_12 : StableHlo.TRef sig ⟨S64x8x64x64, .f32⟩) main_while1b_call20.v0 ![(StableHlo.TRef.of main_while1b_v50 : StableHlo.TRef sig ⟨S_, .i32⟩), main_while1b_call20.c, main_while1b_call20.c_0, main_while1b_call20.c_1] main_while1b_call20.v1 (fun x u i => Host.dynamicUpdateSlice x u (fun k => (i k (Shape.Idx.first h_S_)).toInt) updateFits_S64x8x64x64_S1x8x64x64),
    StableHlo.TRef.unary (StableHlo.TRef.of main_while1b_v76 : StableHlo.TRef sig ⟨S8x64x128, .f32⟩) main_while1b_call21.v0 (broadcastInDim S1x8x64x128 ![1, 2, 3] bcast_S8x64x128_S1x8x64x128_1_2_3),
    StableHlo.TRef.nullary main_while1b_call21.c (constantI S_ 32 0#32),
    StableHlo.TRef.nullary main_while1b_call21.c_0 (constantI S_ 32 0#32),
    StableHlo.TRef.nullary main_while1b_call21.c_1 (constantI S_ 32 0#32),
    StableHlo.TRef.binaryIndexed (StableHlo.TRef.of main_v32_13 : StableHlo.TRef sig ⟨S64x8x64x128, .f32⟩) main_while1b_call21.v0 ![(StableHlo.TRef.of main_while1b_v50 : StableHlo.TRef sig ⟨S_, .i32⟩), main_while1b_call21.c, main_while1b_call21.c_0, main_while1b_call21.c_1] main_while1b_call21.v1 (fun x u i => Host.dynamicUpdateSlice x u (fun k => (i k (Shape.Idx.first h_S_)).toInt) updateFits_S64x8x64x128_S1x8x64x128),
    StableHlo.TRef.unary (StableHlo.TRef.of main_while1b_v62 : StableHlo.TRef sig ⟨S8x64x128, .f32⟩) main_while1b_call22.v0 (broadcastInDim S1x8x64x128 ![1, 2, 3] bcast_S8x64x128_S1x8x64x128_1_2_3),
    StableHlo.TRef.nullary main_while1b_call22.c (constantI S_ 32 0#32),
    StableHlo.TRef.nullary main_while1b_call22.c_0 (constantI S_ 32 0#32),
    StableHlo.TRef.nullary main_while1b_call22.c_1 (constantI S_ 32 0#32),
    StableHlo.TRef.binaryIndexed (StableHlo.TRef.of main_v32_14 : StableHlo.TRef sig ⟨S64x8x64x128, .f32⟩) main_while1b_call22.v0 ![(StableHlo.TRef.of main_while1b_v50 : StableHlo.TRef sig ⟨S_, .i32⟩), main_while1b_call22.c, main_while1b_call22.c_0, main_while1b_call22.c_1] main_while1b_call22.v1 (fun x u i => Host.dynamicUpdateSlice x u (fun k => (i k (Shape.Idx.first h_S_)).toInt) updateFits_S64x8x64x128_S1x8x64x128),
    StableHlo.TRef.unary (StableHlo.TRef.of main_while1b_v68 : StableHlo.TRef sig ⟨S8, .f32⟩) main_while1b_call23.v0 (broadcastInDim S1x8 ![1] bcast_S8_S1x8_1),
    StableHlo.TRef.nullary main_while1b_call23.c (constantI S_ 32 0#32),
    StableHlo.TRef.binaryIndexed (StableHlo.TRef.of main_v32_15 : StableHlo.TRef sig ⟨S64x8, .f32⟩) main_while1b_call23.v0 ![(StableHlo.TRef.of main_while1b_v50 : StableHlo.TRef sig ⟨S_, .i32⟩), main_while1b_call23.c] main_while1b_call23.v1 (fun x u i => Host.dynamicUpdateSlice x u (fun k => (i k (Shape.Idx.first h_S_)).toInt) updateFits_S64x8_S1x8),
    StableHlo.nullary main_while1b_c_32 (constantI S_ 32 1#32),
    StableHlo.binary main_v32_8 main_while1b_c_32 main_while1b_v88 (addi : (⟨S_, .i32⟩ : BufTy).Contents (Elt F) → (⟨S_, .i32⟩ : BufTy).Contents (Elt F) → (⟨S_, .i32⟩ : BufTy).Contents (Elt F)),
    StableHlo.unary main_while1b_v88 main_v32_8 id,
    StableHlo.unary main_while1b_v80 main_v32_9 id,
    StableHlo.unary main_while1b_v82 main_v32_10 id,
    StableHlo.unary main_while1b_v83 main_v32_11 id,
    StableHlo.unary main_while1b_v84 main_v32_12 id,
    StableHlo.unary main_while1b_v85 main_v32_13 id,
    StableHlo.unary main_while1b_v86 main_v32_14 id,
    StableHlo.unary main_while1b_v87 main_v32_15 id ]

/-- The first loop's condition. -/
abbrev cond0 : List (HloOp τ sig (Elt F)) :=
  [ StableHlo.nullary main_while0c_c_24 (constantI S_ 32 64#32),
    StableHlo.binary main_v19_6 main_while0c_c_24 main_while0c_v49 (cmpi .slt : (⟨S_, .i32⟩ : BufTy).Contents (Elt F) → (⟨S_, .i32⟩ : BufTy).Contents (Elt F) → (⟨S_, .i1⟩ : BufTy).Contents (Elt F)) ]

/-- The second loop's condition. -/
abbrev cond1 : List (HloOp τ sig (Elt F)) :=
  [ StableHlo.nullary main_while1c_c_28 (constantI S_ 32 64#32),
    StableHlo.binary main_v32_8 main_while1c_c_28 main_while1c_v49 (cmpi .slt : (⟨S_, .i32⟩ : BufTy).Contents (Elt F) → (⟨S_, .i32⟩ : BufTy).Contents (Elt F) → (⟨S_, .i1⟩ : BufTy).Contents (Elt F)) ]

set_option maxHeartbeats 4000000 in
theorem main_eq (c : Dev nD) : main (F := F) c = (Pipeline.chain
    [ StableHlo.seq pre, HostLoop.enter 0, StableHlo.seq mid, HostLoop.enter 1, StableHlo.seq post ] :
      Prog (TpuEff nD τ sig (Elt F) (HostLoop.Sig (Pipeline.Sig Λ₀ (Fin 0) fun p => (pcfgs (F := F) p).Adm) 2) .tc) PUnit) := by
  chain_rfl

set_option maxHeartbeats 4000000 in
theorem body0_eq : main_while0_body (F := F) = (Pipeline.chain [ StableHlo.seq body0a, StableHlo.seq body0b, StableHlo.seq body0c ] :
      Prog (TpuEff nD τ sig (Elt F) (HostLoop.Sig (Pipeline.Sig Λ₀ (Fin 0) fun p => (pcfgs (F := F) p).Adm) 2) .tc) PUnit) := by
  chain_rfl

set_option maxHeartbeats 4000000 in
theorem body1_eq : main_while1_body (F := F) = (Pipeline.chain [ StableHlo.seq body1a, StableHlo.seq body1b, StableHlo.seq body1c ] :
      Prog (TpuEff nD τ sig (Elt F) (HostLoop.Sig (Pipeline.Sig Λ₀ (Fin 0) fun p => (pcfgs (F := F) p).Adm) 2) .tc) PUnit) := by
  chain_rfl

end Cert.Proof.Ref
-- ==== Proof.Ref.Slices.lean ====
module

public import proofs.«01_k».proof.Proof.Ref.Ops
public import Idealize.ShloMosaic.Lib.Pipeline.Value
public import Idealize.ShloMosaic.Lib.Pointwise.ShapeOpsCore
@[expose] public section
set_option maxRecDepth 100000
noncomputable section
/-! One chunk read out of a stack of 64, and one chunk stored into it, at an index the program computes. -/
namespace Cert.Proof.Ref

open Idealize.ShloMosaic Idealize.ShloMosaic.Pipeline

variable {α : Type} {a b : ℕ}

/-- Chunk `k` of a stack of 64. -/
def sl4 (x : (⟨4, ![64, 8, a, b]⟩ : Shape).Idx → α) (k : Fin 64) : (⟨3, ![8, a, b]⟩ : Shape).Idx → α :=
  fun i => x (ix4 k (i 0) (i 1) (i 2))

/-- Row `k` of a stack of 64 rows. -/
def sl2 (x : (⟨2, ![64, 8]⟩ : Shape).Idx → α) (k : Fin 64) : (⟨1, ![8]⟩ : Shape).Idx → α :=
  fun i => x (ix2 k (i 0))

/-- The stack with chunk `k` replaced. -/
def up4 (x : (⟨4, ![64, 8, a, b]⟩ : Shape).Idx → α) (k : Fin 64) (u : (⟨3, ![8, a, b]⟩ : Shape).Idx → α) :
    (⟨4, ![64, 8, a, b]⟩ : Shape).Idx → α :=
  fun i => if (i 0).val = k.val then u (ix3 (i 1) (i 2) (i 3)) else x i

/-- The stack with row `k` replaced. -/
def up2 (x : (⟨2, ![64, 8]⟩ : Shape).Idx → α) (k : Fin 64) (u : (⟨1, ![8]⟩ : Shape).Idx → α) :
    (⟨2, ![64, 8]⟩ : Shape).Idx → α :=
  fun i => if (i 0).val = k.val then u (ix1 (i 1)) else x i

/-- The start of a window of one chunk: the chunk's number and zeros. -/
def At4 (s : Fin 4 → Int) (k : Fin 64) : Prop := s 0 = (k.val : Int) ∧ s 1 = 0 ∧ s 2 = 0 ∧ s 3 = 0

def At2 (s : Fin 2 → Int) (k : Fin 64) : Prop := s 0 = (k.val : Int) ∧ s 1 = 0

theorem slice4 (x : (⟨4, ![64, 8, a, b]⟩ : Shape).Idx → α) (k : Fin 64) (s : Fin 4 → Int) (hs : At4 s k)
    (h : (⟨4, ![64, 8, a, b]⟩ : Shape).Slices (fun _ => 0) ⟨4, ![1, 8, a, b]⟩)
    (h' : (⟨4, ![1, 8, a, b]⟩ : Shape).ShapeCasts ⟨3, ![8, a, b]⟩) :
    (fun i => shapeCast ⟨3, ![8, a, b]⟩ (Host.dynamicSlice ⟨4, ![1, 8, a, b]⟩ x s h) h' i) = sl4 x k := by
  obtain ⟨h0, h1, h2, h3⟩ := hs
  have hk := k.isLt
  funext i
  rw [shapeCast_dropUnit_apply ![8, a, b], Host.dynamicSlice_apply]
  unfold sl4
  refine congrArg x (funext fun d => Fin.ext ?_)
  have c0 := Host.clampedStart_of_le (s := ⟨4, ![64, 8, a, b]⟩) (t := ⟨4, ![1, 8, a, b]⟩) h.1 s 0 k.val h0
    (show k.val + 1 ≤ 64 by omega)
  have c1 := Host.clampedStart_of_le (s := ⟨4, ![64, 8, a, b]⟩) (t := ⟨4, ![1, 8, a, b]⟩) h.1 s 1 0 h1
    (show 0 + 8 ≤ 8 by omega)
  have c2 := Host.clampedStart_of_le (s := ⟨4, ![64, 8, a, b]⟩) (t := ⟨4, ![1, 8, a, b]⟩) h.1 s 2 0 h2
    (show 0 + a ≤ a by omega)
  have c3 := Host.clampedStart_of_le (s := ⟨4, ![64, 8, a, b]⟩) (t := ⟨4, ![1, 8, a, b]⟩) h.1 s 3 0 h3
    (show 0 + b ≤ b by omega)
  match d with
  | ⟨0, _⟩ => show Host.clampedStart ⟨4, ![64, 8, a, b]⟩ ⟨4, ![1, 8, a, b]⟩ h.1 s 0 + 0 = k.val; rw [c0]; rfl
  | ⟨1, _⟩ => show Host.clampedStart ⟨4, ![64, 8, a, b]⟩ ⟨4, ![1, 8, a, b]⟩ h.1 s 1 + (i 0).val = (i 0).val; rw [c1, Nat.zero_add]
  | ⟨2, _⟩ => show Host.clampedStart ⟨4, ![64, 8, a, b]⟩ ⟨4, ![1, 8, a, b]⟩ h.1 s 2 + (i 1).val = (i 1).val; rw [c2, Nat.zero_add]
  | ⟨3, _⟩ => show Host.clampedStart ⟨4, ![64, 8, a, b]⟩ ⟨4, ![1, 8, a, b]⟩ h.1 s 3 + (i 2).val = (i 2).val; rw [c3, Nat.zero_add]

theorem slice2 (x : (⟨2, ![64, 8]⟩ : Shape).Idx → α) (k : Fin 64) (s : Fin 2 → Int) (hs : At2 s k)
    (h : (⟨2, ![64, 8]⟩ : Shape).Slices (fun _ => 0) ⟨2, ![1, 8]⟩)
    (h' : (⟨2, ![1, 8]⟩ : Shape).ShapeCasts ⟨1, ![8]⟩) :
    (fun i => shapeCast ⟨1, ![8]⟩ (Host.dynamicSlice ⟨2, ![1, 8]⟩ x s h) h' i) = sl2 x k := by
  obtain ⟨h0, h1⟩ := hs
  have hk := k.isLt
  funext i
  rw [shapeCast_dropUnit_apply ![8], Host.dynamicSlice_apply]
  unfold sl2
  refine congrArg x (funext fun d => Fin.ext ?_)
  have c0 := Host.clampedStart_of_le (s := ⟨2, ![64, 8]⟩) (t := ⟨2, ![1, 8]⟩) h.1 s 0 k.val h0
    (show k.val + 1 ≤ 64 by omega)
  have c1 := Host.clampedStart_of_le (s := ⟨2, ![64, 8]⟩) (t := ⟨2, ![1, 8]⟩) h.1 s 1 0 h1
    (show 0 + 8 ≤ 8 by omega)
  match d with
  | ⟨0, _⟩ => show Host.clampedStart ⟨2, ![64, 8]⟩ ⟨2, ![1, 8]⟩ h.1 s 0 + 0 = k.val; rw [c0]; rfl
  | ⟨1, _⟩ => show Host.clampedStart ⟨2, ![64, 8]⟩ ⟨2, ![1, 8]⟩ h.1 s 1 + (i 0).val = (i 0).val; rw [c1, Nat.zero_add]

theorem update4 (x : (⟨4, ![64, 8, a, b]⟩ : Shape).Idx → α) (k : Fin 64) (u : (⟨3, ![8, a, b]⟩ : Shape).Idx → α)
    (s : Fin 4 → Int) (hs : At4 s k)
    (h : (⟨4, ![64, 8, a, b]⟩ : Shape).Slices (fun _ => 0) ⟨4, ![1, 8, a, b]⟩)
    (h' : (⟨3, ![8, a, b]⟩ : Shape).BroadcastsInDim ⟨4, ![1, 8, a, b]⟩ ![1, 2, 3]) :
    Host.dynamicUpdateSlice x (broadcastInDim ⟨4, ![1, 8, a, b]⟩ ![1, 2, 3] h' u) s h = up4 x k u := by
  obtain ⟨h0, h1, h2, h3⟩ := hs
  have hk := k.isLt
  funext i
  have c0 := Host.clampedStart_of_le (s := ⟨4, ![64, 8, a, b]⟩) (t := ⟨4, ![1, 8, a, b]⟩) h.1 s 0 k.val h0
    (show k.val + 1 ≤ 64 by omega)
  have c1 := Host.clampedStart_of_le (s := ⟨4, ![64, 8, a, b]⟩) (t := ⟨4, ![1, 8, a, b]⟩) h.1 s 1 0 h1
    (show 0 + 8 ≤ 8 by omega)
  have c2 := Host.clampedStart_of_le (s := ⟨4, ![64, 8, a, b]⟩) (t := ⟨4, ![1, 8, a, b]⟩) h.1 s 2 0 h2
    (show 0 + a ≤ a by omega)
  have c3 := Host.clampedStart_of_le (s := ⟨4, ![64, 8, a, b]⟩) (t := ⟨4, ![1, 8, a, b]⟩) h.1 s 3 0 h3
    (show 0 + b ≤ b by omega)
  rw [Host.dynamicUpdateSlice_apply]
  unfold up4
  by_cases hi : (i 0).val = k.val
  · rw [if_pos hi, dif_pos (show ∀ d : Fin 4, _ from fun d => by
      match d with
      | ⟨0, _⟩ =>
        show Host.clampedStart ⟨4, ![64, 8, a, b]⟩ ⟨4, ![1, 8, a, b]⟩ h.1 s 0 ≤ (i 0).val ∧ (i 0).val < Host.clampedStart ⟨4, ![64, 8, a, b]⟩ ⟨4, ![1, 8, a, b]⟩ h.1 s 0 + 1
        rw [c0, hi]; omega
      | ⟨1, _⟩ =>
        show Host.clampedStart ⟨4, ![64, 8, a, b]⟩ ⟨4, ![1, 8, a, b]⟩ h.1 s 1 ≤ (i 1).val ∧ (i 1).val < Host.clampedStart ⟨4, ![64, 8, a, b]⟩ ⟨4, ![1, 8, a, b]⟩ h.1 s 1 + 8
        rw [c1]; have : (i 1).val < 8 := (i 1).isLt; omega
      | ⟨2, _⟩ =>
        show Host.clampedStart ⟨4, ![64, 8, a, b]⟩ ⟨4, ![1, 8, a, b]⟩ h.1 s 2 ≤ (i 2).val ∧ (i 2).val < Host.clampedStart ⟨4, ![64, 8, a, b]⟩ ⟨4, ![1, 8, a, b]⟩ h.1 s 2 + a
        rw [c2]; have : (i 2).val < a := (i 2).isLt; omega
      | ⟨3, _⟩ =>
        show Host.clampedStart ⟨4, ![64, 8, a, b]⟩ ⟨4, ![1, 8, a, b]⟩ h.1 s 3 ≤ (i 3).val ∧ (i 3).val < Host.clampedStart ⟨4, ![64, 8, a, b]⟩ ⟨4, ![1, 8, a, b]⟩ h.1 s 3 + b
        rw [c3]; have : (i 3).val < b := (i 3).isLt; omega)]
    refine broadcastInDim_apply _ _ _ _ _ fun d => ?_
    have hz : ∀ (m n z : ℕ), n < m → z = 0 → n = if m = 1 then 0 else n - z := fun m n z hm hz => by
      split <;> omega
    match d with
    | ⟨0, _⟩ =>
      show (i 1).val = if (8 : ℕ) = 1 then 0 else (i 1).val - Host.clampedStart ⟨4, ![64, 8, a, b]⟩ ⟨4, ![1, 8, a, b]⟩ h.1 s 1
      exact hz 8 (i 1).val _ (i 1).isLt c1
    | ⟨1, _⟩ =>
      show (i 2).val = if a = 1 then 0 else (i 2).val - Host.clampedStart ⟨4, ![64, 8, a, b]⟩ ⟨4, ![1, 8, a, b]⟩ h.1 s 2
      exact hz a (i 2).val _ (i 2).isLt c2
    | ⟨2, _⟩ =>
      show (i 3).val = if b = 1 then 0 else (i 3).val - Host.clampedStart ⟨4, ![64, 8, a, b]⟩ ⟨4, ![1, 8, a, b]⟩ h.1 s 3
      exact hz b (i 3).val _ (i 3).isLt c3
  · rw [if_neg hi, dif_neg]
    intro hin
    have := hin (0 : Fin 4)
    have h00 : Host.clampedStart ⟨4, ![64, 8, a, b]⟩ ⟨4, ![1, 8, a, b]⟩ h.1 s 0 ≤ (i 0).val ∧ (i 0).val < Host.clampedStart ⟨4, ![64, 8, a, b]⟩ ⟨4, ![1, 8, a, b]⟩ h.1 s 0 + 1 := this
    rw [c0] at h00
    exact hi (by omega)

theorem update2 (x : (⟨2, ![64, 8]⟩ : Shape).Idx → α) (k : Fin 64) (u : (⟨1, ![8]⟩ : Shape).Idx → α)
    (s : Fin 2 → Int) (hs : At2 s k)
    (h : (⟨2, ![64, 8]⟩ : Shape).Slices (fun _ => 0) ⟨2, ![1, 8]⟩)
    (h' : (⟨1, ![8]⟩ : Shape).BroadcastsInDim ⟨2, ![1, 8]⟩ ![1]) :
    Host.dynamicUpdateSlice x (broadcastInDim ⟨2, ![1, 8]⟩ ![1] h' u) s h = up2 x k u := by
  obtain ⟨h0, h1⟩ := hs
  have hk := k.isLt
  funext i
  have c0 := Host.clampedStart_of_le (s := ⟨2, ![64, 8]⟩) (t := ⟨2, ![1, 8]⟩) h.1 s 0 k.val h0
    (show k.val + 1 ≤ 64 by omega)
  have c1 := Host.clampedStart_of_le (s := ⟨2, ![64, 8]⟩) (t := ⟨2, ![1, 8]⟩) h.1 s 1 0 h1
    (show 0 + 8 ≤ 8 by omega)
  rw [Host.dynamicUpdateSlice_apply]
  unfold up2
  by_cases hi : (i 0).val = k.val
  · rw [if_pos hi, dif_pos (show ∀ d : Fin 2, _ from fun d => by
      match d with
      | ⟨0, _⟩ =>
        show Host.clampedStart ⟨2, ![64, 8]⟩ ⟨2, ![1, 8]⟩ h.1 s 0 ≤ (i 0).val ∧ (i 0).val < Host.clampedStart ⟨2, ![64, 8]⟩ ⟨2, ![1, 8]⟩ h.1 s 0 + 1
        rw [c0, hi]; omega
      | ⟨1, _⟩ =>
        show Host.clampedStart ⟨2, ![64, 8]⟩ ⟨2, ![1, 8]⟩ h.1 s 1 ≤ (i 1).val ∧ (i 1).val < Host.clampedStart ⟨2, ![64, 8]⟩ ⟨2, ![1, 8]⟩ h.1 s 1 + 8
        rw [c1]; have : (i 1).val < 8 := (i 1).isLt; omega)]
    refine broadcastInDim_apply _ _ _ _ _ fun d => ?_
    match d with
    | ⟨0, _⟩ =>
      show (i 1).val = if (8 : ℕ) = 1 then 0 else (i 1).val - Host.clampedStart ⟨2, ![64, 8]⟩ ⟨2, ![1, 8]⟩ h.1 s 1
      have : (i 1).val < 8 := (i 1).isLt
      rw [c1, if_neg (by decide), Nat.sub_zero]
  · rw [if_neg hi, dif_neg]
    intro hin
    have := hin (0 : Fin 2)
    have h00 : Host.clampedStart ⟨2, ![64, 8]⟩ ⟨2, ![1, 8]⟩ h.1 s 0 ≤ (i 0).val ∧ (i 0).val < Host.clampedStart ⟨2, ![64, 8]⟩ ⟨2, ![1, 8]⟩ h.1 s 0 + 1 := this
    rw [c0] at h00
    exact hi (by omega)

end Cert.Proof.Ref
-- ==== Proof.Ref.Reads.lean ====
module

public import proofs.«01_k».proof.Proof.Ref.Slices
@[expose] public section
set_option maxRecDepth 100000
noncomputable section
/-! What one trip of each loop of the reference leaves: the chunk read, the products and the stores. -/
namespace Cert.Proof.Ref

open Cert.ReferenceIdeal Cert.ReferenceIdeal.Gen
open Idealize.ShloMosaic Idealize.ShloMosaic.TcCoe
open Idealize.SL.Sem StableHlo

variable {F : FTy → Type} [FloatOps F]

/-! ## The products of one chunk, all heads at once -/

section Maths
variable (u w qd kd vn dO : FVec F S8x64x128 .f32) (qk : FVec F S8x64x64 .f32) (g : FVec F S8 .f32)
  (g1 : FVec F S8x1x1 .f32) (s d : FVec F S8x128x128 .f32)

/-- What the state predicts, taken from the chunk's values. -/
def rVn : FVec F S8x64x128 .f32 :=
  subf u (Host.dotGeneral dot_S8x64x128_S8x128x128_S8x64x128_2_1_1_2_0_0 none w s)

/-- The decay, one number a head. -/
def rG1 : FVec F S8x1x1 .f32 := broadcastInDim S8x1x1 ![0] bcast_S8_S8x1x1_0 g

/-- The state times the decay. -/
def rDecay : FVec F S8x128x128 .f32 := mulf s (broadcastInDim S8x128x128 ![0, 1, 2] bcast_S8x1x1_S8x128x128_0_1_2 g1)

/-- The next state. -/
def rS : FVec F S8x128x128 .f32 :=
  addf (rDecay (rG1 g) s) (Host.dotGeneral dot_S8x64x128_S8x64x128_S8x128x128_1_1_2_2_0_0 none kd (rVn u w s))

/-- The gradient of the values. -/
def rDvn : FVec F S8x64x128 .f32 :=
  addf (transpose S8x64x128 [0, 2, 1] (Host.dotGeneral dot_S8x128x128_S8x64x128_S8x128x64_1_2_2_1_0_0 none d kd) transposes_S8x128x64_S8x64x128_0_2_1)
    (transpose S8x64x128 [0, 2, 1] (Host.dotGeneral dot_S8x64x128_S8x64x64_S8x128x64_1_1_2_2_0_0 none dO qk) transposes_S8x128x64_S8x64x128_0_2_1)

/-- The gradient of `kd`. -/
def rDkd : FVec F S8x64x128 .f32 :=
  transpose S8x64x128 [0, 2, 1] (Host.dotGeneral dot_S8x128x128_S8x64x128_S8x128x64_2_2_1_1_0_0 none d vn) transposes_S8x128x64_S8x64x128_0_2_1

/-- The gradient of the decay. -/
def rDgl : FVec F S8 .f32 :=
  Host.reduceAdd (fun i => shapeCast S8x1x1 (Host.reduceAdd (mulf s d) (constant S_ .f32 0x00000000#32) reducesTo_S8x128x128_S8_d1_2 h_S_) shapeCasts_S8_S8x1x1 i)
    (constant S_ .f32 0x00000000#32) reducesTo_S8x1x1_S8_d1_2 h_S_

/-- The gradient of `qk`. -/
def rDqk : FVec F S8x64x64 .f32 := Host.dotGeneral dot_S8x64x128_S8x64x128_S8x64x64_2_2_1_1_0_0 none dO vn

/-- The gradient of `qd`. -/
def rDqd : FVec F S8x64x128 .f32 := Host.dotGeneral dot_S8x64x128_S8x128x128_S8x64x128_2_2_1_1_0_0 none dO s

/-- The gradient of `w`. -/
def rDw : FVec F S8x64x128 .f32 :=
  Host.dotGeneral dot_S8x64x128_S8x128x128_S8x64x128_2_2_1_1_0_0 none (Host.negf (rDvn kd dO qk d)) s

/-- The gradient of the state, one chunk back. -/
def rDS : FVec F S8x128x128 .f32 :=
  addf (addf (rDecay g1 d)
      (transpose S8x128x128 [0, 2, 1] (Host.dotGeneral dot_S8x64x128_S8x64x128_S8x128x128_1_1_2_2_0_0 none dO qd) transposes_S8x128x128_S8x128x128_0_2_1))
    (transpose S8x128x128 [0, 2, 1] (Host.dotGeneral dot_S8x64x128_S8x64x128_S8x128x128_1_1_2_2_0_0 none (Host.negf (rDvn kd dO qk d)) w) transposes_S8x128x128_S8x128x128_0_2_1)

end Maths

/-! ## The counter -/

/-- The counter holds `k`. -/
def Ctr (n : (⟨S_, .i32⟩ : BufTy).Contents (Elt F)) (k : ℕ) : Prop := n = fun _ => BitVec.ofNat 32 k

theorem Ctr.toInt {n : (⟨S_, .i32⟩ : BufTy).Contents (Elt F)} {k : Fin 64} (h : Ctr (F := F) n k.val) (i : S_.Idx) :
    (show BitVec 32 from n i).toInt = (k.val : Int) := by
  rw [h]
  exact (by decide : ∀ k : Fin 64, (BitVec.ofNat 32 k.val).toInt = (k.val : Int)) k

theorem Ctr.succ {n : (⟨S_, .i32⟩ : BufTy).Contents (Elt F)} {k : ℕ} (h : Ctr (F := F) n k) :
    Ctr (F := F) (addi (show IVec S_ 32 from n) (constantI S_ 32 1#32)) (k + 1) := by
  unfold Ctr at h ⊢
  subst h
  funext _
  show BitVec.ofNat 32 k + 1#32 = BitVec.ofNat 32 (k + 1)
  rw [BitVec.ofNat_add]

/-- The index the second loop works at. -/
theorem Ctr.back {n : (⟨S_, .i32⟩ : BufTy).Contents (Elt F)} {k : Fin 64} (h : Ctr (F := F) n k.val) :
    Ctr (F := F) (subi (subi (constantI S_ 32 64#32) (show IVec S_ 32 from n)) (constantI S_ 32 1#32)) k.rev.val := by
  unfold Ctr at h ⊢
  subst h
  funext _
  revert k
  exact (by decide : ∀ k : Fin 64, 64#32 - BitVec.ofNat 32 k.val - 1#32 = BitVec.ofNat 32 k.rev.val)

variable (V : Valuation τ sig (Elt F)) {k : Fin 64}

/-! ## The first loop's body -/

theorem cond0_keep (r : Ref sig .tc) (hr : r ∈ [(main_arg0 : Ref sig .tc), main_arg1, main_arg2, main_arg3, main_arg4, main_arg5, main_arg6, main_v9, main_v10, main_v11, main_v12, main_v19_0, main_v19_1, main_v19_2, main_v19_3, main_v19_4, main_v19_5, main_v19_6, main_v19_7, main_v19_8, main_v19_9, main_v19_10, main_v19_11]) :
    after cond0 V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem a0_keep (r : Ref sig .tc) (hr : r ∈ [(main_arg0 : Ref sig .tc), main_arg1, main_arg2, main_arg3, main_arg4, main_arg5, main_arg6, main_v9, main_v10, main_v11, main_v12, main_v19_0, main_v19_1, main_v19_2, main_v19_3, main_v19_4, main_v19_5, main_v19_6, main_v19_7, main_v19_8, main_v19_9, main_v19_10, main_v19_11]) :
    after body0a V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem b0_keep (r : Ref sig .tc) (hr : r ∈ [(main_arg0 : Ref sig .tc), main_arg1, main_arg2, main_arg3, main_arg4, main_arg5, main_arg6, main_v9, main_v10, main_v11, main_v12, main_v19_0, main_v19_1, main_v19_2, main_v19_3, main_v19_4, main_v19_5, main_v19_6, main_v19_7, main_v19_8, main_v19_9, main_v19_10, main_v19_11, main_while0b_v49, main_while0b_v50, main_while0b_v53, main_while0b_v54]) :
    after body0b V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem c0_keep (r : Ref sig .tc) (hr : r ∈ [(main_arg0 : Ref sig .tc), main_arg1, main_arg2, main_arg3, main_arg4, main_arg5, main_arg6, main_v9, main_v10, main_v11, main_v12, main_v19_0, main_v19_1, main_v19_2, main_v19_3, main_v19_4, main_v19_5]) :
    after body0c V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem a0_v49 (h : Ctr (F := F) (V (Proc.devRef .tc main_v19_6)) k.val) :
    after body0a V (Proc.devRef .tc main_while0b_v49) = sl4 (V (Proc.devRef .tc main_v19_0)) k := by
  after_reads_simp [unaryIndexed_result_read, binaryIndexed_result_read, indexContents_tref_cons, indexContents_tref_empty, TRef.ofBuf_toBuf]
  exact slice4 (V (Proc.devRef .tc main_v19_0)) k _ ⟨h.toInt _, rfl, rfl, rfl⟩ sliceFits_S64x8x64x128_S1x8x64x128 shapeCasts_S1x8x64x128_S8x64x128

theorem a0_v50 (h : Ctr (F := F) (V (Proc.devRef .tc main_v19_6)) k.val) :
    after body0a V (Proc.devRef .tc main_while0b_v50) = sl4 (V (Proc.devRef .tc main_v19_1)) k := by
  after_reads_simp [unaryIndexed_result_read, binaryIndexed_result_read, indexContents_tref_cons, indexContents_tref_empty, TRef.ofBuf_toBuf]
  exact slice4 (V (Proc.devRef .tc main_v19_1)) k _ ⟨h.toInt _, rfl, rfl, rfl⟩ sliceFits_S64x8x64x128_S1x8x64x128 shapeCasts_S1x8x64x128_S8x64x128

theorem a0_v53 (h : Ctr (F := F) (V (Proc.devRef .tc main_v19_6)) k.val) :
    after body0a V (Proc.devRef .tc main_while0b_v53) = sl4 (V (Proc.devRef .tc main_v19_4)) k := by
  after_reads_simp [unaryIndexed_result_read, binaryIndexed_result_read, indexContents_tref_cons, indexContents_tref_empty, TRef.ofBuf_toBuf]
  exact slice4 (V (Proc.devRef .tc main_v19_4)) k _ ⟨h.toInt _, rfl, rfl, rfl⟩ sliceFits_S64x8x64x128_S1x8x64x128 shapeCasts_S1x8x64x128_S8x64x128

theorem a0_v54 (h : Ctr (F := F) (V (Proc.devRef .tc main_v19_6)) k.val) :
    after body0a V (Proc.devRef .tc main_while0b_v54) = sl2 (V (Proc.devRef .tc main_v19_5)) k := by
  after_reads_simp [unaryIndexed_result_read, binaryIndexed_result_read, indexContents_tref_cons, indexContents_tref_empty, TRef.ofBuf_toBuf]
  exact slice2 (V (Proc.devRef .tc main_v19_5)) k _ ⟨h.toInt _, rfl⟩ sliceFits_S64x8_S1x8 shapeCasts_S1x8_S8

theorem b0_v56 :
    after body0b V (Proc.devRef .tc main_while0b_v56) = rVn (V (Proc.devRef .tc main_while0b_v49)) (V (Proc.devRef .tc main_while0b_v50)) (V (Proc.devRef .tc main_v19_7)) := by
  after_reads_simp [unaryIndexed_result_read, binaryIndexed_result_read, indexContents_tref_cons, indexContents_tref_empty, TRef.ofBuf_toBuf]
  rfl

theorem b0_v60 :
    after body0b V (Proc.devRef .tc main_while0b_v60) = rG1 (V (Proc.devRef .tc main_while0b_v54)) := by
  after_reads_simp [unaryIndexed_result_read, binaryIndexed_result_read, indexContents_tref_cons, indexContents_tref_empty, TRef.ofBuf_toBuf]
  rfl

theorem b0_v64 :
    after body0b V (Proc.devRef .tc main_while0b_v64) = rS (V (Proc.devRef .tc main_while0b_v49)) (V (Proc.devRef .tc main_while0b_v50)) (V (Proc.devRef .tc main_while0b_v53)) (V (Proc.devRef .tc main_while0b_v54)) (V (Proc.devRef .tc main_v19_7)) := by
  after_reads_simp [unaryIndexed_result_read, binaryIndexed_result_read, indexContents_tref_cons, indexContents_tref_empty, TRef.ofBuf_toBuf]
  rfl

theorem c0_s6 {n : ℕ} (h : Ctr (F := F) (V (Proc.devRef .tc main_v19_6)) n) :
    Ctr (F := F) (after body0c V (Proc.devRef .tc main_v19_6)) (n + 1) := by
  after_reads_simp [unaryIndexed_result_read, binaryIndexed_result_read, indexContents_tref_cons, indexContents_tref_empty, TRef.ofBuf_toBuf]
  exact h.succ

theorem c0_s7 :
    after body0c V (Proc.devRef .tc main_v19_7) = (V (Proc.devRef .tc main_while0b_v64)) := by
  after_reads_simp [unaryIndexed_result_read, binaryIndexed_result_read, indexContents_tref_cons, indexContents_tref_empty, TRef.ofBuf_toBuf]
  rfl

theorem c0_s9 (h : Ctr (F := F) (V (Proc.devRef .tc main_v19_6)) k.val) :
    after body0c V (Proc.devRef .tc main_v19_9) = up4 (V (Proc.devRef .tc main_v19_9)) k (V (Proc.devRef .tc main_v19_7)) := by
  after_reads_simp [unaryIndexed_result_read, binaryIndexed_result_read, indexContents_tref_cons, indexContents_tref_empty, TRef.ofBuf_toBuf]
  exact update4 (V (Proc.devRef .tc main_v19_9)) k (V (Proc.devRef .tc main_v19_7)) _ ⟨h.toInt _, rfl, rfl, rfl⟩ updateFits_S64x8x128x128_S1x8x128x128 bcast_S8x128x128_S1x8x128x128_1_2_3

theorem c0_s10 (h : Ctr (F := F) (V (Proc.devRef .tc main_v19_6)) k.val) :
    after body0c V (Proc.devRef .tc main_v19_10) = up4 (V (Proc.devRef .tc main_v19_10)) k (V (Proc.devRef .tc main_while0b_v56)) := by
  after_reads_simp [unaryIndexed_result_read, binaryIndexed_result_read, indexContents_tref_cons, indexContents_tref_empty, TRef.ofBuf_toBuf]
  exact update4 (V (Proc.devRef .tc main_v19_10)) k (V (Proc.devRef .tc main_while0b_v56)) _ ⟨h.toInt _, rfl, rfl, rfl⟩ updateFits_S64x8x64x128_S1x8x64x128 bcast_S8x64x128_S1x8x64x128_1_2_3

theorem c0_s11 (h : Ctr (F := F) (V (Proc.devRef .tc main_v19_6)) k.val) :
    after body0c V (Proc.devRef .tc main_v19_11) = up4 (V (Proc.devRef .tc main_v19_11)) k (V (Proc.devRef .tc main_while0b_v60)) := by
  after_reads_simp [unaryIndexed_result_read, binaryIndexed_result_read, indexContents_tref_cons, indexContents_tref_empty, TRef.ofBuf_toBuf]
  exact update4 (V (Proc.devRef .tc main_v19_11)) k (V (Proc.devRef .tc main_while0b_v60)) _ ⟨h.toInt _, rfl, rfl, rfl⟩ updateFits_S64x8x1x1_S1x8x1x1 bcast_S8x1x1_S1x8x1x1_1_2_3

/-! ## The second loop's body -/

theorem cond1_keep (r : Ref sig .tc) (hr : r ∈ [(main_arg0 : Ref sig .tc), main_arg1, main_arg2, main_arg3, main_arg4, main_arg5, main_arg6, main_v32_0, main_v32_1, main_v32_2, main_v32_3, main_v32_4, main_v32_5, main_v32_6, main_v32_7, main_v32_8, main_v32_9, main_v32_10, main_v32_11, main_v32_12, main_v32_13, main_v32_14, main_v32_15]) :
    after cond1 V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem a1_keep (r : Ref sig .tc) (hr : r ∈ [(main_arg0 : Ref sig .tc), main_arg1, main_arg2, main_arg3, main_arg4, main_arg5, main_arg6, main_v32_0, main_v32_1, main_v32_2, main_v32_3, main_v32_4, main_v32_5, main_v32_6, main_v32_7, main_v32_8, main_v32_9, main_v32_10, main_v32_11, main_v32_12, main_v32_13, main_v32_14, main_v32_15]) :
    after body1a V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem b1_keep (r : Ref sig .tc) (hr : r ∈ [(main_arg0 : Ref sig .tc), main_arg1, main_arg2, main_arg3, main_arg4, main_arg5, main_arg6, main_v32_0, main_v32_1, main_v32_2, main_v32_3, main_v32_4, main_v32_5, main_v32_6, main_v32_7, main_v32_8, main_v32_9, main_v32_10, main_v32_11, main_v32_12, main_v32_13, main_v32_14, main_v32_15, main_while1b_v50]) :
    after body1b V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem c1_keep (r : Ref sig .tc) (hr : r ∈ [(main_arg0 : Ref sig .tc), main_arg1, main_arg2, main_arg3, main_arg4, main_arg5, main_arg6, main_v32_0, main_v32_1, main_v32_2, main_v32_3, main_v32_4, main_v32_5, main_v32_6, main_v32_7]) :
    after body1c V (Proc.devRef .tc r) = V (Proc.devRef .tc r) := by
  simp only [List.mem_cons, List.not_mem_nil, or_false] at hr
  rcases hr with rfl | rfl | rfl | rfl | rfl | rfl | rfl | rfl | rfl | rfl | rfl | rfl | rfl | rfl | rfl <;> after_reads_simp [unaryIndexed_result_read, binaryIndexed_result_read, indexContents_tref_cons, indexContents_tref_empty, TRef.ofBuf_toBuf]

theorem a1_v50 (h : Ctr (F := F) (V (Proc.devRef .tc main_v32_8)) k.val) :
    Ctr (F := F) (after body1a V (Proc.devRef .tc main_while1b_v50)) k.rev.val := by
  after_reads_simp [unaryIndexed_result_read, binaryIndexed_result_read, indexContents_tref_cons, indexContents_tref_empty, TRef.ofBuf_toBuf]
  exact h.back

theorem a1_v51 (h : Ctr (F := F) (V (Proc.devRef .tc main_v32_8)) k.val) :
    after body1a V (Proc.devRef .tc main_while1b_v51) = sl4 (V (Proc.devRef .tc main_v32_0)) k.rev := by
  after_reads_simp [unaryIndexed_result_read, binaryIndexed_result_read, indexContents_tref_cons, indexContents_tref_empty, TRef.ofBuf_toBuf]
  exact slice4 (V (Proc.devRef .tc main_v32_0)) k.rev _ ⟨h.back.toInt _, rfl, rfl, rfl⟩ sliceFits_S64x8x64x128_S1x8x64x128 shapeCasts_S1x8x64x128_S8x64x128

theorem a1_v52 (h : Ctr (F := F) (V (Proc.devRef .tc main_v32_8)) k.val) :
    after body1a V (Proc.devRef .tc main_while1b_v52) = sl4 (V (Proc.devRef .tc main_v32_1)) k.rev := by
  after_reads_simp [unaryIndexed_result_read, binaryIndexed_result_read, indexContents_tref_cons, indexContents_tref_empty, TRef.ofBuf_toBuf]
  exact slice4 (V (Proc.devRef .tc main_v32_1)) k.rev _ ⟨h.back.toInt _, rfl, rfl, rfl⟩ sliceFits_S64x8x128x128_S1x8x128x128 shapeCasts_S1x8x128x128_S8x128x128

theorem a1_v53 (h : Ctr (F := F) (V (Proc.devRef .tc main_v32_8)) k.val) :
    after body1a V (Proc.devRef .tc main_while1b_v53) = sl4 (V (Proc.devRef .tc main_v32_2)) k.rev := by
  after_reads_simp [unaryIndexed_result_read, binaryIndexed_result_read, indexContents_tref_cons, indexContents_tref_empty, TRef.ofBuf_toBuf]
  exact slice4 (V (Proc.devRef .tc main_v32_2)) k.rev _ ⟨h.back.toInt _, rfl, rfl, rfl⟩ sliceFits_S64x8x64x128_S1x8x64x128 shapeCasts_S1x8x64x128_S8x64x128

theorem a1_v54 (h : Ctr (F := F) (V (Proc.devRef .tc main_v32_8)) k.val) :
    after body1a V (Proc.devRef .tc main_while1b_v54) = sl4 (V (Proc.devRef .tc main_v32_3)) k.rev := by
  after_reads_simp [unaryIndexed_result_read, binaryIndexed_result_read, indexContents_tref_cons, indexContents_tref_empty, TRef.ofBuf_toBuf]
  exact slice4 (V (Proc.devRef .tc main_v32_3)) k.rev _ ⟨h.back.toInt _, rfl, rfl, rfl⟩ sliceFits_S64x8x64x128_S1x8x64x128 shapeCasts_S1x8x64x128_S8x64x128

theorem a1_v55 (h : Ctr (F := F) (V (Proc.devRef .tc main_v32_8)) k.val) :
    after body1a V (Proc.devRef .tc main_while1b_v55) = sl4 (V (Proc.devRef .tc main_v32_4)) k.rev := by
  after_reads_simp [unaryIndexed_result_read, binaryIndexed_result_read, indexContents_tref_cons, indexContents_tref_empty, TRef.ofBuf_toBuf]
  exact slice4 (V (Proc.devRef .tc main_v32_4)) k.rev _ ⟨h.back.toInt _, rfl, rfl, rfl⟩ sliceFits_S64x8x64x128_S1x8x64x128 shapeCasts_S1x8x64x128_S8x64x128

theorem a1_v56 (h : Ctr (F := F) (V (Proc.devRef .tc main_v32_8)) k.val) :
    after body1a V (Proc.devRef .tc main_while1b_v56) = sl4 (V (Proc.devRef .tc main_v32_5)) k.rev := by
  after_reads_simp [unaryIndexed_result_read, binaryIndexed_result_read, indexContents_tref_cons, indexContents_tref_empty, TRef.ofBuf_toBuf]
  exact slice4 (V (Proc.devRef .tc main_v32_5)) k.rev _ ⟨h.back.toInt _, rfl, rfl, rfl⟩ sliceFits_S64x8x64x64_S1x8x64x64 shapeCasts_S1x8x64x64_S8x64x64

theorem a1_v57 (h : Ctr (F := F) (V (Proc.devRef .tc main_v32_8)) k.val) :
    after body1a V (Proc.devRef .tc main_while1b_v57) = sl4 (V (Proc.devRef .tc main_v32_6)) k.rev := by
  after_reads_simp [unaryIndexed_result_read, binaryIndexed_result_read, indexContents_tref_cons, indexContents_tref_empty, TRef.ofBuf_toBuf]
  exact slice4 (V (Proc.devRef .tc main_v32_6)) k.rev _ ⟨h.back.toInt _, rfl, rfl, rfl⟩ sliceFits_S64x8x1x1_S1x8x1x1 shapeCasts_S1x8x1x1_S8x1x1

theorem a1_v58 (h : Ctr (F := F) (V (Proc.devRef .tc main_v32_8)) k.val) :
    after body1a V (Proc.devRef .tc main_while1b_v58) = sl4 (V (Proc.devRef .tc main_v32_7)) k.rev := by
  after_reads_simp [unaryIndexed_result_read, binaryIndexed_result_read, indexContents_tref_cons, indexContents_tref_empty, TRef.ofBuf_toBuf]
  exact slice4 (V (Proc.devRef .tc main_v32_7)) k.rev _ ⟨h.back.toInt _, rfl, rfl, rfl⟩ sliceFits_S64x8x64x128_S1x8x64x128 shapeCasts_S1x8x64x128_S8x64x128

theorem b1_v71 :
    after body1b V (Proc.devRef .tc main_while1b_v71) = rDvn (V (Proc.devRef .tc main_while1b_v58)) (V (Proc.devRef .tc main_while1b_v51)) (V (Proc.devRef .tc main_while1b_v56)) (V (Proc.devRef .tc main_v32_9)) := by
  after_reads_simp [unaryIndexed_result_read, binaryIndexed_result_read, indexContents_tref_cons, indexContents_tref_empty, TRef.ofBuf_toBuf]
  rfl

theorem b1_v81 :
    after body1b V (Proc.devRef .tc main_while1b_v81) = rDw (V (Proc.devRef .tc main_while1b_v58)) (V (Proc.devRef .tc main_while1b_v51)) (V (Proc.devRef .tc main_while1b_v56)) (V (Proc.devRef .tc main_while1b_v52)) (V (Proc.devRef .tc main_v32_9)) := by
  after_reads_simp [unaryIndexed_result_read, binaryIndexed_result_read, indexContents_tref_cons, indexContents_tref_empty, TRef.ofBuf_toBuf]
  rfl

theorem b1_v72 :
    after body1b V (Proc.devRef .tc main_while1b_v72) = rDqk (V (Proc.devRef .tc main_while1b_v55)) (V (Proc.devRef .tc main_while1b_v51)) := by
  after_reads_simp [unaryIndexed_result_read, binaryIndexed_result_read, indexContents_tref_cons, indexContents_tref_empty, TRef.ofBuf_toBuf]
  rfl

theorem b1_v76 :
    after body1b V (Proc.devRef .tc main_while1b_v76) = rDqd (V (Proc.devRef .tc main_while1b_v51)) (V (Proc.devRef .tc main_while1b_v52)) := by
  after_reads_simp [unaryIndexed_result_read, binaryIndexed_result_read, indexContents_tref_cons, indexContents_tref_empty, TRef.ofBuf_toBuf]
  rfl

theorem b1_v62 :
    after body1b V (Proc.devRef .tc main_while1b_v62) = rDkd (V (Proc.devRef .tc main_while1b_v55)) (V (Proc.devRef .tc main_v32_9)) := by
  after_reads_simp [unaryIndexed_result_read, binaryIndexed_result_read, indexContents_tref_cons, indexContents_tref_empty, TRef.ofBuf_toBuf]
  rfl

theorem b1_v68 :
    after body1b V (Proc.devRef .tc main_while1b_v68) = rDgl (V (Proc.devRef .tc main_while1b_v52)) (V (Proc.devRef .tc main_v32_9)) := by
  after_reads_simp [unaryIndexed_result_read, binaryIndexed_result_read, indexContents_tref_cons, indexContents_tref_empty, TRef.ofBuf_toBuf]
  rfl

theorem b1_v80 :
    after body1b V (Proc.devRef .tc main_while1b_v80) = rDS (V (Proc.devRef .tc main_while1b_v53)) (V (Proc.devRef .tc main_while1b_v54)) (V (Proc.devRef .tc main_while1b_v58)) (V (Proc.devRef .tc main_while1b_v51)) (V (Proc.devRef .tc main_while1b_v56)) (V (Proc.devRef .tc main_while1b_v57)) (V (Proc.devRef .tc main_v32_9)) := by
  after_reads_simp [unaryIndexed_result_read, binaryIndexed_result_read, indexContents_tref_cons, indexContents_tref_empty, TRef.ofBuf_toBuf]
  rfl

theorem c1_s8 {n : ℕ} (h : Ctr (F := F) (V (Proc.devRef .tc main_v32_8)) n) :
    Ctr (F := F) (after body1c V (Proc.devRef .tc main_v32_8)) (n + 1) := by
  after_reads_simp [unaryIndexed_result_read, binaryIndexed_result_read, indexContents_tref_cons, indexContents_tref_empty, TRef.ofBuf_toBuf]
  exact h.succ

theorem c1_s9 :
    after body1c V (Proc.devRef .tc main_v32_9) = (V (Proc.devRef .tc main_while1b_v80)) := by
  after_reads_simp [unaryIndexed_result_read, binaryIndexed_result_read, indexContents_tref_cons, indexContents_tref_empty, TRef.ofBuf_toBuf]
  rfl

theorem c1_s10 (h : Ctr (F := F) (V (Proc.devRef .tc main_while1b_v50)) k.val) :
    after body1c V (Proc.devRef .tc main_v32_10) = up4 (V (Proc.devRef .tc main_v32_10)) k (V (Proc.devRef .tc main_while1b_v71)) := by
  after_reads_simp [unaryIndexed_result_read, binaryIndexed_result_read, indexContents_tref_cons, indexContents_tref_empty, TRef.ofBuf_toBuf]
  exact update4 (V (Proc.devRef .tc main_v32_10)) k (V (Proc.devRef .tc main_while1b_v71)) _ ⟨h.toInt _, rfl, rfl, rfl⟩ updateFits_S64x8x64x128_S1x8x64x128 bcast_S8x64x128_S1x8x64x128_1_2_3

theorem c1_s11 (h : Ctr (F := F) (V (Proc.devRef .tc main_while1b_v50)) k.val) :
    after body1c V (Proc.devRef .tc main_v32_11) = up4 (V (Proc.devRef .tc main_v32_11)) k (V (Proc.devRef .tc main_while1b_v81)) := by
  after_reads_simp [unaryIndexed_result_read, binaryIndexed_result_read, indexContents_tref_cons, indexContents_tref_empty, TRef.ofBuf_toBuf]
  exact update4 (V (Proc.devRef .tc main_v32_11)) k (V (Proc.devRef .tc main_while1b_v81)) _ ⟨h.toInt _, rfl, rfl, rfl⟩ updateFits_S64x8x64x128_S1x8x64x128 bcast_S8x64x128_S1x8x64x128_1_2_3

theorem c1_s12 (h : Ctr (F := F) (V (Proc.devRef .tc main_while1b_v50)) k.val) :
    after body1c V (Proc.devRef .tc main_v32_12) = up4 (V (Proc.devRef .tc main_v32_12)) k (V (Proc.devRef .tc main_while1b_v72)) := by
  after_reads_simp [unaryIndexed_result_read, binaryIndexed_result_read, indexContents_tref_cons, indexContents_tref_empty, TRef.ofBuf_toBuf]
  exact update4 (V (Proc.devRef .tc main_v32_12)) k (V (Proc.devRef .tc main_while1b_v72)) _ ⟨h.toInt _, rfl, rfl, rfl⟩ updateFits_S64x8x64x64_S1x8x64x64 bcast_S8x64x64_S1x8x64x64_1_2_3

theorem c1_s13 (h : Ctr (F := F) (V (Proc.devRef .tc main_while1b_v50)) k.val) :
    after body1c V (Proc.devRef .tc main_v32_13) = up4 (V (Proc.devRef .tc main_v32_13)) k (V (Proc.devRef .tc main_while1b_v76)) := by
  after_reads_simp [unaryIndexed_result_read, binaryIndexed_result_read, indexContents_tref_cons, indexContents_tref_empty, TRef.ofBuf_toBuf]
  exact update4 (V (Proc.devRef .tc main_v32_13)) k (V (Proc.devRef .tc main_while1b_v76)) _ ⟨h.toInt _, rfl, rfl, rfl⟩ updateFits_S64x8x64x128_S1x8x64x128 bcast_S8x64x128_S1x8x64x128_1_2_3

theorem c1_s14 (h : Ctr (F := F) (V (Proc.devRef .tc main_while1b_v50)) k.val) :
    after body1c V (Proc.devRef .tc main_v32_14) = up4 (V (Proc.devRef .tc main_v32_14)) k (V (Proc.devRef .tc main_while1b_v62)) := by
  after_reads_simp [unaryIndexed_result_read, binaryIndexed_result_read, indexContents_tref_cons, indexContents_tref_empty, TRef.ofBuf_toBuf]
  exact update4 (V (Proc.devRef .tc main_v32_14)) k (V (Proc.devRef .tc main_while1b_v62)) _ ⟨h.toInt _, rfl, rfl, rfl⟩ updateFits_S64x8x64x128_S1x8x64x128 bcast_S8x64x128_S1x8x64x128_1_2_3

theorem c1_s15 (h : Ctr (F := F) (V (Proc.devRef .tc main_while1b_v50)) k.val) :
    after body1c V (Proc.devRef .tc main_v32_15) = up2 (V (Proc.devRef .tc main_v32_15)) k (V (Proc.devRef .tc main_while1b_v68)) := by
  after_reads_simp [unaryIndexed_result_read, binaryIndexed_result_read, indexContents_tref_cons, indexContents_tref_empty, TRef.ofBuf_toBuf]
  exact update2 (V (Proc.devRef .tc main_v32_15)) k (V (Proc.devRef .tc main_while1b_v68)) _ ⟨h.toInt _, rfl⟩ updateFits_S64x8_S1x8 bcast_S8_S1x8_1

end Cert.Proof.Ref
-- ==== Proof.Ref.Trips.lean ====
module

public import proofs.«01_k».proof.Proof.Ref.Reads
@[expose] public section
set_option maxRecDepth 100000
noncomputable section
/-! What the two loops of the reference hold before each trip. -/
namespace Cert.Proof.Ref

open Cert.ReferenceIdeal Cert.ReferenceIdeal.Gen
open Idealize.ShloMosaic Idealize.ShloMosaic.TcCoe
open Idealize.SL.Sem StableHlo

variable {F : FTy → Type} [FloatOps F]

section Stacks
variable {α : Type} {a b : ℕ}

theorem sl4_up4_self (x : (⟨4, ![64, 8, a, b]⟩ : Shape).Idx → α) (k : Fin 64) (u : (⟨3, ![8, a, b]⟩ : Shape).Idx → α) :
    sl4 (up4 x k u) k = u := by
  funext i
  show (if k.val = k.val then u (ix3 (i 0) (i 1) (i 2)) else _) = u i
  rw [if_pos rfl]
  exact congrArg u (Shape.Idx.norm3 i).symm

theorem sl4_up4_ne (x : (⟨4, ![64, 8, a, b]⟩ : Shape).Idx → α) {k n : Fin 64} (h : n ≠ k) (u : (⟨3, ![8, a, b]⟩ : Shape).Idx → α) :
    sl4 (up4 x k u) n = sl4 x n := by
  funext i
  show (if n.val = k.val then u (ix3 (i 0) (i 1) (i 2)) else _) = _
  rw [if_neg fun e => h (Fin.ext e)]
  rfl

theorem sl2_up2_self (x : (⟨2, ![64, 8]⟩ : Shape).Idx → α) (k : Fin 64) (u : (⟨1, ![8]⟩ : Shape).Idx → α) :
    sl2 (up2 x k u) k = u := by
  funext i
  show (if k.val = k.val then u (ix1 (i 0)) else _) = u i
  rw [if_pos rfl]
  exact congrArg u (Shape.Idx.norm1 i).symm

theorem sl2_up2_ne (x : (⟨2, ![64, 8]⟩ : Shape).Idx → α) {k n : Fin 64} (h : n ≠ k) (u : (⟨1, ![8]⟩ : Shape).Idx → α) :
    sl2 (up2 x k u) n = sl2 x n := by
  funext i
  show (if n.val = k.val then u (ix1 (i 0)) else _) = _
  rw [if_neg fun e => h (Fin.ext e)]
  rfl

end Stacks

/-- The chunk a count names. -/
def fk (k : ℕ) : Fin 64 := ⟨k % 64, Nat.mod_lt _ (by decide)⟩

theorem fk_val (k : Fin 64) : fk k.val = k := Fin.ext (Nat.mod_eq_of_lt k.isLt)

section Chains
variable (U W QD KD DO VN : FVec F S64x8x64x128 .f32) (QK : FVec F S64x8x64x64 .f32) (GL : FVec F S64x8 .f32)
  (G1 : FVec F S64x8x1x1 .f32) (s₀ d₀ : FVec F S8x128x128 .f32)

/-- The state before chunk `k`. -/
def RS : ℕ → FVec F S8x128x128 .f32
  | 0 => s₀
  | k + 1 => rS (sl4 U (fk k)) (sl4 W (fk k)) (sl4 KD (fk k)) (sl2 GL (fk k)) (RS k)

/-- The gradient of the state before the second loop's trip `k`. -/
def RD : ℕ → FVec F S8x128x128 .f32
  | 0 => d₀
  | k + 1 => rDS (sl4 W (fk k).rev) (sl4 QD (fk k).rev) (sl4 KD (fk k).rev) (sl4 DO (fk k).rev) (sl4 QK (fk k).rev)
      (sl4 G1 (fk k).rev) (RD k)

end Chains

variable (E V : Valuation τ sig (Elt F))

/-- The states the first loop goes through, from the values it is entered with. -/
abbrev RS0 (k : ℕ) : FVec F S8x128x128 .f32 := RS (E (Proc.devRef .tc main_v19_0)) (E (Proc.devRef .tc main_v19_1)) (E (Proc.devRef .tc main_v19_4)) (E (Proc.devRef .tc main_v19_5)) (E (Proc.devRef .tc main_v19_7)) k

/-- What each chunk's values less the prediction are. -/
abbrev RV0 (n : Fin 64) : FVec F S8x64x128 .f32 := rVn (sl4 (E (Proc.devRef .tc main_v19_0)) n) (sl4 (E (Proc.devRef .tc main_v19_1)) n) (RS0 E n.val)

/-- The references the first loop leaves alone. -/
def kept0 : List (Ref sig .tc) := [(main_arg0 : Ref sig .tc), main_arg1, main_arg2, main_arg3, main_arg4, main_arg5, main_arg6, main_v9, main_v10, main_v11, main_v12, main_v19_0, main_v19_1, main_v19_2, main_v19_3, main_v19_4, main_v19_5]

/-- The references the second loop leaves alone. -/
def kept1 : List (Ref sig .tc) := [(main_arg0 : Ref sig .tc), main_arg1, main_arg2, main_arg3, main_arg4, main_arg5, main_arg6, main_v32_0, main_v32_1, main_v32_2, main_v32_3, main_v32_4, main_v32_5, main_v32_6, main_v32_7]

/-- Before trip `k` of the first loop. -/
structure Inv0 (k : ℕ) : Prop where
  keep : ∀ r ∈ kept0, V (Proc.devRef .tc r) = E (Proc.devRef .tc r)
  ctr : Ctr (F := F) (V (Proc.devRef .tc main_v19_6)) k
  st : (V (Proc.devRef .tc main_v19_7)) = RS0 E k
  s9 : ∀ n : Fin 64, n.val < k → sl4 (a := 128) (b := 128) (V (Proc.devRef .tc main_v19_9)) n = RS0 E n.val
  s10 : ∀ n : Fin 64, n.val < k → sl4 (a := 64) (b := 128) (V (Proc.devRef .tc main_v19_10)) n = RV0 E n
  s11 : ∀ n : Fin 64, n.val < k → sl4 (a := 1) (b := 1) (V (Proc.devRef .tc main_v19_11)) n = rG1 (sl2 (E (Proc.devRef .tc main_v19_5)) n)

theorem inv0_step (k : Fin 64) (h : Inv0 E V k.val) : Inv0 E (afterL [body0a, body0b, body0c] (after cond0 V)) (k.val + 1) := by
  have kp : ∀ r ∈ kept0, after body0c (after body0b (after body0a (after cond0 V))) (Proc.devRef .tc r) = E (Proc.devRef .tc r) := fun r hr => by
    rw [c0_keep _ r hr, b0_keep _ r (List.mem_append_left [main_v19_6, main_v19_7, main_v19_8, main_v19_9, main_v19_10, main_v19_11, main_while0b_v49, main_while0b_v50, main_while0b_v53, main_while0b_v54] hr),
      a0_keep _ r (List.mem_append_left [main_v19_6, main_v19_7, main_v19_8, main_v19_9, main_v19_10, main_v19_11] hr), cond0_keep _ r (List.mem_append_left [main_v19_6, main_v19_7, main_v19_8, main_v19_9, main_v19_10, main_v19_11] hr)]
    exact h.keep r hr
  have k0 : ∀ r ∈ [(main_v19_0 : Ref sig .tc), main_v19_1, main_v19_4, main_v19_5], after cond0 V (Proc.devRef .tc r) = E (Proc.devRef .tc r) := fun r hr => by
    have hr' : r ∈ kept0 := by
      simp only [List.mem_cons, List.not_mem_nil, or_false] at hr
      rcases hr with rfl | rfl | rfl | rfl <;> decide
    rw [cond0_keep _ r (List.mem_append_left [main_v19_6, main_v19_7, main_v19_8, main_v19_9, main_v19_10, main_v19_11] hr')]
    exact h.keep r hr'
  have q0 := k0 main_v19_0 (by decide)
  have q1 := k0 main_v19_1 (by decide)
  have q4 := k0 main_v19_4 (by decide)
  have q5 := k0 main_v19_5 (by decide)
  have p6 : Ctr (F := F) (after cond0 V (Proc.devRef .tc main_v19_6)) k.val := by rw [cond0_keep _ _ (by decide)]; exact h.ctr
  have p7 : after cond0 V (Proc.devRef .tc main_v19_7) = RS0 E k.val := by rw [cond0_keep _ _ (by decide)]; exact h.st
  have p9 : after cond0 V (Proc.devRef .tc main_v19_9) = V (Proc.devRef .tc main_v19_9) := cond0_keep _ _ (by decide)
  have p10 : after cond0 V (Proc.devRef .tc main_v19_10) = V (Proc.devRef .tc main_v19_10) := cond0_keep _ _ (by decide)
  have p11 : after cond0 V (Proc.devRef .tc main_v19_11) = V (Proc.devRef .tc main_v19_11) := cond0_keep _ _ (by decide)
  have hk : fk k.val = k := fk_val k
  simp only [afterL_cons, afterL_nil]
  generalize after cond0 V = V₁ at *
  have a49 := a0_v49 V₁ p6
  have a50 := a0_v50 V₁ p6
  have a53 := a0_v53 V₁ p6
  have a54 := a0_v54 V₁ p6
  rw [q0] at a49
  rw [q1] at a50
  rw [q4] at a53
  rw [q5] at a54
  have a6 : Ctr (F := F) (after body0a V₁ (Proc.devRef .tc main_v19_6)) k.val := by rw [a0_keep _ _ (by decide)]; exact p6
  have a7 : after body0a V₁ (Proc.devRef .tc main_v19_7) = RS0 E k.val := by rw [a0_keep _ _ (by decide)]; exact p7
  have a9 : after body0a V₁ (Proc.devRef .tc main_v19_9) = (V (Proc.devRef .tc main_v19_9)) := by rw [a0_keep _ _ (by decide)]; exact p9
  have a10 : after body0a V₁ (Proc.devRef .tc main_v19_10) = (V (Proc.devRef .tc main_v19_10)) := by rw [a0_keep _ _ (by decide)]; exact p10
  have a11 : after body0a V₁ (Proc.devRef .tc main_v19_11) = (V (Proc.devRef .tc main_v19_11)) := by rw [a0_keep _ _ (by decide)]; exact p11
  generalize after body0a V₁ = V₂ at *
  have b56 := b0_v56 V₂
  have b60 := b0_v60 V₂
  have b64 := b0_v64 V₂
  rw [a49, a50, a7] at b56
  rw [a54] at b60
  rw [a49, a50, a53, a54, a7] at b64
  have b6 : Ctr (F := F) (after body0b V₂ (Proc.devRef .tc main_v19_6)) k.val := by rw [b0_keep _ _ (by decide)]; exact a6
  have b7 : after body0b V₂ (Proc.devRef .tc main_v19_7) = RS0 E k.val := by rw [b0_keep _ _ (by decide)]; exact a7
  have b9 : after body0b V₂ (Proc.devRef .tc main_v19_9) = (V (Proc.devRef .tc main_v19_9)) := by rw [b0_keep _ _ (by decide)]; exact a9
  have b10 : after body0b V₂ (Proc.devRef .tc main_v19_10) = (V (Proc.devRef .tc main_v19_10)) := by rw [b0_keep _ _ (by decide)]; exact a10
  have b11 : after body0b V₂ (Proc.devRef .tc main_v19_11) = (V (Proc.devRef .tc main_v19_11)) := by rw [b0_keep _ _ (by decide)]; exact a11
  generalize after body0b V₂ = V₃ at *
  have c9 := c0_s9 V₃ b6
  have c10 := c0_s10 V₃ b6
  have c11 := c0_s11 V₃ b6
  rw [b9, b7] at c9
  rw [b10, b56] at c10
  rw [b11, b60] at c11
  refine ⟨kp, c0_s6 V₃ b6, ?_, fun n hn => ?_, fun n hn => ?_, fun n hn => ?_⟩
  · rw [c0_s7, b64]
    show _ = rS _ _ _ _ _
    rw [hk]
  · rw [c9]
    by_cases e : n = k
    · subst e; exact sl4_up4_self _ _ _
    · exact (sl4_up4_ne _ e _).trans (h.s9 n (by have := Fin.val_ne_of_ne e; omega))
  · rw [c10]
    by_cases e : n = k
    · subst e; exact sl4_up4_self _ _ _
    · exact (sl4_up4_ne _ e _).trans (h.s10 n (by have := Fin.val_ne_of_ne e; omega))
  · rw [c11]
    by_cases e : n = k
    · subst e; exact sl4_up4_self _ _ _
    · exact (sl4_up4_ne _ e _).trans (h.s11 n (by have := Fin.val_ne_of_ne e; omega))

/-- The state gradients the second loop goes through, from the values it is entered with. -/
abbrev RD0 (k : ℕ) : FVec F S8x128x128 .f32 := RD (E (Proc.devRef .tc main_v32_2)) (E (Proc.devRef .tc main_v32_3)) (E (Proc.devRef .tc main_v32_7)) (E (Proc.devRef .tc main_v32_0)) (E (Proc.devRef .tc main_v32_5)) (E (Proc.devRef .tc main_v32_6)) (E (Proc.devRef .tc main_v32_9)) k

/-- Before trip `k` of the second loop. -/
structure Inv1 (k : ℕ) : Prop where
  keep : ∀ r ∈ kept1, V (Proc.devRef .tc r) = E (Proc.devRef .tc r)
  ctr : Ctr (F := F) (V (Proc.devRef .tc main_v32_8)) k
  st : (V (Proc.devRef .tc main_v32_9)) = RD0 E k
  s10 : ∀ n : Fin 64, n.rev.val < k → sl4 (a := 64) (b := 128) (V (Proc.devRef .tc main_v32_10)) n = rDvn (sl4 (E (Proc.devRef .tc main_v32_7)) n) (sl4 (E (Proc.devRef .tc main_v32_0)) n) (sl4 (E (Proc.devRef .tc main_v32_5)) n) (RD0 E n.rev.val)
  s11 : ∀ n : Fin 64, n.rev.val < k → sl4 (a := 64) (b := 128) (V (Proc.devRef .tc main_v32_11)) n = rDw (sl4 (E (Proc.devRef .tc main_v32_7)) n) (sl4 (E (Proc.devRef .tc main_v32_0)) n) (sl4 (E (Proc.devRef .tc main_v32_5)) n) (sl4 (E (Proc.devRef .tc main_v32_1)) n) (RD0 E n.rev.val)
  s12 : ∀ n : Fin 64, n.rev.val < k → sl4 (a := 64) (b := 64) (V (Proc.devRef .tc main_v32_12)) n = rDqk (sl4 (E (Proc.devRef .tc main_v32_4)) n) (sl4 (E (Proc.devRef .tc main_v32_0)) n)
  s13 : ∀ n : Fin 64, n.rev.val < k → sl4 (a := 64) (b := 128) (V (Proc.devRef .tc main_v32_13)) n = rDqd (sl4 (E (Proc.devRef .tc main_v32_0)) n) (sl4 (E (Proc.devRef .tc main_v32_1)) n)
  s14 : ∀ n : Fin 64, n.rev.val < k → sl4 (a := 64) (b := 128) (V (Proc.devRef .tc main_v32_14)) n = rDkd (sl4 (E (Proc.devRef .tc main_v32_4)) n) (RD0 E n.rev.val)
  s15 : ∀ n : Fin 64, n.rev.val < k → sl2 (V (Proc.devRef .tc main_v32_15)) n = rDgl (sl4 (E (Proc.devRef .tc main_v32_1)) n) (RD0 E n.rev.val)

theorem inv1_step (k : Fin 64) (h : Inv1 E V k.val) : Inv1 E (afterL [body1a, body1b, body1c] (after cond1 V)) (k.val + 1) := by
  have kp : ∀ r ∈ kept1, after body1c (after body1b (after body1a (after cond1 V))) (Proc.devRef .tc r) = E (Proc.devRef .tc r) := fun r hr => by
    rw [c1_keep _ r hr, b1_keep _ r (List.mem_append_left [main_v32_8, main_v32_9, main_v32_10, main_v32_11, main_v32_12, main_v32_13, main_v32_14, main_v32_15, main_while1b_v50] hr),
      a1_keep _ r (List.mem_append_left [main_v32_8, main_v32_9, main_v32_10, main_v32_11, main_v32_12, main_v32_13, main_v32_14, main_v32_15] hr), cond1_keep _ r (List.mem_append_left [main_v32_8, main_v32_9, main_v32_10, main_v32_11, main_v32_12, main_v32_13, main_v32_14, main_v32_15] hr)]
    exact h.keep r hr
  have k0 : ∀ r ∈ [(main_v32_0 : Ref sig .tc), main_v32_1, main_v32_2, main_v32_3, main_v32_4, main_v32_5, main_v32_6, main_v32_7], after cond1 V (Proc.devRef .tc r) = E (Proc.devRef .tc r) := fun r hr => by
    have hr' : r ∈ kept1 := List.mem_append_right [main_arg0, main_arg1, main_arg2, main_arg3, main_arg4, main_arg5, main_arg6] hr
    rw [cond1_keep _ r (List.mem_append_left [main_v32_8, main_v32_9, main_v32_10, main_v32_11, main_v32_12, main_v32_13, main_v32_14, main_v32_15] hr')]
    exact h.keep r hr'
  have q0 := k0 main_v32_0 (by decide)
  have q1 := k0 main_v32_1 (by decide)
  have q2 := k0 main_v32_2 (by decide)
  have q3 := k0 main_v32_3 (by decide)
  have q4 := k0 main_v32_4 (by decide)
  have q5 := k0 main_v32_5 (by decide)
  have q6 := k0 main_v32_6 (by decide)
  have q7 := k0 main_v32_7 (by decide)
  have p8 : Ctr (F := F) (after cond1 V (Proc.devRef .tc main_v32_8)) k.val := by rw [cond1_keep _ _ (by decide)]; exact h.ctr
  have p9 : after cond1 V (Proc.devRef .tc main_v32_9) = RD0 E k.val := by rw [cond1_keep _ _ (by decide)]; exact h.st
  have p10 : after cond1 V (Proc.devRef .tc main_v32_10) = (V (Proc.devRef .tc main_v32_10)) := cond1_keep _ _ (by decide)
  have p11 : after cond1 V (Proc.devRef .tc main_v32_11) = (V (Proc.devRef .tc main_v32_11)) := cond1_keep _ _ (by decide)
  have p12 : after cond1 V (Proc.devRef .tc main_v32_12) = (V (Proc.devRef .tc main_v32_12)) := cond1_keep _ _ (by decide)
  have p13 : after cond1 V (Proc.devRef .tc main_v32_13) = (V (Proc.devRef .tc main_v32_13)) := cond1_keep _ _ (by decide)
  have p14 : after cond1 V (Proc.devRef .tc main_v32_14) = (V (Proc.devRef .tc main_v32_14)) := cond1_keep _ _ (by decide)
  have p15 : after cond1 V (Proc.devRef .tc main_v32_15) = (V (Proc.devRef .tc main_v32_15)) := cond1_keep _ _ (by decide)
  have hk : fk k.val = k := fk_val k
  simp only [afterL_cons, afterL_nil]
  generalize after cond1 V = V₁ at *
  have a50 := a1_v50 V₁ p8
  have a51 := a1_v51 V₁ p8
  rw [q0] at a51
  have a52 := a1_v52 V₁ p8
  rw [q1] at a52
  have a53 := a1_v53 V₁ p8
  rw [q2] at a53
  have a54 := a1_v54 V₁ p8
  rw [q3] at a54
  have a55 := a1_v55 V₁ p8
  rw [q4] at a55
  have a56 := a1_v56 V₁ p8
  rw [q5] at a56
  have a57 := a1_v57 V₁ p8
  rw [q6] at a57
  have a58 := a1_v58 V₁ p8
  rw [q7] at a58
  have a8 : Ctr (F := F) (after body1a V₁ (Proc.devRef .tc main_v32_8)) k.val := by rw [a1_keep _ _ (by decide)]; exact p8
  have a9 : after body1a V₁ (Proc.devRef .tc main_v32_9) = RD0 E k.val := by rw [a1_keep _ _ (by decide)]; exact p9
  have a10 : after body1a V₁ (Proc.devRef .tc main_v32_10) = (V (Proc.devRef .tc main_v32_10)) := by rw [a1_keep _ _ (by decide)]; exact p10
  have a11 : after body1a V₁ (Proc.devRef .tc main_v32_11) = (V (Proc.devRef .tc main_v32_11)) := by rw [a1_keep _ _ (by decide)]; exact p11
  have a12 : after body1a V₁ (Proc.devRef .tc main_v32_12) = (V (Proc.devRef .tc main_v32_12)) := by rw [a1_keep _ _ (by decide)]; exact p12
  have a13 : after body1a V₁ (Proc.devRef .tc main_v32_13) = (V (Proc.devRef .tc main_v32_13)) := by rw [a1_keep _ _ (by decide)]; exact p13
  have a14 : after body1a V₁ (Proc.devRef .tc main_v32_14) = (V (Proc.devRef .tc main_v32_14)) := by rw [a1_keep _ _ (by decide)]; exact p14
  have a15 : after body1a V₁ (Proc.devRef .tc main_v32_15) = (V (Proc.devRef .tc main_v32_15)) := by rw [a1_keep _ _ (by decide)]; exact p15
  generalize after body1a V₁ = V₂ at *
  have b71 := b1_v71 V₂
  rw [a58, a51, a56, a9] at b71
  have b81 := b1_v81 V₂
  rw [a58, a51, a56, a52, a9] at b81
  have b72 := b1_v72 V₂
  rw [a55, a51] at b72
  have b76 := b1_v76 V₂
  rw [a51, a52] at b76
  have b62 := b1_v62 V₂
  rw [a55, a9] at b62
  have b68 := b1_v68 V₂
  rw [a52, a9] at b68
  have b80 := b1_v80 V₂
  rw [a53, a54, a58, a51, a56, a57, a9] at b80
  have b50 : Ctr (F := F) (after body1b V₂ (Proc.devRef .tc main_while1b_v50)) k.rev.val := by rw [b1_keep _ _ (by decide)]; exact a50
  have b8 : Ctr (F := F) (after body1b V₂ (Proc.devRef .tc main_v32_8)) k.val := by rw [b1_keep _ _ (by decide)]; exact a8
  have b10 : after body1b V₂ (Proc.devRef .tc main_v32_10) = (V (Proc.devRef .tc main_v32_10)) := by rw [b1_keep _ _ (by decide)]; exact a10
  have b11 : after body1b V₂ (Proc.devRef .tc main_v32_11) = (V (Proc.devRef .tc main_v32_11)) := by rw [b1_keep _ _ (by decide)]; exact a11
  have b12 : after body1b V₂ (Proc.devRef .tc main_v32_12) = (V (Proc.devRef .tc main_v32_12)) := by rw [b1_keep _ _ (by decide)]; exact a12
  have b13 : after body1b V₂ (Proc.devRef .tc main_v32_13) = (V (Proc.devRef .tc main_v32_13)) := by rw [b1_keep _ _ (by decide)]; exact a13
  have b14 : after body1b V₂ (Proc.devRef .tc main_v32_14) = (V (Proc.devRef .tc main_v32_14)) := by rw [b1_keep _ _ (by decide)]; exact a14
  have b15 : after body1b V₂ (Proc.devRef .tc main_v32_15) = (V (Proc.devRef .tc main_v32_15)) := by rw [b1_keep _ _ (by decide)]; exact a15
  generalize after body1b V₂ = V₃ at *
  have c10 := c1_s10 V₃ b50
  rw [b10, b71] at c10
  have c11 := c1_s11 V₃ b50
  rw [b11, b81] at c11
  have c12 := c1_s12 V₃ b50
  rw [b12, b72] at c12
  have c13 := c1_s13 V₃ b50
  rw [b13, b76] at c13
  have c14 := c1_s14 V₃ b50
  rw [b14, b62] at c14
  have c15 := c1_s15 V₃ b50
  rw [b15, b68] at c15
  refine ⟨kp, c1_s8 V₃ b8, ?_, fun n hn => ?_, fun n hn => ?_, fun n hn => ?_, fun n hn => ?_, fun n hn => ?_, fun n hn => ?_⟩
  · rw [c1_s9, b80]
    show _ = rDS _ _ _ _ _ _ _
    rw [hk]
  · rw [c10]
    by_cases e : n = k.rev
    · subst e; rw [Fin.rev_rev]; exact sl4_up4_self _ _ _
    · exact (sl4_up4_ne _ e _).trans (h.s10 n (by
        have : n.rev ≠ k := fun e' => e (by rw [← e', Fin.rev_rev])
        have := Fin.val_ne_of_ne this; omega))
  · rw [c11]
    by_cases e : n = k.rev
    · subst e; rw [Fin.rev_rev]; exact sl4_up4_self _ _ _
    · exact (sl4_up4_ne _ e _).trans (h.s11 n (by
        have : n.rev ≠ k := fun e' => e (by rw [← e', Fin.rev_rev])
        have := Fin.val_ne_of_ne this; omega))
  · rw [c12]
    by_cases e : n = k.rev
    · subst e; exact sl4_up4_self _ _ _
    · exact (sl4_up4_ne _ e _).trans (h.s12 n (by
        have : n.rev ≠ k := fun e' => e (by rw [← e', Fin.rev_rev])
        have := Fin.val_ne_of_ne this; omega))
  · rw [c13]
    by_cases e : n = k.rev
    · subst e; exact sl4_up4_self _ _ _
    · exact (sl4_up4_ne _ e _).trans (h.s13 n (by
        have : n.rev ≠ k := fun e' => e (by rw [← e', Fin.rev_rev])
        have := Fin.val_ne_of_ne this; omega))
  · rw [c14]
    by_cases e : n = k.rev
    · subst e; rw [Fin.rev_rev]; exact sl4_up4_self _ _ _
    · exact (sl4_up4_ne _ e _).trans (h.s14 n (by
        have : n.rev ≠ k := fun e' => e (by rw [← e', Fin.rev_rev])
        have := Fin.val_ne_of_ne this; omega))
  · rw [c15]
    by_cases e : n = k.rev
    · subst e; rw [Fin.rev_rev]; exact sl2_up2_self _ _ _
    · exact (sl2_up2_ne _ e _).trans (h.s15 n (by
        have : n.rev ≠ k := fun e' => e (by rw [← e', Fin.rev_rev])
        have := Fin.val_ne_of_ne this; omega))

end Cert.Proof.Ref
-- ==== Proof.Ref.Run.lean ====
module

public import proofs.«01_k».proof.Proof.Ref.Trips
@[expose] public section
set_option maxRecDepth 100000
noncomputable section
/-! The reference run whole: the operations before, the first loop, the operations between, the second loop, the rest. -/
namespace Cert.Proof.Ref

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds StableHlo
open Idealize.ShloMosaic.Pipeline (CSeg Ticket PCfg ucRefs unscopedBufs_held sub_ucRefs)

variable {F : FTy → Type} [FloatOps F]

/-! ## Every operation touches the core's own arrays, and none of them allocates -/

theorem pre_sub : (pre : List (HloOp τ sig (Elt F))).Forall fun op => op.bufs ⊆ tcRefs τ sig :=
  ⟨reshape_bufs_sub .., unary_bufs_sub .., reshape_bufs_sub .., unary_bufs_sub ..,
    reshape_bufs_sub .., unary_bufs_sub .., reshape_bufs_sub .., unary_bufs_sub ..,
    unary_bufs_sub .., unary_bufs_sub .., unary_bufs_sub .., unary_bufs_sub ..,
    unary_bufs_sub .., unary_bufs_sub .., nullary_bufs_sub .., unary_bufs_sub ..,
    nullary_bufs_sub .., unary_bufs_sub .., nullary_bufs_sub .., unary_bufs_sub ..,
    nullary_bufs_sub .., unary_bufs_sub .., nullary_bufs_sub .., unary_bufs_sub ..,
    nullary_bufs_sub .., unary_bufs_sub .., unary_bufs_sub .., unary_bufs_sub ..,
    unary_bufs_sub .., unary_bufs_sub .., unary_bufs_sub .., unary_bufs_sub ..,
    unary_bufs_sub .., unary_bufs_sub .., unary_bufs_sub .., unary_bufs_sub ..,
    unary_bufs_sub ..⟩

theorem mid_sub : (mid : List (HloOp τ sig (Elt F))).Forall fun op => op.bufs ⊆ tcRefs τ sig :=
  ⟨unary_bufs_sub .., reshape_bufs_sub .., unary_bufs_sub .., nullary_bufs_sub ..,
    unary_bufs_sub .., unary_bufs_sub .., nullary_bufs_sub .., unary_bufs_sub ..,
    nullary_bufs_sub .., unary_bufs_sub .., nullary_bufs_sub .., unary_bufs_sub ..,
    nullary_bufs_sub .., unary_bufs_sub .., nullary_bufs_sub .., unary_bufs_sub ..,
    nullary_bufs_sub .., unary_bufs_sub .., nullary_bufs_sub .., unary_bufs_sub ..,
    nullary_bufs_sub .., unary_bufs_sub .., unary_bufs_sub .., unary_bufs_sub ..,
    unary_bufs_sub .., unary_bufs_sub .., unary_bufs_sub .., unary_bufs_sub ..,
    unary_bufs_sub .., unary_bufs_sub .., unary_bufs_sub .., unary_bufs_sub ..,
    unary_bufs_sub .., unary_bufs_sub .., unary_bufs_sub .., unary_bufs_sub ..,
    unary_bufs_sub ..⟩

theorem post_sub : (post : List (HloOp τ sig (Elt F))).Forall fun op => op.bufs ⊆ tcRefs τ sig :=
  ⟨unary_bufs_sub .., unary_bufs_sub .., unary_bufs_sub .., unary_bufs_sub ..,
    unary_bufs_sub .., unary_bufs_sub .., unary_bufs_sub .., reshape_bufs_sub ..,
    unary_bufs_sub .., reshape_bufs_sub .., unary_bufs_sub .., reshape_bufs_sub ..,
    unary_bufs_sub .., reshape_bufs_sub .., unary_bufs_sub .., unary_bufs_sub ..⟩

theorem body0a_sub : (body0a : List (HloOp τ sig (Elt F))).Forall fun op => op.bufs ⊆ tcRefs τ sig :=
  ⟨nullary_bufs_sub .., nullary_bufs_sub .., nullary_bufs_sub .., unaryIndexed_bufs_sub ..,
    reshape_bufs_sub .., nullary_bufs_sub .., nullary_bufs_sub .., nullary_bufs_sub ..,
    unaryIndexed_bufs_sub .., reshape_bufs_sub .., nullary_bufs_sub .., nullary_bufs_sub ..,
    nullary_bufs_sub .., unaryIndexed_bufs_sub .., reshape_bufs_sub .., nullary_bufs_sub ..,
    nullary_bufs_sub .., nullary_bufs_sub .., unaryIndexed_bufs_sub .., reshape_bufs_sub ..,
    nullary_bufs_sub .., nullary_bufs_sub .., nullary_bufs_sub .., unaryIndexed_bufs_sub ..,
    reshape_bufs_sub .., nullary_bufs_sub .., unaryIndexed_bufs_sub .., reshape_bufs_sub ..⟩

theorem body0b_sub : (body0b : List (HloOp τ sig (Elt F))).Forall fun op => op.bufs ⊆ tcRefs τ sig :=
  ⟨binary_bufs_sub .., binary_bufs_sub .., binary_bufs_sub .., binary_bufs_sub ..,
    binary_bufs_sub .., unary_bufs_sub .., unary_bufs_sub .., binary_bufs_sub ..,
    binary_bufs_sub .., binary_bufs_sub ..⟩

theorem body0c_sub : (body0c : List (HloOp τ sig (Elt F))).Forall fun op => op.bufs ⊆ tcRefs τ sig :=
  ⟨unary_bufs_sub .., nullary_bufs_sub .., nullary_bufs_sub .., nullary_bufs_sub ..,
    binaryIndexed_bufs_sub .., unary_bufs_sub .., nullary_bufs_sub .., nullary_bufs_sub ..,
    nullary_bufs_sub .., binaryIndexed_bufs_sub .., unary_bufs_sub .., nullary_bufs_sub ..,
    nullary_bufs_sub .., nullary_bufs_sub .., binaryIndexed_bufs_sub .., unary_bufs_sub ..,
    nullary_bufs_sub .., nullary_bufs_sub .., nullary_bufs_sub .., binaryIndexed_bufs_sub ..,
    nullary_bufs_sub .., binary_bufs_sub .., unary_bufs_sub .., unary_bufs_sub ..,
    unary_bufs_sub .., unary_bufs_sub .., unary_bufs_sub .., unary_bufs_sub ..⟩

theorem body1a_sub : (body1a : List (HloOp τ sig (Elt F))).Forall fun op => op.bufs ⊆ tcRefs τ sig :=
  ⟨nullary_bufs_sub .., binary_bufs_sub .., nullary_bufs_sub .., binary_bufs_sub ..,
    nullary_bufs_sub .., nullary_bufs_sub .., nullary_bufs_sub .., unaryIndexed_bufs_sub ..,
    reshape_bufs_sub .., nullary_bufs_sub .., nullary_bufs_sub .., nullary_bufs_sub ..,
    unaryIndexed_bufs_sub .., reshape_bufs_sub .., nullary_bufs_sub .., nullary_bufs_sub ..,
    nullary_bufs_sub .., unaryIndexed_bufs_sub .., reshape_bufs_sub .., nullary_bufs_sub ..,
    nullary_bufs_sub .., nullary_bufs_sub .., unaryIndexed_bufs_sub .., reshape_bufs_sub ..,
    nullary_bufs_sub .., nullary_bufs_sub .., nullary_bufs_sub .., unaryIndexed_bufs_sub ..,
    reshape_bufs_sub .., nullary_bufs_sub .., nullary_bufs_sub .., nullary_bufs_sub ..,
    unaryIndexed_bufs_sub .., reshape_bufs_sub .., nullary_bufs_sub .., nullary_bufs_sub ..,
    nullary_bufs_sub .., unaryIndexed_bufs_sub .., reshape_bufs_sub .., nullary_bufs_sub ..,
    nullary_bufs_sub .., nullary_bufs_sub .., unaryIndexed_bufs_sub .., reshape_bufs_sub ..⟩

theorem body1b_sub : (body1b : List (HloOp τ sig (Elt F))).Forall fun op => op.bufs ⊆ tcRefs τ sig :=
  ⟨binary_bufs_sub .., unary_bufs_sub .., binary_bufs_sub .., unary_bufs_sub ..,
    binary_bufs_sub .., nullary_bufs_sub .., binary_bufs_sub .., reshape_bufs_sub ..,
    unary_bufs_sub .., binary_bufs_sub .., nullary_bufs_sub .., binary_bufs_sub ..,
    binary_bufs_sub .., unary_bufs_sub .., binary_bufs_sub .., binary_bufs_sub ..,
    binary_bufs_sub .., unary_bufs_sub .., binary_bufs_sub .., binary_bufs_sub ..,
    unary_bufs_sub .., binary_bufs_sub .., unary_bufs_sub .., binary_bufs_sub ..,
    binary_bufs_sub ..⟩

theorem body1c_sub : (body1c : List (HloOp τ sig (Elt F))).Forall fun op => op.bufs ⊆ tcRefs τ sig :=
  ⟨unary_bufs_sub .., nullary_bufs_sub .., nullary_bufs_sub .., nullary_bufs_sub ..,
    binaryIndexed_bufs_sub .., unary_bufs_sub .., nullary_bufs_sub .., nullary_bufs_sub ..,
    nullary_bufs_sub .., binaryIndexed_bufs_sub .., unary_bufs_sub .., nullary_bufs_sub ..,
    nullary_bufs_sub .., nullary_bufs_sub .., binaryIndexed_bufs_sub .., unary_bufs_sub ..,
    nullary_bufs_sub .., nullary_bufs_sub .., nullary_bufs_sub .., binaryIndexed_bufs_sub ..,
    unary_bufs_sub .., nullary_bufs_sub .., nullary_bufs_sub .., nullary_bufs_sub ..,
    binaryIndexed_bufs_sub .., unary_bufs_sub .., nullary_bufs_sub .., binaryIndexed_bufs_sub ..,
    nullary_bufs_sub .., binary_bufs_sub .., unary_bufs_sub .., unary_bufs_sub ..,
    unary_bufs_sub .., unary_bufs_sub .., unary_bufs_sub .., unary_bufs_sub ..,
    unary_bufs_sub .., unary_bufs_sub ..⟩

theorem plain1 {ops : List (HloOp τ sig (Elt F))} (hs : ops.Forall fun op => op.bufs ⊆ tcRefs τ sig)
    (hf : ops.map HloOp.fresh = ops.map fun _ => (∅ : Finset (DevRef τ sig))) {rest : List (List (HloOp τ sig (Elt F)))}
    (h : Plain rest) : Plain (ops :: rest) :=
  Plain.cons hs h (List.forall_iff_forall_mem.mp (forall_fresh_of_map hf))

theorem plain_pre : Plain [(pre : List (HloOp τ sig (Elt F)))] := plain1 pre_sub rfl Plain.nil
theorem plain_mid : Plain [(mid : List (HloOp τ sig (Elt F)))] := plain1 mid_sub rfl Plain.nil
theorem plain_post : Plain [(post : List (HloOp τ sig (Elt F)))] := plain1 post_sub rfl Plain.nil
theorem plain_body0 : Plain [(body0a : List (HloOp τ sig (Elt F))), body0b, body0c] :=
  plain1 body0a_sub rfl (plain1 body0b_sub rfl (plain1 body0c_sub rfl Plain.nil))
theorem plain_body1 : Plain [(body1a : List (HloOp τ sig (Elt F))), body1b, body1c] :=
  plain1 body1a_sub rfl (plain1 body1b_sub rfl (plain1 body1c_sub rfl Plain.nil))

/-! ## The contents at each point -/

variable (m : (ℓ : Loc nD τ sig) → Buf (Elt F) ℓ)

/-- Before the first loop. -/
def E0 (c : Dev nD) : Valuation τ sig (Elt F) := afterL [pre] (launchContents m c)
/-- Before the first loop's trip `k`. -/
abbrev T0 (k : ℕ) (c : Dev nD) : Valuation τ sig (Elt F) := atTrip cond0 [body0a, body0b, body0c] (E0 m) k c
/-- Before the second loop. -/
def E1 (c : Dev nD) : Valuation τ sig (Elt F) := afterL [mid] (after cond0 (T0 m 64 c))
/-- Before the second loop's trip `k`. -/
abbrev T1 (k : ℕ) (c : Dev nD) : Valuation τ sig (Elt F) := atTrip cond1 [body1a, body1b, body1c] (E1 m) k c
/-- At the end. -/
def EN (c : Dev nD) : Valuation τ sig (Elt F) := afterL [post] (after cond1 (T1 m 64 c))

theorem ctr0 (c : Dev nD) : Ctr (F := F) (E0 m c (Proc.devRef .tc main_v19_6)) 0 := by
  unfold E0
  simp only [afterL_cons, afterL_nil]
  generalize launchContents m c = V
  after_reads_simp []
  rfl

theorem ctr1 (c : Dev nD) : Ctr (F := F) (E1 m c (Proc.devRef .tc main_v32_8)) 0 := by
  unfold E1
  simp only [afterL_cons, afterL_nil]
  generalize after cond0 (T0 m 64 c) = V
  after_reads_simp []
  rfl

theorem trips0 (c : Dev nD) : ∀ k ≤ 64, Inv0 (E0 m c) (T0 m k c) k
  | 0, _ => ⟨fun _ _ => rfl, ctr0 m c, rfl, fun _ h => absurd h (Nat.not_lt_zero _), fun _ h => absurd h (Nat.not_lt_zero _),
      fun _ h => absurd h (Nat.not_lt_zero _)⟩
  | k + 1, h => inv0_step (E0 m c) (T0 m k c) ⟨k, h⟩ (trips0 c k (Nat.le_of_succ_le h))

theorem trips1 (c : Dev nD) : ∀ k ≤ 64, Inv1 (E1 m c) (T1 m k c) k
  | 0, _ => ⟨fun _ _ => rfl, ctr1 m c, rfl, fun _ h => absurd h (Nat.not_lt_zero _), fun _ h => absurd h (Nat.not_lt_zero _),
      fun _ h => absurd h (Nat.not_lt_zero _), fun _ h => absurd h (Nat.not_lt_zero _), fun _ h => absurd h (Nat.not_lt_zero _),
      fun _ h => absurd h (Nat.not_lt_zero _)⟩
  | k + 1, h => inv1_step (E1 m c) (T1 m k c) ⟨k, h⟩ (trips1 c k (Nat.le_of_succ_le h))

/-! ## The run -/

local notation "𝕄" => MT nD τ sig Unit (Elt F) ℕ (Option PUnit) ℕ

/-- No kernel: nothing admitted, no ticket, no level. -/
abbrev adm : (p : Fin 0) → (pcfgs (F := F) p).Adm := fun p => p.elim0
abbrev tks : Fin 0 → Ticket (Ix := Unit) (Name := ℕ) (U := Option PUnit) (Lvl := ℕ) (nD := nD) (τ := τ) (pcfgs (F := F)) adm := fun j => j.elim0
abbrev lvs : GSem nD τ sig → Finset Unit := fun _ => ∅
abbrev lvl : GSem nD τ sig → Unit → ℕ := fun _ _ => 0

theorem cellOf_inj : Function.Injective (Pipeline.cellOf (nD := nD) (τ := τ) (Pipeline.pin (pcfgs (F := F)) adm)) :=
  fun k => k.1.elim0

/-- What rides along beside the arrays: the core owes nothing. -/
abbrev Rest (c : Dev nD) : sProp 𝕄 := iprop(∃ W, owes (c : Thread nD τ) (0 : CellTallies nD τ sig Unit) W)

theorem no_unscoped : ∀ sm : SemLoc sig, sm.isScoped .tc = true := by decide

set_option backward.isDefEq.respectTransparency.types false in
/-- The condition of loop 0 holds before trips 0 to 63 and fails before trip 64. -/
theorem cond_spec0 : LoopCond (pcfgs (F := F)) defs₀ Variants.none loops Rest main_while0_cond cond0
    [body0a, body0b, body0c] (E0 m) 64 := by
  intro k hk c bd
  have hctr := (trips0 m c k hk).ctr
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]
    · iexact Hb
    iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt (HloOp.result _ (T0 m k c) (Proc.devRef .tc main_v19_6) HostLoop.idx0)
      (HloOp.result _ (T0 m k c) (Proc.devRef .tc main_while0c_c_24) HostLoop.idx0) = 1#1) (k < 64)
    rw [nullary_result_ne _ _ _ _ (by decide), nullary_result, hctr]
    exact (by decide : ∀ k : Fin 65, Iff (IntOp.cmpi .slt (BitVec.ofNat 32 k.val) 64#32 = 1#1) (k.val < 64)) ⟨k, by omega⟩
  isplitl [Hb]
  · iexact Hb
  isplitl [Hh]
  · rw [after_cons, after_cons, after_nil]
    iexact Hh
  iexact HR

set_option backward.isDefEq.respectTransparency.types false in
/-- The condition of loop 1 holds before trips 0 to 63 and fails before trip 64. -/
theorem cond_spec1 : LoopCond (pcfgs (F := F)) defs₀ Variants.none loops Rest main_while1_cond cond1
    [body1a, body1b, body1c] (E1 m) 64 := by
  intro k hk c bd
  have hctr := (trips1 m c k hk).ctr
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]
    · iexact Hb
    iexact Hh
  iintro ⟨Hb, Hh⟩
  rw [wp_ret]
  imodintro
  iapply (wp_hlo_within (Variants.lift Variants.none) (c : Thread nD τ) bd Set.univ (sub_ucRefs _ (binary_bufs_sub ..))) $$ [Hb Hh]
  · isplitl [Hb]
    · iexact Hb
    iexact Hh
  iintro ⟨Hb, Hh⟩
  rw [HostLoop.elt_apply, wp_ret]
  imodintro
  isplitr
  · ipureintro
    show Iff (IntOp.cmpi .slt (HloOp.result _ (T1 m k c) (Proc.devRef .tc main_v32_8) HostLoop.idx0)
      (HloOp.result _ (T1 m k c) (Proc.devRef .tc main_while1c_c_28) HostLoop.idx0) = 1#1) (k < 64)
    rw [nullary_result_ne _ _ _ _ (by decide), nullary_result, hctr]
    exact (by decide : ∀ k : Fin 65, Iff (IntOp.cmpi .slt (BitVec.ofNat 32 k.val) 64#32 = 1#1) (k.val < 64)) ⟨k, by omega⟩
  isplitl [Hb]
  · iexact Hb
  isplitl [Hh]
  · rw [after_cons, after_cons, after_nil]
    iexact Hh
  iexact HR

/-- The program's segments in order. -/
def runSegs : List (CSeg (pcfgs (F := F)) adm defs₀ Variants.none lvs lvl loops tks) :=
  segsOf _ _ _ _ _ _ _ _ Rest [pre] plain_pre (launchContents m)
    ++ loopSeg _ _ _ _ _ _ _ _ 0 main_while0_cond main_while0_body rfl cond0 [body0a, body0b, body0c] plain_body0 body0_eq 64 (E0 m) Rest (cond_spec0 m)
      :: (segsOf _ _ _ _ _ _ _ _ Rest [mid] plain_mid (fun c => after cond0 (T0 m 64 c))
        ++ loopSeg _ _ _ _ _ _ _ _ 1 main_while1_cond main_while1_body rfl cond1 [body1a, body1b, body1c] plain_body1 body1_eq 64 (E1 m) Rest (cond_spec1 m)
          :: segsOf _ _ _ _ _ _ _ _ Rest [post] plain_post (fun c => after cond1 (T1 m 64 c)))

theorem runSegs_prog : (runSegs m).map CSeg.prog
    = [ seq pre, HostLoop.enter 0, seq mid, HostLoop.enter 1, seq post ] := by
  unfold runSegs
  rw [List.map_append, List.map_cons, List.map_append, List.map_cons, segsOf_prog, segsOf_prog, segsOf_prog]
  rfl

theorem runSegs_chains :
    CSeg.Chains (fun c => iprop(held (c : Thread nD τ) (ucRefs τ sig) (launchContents m c) ∗ Rest c)) (runSegs m)
      (fun c => iprop(iprop(held (c : Thread nD τ) (ucRefs τ sig) (EN m c)) ∗ ∃ W, owes (c : Thread nD τ) (0 : CellTallies nD τ sig Unit) W)) := by
  unfold runSegs
  exact CSeg.Chains.append (segsOf_chains _ _ _ _ _ _ _ _ Rest [pre] plain_pre _) ⟨fun _ => .rfl,
    CSeg.Chains.append (segsOf_chains _ _ _ _ _ _ _ _ Rest [mid] plain_mid _) ⟨fun _ => .rfl,
      segsOf_chains _ _ _ _ _ _ _ _ Rest [post] plain_post _⟩⟩

/-- Every array of the program at the end. -/
def Final (s : MemSt nD τ sig (Elt F)) : Prop :=
  ∀ (c : Dev nD) (b : Ref sig .tc), (Proc.devRef .tc b : DevRef τ sig) ∈ ucRefs τ sig →
    s.mem ((c : Thread nD τ).loc b) = EN m c (Proc.devRef .tc b)

theorem runSegs_main (c : Dev nD) (Q : PUnit → sProp 𝕄) :
    wp frame (wpE (HostLoop.defs loops (Pipeline.defs (pcfgs (F := F)) defs₀)) (Variants.lift Variants.none) (c.tc : Thread nD τ) none) Set.univ (CSeg.runL (runSegs m)) Q
      ⊢ wp frame (wpE (HostLoop.defs loops (Pipeline.defs (pcfgs (F := F)) defs₀)) (Variants.lift Variants.none) (c.tc : Thread nD τ) none) Set.univ (main (F := F) c) Q := by
  rw [main_eq c]
  show wp _ _ _ (Pipeline.chain ((runSegs m).map CSeg.prog)) Q ⊢ _
  rw [runSegs_prog]

theorem run_ref (ρ : Dev nD → PrngReg) :
    θ_run (defs (F := F)) (onTc (τ := τ) (main (F := F))) ⟨m, fun _ => 0, ρ⟩ (fun r => Final m r.2 ∧ r.2.sem = fun _ => 0) :=
  Pipeline.θ_run_regions_loop_kit_sems (Ix := Unit) (Name := ℕ) (U := Option PUnit) (Lvl := ℕ) (J := Fin 0) (P := Fin 0) (Val := Elt F)
    pcfgs adm cellOf_inj defs₀ Variants.none lvs lvl loops tks m ρ main (runSegs m) (runSegs_main m)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]
        iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rest c))
    (Tₙ := fun c => iprop(held (c : Thread nD τ) (ucRefs τ sig) (EN m c)))
    (hch := runSegs_chains m)
    (hinit := by
      refine Pipeline.initEach lvs lvl fun c => ?_
      rw [show unscopedBufs c (fun b => m ((c : Thread nD τ).loc b)) = held (c : Thread nD τ) (ucRefs τ sig) (launchContents m c)
        from Pipeline.unscopedBufs_held c (launchContents m c)]
      iintro ⟨⟨Hh, -, HO, -, -, -⟩, -⟩
      imodintro
      isplitl [Hh]
      · iexact Hh
      iexists ∅
      iexact HO)
    (QY := fun c s => ∀ b ∈ ucRefs τ sig, s.mem ((c : Dev nD), b) = EN m c b)
    (hfin := fun c s' => by
      unfold held
      iintro ⟨Hh, HSI⟩
      ihave Hr := (pointsTo_read_all (ucRefs τ sig) (fun b => ((c : Dev nD), b)) (fun b => EN m c b) s') $$ [Hh HSI]
      · isplitl [Hh] <;> iassumption
      icases Hr with ⟨%h, HSI⟩
      imodintro
      isplitr
      · ipureintro
        exact h
      iexact HSI)
    (hQ := fun s h hz => ⟨fun c b hb => h c _ hb, funext fun g => hz g (.inr (no_unscoped g.2))⟩)

/-! ## What no operation writes -/

theorem pre_keep (V : Valuation τ sig (Elt F)) (r : Ref sig .tc) (hr : r ∈ [(main_arg0 : Ref sig .tc), main_arg1, main_arg2, main_arg3, main_arg4, main_arg5, main_arg6]) :
    after pre V (Proc.devRef .tc r) = V (Proc.devRef .tc r) := by
  simp only [List.mem_cons, List.not_mem_nil, or_false] at hr
  rcases hr with rfl | rfl | rfl | rfl | rfl | rfl | rfl <;> after_reads_simp []

theorem mid_keep (V : Valuation τ sig (Elt F)) (r : Ref sig .tc) (hr : r ∈ [(main_arg0 : Ref sig .tc), main_arg1, main_arg2, main_arg3, main_arg4, main_arg5, main_arg6]) :
    after mid V (Proc.devRef .tc r) = V (Proc.devRef .tc r) := by
  simp only [List.mem_cons, List.not_mem_nil, or_false] at hr
  rcases hr with rfl | rfl | rfl | rfl | rfl | rfl | rfl <;> after_reads_simp []

theorem post_keep (V : Valuation τ sig (Elt F)) (r : Ref sig .tc) (hr : r ∈ [(main_arg0 : Ref sig .tc), main_arg1, main_arg2, main_arg3, main_arg4, main_arg5, main_arg6]) :
    after post V (Proc.devRef .tc r) = V (Proc.devRef .tc r) := by
  simp only [List.mem_cons, List.not_mem_nil, or_false] at hr
  rcases hr with rfl | rfl | rfl | rfl | rfl | rfl | rfl <;> after_reads_simp []

/-- The reference's arguments end as they began. -/
theorem EN_arg (c : Dev nD) (r : Ref sig .tc) (hr : r ∈ [(main_arg0 : Ref sig .tc), main_arg1, main_arg2, main_arg3, main_arg4, main_arg5, main_arg6]) :
    EN m c (Proc.devRef .tc r) = m ((c : Thread nD τ).loc r) := by
  have h0 : r ∈ kept0 := List.mem_append_left [main_v9, main_v10, main_v11, main_v12, main_v19_0, main_v19_1, main_v19_2, main_v19_3, main_v19_4, main_v19_5] hr
  have h1 : r ∈ kept1 := List.mem_append_left [main_v32_0, main_v32_1, main_v32_2, main_v32_3, main_v32_4, main_v32_5, main_v32_6, main_v32_7] hr
  unfold EN
  simp only [afterL_cons, afterL_nil]
  rw [post_keep _ r hr, cond1_keep _ r (List.mem_append_left [main_v32_8, main_v32_9, main_v32_10, main_v32_11, main_v32_12, main_v32_13, main_v32_14, main_v32_15] h1),
    (trips1 m c 64 (Nat.le_refl _)).keep r h1]
  unfold E1
  simp only [afterL_cons, afterL_nil]
  rw [mid_keep _ r hr, cond0_keep _ r (List.mem_append_left [main_v19_6, main_v19_7, main_v19_8, main_v19_9, main_v19_10, main_v19_11] h0),
    (trips0 m c 64 (Nat.le_refl _)).keep r h0]
  unfold E0
  simp only [afterL_cons, afterL_nil]
  rw [pre_keep _ r hr]

end Cert.Proof.Ref
end
-- ==== Proof.Frames.lean ====
module

public import proofs.«01_k».proof.Defs
public import proofs.«01_k».proof.Proof.Gen.Kernel
public import proofs.«01_k».proof.Proof.KernelRun
public import proofs.«01_k».proof.Proof.Ref.Run
@[expose] public section
set_option maxRecDepth 16384
noncomputable section
/-! The frames: both programs of the kernel from the one run, the reference from its own. -/
namespace Cert.Proof

open Idealize.ShloMosaic Idealize.ShloMosaic.TcCoe Idealize.SL.Sem

section Kernel
open Cert.KernelIdeal
variable {F : FTy → Type} [FloatOps F] (m : (ℓ : Loc nD τ sig) → Buf (Elt F) ℓ)

/-- The arguments of the kernel at the end of its run. -/
def KArgs (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

theorem kargs {s : MemSt nD τ sig (Elt F)} (h : Scan.Final m s) (c : Dev nD) : KArgs m s c := by
  have k : ∀ r ∈ [main_arg0, main_arg1, main_arg2, main_arg3, main_arg4, main_arg5, main_arg6],
      r.isScoped = false → s.mem ((c.tc : Thread nD τ).loc r) = m ((c.tc : Thread nD τ).loc r) := fun r hr hs =>
    (h c r (StableHlo.devRef_mem_ucRefs r hs)).trans (Scan.VC_arg m c r hr)
  exact ⟨k _ (by decide) rfl, k _ (by decide) rfl, k _ (by decide) rfl, k _ (by decide) rfl, k _ (by decide) rfl, k _ (by decide) rfl, k _ (by decide) rfl⟩

end Kernel

section Reference
open Cert.ReferenceIdeal
variable {F : FTy → Type} [FloatOps F] (m : (ℓ : Loc nD τ sig) → Buf (Elt F) ℓ)

/-- The arguments of the reference at the end of its run. -/
def RArgs (s : MemSt nD τ sig (Elt F)) (c : Dev nD) : Prop :=
  s.mem ((c.tc : Thread nD τ).loc main_arg0) = m ((c.tc : Thread nD τ).loc main_arg0)
  ∧ s.mem ((c.tc : Thread nD τ).loc main_arg1) = m ((c.tc : Thread nD τ).loc main_arg1)
  ∧ s.mem ((c.tc : Thread nD τ).loc main_arg2) = m ((c.tc : Thread nD τ).loc main_arg2)
  ∧ s.mem ((c.tc : Thread nD τ).loc main_arg3) = m ((c.tc : Thread nD τ).loc main_arg3)
  ∧ s.mem ((c.tc : Thread nD τ).loc main_arg4) = m ((c.tc : Thread nD τ).loc main_arg4)
  ∧ s.mem ((c.tc : Thread nD τ).loc main_arg5) = m ((c.tc : Thread nD τ).loc main_arg5)
  ∧ s.mem ((c.tc : Thread nD τ).loc main_arg6) = m ((c.tc : Thread nD τ).loc main_arg6)

theorem rargs {s : MemSt nD τ sig (Elt F)} (h : Ref.Final m s) (c : Dev nD) : RArgs m s c := by
  have k : ∀ r ∈ [main_arg0, main_arg1, main_arg2, main_arg3, main_arg4, main_arg5, main_arg6],
      r.isScoped = false → s.mem ((c.tc : Thread nD τ).loc r) = m ((c.tc : Thread nD τ).loc r) := fun r hr hs =>
    (h c r (StableHlo.devRef_mem_ucRefs r hs)).trans (Ref.EN_arg m c r hr)
  exact ⟨k _ (by decide) rfl, k _ (by decide) rfl, k _ (by decide) rfl, k _ (by decide) rfl, k _ (by decide) rfl, k _ (by decide) rfl, k _ (by decide) rfl⟩

end Reference

theorem frame_kernel : Cert.quiescent_Kernel := fun m ρ _ =>
  (θ_run Cert.Kernel.defs _ _).mono (fun _ h => ⟨fun c => kargs (F := Bits) m h.1 c, h.2⟩) (run_kernel m ρ)

theorem frame_ideal : Cert.quiescent_KernelIdeal := fun m ρ _ =>
  (θ_run Cert.KernelIdeal.defs _ _).mono (fun _ h => ⟨fun c => kargs (F := Ideal) m h.1 c, h.2⟩) (Scan.run_main (F := Ideal) m ρ)

theorem frame_reference : Cert.quiescent_ReferenceIdeal := fun m ρ _ =>
  (θ_run Cert.ReferenceIdeal.defs _ _).mono (fun _ h => ⟨fun c => rargs (F := Ideal) m h.1 c, h.2⟩) (Ref.run_ref (F := Ideal) m ρ)

end Cert.Proof
end
-- ==== Proof.Scan.Maths.lean ====
module

public import proofs.«01_k».proof.Proof.Scan.Spec
public import Idealize.ShloMosaic.Lib.Pointwise
@[expose] public section
set_option maxRecDepth 16384
noncomputable section
/-! What each step of the two kernels is, entry by entry, over the extended reals. -/
namespace Cert.Proof.Scan

open Cert.KernelIdeal Cert.KernelIdeal.Gen
open Idealize.ShloMosaic

/-- The new values: `u − w·S`. -/
theorem newVal_apply (S : FVec Ideal S128x128 .f32) (w u : FVec Ideal S64x128 .f32) (a : Fin 64) (b : Fin 128) :
    k0_pay32 (k0_pay16 S w) u (ix2 a b) = u (ix2 a b) - ∑ k : Fin 128, w (ix2 a k) * S (ix2 k b) := by
  unfold k0_pay32 k0_pay16; pointwise

/-- The next state: `S·g + kdᵀ·vn`. -/
theorem next_apply (S : FVec Ideal S128x128 .f32) (vn kd : FVec Ideal S64x128 .f32) (g : FVec Ideal S1x1x1x128 .f32) (a b : Fin 128) :
    k0_pay49 S vn g kd (ix2 a b) = S (ix2 a b) * g (ix4 0 0 0 b) + ∑ k : Fin 64, kd (ix2 k a) * vn (ix2 k b) := by
  unfold k0_pay49; pointwise

/-- The gradient of the new values: `qkᵀ·do + kd·D`. -/
theorem dvn_apply (dO kd : FVec Ideal S64x128 .f32) (qk : FVec Ideal S1x1x64x64 .f32) (D : FVec Ideal S128x128 .f32) (a : Fin 64) (b : Fin 128) :
    addf (k1_pay24 dO qk) (k1_pay32 D kd) (ix2 a b)
      = (∑ k : Fin 64, qk (ix4 0 0 k a) * dO (ix2 k b)) + ∑ k : Fin 128, kd (ix2 a k) * D (ix2 k b) := by
  unfold k1_pay24 k1_pay32; pointwise

theorem dqd_apply (S : FVec Ideal S128x128 .f32) (dO : FVec Ideal S64x128 .f32) (a : Fin 64) (b : Fin 128) :
    k1_pay48 S dO (ix2 a b) = ∑ k : Fin 128, dO (ix2 a k) * S (ix2 b k) := by
  unfold k1_pay48; pointwise

theorem dkd_apply (D : FVec Ideal S128x128 .f32) (vn : FVec Ideal S64x128 .f32) (a : Fin 64) (b : Fin 128) :
    k1_pay56 D (k1_pay16 vn) (ix2 a b) = ∑ k : Fin 128, vn (ix2 a k) * D (ix2 b k) := by
  unfold k1_pay56 k1_pay16; pointwise

theorem dqk_apply (dO vn : FVec Ideal S64x128 .f32) (a b : Fin 64) :
    k1_pay108 (k1_pay65 dO (k1_pay16 vn)) (ix4 0 0 a b) = ∑ k : Fin 128, dO (ix2 a k) * vn (ix2 b k) := by
  unfold k1_pay108 k1_pay65 k1_pay16; pointwise

theorem dw_apply (S : FVec Ideal S128x128 .f32) (dvn : FVec Ideal S64x128 .f32) (a : Fin 64) (b : Fin 128) :
    k1_pay73 S dvn (ix2 a b) = 0 - ∑ k : Fin 128, dvn (ix2 a k) * S (ix2 b k) := by
  unfold k1_pay73; pointwise

/-- The gradient of the state before a chunk: `qdᵀ·do + D·g − wᵀ·dvn`. -/
theorem back_apply (D : FVec Ideal S128x128 .f32) (dO qd dvn w : FVec Ideal S64x128 .f32) (g : FVec Ideal S1x1x1x128 .f32) (a b : Fin 128) :
    k1_pay100 D (k1_pay88 dO qd) (k1_pay91 dvn w) g (ix2 a b)
      = (∑ k : Fin 64, qd (ix2 k a) * dO (ix2 k b)) + D (ix2 a b) * g (ix4 0 0 0 b) - ∑ k : Fin 64, w (ix2 k a) * dvn (ix2 k b) := by
  unfold k1_pay100 k1_pay88 k1_pay91; pointwise

theorem dgl_apply (D S : FVec Ideal S128x128 .f32) (x : S1x1x1x128.Idx) :
    k1_pay109 D S x = ∑ a : Fin 128, ∑ b : Fin 128, D (ix2 a b) * S (ix2 a b) := by
  unfold k1_pay109; pointwise

/-- A stored state is read back as it was. -/
theorem back_forth {F : FTy → Type} [FloatOps F] (S : FVec F S128x128 .f32) : k1_pay8 (k0_pay8 S) = S := by
  funext i
  unfold k1_pay8 k0_pay8; pointwise

theorem zero_apply (i : S128x128.Idx) : (broadcast S128x128 (Scalar.ofBits (F := Ideal) .f32 0x00000000#32) : FVec Ideal S128x128 .f32) i = 0 := by
  pointwise

end Cert.Proof.Scan
end
-- ==== Proof.Scan.Values.lean ====
module

public import Idealize.ShloMosaic.Lib.StableHlo.RunRead
public import proofs.«01_k».proof.Proof.Scan.Run
public import Idealize.ShloMosaic.Lib.Pointwise
@[expose] public section
set_option maxRecDepth 16384
noncomputable section
/-! The kernel's six results as functions of its seven arguments. -/
namespace Cert.Proof.Scan

open Cert.KernelIdeal Cert.KernelIdeal.Gen
open Idealize.ShloMosaic Idealize.ShloMosaic.TcCoe
open Idealize.ShloMosaic.Pipeline (Dat afterRegion)

variable {F : FTy → Type} [FloatOps F]

/-- The decays, each repeated along a row of 128. -/
def wide (gl : FVec F S8x64 .f32) : FVec F S8x64x1x128 .f32 :=
  broadcastInDim S8x64x1x128 ![0, 1, 2, 3] bcast_S8x64x1x1_S8x64x1x128_0_1_2_3 (broadcastInDim S8x64x1x1 ![0, 1] bcast_S8x64_S8x64x1x1_0_1 gl)

theorem wide_apply (gl : FVec F S8x64 .f32) (i : S8x64x1x128.Idx) : wide gl i = gl (ix2 (i 0) (i 1)) := by
  unfold wide
  pointwise

variable (m : (ℓ : Loc nD τ sig) → Buf (Elt F) ℓ) (c : Dev nD)

/-- The arguments of core `c`. -/
abbrev mU : FVec F S4096x1024 .f32 := m ((c : Thread nD τ).loc main_arg0)
abbrev mW : FVec F S4096x1024 .f32 := m ((c : Thread nD τ).loc main_arg1)
abbrev mQd : FVec F S4096x1024 .f32 := m ((c : Thread nD τ).loc main_arg2)
abbrev mKd : FVec F S4096x1024 .f32 := m ((c : Thread nD τ).loc main_arg3)
abbrev mQk : FVec F S8x64x64x64 .f32 := m ((c : Thread nD τ).loc main_arg4)
abbrev mGl : FVec F S8x64x1x128 .f32 := wide (F := F) (m ((c : Thread nD τ).loc main_arg5))
abbrev mDo : FVec F S4096x1024 .f32 := m ((c : Thread nD τ).loc main_arg6)
/-- The new values and the states the forward scan saves. -/
abbrev mVn : FVec F S4096x1024 .f32 := GVn (mU m c) (mW m c) (mKd m c) (mGl m c)
abbrev mSs : FVec F S8x64x128x128 .f32 := GS (mU m c) (mW m c) (mKd m c) (mGl m c)

/-- Every argument as the forward scan finds it, and as the backward scan does. -/
theorem V1_arg : ∀ r ∈ [main_arg0, main_arg1, main_arg2, main_arg3, main_arg4, main_arg5, main_arg6], V1 m c r = m ((c : Thread nD τ).loc r) := fun r hr =>
  V1_of m c r ((by decide : ∀ r ∈ [main_arg0, main_arg1, main_arg2, main_arg3, main_arg4, main_arg5, main_arg6], r ∉ hostOps0_W) r hr)

theorem VB_arg : ∀ r ∈ [main_arg0, main_arg1, main_arg2, main_arg3, main_arg4, main_arg5, main_arg6], VB m c r = m ((c : Thread nD τ).loc r) := fun r hr =>
  (VB_of m c r ((by decide : ∀ r ∈ [main_arg0, main_arg1, main_arg2, main_arg3, main_arg4, main_arg5, main_arg6], ∀ w, Pipeline.arrRef spec0 w = r → (cfg0.win w).isOut = false) r hr)).trans
    (V1_arg m c r hr)

theorem V1_gl : V1 m c main_v1 = mGl m c := by
  show StableHlo.after hostOps0 (V0 m c) (Proc.devRef .tc main_v1) = _
  unfold hostOps0
  generalize hV : V0 m c = V
  have h5 : V (Proc.devRef .tc main_arg5) = m ((c : Thread nD τ).loc main_arg5) := by rw [← hV]
  unfold mGl wide
  rw [← h5]
  after_reads_simp []

theorem VB_gl : VB m c main_v1 = mGl m c := (VB_of m c main_v1 (by decide)).trans (V1_gl m c)

/-- What the forward scan saves for the backward one. -/
theorem VB_vn : VB m c main_v2_1 = mVn m c := by
  refine (Pipeline.afterRegion_arr (dat0 (V1 m) c) (V1 m c) launch0.win.arr_inj 7).trans ((final0 (V1 m) c).2.1.trans ?_)
  unfold a0U a0W a0Kd a0Gl
  rw [V1_gl, V1_arg m c main_arg0 (by decide), V1_arg m c main_arg1 (by decide), V1_arg m c main_arg3 (by decide)]

theorem VB_ss : VB m c main_v2_2 = mSs m c := by
  refine (Pipeline.afterRegion_arr (dat0 (V1 m) c) (V1 m c) launch0.win.arr_inj 8).trans ((final0 (V1 m) c).2.2.trans ?_)
  unfold a0U a0W a0Kd a0Gl
  rw [V1_gl, V1_arg m c main_arg0 (by decide), V1_arg m c main_arg1 (by decide), V1_arg m c main_arg3 (by decide)]

theorem out_du : VC m c main_v3_0 = HDu (mDo m c) (mW m c) (mQd m c) (mKd m c) (mQk m c) (mGl m c) := by
  refine (Pipeline.afterRegion_arr (dat1 (VB m) c) (VB m c) launch1.win.arr_inj 8).trans ((final1 (VB m) c).1.trans ?_)
  unfold a1Do a1W a1Qd a1Kd a1Qk a1Gl
  rw [VB_gl, VB_arg m c main_arg1 (by decide), VB_arg m c main_arg2 (by decide), VB_arg m c main_arg3 (by decide),
    VB_arg m c main_arg4 (by decide), VB_arg m c main_arg6 (by decide)]

theorem out_dw : VC m c main_v3_1 = HDw (mDo m c) (mW m c) (mQd m c) (mKd m c) (mQk m c) (mGl m c) (mSs m c) := by
  refine (Pipeline.afterRegion_arr (dat1 (VB m) c) (VB m c) launch1.win.arr_inj 9).trans ((final1 (VB m) c).2.1.trans ?_)
  unfold a1Do a1W a1Qd a1Kd a1Qk a1Gl a1S
  rw [VB_gl, VB_ss, VB_arg m c main_arg1 (by decide), VB_arg m c main_arg2 (by decide), VB_arg m c main_arg3 (by decide),
    VB_arg m c main_arg4 (by decide), VB_arg m c main_arg6 (by decide)]

theorem out_dqd : VC m c main_v3_2 = HDqd (mDo m c) (mSs m c) := by
  refine (Pipeline.afterRegion_arr (dat1 (VB m) c) (VB m c) launch1.win.arr_inj 10).trans ((final1 (VB m) c).2.2.1.trans ?_)
  unfold a1Do a1S
  rw [VB_ss, VB_arg m c main_arg6 (by decide)]

theorem out_dkd : VC m c main_v3_3 = HDkd (mDo m c) (mW m c) (mQd m c) (mKd m c) (mVn m c) (mQk m c) (mGl m c) := by
  refine (Pipeline.afterRegion_arr (dat1 (VB m) c) (VB m c) launch1.win.arr_inj 11).trans ((final1 (VB m) c).2.2.2.1.trans ?_)
  unfold a1Do a1W a1Qd a1Kd a1Qk a1Gl a1Vn
  rw [VB_gl, VB_vn, VB_arg m c main_arg1 (by decide), VB_arg m c main_arg2 (by decide), VB_arg m c main_arg3 (by decide),
    VB_arg m c main_arg4 (by decide), VB_arg m c main_arg6 (by decide)]

theorem out_dqk : VC m c main_v3_4 = HDqk (mDo m c) (mVn m c) := by
  refine (Pipeline.afterRegion_arr (dat1 (VB m) c) (VB m c) launch1.win.arr_inj 12).trans ((final1 (VB m) c).2.2.2.2.1.trans ?_)
  unfold a1Do a1Vn
  rw [VB_vn, VB_arg m c main_arg6 (by decide)]

theorem out_dgl : VC m c main_v3_5 = HDgl (mDo m c) (mW m c) (mQd m c) (mKd m c) (mQk m c) (mGl m c) (mSs m c) := by
  refine (Pipeline.afterRegion_arr (dat1 (VB m) c) (VB m c) launch1.win.arr_inj 13).trans ((final1 (VB m) c).2.2.2.2.2.trans ?_)
  unfold a1Do a1W a1Qd a1Kd a1Qk a1Gl a1S
  rw [VB_gl, VB_ss, VB_arg m c main_arg1 (by decide), VB_arg m c main_arg2 (by decide), VB_arg m c main_arg3 (by decide),
    VB_arg m c main_arg4 (by decide), VB_arg m c main_arg6 (by decide)]

end Cert.Proof.Scan
end
-- ==== Proof.Ref.Maths.lean ====
module

public import proofs.«01_k».proof.Proof.Ref.Reads
public import Idealize.ShloMosaic.Lib.Pointwise
@[expose] public section
set_option maxRecDepth 16384
noncomputable section
/-! What each step of the reference is, entry by entry, over the extended reals. -/
namespace Cert.Proof.Ref

open Cert.ReferenceIdeal Cert.ReferenceIdeal.Gen
open Idealize.ShloMosaic

variable (u w qd kd dO vn : FVec Ideal S8x64x128 .f32) (qk : FVec Ideal S8x64x64 .f32) (g : FVec Ideal S8 .f32) (s d : FVec Ideal S8x128x128 .f32) (j : Fin 8)

theorem rVn_apply (a : Fin 64) (b : Fin 128) :
    rVn u w s (ix3 j a b) = u (ix3 j a b) - ∑ k : Fin 128, w (ix3 j a k) * s (ix3 j k b) := by
  unfold rVn; pointwise

theorem rS_apply (a b : Fin 128) :
    rS u w kd g s (ix3 j a b) = s (ix3 j a b) * g (ix1 j) + ∑ k : Fin 64, kd (ix3 j k a) * rVn u w s (ix3 j k b) := by
  unfold rS rDecay rG1; pointwise

theorem rDvn_apply (a : Fin 64) (b : Fin 128) :
    rDvn kd dO qk d (ix3 j a b) = (∑ k : Fin 128, d (ix3 j k b) * kd (ix3 j a k)) + ∑ k : Fin 64, dO (ix3 j k b) * qk (ix3 j k a) := by
  unfold rDvn; pointwise

theorem rDkd_apply (a : Fin 64) (b : Fin 128) :
    rDkd vn d (ix3 j a b) = ∑ k : Fin 128, d (ix3 j b k) * vn (ix3 j a k) := by
  unfold rDkd; pointwise

theorem rDgl_apply : rDgl s d (ix1 j) = ∑ a : Fin 128, ∑ b : Fin 128, s (ix3 j a b) * d (ix3 j a b) := by
  unfold rDgl; pointwise
  simp only [Fin.sum_univ_one]

theorem rDqk_apply (a b : Fin 64) : rDqk vn dO (ix3 j a b) = ∑ k : Fin 128, dO (ix3 j a k) * vn (ix3 j b k) := by
  unfold rDqk; pointwise

theorem rDqd_apply (a : Fin 64) (b : Fin 128) : rDqd dO s (ix3 j a b) = ∑ k : Fin 128, dO (ix3 j a k) * s (ix3 j b k) := by
  unfold rDqd; pointwise

theorem rDw_apply (a : Fin 64) (b : Fin 128) :
    rDw kd dO qk s d (ix3 j a b) = ∑ k : Fin 128, -(rDvn kd dO qk d (ix3 j a k)) * s (ix3 j b k) := by
  unfold rDw; pointwise

theorem rDS_apply (a b : Fin 128) :
    rDS w qd kd dO qk (rG1 g) d (ix3 j a b)
      = d (ix3 j a b) * g (ix1 j) + (∑ k : Fin 64, dO (ix3 j k b) * qd (ix3 j k a))
        + ∑ k : Fin 64, -(rDvn kd dO qk d (ix3 j k b)) * w (ix3 j k a) := by
  unfold rDS rDecay rG1; pointwise

end Cert.Proof.Ref
end
-- ==== Proof.Ref.Values.lean ====
module

public import proofs.«01_k».proof.Proof.Ref.Run
public import Idealize.ShloMosaic.Lib.Pointwise
@[expose] public section
set_option maxRecDepth 100000
noncomputable section
/-! The reference's six results, entry by entry, from its seven arguments. -/
namespace Cert.Proof.Ref

open Cert.ReferenceIdeal Cert.ReferenceIdeal.Gen
open Idealize.ShloMosaic Idealize.ShloMosaic.TcCoe StableHlo

variable {F : FTy → Type} [FloatOps F]

/-- An array of rows cut in chunks and heads: member `(n, j)` is chunk `n` of head `j`. -/
def hd {α : Type} (X : S4096x1024.Idx → α) : S64x8x64x128.Idx → α := fun i =>
  X (ix2 ⟨(i 0).val * 64 + (i 2).val, by have h0 : (i 0).val < 64 := (i 0).isLt; have h2 : (i 2).val < 64 := (i 2).isLt; omega⟩
    ⟨(i 1).val * 128 + (i 3).val, by have h1 : (i 1).val < 8 := (i 1).isLt; have h3 : (i 3).val < 128 := (i 3).isLt; omega⟩)

/-- The chunks and heads put together again. -/
def unhd {α : Type} (Y : S64x8x64x128.Idx → α) : S4096x1024.Idx → α := fun y =>
  Y (ix4 ⟨(y 0).val / 64, by have h0 : (y 0).val < 4096 := (y 0).isLt; omega⟩ ⟨(y 1).val / 128, by have h1 : (y 1).val < 1024 := (y 1).isLt; omega⟩
    ⟨(y 0).val % 64, by omega⟩ ⟨(y 1).val % 128, by omega⟩)

/-- The cut as the program spells it. -/
theorem hd_eq {α : Type} (X : S4096x1024.Idx → α) :
    transpose S64x8x64x128 [1, 0, 2, 3] (transpose S8x64x64x128 [2, 0, 1, 3] (fun i => shapeCast S64x64x8x128 X shapeCasts_S4096x1024_S64x64x8x128 i)
      transposes_S64x64x8x128_S8x64x64x128_2_0_1_3) transposes_S8x64x64x128_S64x8x64x128_1_0_2_3 = hd X := by
  funext i
  unfold hd
  pointwise

/-- The putting together as the program spells it. -/
theorem unhd_eq {α : Type} (Y : S64x8x64x128.Idx → α) :
    shapeCast S4096x1024 (transpose S64x64x8x128 [1, 2, 0, 3] (transpose S8x64x64x128 [1, 0, 2, 3] Y transposes_S64x8x64x128_S8x64x64x128_1_0_2_3)
      transposes_S8x64x64x128_S64x64x8x128_1_2_0_3) shapeCasts_S64x64x8x128_S4096x1024 = unhd Y := by
  funext i
  unfold unhd
  pointwise

variable (m : (ℓ : Loc nD τ sig) → Buf (Elt F) ℓ) (c : Dev nD)

/-- The arguments, cut in chunks and heads. -/
def aU : FVec F S64x8x64x128 .f32 := hd (α := F .f32) (m ((c : Thread nD τ).loc main_arg0))
def aW : FVec F S64x8x64x128 .f32 := hd (α := F .f32) (m ((c : Thread nD τ).loc main_arg1))
def aQd : FVec F S64x8x64x128 .f32 := hd (α := F .f32) (m ((c : Thread nD τ).loc main_arg2))
def aKd : FVec F S64x8x64x128 .f32 := hd (α := F .f32) (m ((c : Thread nD τ).loc main_arg3))
def aDo : FVec F S64x8x64x128 .f32 := hd (α := F .f32) (m ((c : Thread nD τ).loc main_arg6))
def aQk : FVec F S64x8x64x64 .f32 :=
  transpose (α := F .f32) S64x8x64x64 [1, 0, 2, 3] (m ((c : Thread nD τ).loc main_arg4)) transposes_S8x64x64x64_S64x8x64x64_1_0_2_3
def aGl : FVec F S64x8 .f32 := transpose (α := F .f32) S64x8 [1, 0] (m ((c : Thread nD τ).loc main_arg5)) transposes_S8x64_S64x8_1_0
def zs : FVec F S8x128x128 .f32 := broadcastInDim S8x128x128 ![] bcast_S_S8x128x128 (constant S_ .f32 0x00000000#32)

/-! ## Before the first loop -/

theorem e0_v19_0 : E0 m c (Proc.devRef .tc main_v19_0) = aU m c := by
  unfold E0 aU
  simp only [afterL_cons, afterL_nil]
  have h : launchContents m c (Proc.devRef .tc main_arg0) = m ((c : Thread nD τ).loc main_arg0) := rfl
  rw [← h]
  generalize launchContents m c = V
  after_reads_simp []
  exact hd_eq (α := F .f32) (V (Proc.devRef .tc main_arg0))

theorem e0_v19_1 : E0 m c (Proc.devRef .tc main_v19_1) = aW m c := by
  unfold E0 aW
  simp only [afterL_cons, afterL_nil]
  have h : launchContents m c (Proc.devRef .tc main_arg1) = m ((c : Thread nD τ).loc main_arg1) := rfl
  rw [← h]
  generalize launchContents m c = V
  after_reads_simp []
  exact hd_eq (α := F .f32) (V (Proc.devRef .tc main_arg1))

theorem e0_v9 : E0 m c (Proc.devRef .tc main_v9) = aW m c := by
  unfold E0 aW
  simp only [afterL_cons, afterL_nil]
  have h : launchContents m c (Proc.devRef .tc main_arg1) = m ((c : Thread nD τ).loc main_arg1) := rfl
  rw [← h]
  generalize launchContents m c = V
  after_reads_simp []
  exact hd_eq (α := F .f32) (V (Proc.devRef .tc main_arg1))

theorem e0_v11 : E0 m c (Proc.devRef .tc main_v11) = aQd m c := by
  unfold E0 aQd
  simp only [afterL_cons, afterL_nil]
  have h : launchContents m c (Proc.devRef .tc main_arg2) = m ((c : Thread nD τ).loc main_arg2) := rfl
  rw [← h]
  generalize launchContents m c = V
  after_reads_simp []
  exact hd_eq (α := F .f32) (V (Proc.devRef .tc main_arg2))

theorem e0_v12 : E0 m c (Proc.devRef .tc main_v12) = aKd m c := by
  unfold E0 aKd
  simp only [afterL_cons, afterL_nil]
  have h : launchContents m c (Proc.devRef .tc main_arg3) = m ((c : Thread nD τ).loc main_arg3) := rfl
  rw [← h]
  generalize launchContents m c = V
  after_reads_simp []
  exact hd_eq (α := F .f32) (V (Proc.devRef .tc main_arg3))

theorem e0_v19_4 : E0 m c (Proc.devRef .tc main_v19_4) = aKd m c := by
  unfold E0 aKd
  simp only [afterL_cons, afterL_nil]
  have h : launchContents m c (Proc.devRef .tc main_arg3) = m ((c : Thread nD τ).loc main_arg3) := rfl
  rw [← h]
  generalize launchContents m c = V
  after_reads_simp []
  exact hd_eq (α := F .f32) (V (Proc.devRef .tc main_arg3))

theorem e0_v10 : E0 m c (Proc.devRef .tc main_v10) = aQk m c := by
  unfold E0 aQk
  simp only [afterL_cons, afterL_nil]
  have h : launchContents m c (Proc.devRef .tc main_arg4) = m ((c : Thread nD τ).loc main_arg4) := rfl
  rw [← h]
  generalize launchContents m c = V
  after_reads_simp []

theorem e0_v19_5 : E0 m c (Proc.devRef .tc main_v19_5) = aGl m c := by
  unfold E0 aGl
  simp only [afterL_cons, afterL_nil]
  have h : launchContents m c (Proc.devRef .tc main_arg5) = m ((c : Thread nD τ).loc main_arg5) := rfl
  rw [← h]
  generalize launchContents m c = V
  after_reads_simp []
  rfl

theorem e0_v19_7 : E0 m c (Proc.devRef .tc main_v19_7) = (zs : FVec F S8x128x128 .f32) := by
  unfold E0 zs
  simp only [afterL_cons, afterL_nil]
  generalize launchContents m c = V
  after_reads_simp []
  rfl

/-! ## Between the loops -/

/-- What the operations between the loops find. -/
theorem mid_of (r : Ref sig .tc) (hr : r ∈ [main_arg6, main_v9, main_v10, main_v11, main_v12]) :
    after cond0 (T0 m 64 c) (Proc.devRef .tc r) = E0 m c (Proc.devRef .tc r) := by
  have h : r ∈ kept0 := (by decide : ∀ r ∈ [(main_arg6 : Ref sig .tc), main_v9, main_v10, main_v11, main_v12], r ∈ kept0) r hr
  rw [cond0_keep _ r (List.mem_append_left [main_v19_6, main_v19_7, main_v19_8, main_v19_9, main_v19_10, main_v19_11] h)]
  exact (trips0 m c 64 (Nat.le_refl _)).keep r h

theorem e1_v32_2 : E1 m c (Proc.devRef .tc main_v32_2) = aW m c := by
  rw [← e0_v9, ← mid_of m c main_v9 (by decide)]
  unfold E1
  simp only [afterL_cons, afterL_nil]
  generalize after cond0 (T0 m 64 c) = V
  after_reads_simp []
  rfl

theorem e1_v32_3 : E1 m c (Proc.devRef .tc main_v32_3) = aQd m c := by
  rw [← e0_v11, ← mid_of m c main_v11 (by decide)]
  unfold E1
  simp only [afterL_cons, afterL_nil]
  generalize after cond0 (T0 m 64 c) = V
  after_reads_simp []
  rfl

theorem e1_v32_5 : E1 m c (Proc.devRef .tc main_v32_5) = aQk m c := by
  rw [← e0_v10, ← mid_of m c main_v10 (by decide)]
  unfold E1
  simp only [afterL_cons, afterL_nil]
  generalize after cond0 (T0 m 64 c) = V
  after_reads_simp []
  rfl

theorem e1_v32_7 : E1 m c (Proc.devRef .tc main_v32_7) = aKd m c := by
  rw [← e0_v12, ← mid_of m c main_v12 (by decide)]
  unfold E1
  simp only [afterL_cons, afterL_nil]
  generalize after cond0 (T0 m 64 c) = V
  after_reads_simp []
  rfl

theorem e1_v32_0 : E1 m c (Proc.devRef .tc main_v32_0) = aDo m c := by
  have h0 : E0 m c (Proc.devRef .tc main_arg6) = m ((c : Thread nD τ).loc main_arg6) := by
    unfold E0
    simp only [afterL_cons, afterL_nil]
    rw [pre_keep _ main_arg6 (by decide)]
  unfold E1 aDo
  rw [← h0, ← mid_of m c main_arg6 (by decide)]
  simp only [afterL_cons, afterL_nil]
  generalize after cond0 (T0 m 64 c) = V
  after_reads_simp []
  exact hd_eq (α := F .f32) (V (Proc.devRef .tc main_arg6))

theorem e1_v32_9 : E1 m c (Proc.devRef .tc main_v32_9) = (zs : FVec F S8x128x128 .f32) := by
  unfold E1 zs
  simp only [afterL_cons, afterL_nil]
  generalize after cond0 (T0 m 64 c) = V
  after_reads_simp []
  rfl

theorem e1_v32_1 : E1 m c (Proc.devRef .tc main_v32_1) = T0 m 64 c (Proc.devRef .tc main_v19_9) := by
  rw [← cond0_keep (T0 m 64 c) main_v19_9 (by decide)]
  unfold E1
  simp only [afterL_cons, afterL_nil]
  generalize after cond0 (T0 m 64 c) = V
  after_reads_simp []
  rfl

theorem e1_v32_4 : E1 m c (Proc.devRef .tc main_v32_4) = T0 m 64 c (Proc.devRef .tc main_v19_10) := by
  rw [← cond0_keep (T0 m 64 c) main_v19_10 (by decide)]
  unfold E1
  simp only [afterL_cons, afterL_nil]
  generalize after cond0 (T0 m 64 c) = V
  after_reads_simp []
  rfl

theorem e1_v32_6 : E1 m c (Proc.devRef .tc main_v32_6) = T0 m 64 c (Proc.devRef .tc main_v19_11) := by
  rw [← cond0_keep (T0 m 64 c) main_v19_11 (by decide)]
  unfold E1
  simp only [afterL_cons, afterL_nil]
  generalize after cond0 (T0 m 64 c) = V
  after_reads_simp []
  rfl

/-! ## The two chains -/

/-- The states, and the gradients of the states. -/
def rs (k : ℕ) : FVec F S8x128x128 .f32 := RS0 (E0 m c) k
def rd (k : ℕ) : FVec F S8x128x128 .f32 := RD0 (E1 m c) k
/-- The new values of chunk `n`. -/
def rv (n : Fin 64) : FVec F S8x64x128 .f32 := rVn (sl4 (aU m c) n) (sl4 (aW m c) n) (rs m c n.val)

theorem rs_zero : rs m c 0 = zs := e0_v19_7 m c

theorem rs_succ (k : Fin 64) : rs m c (k.val + 1) = rS (sl4 (aU m c) k) (sl4 (aW m c) k) (sl4 (aKd m c) k) (sl2 (aGl m c) k) (rs m c k.val) := by
  rw [← e0_v19_0, ← e0_v19_1, ← e0_v19_4, ← e0_v19_5]
  unfold rs RS0
  rw [RS, fk_val]

theorem rd_zero : rd m c 0 = zs := e1_v32_9 m c

/-- The decay the second loop reads is the first loop's. -/
theorem decay (n : Fin 64) : sl4 (a := 1) (b := 1) (E1 m c (Proc.devRef .tc main_v32_6)) n = rG1 (sl2 (aGl m c) n) := by
  rw [e1_v32_6, ← e0_v19_5]
  exact (trips0 m c 64 (Nat.le_refl _)).s11 n n.isLt

theorem states (n : Fin 64) : sl4 (a := 128) (b := 128) (E1 m c (Proc.devRef .tc main_v32_1)) n = rs m c n.val := by
  rw [e1_v32_1]
  exact (trips0 m c 64 (Nat.le_refl _)).s9 n n.isLt

theorem newvals (n : Fin 64) : sl4 (a := 64) (b := 128) (E1 m c (Proc.devRef .tc main_v32_4)) n = rv m c n := by
  unfold rv
  rw [e1_v32_4, ← e0_v19_0, ← e0_v19_1]
  exact (trips0 m c 64 (Nat.le_refl _)).s10 n n.isLt

theorem rd_succ (k : Fin 64) : rd m c (k.val + 1) = rDS (sl4 (aW m c) k.rev) (sl4 (aQd m c) k.rev) (sl4 (aKd m c) k.rev) (sl4 (aDo m c) k.rev)
    (sl4 (aQk m c) k.rev) (rG1 (sl2 (aGl m c) k.rev)) (rd m c k.val) := by
  rw [← decay, ← e1_v32_0, ← e1_v32_2, ← e1_v32_3, ← e1_v32_5, ← e1_v32_7]
  unfold rd RD0
  rw [RD, fk_val]

/-! ## After the second loop -/

theorem out_du : EN m c (Proc.devRef .tc main_v40) = unhd (α := F .f32) (T1 m 64 c (Proc.devRef .tc main_v32_10)) := by
  rw [← cond1_keep (T1 m 64 c) main_v32_10 (by decide)]
  unfold EN
  simp only [afterL_cons, afterL_nil]
  generalize after cond1 (T1 m 64 c) = V
  after_reads_simp []
  exact unhd_eq (α := F .f32) (V (Proc.devRef .tc main_v32_10))

theorem out_dw : EN m c (Proc.devRef .tc main_v42) = unhd (α := F .f32) (T1 m 64 c (Proc.devRef .tc main_v32_11)) := by
  rw [← cond1_keep (T1 m 64 c) main_v32_11 (by decide)]
  unfold EN
  simp only [afterL_cons, afterL_nil]
  generalize after cond1 (T1 m 64 c) = V
  after_reads_simp []
  exact unhd_eq (α := F .f32) (V (Proc.devRef .tc main_v32_11))

theorem out_dqd : EN m c (Proc.devRef .tc main_v44) = unhd (α := F .f32) (T1 m 64 c (Proc.devRef .tc main_v32_13)) := by
  rw [← cond1_keep (T1 m 64 c) main_v32_13 (by decide)]
  unfold EN
  simp only [afterL_cons, afterL_nil]
  generalize after cond1 (T1 m 64 c) = V
  after_reads_simp []
  exact unhd_eq (α := F .f32) (V (Proc.devRef .tc main_v32_13))

theorem out_dkd : EN m c (Proc.devRef .tc main_v46) = unhd (α := F .f32) (T1 m 64 c (Proc.devRef .tc main_v32_14)) := by
  rw [← cond1_keep (T1 m 64 c) main_v32_14 (by decide)]
  unfold EN
  simp only [afterL_cons, afterL_nil]
  generalize after cond1 (T1 m 64 c) = V
  after_reads_simp []
  exact unhd_eq (α := F .f32) (V (Proc.devRef .tc main_v32_14))

theorem out_dqk : EN m c (Proc.devRef .tc main_v36)
    = transpose (α := F .f32) S8x64x64x64 [1, 0, 2, 3] (T1 m 64 c (Proc.devRef .tc main_v32_12)) transposes_S64x8x64x64_S8x64x64x64_1_0_2_3 := by
  rw [← cond1_keep (T1 m 64 c) main_v32_12 (by decide)]
  unfold EN
  simp only [afterL_cons, afterL_nil]
  generalize after cond1 (T1 m 64 c) = V
  after_reads_simp []

theorem out_dgl : EN m c (Proc.devRef .tc main_v48)
    = broadcastInDim (α := F .f32) S8x64x1x128 ![0, 1, 2, 3] bcast_S8x64x1x1_S8x64x1x128_0_1_2_3 (broadcastInDim S8x64x1x1 ![0, 1] bcast_S8x64_S8x64x1x1_0_1
        (transpose S8x64 [1, 0] (T1 m 64 c (Proc.devRef .tc main_v32_15)) transposes_S64x8_S8x64_1_0)) := by
  rw [← cond1_keep (T1 m 64 c) main_v32_15 (by decide)]
  unfold EN
  simp only [afterL_cons, afterL_nil]
  generalize after cond1 (T1 m 64 c) = V
  after_reads_simp []

theorem y_du (n : Fin 64) : sl4 (a := 64) (b := 128) (T1 m 64 c (Proc.devRef .tc main_v32_10)) n = rDvn (sl4 (aKd m c) n) (sl4 (aDo m c) n) (sl4 (aQk m c) n) (rd m c n.rev.val) := by
  rw [← e1_v32_7, ← e1_v32_0, ← e1_v32_5]
  exact (trips1 m c 64 (Nat.le_refl _)).s10 n n.rev.isLt

theorem y_dw (n : Fin 64) : sl4 (a := 64) (b := 128) (T1 m 64 c (Proc.devRef .tc main_v32_11)) n = rDw (sl4 (aKd m c) n) (sl4 (aDo m c) n) (sl4 (aQk m c) n) (rs m c n.val) (rd m c n.rev.val) := by
  rw [← states, ← e1_v32_7, ← e1_v32_0, ← e1_v32_5]
  exact (trips1 m c 64 (Nat.le_refl _)).s11 n n.rev.isLt

theorem y_dqk (n : Fin 64) : sl4 (a := 64) (b := 64) (T1 m 64 c (Proc.devRef .tc main_v32_12)) n = rDqk (rv m c n) (sl4 (aDo m c) n) := by
  rw [← newvals, ← e1_v32_0]
  exact (trips1 m c 64 (Nat.le_refl _)).s12 n n.rev.isLt

theorem y_dqd (n : Fin 64) : sl4 (a := 64) (b := 128) (T1 m 64 c (Proc.devRef .tc main_v32_13)) n = rDqd (sl4 (aDo m c) n) (rs m c n.val) := by
  rw [← states, ← e1_v32_0]
  exact (trips1 m c 64 (Nat.le_refl _)).s13 n n.rev.isLt

theorem y_dkd (n : Fin 64) : sl4 (a := 64) (b := 128) (T1 m 64 c (Proc.devRef .tc main_v32_14)) n = rDkd (rv m c n) (rd m c n.rev.val) := by
  rw [← newvals]
  exact (trips1 m c 64 (Nat.le_refl _)).s14 n n.rev.isLt

theorem y_dgl (n : Fin 64) : sl2 (T1 m 64 c (Proc.devRef .tc main_v32_15)) n = rDgl (rs m c n.val) (rd m c n.rev.val) := by
  rw [← states]
  exact (trips1 m c 64 (Nat.le_refl _)).s15 n n.rev.isLt

end Cert.Proof.Ref
end
-- ==== Proof.Bridge.lean ====
module

public import proofs.«01_k».proof.Proof.Scan.Maths
public import proofs.«01_k».proof.Proof.Scan.Values
public import proofs.«01_k».proof.Proof.Ref.Maths
public import proofs.«01_k».proof.Proof.Ref.Values
@[expose] public section
set_option maxRecDepth 16384
noncomputable section
/-! The kernel's two scans and the reference's two loops compute the same chains over the extended reals, for finite arguments. -/
namespace Cert.Proof.Bridge

open Idealize.ShloMosaic Idealize.ShloMosaic.TcCoe
open Cert.ReferenceIdeal (τ)
open Cert.Proof.Ref (aU aW aQd aKd aDo aQk aGl hd unhd sl4 sl2 rs rd rv)
open Cert.Proof.Scan (ch ch4 asm2 asm4 at2 at4 fS fVn bS bD bDvn wide)

/-! ## Real entries -/

/-- A finite number. -/
def Real (x : EReal) : Prop := ∃ r : ℝ, x = (r : EReal)

theorem Real.add {x y : EReal} : Real x → Real y → Real (x + y)
  | ⟨r, hr⟩, ⟨s, hs⟩ => ⟨r + s, by rw [hr, hs, EReal.coe_add]⟩

theorem Real.neg {x : EReal} : Real x → Real (-x)
  | ⟨r, hr⟩ => ⟨-r, by rw [hr, EReal.coe_neg]⟩

theorem Real.mul {x y : EReal} : Real x → Real y → Real (x * y)
  | ⟨r, hr⟩, ⟨s, hs⟩ => ⟨r * s, by rw [hr, hs, EReal.coe_mul]⟩

theorem Real.zero : Real 0 := ⟨0, EReal.coe_zero.symm⟩

theorem Real.sum {n : ℕ} {f : Fin n → EReal} (h : ∀ k, Real (f k)) : Real (∑ k, f k) :=
  Finset.sum_induction f Real (fun _ _ => Real.add) Real.zero fun k _ => h k

/-- A sign leaves a sum of products of finite numbers. -/
theorem neg_sum_mul {n : ℕ} {x y : Fin n → EReal} (hx : ∀ k, Real (x k)) (hy : ∀ k, Real (y k)) :
    ∑ k, -(x k) * y k = -∑ k, y k * x k := by
  choose r hr using hx
  choose s hs using hy
  have e1 : ∀ k, -(x k) * y k = ((-(r k) * s k : ℝ) : EReal) := fun k => by rw [hr, hs, EReal.coe_mul, EReal.coe_neg]
  have e2 : ∀ k, y k * x k = ((s k * r k : ℝ) : EReal) := fun k => by rw [hr, hs, EReal.coe_mul]
  have cs : ∀ f : Fin n → ℝ, ∑ k, (f k : EReal) = ((∑ k, f k : ℝ) : EReal) := fun f =>
    (map_sum (⟨⟨Real.toEReal, EReal.coe_zero⟩, EReal.coe_add⟩ : ℝ →+ EReal) f Finset.univ).symm
  simp only [e1, e2, cs]
  rw [← EReal.coe_neg, ← Finset.sum_neg_distrib]
  exact congrArg _ (Finset.sum_congr rfl fun k _ => by ring)

/-- Every entry of a stack of matrices is finite. -/
def R3 {a b c : ℕ} (x : (⟨3, ![a, b, c]⟩ : Shape).Idx → EReal) : Prop := ∀ i p q, Real (x (ix3 i p q))

/-! ## Chunks of the arguments -/

section Cut
variable {α : Type}

theorem hd_ch (X : (⟨2, ![4096, 1024]⟩ : Shape).Idx → α) (n : Fin 64) (j : Fin 8) (p : Fin 64) (q : Fin 128) :
    sl4 (hd X) n (ix3 j p q) = ch X n.val j.val (ix2 p q) :=
  (Scan.at2_eq X _ _ _ (show 64 * n.val + p.val = n.val * 64 + p.val by omega) (show 128 * j.val + q.val = j.val * 128 + q.val by omega)).symm

/-- An array put together of its chunks. -/
theorem asm_unhd (f : ℕ → ℕ → (⟨2, ![64, 128]⟩ : Shape).Idx → α) (Y : (⟨4, ![64, 8, 64, 128]⟩ : Shape).Idx → α)
    (h : ∀ (n : Fin 64) (j : Fin 8) (p : Fin 64) (q : Fin 128), f n.val j.val (ix2 p q) = sl4 Y n (ix3 j p q)) : asm2 f = unhd Y := by
  funext y
  have h0 : (y 0).val < 4096 := (y 0).isLt
  have h1 : (y 1).val < 1024 := (y 1).isLt
  exact h ⟨(y 0).val / 64, by omega⟩ ⟨(y 1).val / 128, by omega⟩ ⟨(y 0).val % 64, Nat.mod_lt _ (by decide)⟩ ⟨(y 1).val % 128, Nat.mod_lt _ (by decide)⟩

end Cut

variable (m : (ℓ : Loc Cert.ReferenceIdeal.nD τ Cert.ReferenceIdeal.sig) → Buf (Elt Ideal) ℓ) (c : Dev Cert.ReferenceIdeal.nD)

/-- The arguments. -/
abbrev xU : FVec Ideal Cert.KernelIdeal.S4096x1024 .f32 := m ((c.tc : Thread Cert.ReferenceIdeal.nD τ).loc Cert.ReferenceIdeal.main_arg0)
abbrev xW : FVec Ideal Cert.KernelIdeal.S4096x1024 .f32 := m ((c.tc : Thread Cert.ReferenceIdeal.nD τ).loc Cert.ReferenceIdeal.main_arg1)
abbrev xQd : FVec Ideal Cert.KernelIdeal.S4096x1024 .f32 := m ((c.tc : Thread Cert.ReferenceIdeal.nD τ).loc Cert.ReferenceIdeal.main_arg2)
abbrev xKd : FVec Ideal Cert.KernelIdeal.S4096x1024 .f32 := m ((c.tc : Thread Cert.ReferenceIdeal.nD τ).loc Cert.ReferenceIdeal.main_arg3)
abbrev xQk : FVec Ideal Cert.KernelIdeal.S8x64x64x64 .f32 := m ((c.tc : Thread Cert.ReferenceIdeal.nD τ).loc Cert.ReferenceIdeal.main_arg4)
abbrev xG : FVec Ideal Cert.KernelIdeal.S8x64 .f32 := m ((c.tc : Thread Cert.ReferenceIdeal.nD τ).loc Cert.ReferenceIdeal.main_arg5)
abbrev xGl : FVec Ideal Cert.KernelIdeal.S8x64x1x128 .f32 := wide (xG m c)
abbrev xDo : FVec Ideal Cert.KernelIdeal.S4096x1024 .f32 := m ((c.tc : Thread Cert.ReferenceIdeal.nD τ).loc Cert.ReferenceIdeal.main_arg6)

theorem u_ch (n : Fin 64) (j : Fin 8) (p : Fin 64) (q : Fin 128) : sl4 (aU m c) n (ix3 j p q) = ch (xU m c) n.val j.val (ix2 p q) := hd_ch _ n j p q
theorem w_ch (n : Fin 64) (j : Fin 8) (p : Fin 64) (q : Fin 128) : sl4 (aW m c) n (ix3 j p q) = ch (xW m c) n.val j.val (ix2 p q) := hd_ch _ n j p q
theorem qd_ch (n : Fin 64) (j : Fin 8) (p : Fin 64) (q : Fin 128) : sl4 (aQd m c) n (ix3 j p q) = ch (xQd m c) n.val j.val (ix2 p q) := hd_ch _ n j p q
theorem kd_ch (n : Fin 64) (j : Fin 8) (p : Fin 64) (q : Fin 128) : sl4 (aKd m c) n (ix3 j p q) = ch (xKd m c) n.val j.val (ix2 p q) := hd_ch _ n j p q
theorem do_ch (n : Fin 64) (j : Fin 8) (p : Fin 64) (q : Fin 128) : sl4 (aDo m c) n (ix3 j p q) = ch (xDo m c) n.val j.val (ix2 p q) := hd_ch _ n j p q

theorem qk_apply (n : Fin 64) (j : Fin 8) (p q : Fin 64) : sl4 (aQk m c) n (ix3 j p q) = xQk m c (ix4 j n p q) := by
  show aQk m c (ix4 n j p q) = _
  unfold aQk
  pointwise

theorem qk_ch (n : Fin 64) (j : Fin 8) (p q : Fin 64) : sl4 (aQk m c) n (ix3 j p q) = ch4 (xQk m c) n.val j.val (ix4 0 0 p q) :=
  (qk_apply m c n j p q).trans (Scan.at4_eq (xQk m c) _ _ _ _ _ rfl rfl rfl rfl).symm

theorem gl_apply (n : Fin 64) (j : Fin 8) : sl2 (aGl m c) n (ix1 j) = xG m c (ix2 j n) := by
  show aGl m c (ix2 n j) = _
  unfold aGl
  pointwise

theorem gl_ch (n : Fin 64) (j : Fin 8) (b : Fin 128) : ch4 (xGl m c) n.val j.val (ix4 0 0 0 b) = sl2 (aGl m c) n (ix1 j) := by
  rw [gl_apply]
  refine (Scan.at4_eq (xGl m c) (ix4 j n 0 b) _ _ _ _ rfl rfl rfl rfl).trans ?_
  exact Scan.wide_apply (xG m c) (ix4 j n 0 b)

/-! ## The states -/

theorem state (k : ℕ) (hk : k ≤ 64) (j : Fin 8) (a b : Fin 128) :
    rs m c k (ix3 j a b) = fS (xU m c) (xW m c) (xKd m c) (xGl m c) j.val k (ix2 a b) := by
  induction k generalizing a b with
  | zero => rw [Ref.rs_zero, fS, Scan.zero_apply]; unfold Ref.zs; pointwise
  | succ k ih =>
    have ih := fun a b => ih (by omega) a b
    rw [Ref.rs_succ m c ⟨k, by omega⟩, fS, Ref.rS_apply, Scan.next_apply]
    simp only [Ref.rVn_apply, Scan.newVal_apply, u_ch, w_ch, kd_ch, ih, gl_ch m c ⟨k, by omega⟩ j]

theorem newVal (n : Fin 64) (j : Fin 8) (a : Fin 64) (b : Fin 128) :
    rv m c n (ix3 j a b) = fVn (xU m c) (xW m c) (xKd m c) (xGl m c) n.val j.val (ix2 a b) := by
  unfold rv fVn
  simp only [Ref.rVn_apply, Scan.newVal_apply, u_ch, w_ch, state m c n.val (Nat.le_of_lt n.isLt)]

/-! ## The gradients of the states -/

/-- The gradient of the new values, of equal state gradients. -/
theorem dvn (n : Fin 64) (j : Fin 8) (d : FVec Ideal Cert.ReferenceIdeal.S8x128x128 .f32) (D : FVec Ideal Cert.KernelIdeal.S128x128 .f32)
    (h : ∀ a b, d (ix3 j a b) = D (ix2 a b)) (a : Fin 64) (b : Fin 128) :
    Ref.rDvn (sl4 (aKd m c) n) (sl4 (aDo m c) n) (sl4 (aQk m c) n) d (ix3 j a b) = bDvn (xDo m c) (xKd m c) (xQk m c) D n.val j.val (ix2 a b) := by
  unfold bDvn
  rw [Ref.rDvn_apply, Scan.dvn_apply, add_comm]
  simp only [kd_ch, do_ch, qk_ch, h]
  congr 1 <;> exact Finset.sum_congr rfl fun k _ => mul_comm _ _

/-- Every argument is finite. -/
structure Fin7 : Prop where
  u : ∀ i, Real (xU m c i)
  w : ∀ i, Real (xW m c i)
  qd : ∀ i, Real (xQd m c i)
  kd : ∀ i, Real (xKd m c i)
  qk : ∀ i, Real (xQk m c i)
  gl : ∀ i, Real (xG m c i)
  dO : ∀ i, Real (xDo m c i)

variable (h : Fin7 m c)
include h

theorem real_gl (n : Fin 64) (j : Fin 8) : Real (sl2 (aGl m c) n (ix1 j)) := gl_apply m c n j ▸ h.gl _

theorem real_rs (k : ℕ) (hk : k ≤ 64) : R3 (rs m c k) := by
  induction k with
  | zero =>
    intro j a b
    rw [state m c 0 hk, fS, Scan.zero_apply]
    exact Real.zero
  | succ k ih =>
    intro j a b
    have ih := ih (by omega)
    rw [Ref.rs_succ m c ⟨k, by omega⟩, Ref.rS_apply]
    refine ((ih j a b).mul (real_gl m c h _ j)).add (Real.sum fun k => (h.kd _).mul ?_)
    rw [Ref.rVn_apply, sub_eq_add_neg]
    exact (h.u _).add (Real.sum fun k => (h.w _).mul (ih j _ _)).neg

theorem real_dvn (n : Fin 64) (d : FVec Ideal Cert.ReferenceIdeal.S8x128x128 .f32) (hd : R3 d) :
    R3 (Ref.rDvn (sl4 (aKd m c) n) (sl4 (aDo m c) n) (sl4 (aQk m c) n) d) := by
  intro j a b
  rw [Ref.rDvn_apply]
  refine (Real.sum fun k => (hd _ _ _).mul (h.kd _)).add (Real.sum fun k => Real.mul (h.dO _) ?_)
  rw [qk_apply]
  exact h.qk _

theorem real_rd (k : ℕ) (hk : k ≤ 64) : R3 (rd m c k) := by
  induction k with
  | zero =>
    intro j a b
    rw [Ref.rd_zero]
    have : (Ref.zs : FVec Ideal Cert.ReferenceIdeal.S8x128x128 .f32) (ix3 j a b) = 0 := by unfold Ref.zs; pointwise
    rw [this]
    exact Real.zero
  | succ k ih =>
    intro j a b
    have ih := ih (by omega)
    rw [Ref.rd_succ m c ⟨k, by omega⟩, Ref.rDS_apply]
    exact (((ih j a b).mul (real_gl m c h _ j)).add (Real.sum fun k => (h.dO _).mul (h.qd _))).add
      (Real.sum fun k => (real_dvn m c h _ _ ih j _ _).neg.mul (h.w _))

theorem grad (k : ℕ) (hk : k ≤ 64) (j : Fin 8) (a b : Fin 128) :
    rd m c k (ix3 j a b) = bS (xDo m c) (xW m c) (xQd m c) (xKd m c) (xQk m c) (xGl m c) j.val k (ix2 a b) := by
  induction k generalizing a b with
  | zero => rw [Ref.rd_zero, bS, Scan.zero_apply]; unfold Ref.zs; pointwise
  | succ k ih =>
    have ih := fun a b => ih (by omega) a b
    have hr : (⟨k, by omega⟩ : Fin 64).rev.val = 63 - k := by rw [Fin.val_rev]; show 64 - (k + 1) = 63 - k; omega
    rw [Ref.rd_succ m c ⟨k, by omega⟩, bS, Ref.rDS_apply, Scan.back_apply, ← hr, ih, gl_ch]
    have hk' : k < 64 := by omega
    have hw : ∀ i : Fin 64, Real (sl4 (aW m c) (⟨k, hk'⟩ : Fin 64).rev (ix3 j i a)) := fun i => h.w _
    rw [neg_sum_mul (fun i => real_dvn m c h (⟨k, hk'⟩ : Fin 64).rev (rd m c k) (real_rd m c h k (by omega)) j i b) hw, ← sub_eq_add_neg, add_comm (_ * _)]
    simp only [w_ch, qd_ch, do_ch, dvn m c _ j _ _ ih]
    congr 2
    exact Finset.sum_congr rfl fun k _ => mul_comm _ _

/-- The state gradient after chunk `n`. -/
theorem grad_rev (n : Fin 64) (j : Fin 8) (a b : Fin 128) :
    rd m c n.rev.val (ix3 j a b) = bD (xDo m c) (xW m c) (xQd m c) (xKd m c) (xQk m c) (xGl m c) n.val j.val (ix2 a b) := by
  have hr : n.rev.val = 63 - n.val := by rw [Fin.val_rev]; omega
  unfold bD
  rw [← hr]
  exact grad m c h _ (Nat.le_of_lt n.rev.isLt) j a b

/-! ## The six results -/

/-- The states and the new values the forward scan saves. -/
abbrev xVn : FVec Ideal Cert.KernelIdeal.S4096x1024 .f32 := Scan.GVn (xU m c) (xW m c) (xKd m c) (xGl m c)
abbrev xSs : FVec Ideal Cert.KernelIdeal.S8x64x128x128 .f32 := Scan.GS (xU m c) (xW m c) (xKd m c) (xGl m c)

omit h in
theorem saved_state (n : Fin 64) (j : Fin 8) : Cert.KernelIdeal.Gen.k1_pay8 (ch4 (xSs m c) n.val j.val) = fS (xU m c) (xW m c) (xKd m c) (xGl m c) j.val n.val := by
  unfold xSs Scan.GS
  rw [Scan.ch4_asm4 _ _ _ n.isLt j.isLt, Scan.back_forth]

omit h in
theorem saved_val (n : Fin 64) (j : Fin 8) : ch (xVn m c) n.val j.val = fVn (xU m c) (xW m c) (xKd m c) (xGl m c) n.val j.val := by
  unfold xVn Scan.GVn
  rw [Scan.ch_asm2 _ _ _ n.isLt j.isLt]

theorem du : Scan.HDu (xDo m c) (xW m c) (xQd m c) (xKd m c) (xQk m c) (xGl m c) = Ref.EN m c (Proc.devRef .tc Cert.ReferenceIdeal.main_v40) := by
  rw [Ref.out_du]
  refine asm_unhd _ _ fun n j p q => ?_
  rw [Ref.y_du, dvn m c n j _ _ (grad_rev m c h n j)]

theorem dw : Scan.HDw (xDo m c) (xW m c) (xQd m c) (xKd m c) (xQk m c) (xGl m c) (xSs m c) = Ref.EN m c (Proc.devRef .tc Cert.ReferenceIdeal.main_v42) := by
  rw [Ref.out_dw]
  refine asm_unhd _ _ fun n j p q => ?_
  have hn : n.val ≤ 64 := Nat.le_of_lt n.isLt
  have hs := real_rs m c h n.val hn
  rw [Ref.y_dw, Ref.rDw_apply, saved_state, Scan.dw_apply,
    neg_sum_mul (fun k => real_dvn m c h n _ (real_rd m c h _ (Nat.le_of_lt n.rev.isLt)) j p k) (fun k => hs j q k), zero_sub]
  refine congrArg _ (Finset.sum_congr rfl fun k _ => ?_)
  rw [dvn m c n j _ _ (grad_rev m c h n j), state m c n.val hn, mul_comm]

omit h in
theorem dqd : Scan.HDqd (xDo m c) (xSs m c) = Ref.EN m c (Proc.devRef .tc Cert.ReferenceIdeal.main_v44) := by
  rw [Ref.out_dqd]
  refine asm_unhd _ _ fun n j p q => ?_
  rw [Ref.y_dqd, Ref.rDqd_apply, saved_state, Scan.dqd_apply]
  simp only [do_ch, state m c n.val (Nat.le_of_lt n.isLt)]

theorem dkd : Scan.HDkd (xDo m c) (xW m c) (xQd m c) (xKd m c) (xVn m c) (xQk m c) (xGl m c) = Ref.EN m c (Proc.devRef .tc Cert.ReferenceIdeal.main_v46) := by
  rw [Ref.out_dkd]
  refine asm_unhd _ _ fun n j p q => ?_
  rw [Ref.y_dkd, Ref.rDkd_apply, saved_val, Scan.dkd_apply]
  refine Finset.sum_congr rfl fun k _ => ?_
  rw [newVal, grad_rev m c h, mul_comm]

omit h in
theorem dqk_at (n : Fin 64) (j : Fin 8) (p q : Fin 64) :
    Cert.KernelIdeal.Gen.k1_pay108 (F := Ideal) (Cert.KernelIdeal.Gen.k1_pay65 (ch (xDo m c) n.val j.val) (Cert.KernelIdeal.Gen.k1_pay16 (ch (xVn m c) n.val j.val))) (ix4 0 0 p q)
      = sl4 (a := 64) (b := 64) (Ref.T1 m 64 c (Proc.devRef .tc Cert.ReferenceIdeal.main_v32_12)) n (ix3 j p q) := by
  rw [Ref.y_dqk, Ref.rDqk_apply, Scan.dqk_apply]
  refine Finset.sum_congr rfl fun k _ => ?_
  rw [do_ch, newVal, saved_val]

omit h in
theorem dqk : Scan.HDqk (xDo m c) (xVn m c) = Ref.EN m c (Proc.devRef .tc Cert.ReferenceIdeal.main_v36) := by
  rw [Ref.out_dqk]
  funext y
  refine Eq.trans (dqk_at m c (y 1) (y 0) (y 2) (y 3)) ?_
  unfold sl4
  pointwise

theorem dgl_at (n : Fin 64) (j : Fin 8) (x : Cert.KernelIdeal.S1x1x1x128.Idx) :
    Cert.KernelIdeal.Gen.k1_pay109 (F := Ideal) (bD (xDo m c) (xW m c) (xQd m c) (xKd m c) (xQk m c) (xGl m c) n.val j.val) (Cert.KernelIdeal.Gen.k1_pay8 (ch4 (xSs m c) n.val j.val)) x
      = sl2 (Ref.T1 m 64 c (Proc.devRef .tc Cert.ReferenceIdeal.main_v32_15)) n (ix1 j) := by
  rw [Ref.y_dgl, Ref.rDgl_apply, Scan.dgl_apply, saved_state]
  refine Finset.sum_congr rfl fun k _ => Finset.sum_congr rfl fun l _ => ?_
  rw [grad_rev m c h, state m c n.val (Nat.le_of_lt n.isLt), mul_comm]

theorem dgl : Scan.HDgl (xDo m c) (xW m c) (xQd m c) (xKd m c) (xQk m c) (xGl m c) (xSs m c) = Ref.EN m c (Proc.devRef .tc Cert.ReferenceIdeal.main_v48) := by
  rw [Ref.out_dgl]
  funext y
  refine Eq.trans (dgl_at m c h (y 1) (y 0) _) ?_
  unfold sl2
  pointwise

end Cert.Proof.Bridge
end
-- ==== Proof.Algebraic.lean ====
module

public import proofs.«01_k».proof.Proof.Frames
public import proofs.«01_k».proof.Proof.Bridge
@[expose] public section
set_option maxRecDepth 16384
noncomputable section
/-! The value claim: at the ends of their runs the kernel and the reference hold the same six arrays, when every argument is finite. -/
namespace Cert.Proof

open Idealize.ShloMosaic Idealize.ShloMosaic.TcCoe Idealize.SL.Sem

/-- The shape relations the precondition's program takes. -/
theorem pre_facts : Cert.Pre_finite.Facts := ⟨by decide, by decide, by decide⟩

/-- A number whose absolute value is below the largest is finite. -/
theorem real_of_lt {s : Shape} {x : FVec Ideal s .f32} {h : (⟨0, ![]⟩ : Shape).BroadcastsInDim s (![] : Fin 0 → Fin s.rank)}
    (e : (cmpf .olt (Host.absf x) (broadcastInDim s ![] h (constant (⟨0, ![]⟩ : Shape) .f32 0x7F800000#32))) = fun _ => 1#1) (i : s.Idx) :
    Bridge.Real (x i) := by
  have e1 : (cmpf .olt (Host.absf x) (broadcastInDim s ![] h (constant (⟨0, ![]⟩ : Shape) .f32 0x7F800000#32))) i
      = BitVec.ofBool (decide (FloatOps.absf (x i) < Ideal.ofBits FTy.f32 0x7F800000#32)) := by
    pointwise
  have ht : Ideal.ofBits FTy.f32 0x7F800000#32 = (⊤ : EReal) := by simp [Ideal.ofBits, Ideal.ieee]
  have e := congrFun e i
  rw [e1, ht] at e
  by_cases hlt : FloatOps.absf (x i) < (⊤ : EReal)
  · have hx : (FloatOps.absf (x i) : EReal) = max (x i) (-(x i)) := rfl
    rw [hx] at hlt
    have h1 : x i ≠ ⊤ := fun ht => by rw [ht] at hlt; simp at hlt
    have h2 : x i ≠ ⊥ := fun ht => by rw [ht] at hlt; simp at hlt
    exact ⟨(x i).toReal, (EReal.coe_toReal h1 h2).symm⟩
  · exact absurd e (by simp [hlt])

/-- The two memories hold equal arguments. -/
abbrev SameArgs (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)

section
variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- The precondition, read entry by entry. -/
theorem finite_of_pre (hp : Pre_KernelIdeal_finite (hPre_finite := pre_facts) m) (c : Dev Cert.KernelIdeal.nD) (h : SameArgs m m' c) : Bridge.Fin7 m' c := by
  obtain ⟨h0, h1, h2, h3, h4, h5, h6⟩ := h
  obtain ⟨p0, p1, p2, p3, p4, p5, p6⟩ := hp c
  refine ⟨fun i => ?_, fun i => ?_, fun i => ?_, fun i => ?_, fun i => ?_, fun i => ?_, fun i => ?_⟩
  · exact (congrArg Bridge.Real (congrFun h0 i)).mpr (real_of_lt p0 i)
  · exact (congrArg Bridge.Real (congrFun h1 i)).mpr (real_of_lt p1 i)
  · exact (congrArg Bridge.Real (congrFun h2 i)).mpr (real_of_lt p2 i)
  · exact (congrArg Bridge.Real (congrFun h3 i)).mpr (real_of_lt p3 i)
  · exact (congrArg Bridge.Real (congrFun h4 i)).mpr (real_of_lt p4 i)
  · exact (congrArg Bridge.Real (congrFun h5 i)).mpr (real_of_lt p5 i)
  · exact (congrArg Bridge.Real (congrFun h6 i)).mpr (real_of_lt p6 i)

/-- The kernel's results are the reference's. -/
theorem results (hp : Pre_KernelIdeal_finite (hPre_finite := pre_facts) m) (c : Dev Cert.KernelIdeal.nD) (h : SameArgs m m' c) :
    Scan.VC m c Cert.KernelIdeal.main_v3_0 = Ref.EN m' c (Proc.devRef .tc Cert.ReferenceIdeal.main_v40)
    ∧ Scan.VC m c Cert.KernelIdeal.main_v3_1 = Ref.EN m' c (Proc.devRef .tc Cert.ReferenceIdeal.main_v42)
    ∧ Scan.VC m c Cert.KernelIdeal.main_v3_2 = Ref.EN m' c (Proc.devRef .tc Cert.ReferenceIdeal.main_v44)
    ∧ Scan.VC m c Cert.KernelIdeal.main_v3_3 = Ref.EN m' c (Proc.devRef .tc Cert.ReferenceIdeal.main_v46)
    ∧ Scan.VC m c Cert.KernelIdeal.main_v3_4 = Ref.EN m' c (Proc.devRef .tc Cert.ReferenceIdeal.main_v36)
    ∧ Scan.VC m c Cert.KernelIdeal.main_v3_5 = Ref.EN m' c (Proc.devRef .tc Cert.ReferenceIdeal.main_v48) := by
  have hf := finite_of_pre m m' hp c h
  obtain ⟨h0, h1, h2, h3, h4, h5, h6⟩ := h
  have e0 : Scan.mU m c = Bridge.xU m' c := h0.symm
  have e1 : Scan.mW m c = Bridge.xW m' c := h1.symm
  have e2 : Scan.mQd m c = Bridge.xQd m' c := h2.symm
  have e3 : Scan.mKd m c = Bridge.xKd m' c := h3.symm
  have e4 : Scan.mQk m c = Bridge.xQk m' c := h4.symm
  have e5 : Scan.mGl m c = Bridge.xGl m' c := congrArg (Scan.wide (F := Ideal)) h5.symm
  have e6 : Scan.mDo m c = Bridge.xDo m' c := h6.symm
  refine ⟨?_, ?_, ?_, ?_, ?_, ?_⟩
  · rw [Scan.out_du, e1, e2, e3, e4, e5, e6]
    exact Bridge.du m' c hf
  · rw [Scan.out_dw, Scan.mSs, e0, e1, e2, e3, e4, e5, e6]
    exact Bridge.dw m' c hf
  · rw [Scan.out_dqd, Scan.mSs, e0, e1, e3, e5, e6]
    exact Bridge.dqd m' c
  · rw [Scan.out_dkd, Scan.mVn, e0, e1, e2, e3, e4, e5, e6]
    exact Bridge.dkd m' c hf
  · rw [Scan.out_dqk, Scan.mVn, e0, e1, e3, e5, e6]
    exact Bridge.dqk m' c
  · rw [Scan.out_dgl, Scan.mSs, e0, e1, e2, e3, e4, e5, e6]
    exact Bridge.dgl m' c hf

end

theorem frame_ideal_finite : Cert.quiescent_KernelIdeal_pre_finite (hPre_finite := pre_facts) := fun m ρ _ => frame_ideal m ρ trivial

theorem frame_reference_finite : Cert.quiescent_ReferenceIdeal_pre_finite (hPre_finite := pre_facts) := fun m ρ _ => frame_reference m ρ trivial

theorem value : Cert.algebraic_KernelIdeal_ReferenceIdeal_pre_finite (hPre_finite := pre_facts) := by
  intro m g m' g' hp ha
  refine ⟨fun c => Scan.VC m c Cert.KernelIdeal.main_v3_0, fun c => Scan.VC m c Cert.KernelIdeal.main_v3_1, fun c => Scan.VC m c Cert.KernelIdeal.main_v3_2, fun c => Scan.VC m c Cert.KernelIdeal.main_v3_3, fun c => Scan.VC m c Cert.KernelIdeal.main_v3_4, fun c => Scan.VC m c Cert.KernelIdeal.main_v3_5, ?_, ?_⟩
  · refine (θ_run Cert.KernelIdeal.defs _ _).mono (fun r h c => ?_) (Scan.run_main (F := Ideal) m g)
    have k : ∀ b : Ref Cert.KernelIdeal.sig .tc, b.isScoped = false →
        r.2.mem ((c.tc : Thread Cert.KernelIdeal.nD Cert.KernelIdeal.τ).loc b) = Scan.VC m c b := fun b hb =>
      h.1 c b (StableHlo.devRef_mem_ucRefs b hb)
    exact ⟨k _ rfl, k _ rfl, k _ rfl, k _ rfl, k _ rfl, k _ rfl, kargs (F := Ideal) m h.1 c⟩
  · refine (θ_run Cert.ReferenceIdeal.defs _ _).mono (fun r h c => ?_) (Ref.run_ref (F := Ideal) m' g')
    obtain ⟨r0, r1, r2, r3, r4, r5⟩ := results m m' hp c (ha c)
    have k : ∀ b : Ref Cert.ReferenceIdeal.sig .tc, b.isScoped = false →
        r.2.mem ((c.tc : Thread Cert.ReferenceIdeal.nD Cert.ReferenceIdeal.τ).loc b) = Ref.EN m' c (Proc.devRef .tc b) := fun b hb =>
      h.1 c b (StableHlo.devRef_mem_ucRefs b hb)
    exact ⟨(k _ rfl).trans r0.symm, (k _ rfl).trans r1.symm, (k _ rfl).trans r2.symm, (k _ rfl).trans r3.symm, (k _ rfl).trans r4.symm, (k _ rfl).trans r5.symm,
      rargs (F := Ideal) m' h.1 c⟩

end Cert.Proof
end
-- ==== Proof.lean ====
/- The kernel's calls against the reference: the frames, and the results equal. -/
module

public import proofs.«01_k».proof.Defs
public import proofs.«01_k».proof.Proof.Products.MmDwup
public import proofs.«01_k».proof.Proof.Products.MmDact
public import proofs.«01_k».proof.Proof.Products.MmDh2
public import proofs.«01_k».proof.Proof.Products.MmDwdown
public import proofs.«01_k».proof.Proof.Products.MmDwin
public import proofs.«01_k».proof.Proof.Products.MmDh1
public import proofs.«01_k».proof.Proof.Products.MmDwout
public import proofs.«01_k».proof.Proof.Products.MmDycat
public import proofs.«01_k».proof.Proof.Products.MmUp
public import proofs.«01_k».proof.Proof.Products.MmIn
public import proofs.«01_k».proof.Proof.Products.MmDown
public import proofs.«01_k».proof.Proof.Frames
public import proofs.«01_k».proof.Proof.Algebraic

@[expose] public section

noncomputable section

namespace Cert.Proof

/-- Every claim of the statement: the programs run to their end, and kernel and reference agree. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    pre_facts, frame_kernel, frame_ideal, frame_ideal_finite, frame_reference, frame_reference_finite,
    MmDwup.frame_kernel, MmDwup.frame_ideal, MmDwup.frame_reference,
    MmDact.frame_kernel, MmDact.frame_ideal, MmDact.frame_reference,
    MmDh2.frame_kernel, MmDh2.frame_ideal, MmDh2.frame_reference,
    MmDwdown.frame_kernel, MmDwdown.frame_ideal, MmDwdown.frame_reference,
    MmDwin.frame_kernel, MmDwin.frame_ideal, MmDwin.frame_reference,
    MmDh1.frame_kernel, MmDh1.frame_ideal, MmDh1.frame_reference,
    MmDwout.frame_kernel, MmDwout.frame_ideal, MmDwout.frame_reference,
    MmDycat.frame_kernel, MmDycat.frame_ideal, MmDycat.frame_reference,
    MmUp.frame_kernel, MmUp.frame_ideal, MmUp.frame_reference,
    MmIn.frame_kernel, MmIn.frame_ideal, MmIn.frame_reference,
    MmDown.frame_kernel, MmDown.frame_ideal, MmDown.frame_reference,
    trivial, value, trivial, MmDwup.value, trivial, MmDact.value, trivial, MmDh2.value, trivial, MmDwdown.value, trivial, MmDwin.value, trivial, MmDh1.value, trivial, MmDwout.value, trivial, MmDycat.value, trivial, MmUp.value, trivial, MmIn.value, trivial, MmDown.value⟩

end Cert.Proof

end
